-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Experts [hPre_counted : Cert.Pre_counted.Facts] (m : (ℓ : Loc Cert.Experts.nD Cert.Experts.τ Cert.Experts.sig) → Buf (Elt Bits) ℓ) : Prop :=
  ∀ c : Dev Cert.Experts.nD,
    (Cert.Pre_counted.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_counted : Cert.Pre_counted.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_counted.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_counted [hPre_counted : Cert.Pre_counted.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_counted.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))) = (fun _ => 1#1)

def Pre_Memkv (m : (ℓ : Loc Cert.Memkv.nD Cert.Memkv.τ Cert.Memkv.sig) → Buf (Elt Bits) ℓ) : Prop :=
  True

def Pre_MemkvIdeal (m : (ℓ : Loc Cert.MemkvIdeal.nD Cert.MemkvIdeal.τ Cert.MemkvIdeal.sig) → Buf (Elt Ideal) ℓ) : Prop :=
  True

def Pre_MemkvReferenceIdeal (m : (ℓ : Loc Cert.MemkvReferenceIdeal.nD Cert.MemkvReferenceIdeal.τ Cert.MemkvReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Experts [hExperts : Cert.Experts.Facts] [hPre_counted : Cert.Pre_counted.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_counted : Cert.Pre_counted.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_ExpertsReferenceIdeal_pre_counted [hExpertsReferenceIdeal : Cert.ExpertsReferenceIdeal.Facts] [hPre_counted : Cert.Pre_counted.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_counted m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_Memkv [hMemkv : Cert.Memkv.Facts] : Prop :=
  ∀ (m : (ℓ : Loc Cert.Memkv.nD Cert.Memkv.τ Cert.Memkv.sig) → Buf (Elt Bits) ℓ) (g : Dev Cert.Memkv.nD → PrngReg), Pre_Memkv m →
    θ_run (Cert.Memkv.defs (F := Bits)) (onTc (τ := Cert.Memkv.τ) (Cert.Memkv.main (F := Bits))) ⟨m, fun _ => 0, g⟩ (fun r => (∀ c : Dev Cert.Memkv.nD,
      r.2.mem ((c.tc : Thread Cert.Memkv.nD Cert.Memkv.τ).loc Cert.Memkv.main_arg0) = m ((c.tc : Thread Cert.Memkv.nD Cert.Memkv.τ).loc Cert.Memkv.main_arg0)
      ∧ r.2.mem ((c.tc : Thread Cert.Memkv.nD Cert.Memkv.τ).loc Cert.Memkv.main_arg1) = m ((c.tc : Thread Cert.Memkv.nD Cert.Memkv.τ).loc Cert.Memkv.main_arg1)
      ∧ r.2.mem ((c.tc : Thread Cert.Memkv.nD Cert.Memkv.τ).loc Cert.Memkv.main_arg2) = m ((c.tc : Thread Cert.Memkv.nD Cert.Memkv.τ).loc Cert.Memkv.main_arg2)
      ∧ r.2.mem ((c.tc : Thread Cert.Memkv.nD Cert.Memkv.τ).loc Cert.Memkv.main_arg3) = m ((c.tc : Thread Cert.Memkv.nD Cert.Memkv.τ).loc Cert.Memkv.main_arg3))
      ∧ r.2.sem = fun _ => 0)

def quiescent_MemkvIdeal [hMemkvIdeal : Cert.MemkvIdeal.Facts] : Prop :=
  ∀ (m : (ℓ : Loc Cert.MemkvIdeal.nD Cert.MemkvIdeal.τ Cert.MemkvIdeal.sig) → Buf (Elt Ideal) ℓ) (g : Dev Cert.MemkvIdeal.nD → PrngReg), Pre_MemkvIdeal m →
    θ_run (Cert.MemkvIdeal.defs (F := Ideal)) (onTc (τ := Cert.MemkvIdeal.τ) (Cert.MemkvIdeal.main (F := Ideal))) ⟨m, fun _ => 0, g⟩ (fun r => (∀ c : Dev Cert.MemkvIdeal.nD,
      r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
      ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
      ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2)
      ∧ r.2.mem ((c.tc : Thread Cert.MemkvIdeal.nD Cert.MemkvIdeal.τ).loc Cert.MemkvIdeal.main_arg3) = m ((c.tc : Thread Cert.MemkvIdeal.nD Cert.MemkvIdeal.τ).loc Cert.MemkvIdeal.main_arg3))
      ∧ r.2.sem = fun _ => 0)

def quiescent_MemkvReferenceIdeal [hMemkvReferenceIdeal : Cert.MemkvReferenceIdeal.Facts] : Prop :=
  ∀ (m : (ℓ : Loc Cert.MemkvReferenceIdeal.nD Cert.MemkvReferenceIdeal.τ Cert.MemkvReferenceIdeal.sig) → Buf (Elt Ideal) ℓ) (g : Dev Cert.MemkvReferenceIdeal.nD → PrngReg), Pre_MemkvReferenceIdeal m →
    θ_run (Cert.MemkvReferenceIdeal.defs (F := Ideal)) (onTc (τ := Cert.MemkvReferenceIdeal.τ) (Cert.MemkvReferenceIdeal.main (F := Ideal))) ⟨m, fun _ => 0, g⟩ (fun r => (∀ c : Dev Cert.MemkvReferenceIdeal.nD,
      r.2.mem ((c.tc : Thread Cert.MemkvReferenceIdeal.nD Cert.MemkvReferenceIdeal.τ).loc Cert.MemkvReferenceIdeal.main_arg0) = m ((c.tc : Thread Cert.MemkvReferenceIdeal.nD Cert.MemkvReferenceIdeal.τ).loc Cert.MemkvReferenceIdeal.main_arg0)
      ∧ r.2.mem ((c.tc : Thread Cert.MemkvReferenceIdeal.nD Cert.MemkvReferenceIdeal.τ).loc Cert.MemkvReferenceIdeal.main_arg1) = m ((c.tc : Thread Cert.MemkvReferenceIdeal.nD Cert.MemkvReferenceIdeal.τ).loc Cert.MemkvReferenceIdeal.main_arg1)
      ∧ r.2.mem ((c.tc : Thread Cert.MemkvReferenceIdeal.nD Cert.MemkvReferenceIdeal.τ).loc Cert.MemkvReferenceIdeal.main_arg2) = m ((c.tc : Thread Cert.MemkvReferenceIdeal.nD Cert.MemkvReferenceIdeal.τ).loc Cert.MemkvReferenceIdeal.main_arg2)
      ∧ r.2.mem ((c.tc : Thread Cert.MemkvReferenceIdeal.nD Cert.MemkvReferenceIdeal.τ).loc Cert.MemkvReferenceIdeal.main_arg3) = m ((c.tc : Thread Cert.MemkvReferenceIdeal.nD Cert.MemkvReferenceIdeal.τ).loc Cert.MemkvReferenceIdeal.main_arg3))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "qscale" .f32 0x3E38AA3B#32 (((Real.log 2)⁻¹ * (1 / 8) : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Experts_ExpertsIdeal : Prop :=
  True

def algebraic_ExpertsIdeal_ExpertsReferenceIdeal_on_listed [hExpertsIdeal : Cert.ExpertsIdeal.Facts] [hExpertsReferenceIdeal : Cert.ExpertsReferenceIdeal.Facts] [hPre_counted : Cert.Pre_counted.Facts] [hOn_listed : Cert.On_listed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v39)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          (∀ i : (⟨2, ![2752512, 128]⟩ : Shape).Idx, (Cert.On_listed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) i = 1#1 → r.2.mem ((c.tc : Thread Cert.ExpertsIdeal.nD Cert.ExpertsIdeal.τ).loc Cert.ExpertsIdeal.main_v39) i = v0 c i)
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          (∀ i : (⟨2, ![2752512, 128]⟩ : Shape).Idx, (Cert.On_listed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) i = 1#1 → r.2.mem ((c.tc : Thread Cert.ExpertsReferenceIdeal.nD Cert.ExpertsReferenceIdeal.τ).loc Cert.ExpertsReferenceIdeal.main_v79) i = v0 c i)
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def preserves_Memkv_MemkvIdeal : Prop :=
  True

def algebraic_MemkvIdeal_MemkvReferenceIdeal [hMemkvIdeal : Cert.MemkvIdeal.Facts] [hMemkvReferenceIdeal : Cert.MemkvReferenceIdeal.Facts] : Prop :=
  ∀ (m : (ℓ : Loc Cert.MemkvIdeal.nD Cert.MemkvIdeal.τ Cert.MemkvIdeal.sig) → Buf (Elt Ideal) ℓ) (g : Dev Cert.MemkvIdeal.nD → PrngReg)
    (m' : (ℓ : Loc Cert.MemkvReferenceIdeal.nD Cert.MemkvReferenceIdeal.τ Cert.MemkvReferenceIdeal.sig) → Buf (Elt Ideal) ℓ) (g' : Dev Cert.MemkvReferenceIdeal.nD → PrngReg), Pre_MemkvIdeal m →
    (∀ c : Dev Cert.MemkvIdeal.nD,
      m' ((c.tc : Thread Cert.MemkvReferenceIdeal.nD Cert.MemkvReferenceIdeal.τ).loc Cert.MemkvReferenceIdeal.main_arg0) = m ((c.tc : Thread Cert.MemkvIdeal.nD Cert.MemkvIdeal.τ).loc Cert.MemkvIdeal.main_arg0)
      ∧ m' ((c.tc : Thread Cert.MemkvReferenceIdeal.nD Cert.MemkvReferenceIdeal.τ).loc Cert.MemkvReferenceIdeal.main_arg1) = m ((c.tc : Thread Cert.MemkvIdeal.nD Cert.MemkvIdeal.τ).loc Cert.MemkvIdeal.main_arg1)
      ∧ m' ((c.tc : Thread Cert.MemkvReferenceIdeal.nD Cert.MemkvReferenceIdeal.τ).loc Cert.MemkvReferenceIdeal.main_arg2) = m ((c.tc : Thread Cert.MemkvIdeal.nD Cert.MemkvIdeal.τ).loc Cert.MemkvIdeal.main_arg2)
      ∧ m' ((c.tc : Thread Cert.MemkvReferenceIdeal.nD Cert.MemkvReferenceIdeal.τ).loc Cert.MemkvReferenceIdeal.main_arg3) = m ((c.tc : Thread Cert.MemkvIdeal.nD Cert.MemkvIdeal.τ).loc Cert.MemkvIdeal.main_arg3)) →
    ∃ (v0 : (c : Dev Cert.MemkvIdeal.nD) → Buf (Elt Ideal) ((c.tc : Thread Cert.MemkvIdeal.nD Cert.MemkvIdeal.τ).loc Cert.MemkvIdeal.main_v2)),
      θ_run (Cert.MemkvIdeal.defs (F := Ideal)) (onTc (τ := Cert.MemkvIdeal.τ) (Cert.MemkvIdeal.main (F := Ideal))) ⟨m, fun _ => 0, g⟩ (fun r => ∀ c : Dev Cert.MemkvIdeal.nD,
          r.2.mem ((c.tc : Thread Cert.MemkvIdeal.nD Cert.MemkvIdeal.τ).loc Cert.MemkvIdeal.main_v2) = v0 c
          ∧ r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
          ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
          ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2)
          ∧ r.2.mem ((c.tc : Thread Cert.MemkvIdeal.nD Cert.MemkvIdeal.τ).loc Cert.MemkvIdeal.main_arg3) = m ((c.tc : Thread Cert.MemkvIdeal.nD Cert.MemkvIdeal.τ).loc Cert.MemkvIdeal.main_arg3))
      ∧ θ_run (Cert.MemkvReferenceIdeal.defs (F := Ideal)) (onTc (τ := Cert.MemkvReferenceIdeal.τ) (Cert.MemkvReferenceIdeal.main (F := Ideal))) ⟨m', fun _ => 0, g'⟩ (fun r => ∀ c : Dev Cert.MemkvReferenceIdeal.nD,
          r.2.mem ((c.tc : Thread Cert.MemkvReferenceIdeal.nD Cert.MemkvReferenceIdeal.τ).loc Cert.MemkvReferenceIdeal.main_v15) = v0 c
          ∧ r.2.mem ((c.tc : Thread Cert.MemkvReferenceIdeal.nD Cert.MemkvReferenceIdeal.τ).loc Cert.MemkvReferenceIdeal.main_arg0) = m' ((c.tc : Thread Cert.MemkvReferenceIdeal.nD Cert.MemkvReferenceIdeal.τ).loc Cert.MemkvReferenceIdeal.main_arg0)
          ∧ r.2.mem ((c.tc : Thread Cert.MemkvReferenceIdeal.nD Cert.MemkvReferenceIdeal.τ).loc Cert.MemkvReferenceIdeal.main_arg1) = m' ((c.tc : Thread Cert.MemkvReferenceIdeal.nD Cert.MemkvReferenceIdeal.τ).loc Cert.MemkvReferenceIdeal.main_arg1)
          ∧ r.2.mem ((c.tc : Thread Cert.MemkvReferenceIdeal.nD Cert.MemkvReferenceIdeal.τ).loc Cert.MemkvReferenceIdeal.main_arg2) = m' ((c.tc : Thread Cert.MemkvReferenceIdeal.nD Cert.MemkvReferenceIdeal.τ).loc Cert.MemkvReferenceIdeal.main_arg2)
          ∧ r.2.mem ((c.tc : Thread Cert.MemkvReferenceIdeal.nD Cert.MemkvReferenceIdeal.τ).loc Cert.MemkvReferenceIdeal.main_arg3) = m' ((c.tc : Thread Cert.MemkvReferenceIdeal.nD Cert.MemkvReferenceIdeal.τ).loc Cert.MemkvReferenceIdeal.main_arg3))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v65_0)) (v1 : (c : Dev Cert.InprojIdeal.nD) → Buf (Elt Ideal) ((c.tc : Thread Cert.InprojIdeal.nD Cert.InprojIdeal.τ).loc Cert.InprojIdeal.main_v65_1)) (v2 : (c : Dev Cert.InprojIdeal.nD) → Buf (Elt Ideal) ((c.tc : Thread Cert.InprojIdeal.nD Cert.InprojIdeal.τ).loc Cert.InprojIdeal.main_v65_2)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v65_0) = v0 c
          ∧ r.2.mem ((c.tc : Thread Cert.InprojIdeal.nD Cert.InprojIdeal.τ).loc Cert.InprojIdeal.main_v65_1) = v1 c
          ∧ r.2.mem ((c.tc : Thread Cert.InprojIdeal.nD Cert.InprojIdeal.τ).loc Cert.InprojIdeal.main_v65_2) = v2 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v114) = v0 c
          ∧ r.2.mem ((c.tc : Thread Cert.InprojReferenceIdeal.nD Cert.InprojReferenceIdeal.τ).loc Cert.InprojReferenceIdeal.main_v116) = v1 c
          ∧ r.2.mem ((c.tc : Thread Cert.InprojReferenceIdeal.nD Cert.InprojReferenceIdeal.τ).loc Cert.InprojReferenceIdeal.main_v118) = v2 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hMemkv : Cert.Memkv.Facts) (hMemkvIdeal : Cert.MemkvIdeal.Facts) (hMemkvReferenceIdeal : Cert.MemkvReferenceIdeal.Facts) (hInproj : Cert.Inproj.Facts) (hInprojIdeal : Cert.InprojIdeal.Facts) (hInprojReferenceIdeal : Cert.InprojReferenceIdeal.Facts) (hPre_finite : Cert.Pre_finite.Facts) (hPre_counted : Cert.Pre_counted.Facts) (hOn_listed : Cert.On_listed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Experts (hExperts := hExperts) (hPre_counted := hPre_counted)
    ∧ quiescent_ExpertsIdeal (hExpertsIdeal := hExpertsIdeal) (hPre_counted := hPre_counted)
    ∧ quiescent_ExpertsReferenceIdeal (hExpertsReferenceIdeal := hExpertsReferenceIdeal)
    ∧ quiescent_ExpertsReferenceIdeal_pre_counted (hExpertsReferenceIdeal := hExpertsReferenceIdeal) (hPre_counted := hPre_counted)
    ∧ quiescent_Memkv (hMemkv := hMemkv)
    ∧ quiescent_MemkvIdeal (hMemkvIdeal := hMemkvIdeal)
    ∧ quiescent_MemkvReferenceIdeal (hMemkvReferenceIdeal := hMemkvReferenceIdeal)
    ∧ quiescent_Inproj (hInproj := hInproj)
    ∧ quiescent_InprojIdeal (hInprojIdeal := hInprojIdeal)
    ∧ quiescent_InprojReferenceIdeal (hInprojReferenceIdeal := hInprojReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Experts_ExpertsIdeal
    ∧ algebraic_ExpertsIdeal_ExpertsReferenceIdeal_on_listed (hExpertsIdeal := hExpertsIdeal) (hExpertsReferenceIdeal := hExpertsReferenceIdeal) (hPre_counted := hPre_counted) (hOn_listed := hOn_listed)
    ∧ preserves_Memkv_MemkvIdeal
    ∧ algebraic_MemkvIdeal_MemkvReferenceIdeal (hMemkvIdeal := hMemkvIdeal) (hMemkvReferenceIdeal := hMemkvReferenceIdeal)
    ∧ preserves_Inproj_InprojIdeal
    ∧ algebraic_InprojIdeal_InprojReferenceIdeal (hInprojIdeal := hInprojIdeal) (hInprojReferenceIdeal := hInprojReferenceIdeal)
-- ==== On_listed.lean ====
abbrev S20987904x128 : Shape := ⟨2, ![20987904, 128]⟩
abbrev S32x128 : Shape := ⟨2, ![32, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1 : Shape := ⟨2, ![32, 1]⟩
abbrev S32 : Shape := ⟨1, ![32]⟩
abbrev S_ : Shape := ⟨0, ![]⟩
abbrev S1x32 : Shape := ⟨2, ![1, 32]⟩
abbrev S32x32 : Shape := ⟨2, ![32, 32]⟩
abbrev S344064 : Shape := ⟨1, ![344064]⟩
abbrev S1 : Shape := ⟨1, ![1]⟩
abbrev S344064x1x1 : Shape := ⟨3, ![344064, 1, 1]⟩
abbrev S344064x8x128 : Shape := ⟨3, ![344064, 8, 128]⟩
abbrev S2752512x128 : Shape := ⟨2, ![2752512, 128]⟩

class Facts : Prop where
  slices_S32x128_S32x1_0_0 : S32x128.Slices ![0, 0] S32x1
  shapeCasts_S32x1_S32 : S32x1.ShapeCasts S32
  bcast_S_S32 : S_.BroadcastsInDim S32 (![] : Fin 0 → Fin S32.rank)
  bcast_S32_S32x1_0 : S32.BroadcastsInDim S32x1 (![0] : Fin 1 → Fin S32x1.rank)
  bcast_S32_S1x32_1 : S32.BroadcastsInDim S1x32 (![1] : Fin 1 → Fin S1x32.rank)
  bcast_S32x1_S32x32_0_1 : S32x1.BroadcastsInDim S32x32 (![0, 1] : Fin 2 → Fin S32x32.rank)
  bcast_S1x32_S32x32_0_1 : S1x32.BroadcastsInDim S32x32 (![0, 1] : Fin 2 → Fin S32x32.rank)
  bcast_S_S32x32 : S_.BroadcastsInDim S32x32 (![] : Fin 0 → Fin S32x32.rank)
  reducesTo_S32x32_S32_d1 : S32x32.ReducesTo [1] S32
  h_S_ : 0 < S_.numel
  slices_S32_S1_31 : S32.Slices ![31] S1
  shapeCasts_S1_S_ : S1.ShapeCasts S_
  bcast_S_S344064 : S_.BroadcastsInDim S344064 (![] : Fin 0 → Fin S344064.rank)
  bcast_S344064_S344064x1x1_0 : S344064.BroadcastsInDim S344064x1x1 (![0] : Fin 1 → Fin S344064x1x1.rank)
  bcast_S344064x1x1_S344064x8x128_0_1_2 : S344064x1x1.BroadcastsInDim S344064x8x128 (![0, 1, 2] : Fin 3 → Fin S344064x8x128.rank)
  shapeCasts_S344064x8x128_S2752512x128 : S344064x8x128.ShapeCasts S2752512x128

variable [Facts]

def fn_where {F : FTy → Type} [FloatOps F] (arg0 : IVec S32 1) (arg1 : IVec S32 32) (arg2 : IVec S32 32) : IVec S32 32 :=
  let v0 : IVec S32 32 := select arg0 arg1 arg2
  v0

def fn_floor_divide {F : FTy → Type} [FloatOps F] (arg0 : IVec S32 32) (arg1 : IVec S_ 32) : IVec S32 32 :=
  let v0 : IVec S_ 32 := id arg1
  let v1 : IVec S32 32 := broadcastInDim S32 ![] bcast_S_S32 v0
  let v2 : IVec S32 32 := Host.divsi arg0 v1
  let v3 : IVec S32 32 := signi arg0
  let v4 : IVec S_ 32 := signi v0
  let v5 : IVec S32 32 := broadcastInDim S32 ![] bcast_S_S32 v4
  let v6 : IVec S32 1 := cmpi .ne v3 v5
  let v7 : IVec S32 32 := broadcastInDim S32 ![] bcast_S_S32 v0
  let v8 : IVec S32 32 := Host.remsi arg0 v7
  let c : IVec S_ 32 := constantI S_ 32 0#32
  let v9 : IVec S32 32 := broadcastInDim S32 ![] bcast_S_S32 c
  let v10 : IVec S32 1 := cmpi .ne v8 v9
  let v11 : IVec S32 1 := andi v6 v10
  let c_0 : IVec S_ 32 := constantI S_ 32 1#32
  let v12 : IVec S32 32 := broadcastInDim S32 ![] bcast_S_S32 c_0
  let v13 : IVec S32 32 := subi v2 v12
  let v14 : IVec S32 32 := fn_where (F := F) v11 v13 v2
  v14

def fn_where_0 {F : FTy → Type} [FloatOps F] (arg0 : IVec S32x32 1) (arg1 : IVec S1x32 32) (arg2 : IVec S_ 32) : IVec S32x32 32 :=
  let v0 : IVec S_ 32 := id arg2
  let v1 : IVec S32x32 32 := broadcastInDim S32x32 ![0, 1] bcast_S1x32_S32x32_0_1 arg1
  let v2 : IVec S32x32 32 := broadcastInDim S32x32 ![] bcast_S_S32x32 v0
  let v3 : IVec S32x32 32 := select arg0 v1 v2
  v3

def fn_part1 {F : FTy → Type} [FloatOps F] (main_v17 : IVec S344064 32) (main_v18 : IVec S1 32) : IVec S2752512x128 1 :=
  let main_v19 : IVec S_ 32 := shapeCast S_ main_v18 shapeCasts_S1_S_
  let main_v20 : IVec S344064 32 := broadcastInDim S344064 ![] bcast_S_S344064 main_v19
  let main_v21 : IVec S344064 1 := cmpi .slt main_v17 main_v20
  let main_v22 : IVec S344064x1x1 1 := broadcastInDim S344064x1x1 ![0] bcast_S344064_S344064x1x1_0 main_v21
  let main_v23 : IVec S344064x8x128 1 := broadcastInDim S344064x8x128 ![0, 1, 2] bcast_S344064x1x1_S344064x8x128_0_1_2 main_v22
  let main_v24 : IVec S2752512x128 1 := shapeCast S2752512x128 main_v23 shapeCasts_S344064x8x128_S2752512x128
  main_v24

def fn {F : FTy → Type} [FloatOps F] (main_arg0 : FVec F S20987904x128 .f32) (main_arg1 : FVec F S32x128 .f32) (main_arg2 : FVec F S32x1024x2048 .f32) (main_arg3 : FVec F S32x2048 .f32) (main_arg4 : FVec F S32x1024x1024 .f32) (main_arg5 : FVec F S32x1024 .f32) : IVec S2752512x128 1 :=
  let main_v0 : FVec F S32x1 .f32 := (extractStridedSlice S32x1 ![0, 0] · slices_S32x128_S32x1_0_0) main_arg1
  let main_v1 : FVec F S32 .f32 := shapeCast S32 main_v0 shapeCasts_S32x1_S32
  let main_v2 : IVec S32 32 := fptosi 32 main_v1
  let main_c : IVec S_ 32 := constantI S_ 32 511#32
  let main_v3 : IVec S32 32 := broadcastInDim S32 ![] bcast_S_S32 main_c
  let main_v4 : IVec S32 32 := addi main_v2 main_v3
  let main_c_0 : IVec S_ 32 := constantI S_ 32 512#32
  let main_v5 : IVec S32 32 := fn_floor_divide (F := F) main_v4 main_c_0
  let main_c_1 : IVec S_ 32 := constantI S_ 32 512#32
  let main_v6 : IVec S32 32 := broadcastInDim S32 ![] bcast_S_S32 main_c_1
  let main_v7 : IVec S32 32 := muli main_v5 main_v6
  let main_v8 : IVec S32 32 := iotaInDim S32 32 0
  let main_v9 : IVec S32x1 32 := broadcastInDim S32x1 ![0] bcast_S32_S32x1_0 main_v8
  let main_v10 : IVec S1x32 32 := broadcastInDim S1x32 ![1] bcast_S32_S1x32_1 main_v8
  let main_v11 : IVec S32x32 32 := broadcastInDim S32x32 ![0, 1] bcast_S32x1_S32x32_0_1 main_v9
  let main_v12 : IVec S32x32 32 := broadcastInDim S32x32 ![0, 1] bcast_S1x32_S32x32_0_1 main_v10
  let main_v13 : IVec S32x32 1 := cmpi .sge main_v11 main_v12
  let main_v14 : IVec S1x32 32 := broadcastInDim S1x32 ![1] bcast_S32_S1x32_1 main_v7
  let main_c_2 : IVec S_ 32 := constantI S_ 32 0#32
  let main_v15 : IVec S32x32 32 := fn_where_0 (F := F) main_v13 main_v14 main_c_2
  let main_c_3 : IVec S_ 32 := constantI S_ 32 0#32
  let main_v16 : IVec S32 32 := (fun x v => Host.reduce IntOp.addi x v reducesTo_S32x32_S32_d1 h_S_) main_v15 main_c_3
  let main_v17 : IVec S344064 32 := iotaInDim S344064 32 0
  let main_v18 : IVec S1 32 := (extractStridedSlice S1 ![31] · slices_S32_S1_31) main_v16
  fn_part1 (F := F) main_v17 main_v18
-- ==== Pre_counted.lean ====
abbrev S20987904x128 : Shape := ⟨2, ![20987904, 128]⟩
abbrev S32x128 : Shape := ⟨2, ![32, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1 : Shape := ⟨2, ![32, 1]⟩
abbrev S32 : Shape := ⟨1, ![32]⟩
abbrev S_ : Shape := ⟨0, ![]⟩

class Facts : Prop where
  slices_S32x128_S32x1_0_0 : S32x128.Slices ![0, 0] S32x1
  shapeCasts_S32x1_S32 : S32x1.ShapeCasts S32
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : FVec F S20987904x128 .f32) (main_arg1 : FVec F S32x128 .f32) (main_arg2 : FVec F S32x1024x2048 .f32) (main_arg3 : FVec F S32x2048 .f32) (main_arg4 : FVec F S32x1024x1024 .f32) (main_arg5 : FVec F S32x1024 .f32) : IVec S_ 1 :=
  let main_v0 : FVec F S32x1 .f32 := (extractStridedSlice S32x1 ![0, 0] · slices_S32x128_S32x1_0_0) main_arg1
  let main_v1 : FVec F S32 .f32 := shapeCast S32 main_v0 shapeCasts_S32x1_S32
  let main_v2 : IVec S32 32 := fptosi 32 main_v1
  let main_c : IVec S_ 32 := constantI S_ 32 0#32
  let main_v3 : IVec S32 32 := broadcastInDim S32 ![] bcast_S_S32 main_c
  let main_v4 : IVec S32 1 := cmpi .sge main_v2 main_v3
  let main_c_0 : IVec S_ 32 := constantI S_ 32 81920#32
  let main_v5 : IVec S32 32 := broadcastInDim S32 ![] bcast_S_S32 main_c_0
  let main_v6 : IVec S32 1 := cmpi .sle main_v2 main_v5
  let main_v7 : IVec S32 1 := andi main_v4 main_v6
  let main_c_1 : IVec S_ 1 := constantI S_ 1 1#1
  let main_v8 : IVec S_ 1 := (fun x v => Host.reduce IntOp.andi x v reducesTo_S32_S_d0 h_S_) main_v7 main_c_1
  let main_c_2 : IVec S_ 32 := constantI S_ 32 0#32
  let main_v9 : IVec S_ 32 := (fun x v => Host.reduce IntOp.addi x v reducesTo_S32_S_d0 h_S_) main_v2 main_c_2
  let main_c_3 : IVec S_ 32 := constantI S_ 32 1#32
  let main_v10 : IVec S_ 1 := cmpi .sge main_v9 main_c_3
  let main_v11 : IVec S_ 1 := andi main_v8 main_v10
  main_v11
-- ==== Pre_finite.lean ====
abbrev S20x4096x512 : Shape := ⟨3, ![20, 4096, 512]⟩
abbrev S20x4096x128 : Shape := ⟨3, ![20, 4096, 128]⟩
abbrev S8 : Shape := ⟨1, ![8]⟩
abbrev S_ : Shape := ⟨0, ![]⟩

class Facts : Prop where
  bcast_S_S20x4096x512 : S_.BroadcastsInDim S20x4096x512 (![] : Fin 0 → Fin S20x4096x512.rank)
  reducesTo_S20x4096x512_S_d0_1_2 : S20x4096x512.ReducesTo [0, 1, 2] S_
  h_S_ : 0 < S_.numel
  bcast_S_S20x4096x128 : S_.BroadcastsInDim S20x4096x128 (![] : Fin 0 → Fin S20x4096x128.rank)
  reducesTo_S20x4096x128_S_d0_1_2 : S20x4096x128.ReducesTo [0, 1, 2] S_
  bcast_S_S8 : S_.BroadcastsInDim S8 (![] : Fin 0 → Fin S8.rank)
  reducesTo_S8_S_d0 : S8.ReducesTo [0] S_

variable [Facts]

def fn {F : FTy → Type} [FloatOps F] (main_arg0 : FVec F S20x4096x512 .f32) (main_arg1 : FVec F S20x4096x128 .f32) (main_arg2 : FVec F S20x4096x128 .f32) (main_arg3 : FVec F S8 .f32) : IVec S_ 1 :=
  let main_v0 : FVec F S20x4096x512 .f32 := Host.absf main_arg0
  let main_cst : FVec F S_ .f32 := constant S_ .f32 0x7F800000#32
  let main_v1 : FVec F S20x4096x512 .f32 := broadcastInDim S20x4096x512 ![] bcast_S_S20x4096x512 main_cst
  let main_v2 : IVec S20x4096x512 1 := cmpf .olt main_v0 main_v1
  let main_c : IVec S_ 1 := constantI S_ 1 1#1
  let main_v3 : IVec S_ 1 := (fun x v => Host.reduce IntOp.andi x v reducesTo_S20x4096x512_S_d0_1_2 h_S_) main_v2 main_c
  let main_v4 : FVec F S20x4096x128 .f32 := Host.absf main_arg1
  let main_cst_0 : FVec F S_ .f32 := constant S_ .f32 0x7F800000#32
  let main_v5 : FVec F S20x4096x128 .f32 := broadcastInDim S20x4096x128 ![] bcast_S_S20x4096x128 main_cst_0
  let main_v6 : IVec S20x4096x128 1 := cmpf .olt main_v4 main_v5
  let main_c_1 : IVec S_ 1 := constantI S_ 1 1#1
  let main_v7 : IVec S_ 1 := (fun x v => Host.reduce IntOp.andi x v reducesTo_S20x4096x128_S_d0_1_2 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Kernel.lean ====
abbrev S20x4096x512 : Shape := ⟨3, ![20, 4096, 512]⟩
abbrev S20x4096x128 : Shape := ⟨3, ![20, 4096, 128]⟩
abbrev S8 : Shape := ⟨1, ![8]⟩
abbrev S20x4096x64 : Shape := ⟨3, ![20, 4096, 64]⟩
abbrev S128 : Shape := ⟨1, ![128]⟩
abbrev S128x1 : Shape := ⟨2, ![128, 1]⟩
abbrev S384 : Shape := ⟨1, ![384]⟩
abbrev S1x384 : Shape := ⟨2, ![1, 384]⟩
abbrev S_ : Shape := ⟨0, ![]⟩
abbrev S128x384 : Shape := ⟨2, ![128, 384]⟩
abbrev S1x128x384 : Shape := ⟨3, ![1, 128, 384]⟩
abbrev S3x128x384 : Shape := ⟨3, ![3, 128, 384]⟩
abbrev S1x1024x512 : Shape := ⟨3, ![1, 1024, 512]⟩
abbrev S1x128x512 : Shape := ⟨3, ![1, 128, 512]⟩
abbrev S128x512 : Shape := ⟨2, ![128, 512]⟩
abbrev S1024x512 : Shape := ⟨2, ![1024, 512]⟩
abbrev S1280x512 : Shape := ⟨2, ![1280, 512]⟩
abbrev S1280x128 : Shape := ⟨2, ![1280, 128]⟩
abbrev S128x128 : Shape := ⟨2, ![128, 128]⟩
abbrev S512x1 : Shape := ⟨2, ![512, 1]⟩
abbrev S512x384 : Shape := ⟨2, ![512, 384]⟩
abbrev S1x128x128 : Shape := ⟨3, ![1, 128, 128]⟩
abbrev S512x128 : Shape := ⟨2, ![512, 128]⟩
abbrev S384x128 : Shape := ⟨2, ![384, 128]⟩
abbrev S1 : Shape := ⟨1, ![1]⟩
abbrev S512 : Shape := ⟨1, ![512]⟩

abbrev nBuf : Space → Nat
  | .hbm => 46
  | .vmem => 11
  | .smem => 1
  | _ => 0

abbrev bufTy : (tb : Table) → Fin (tcTables nBuf tb) → BufTy
  | .hbm, ⟨0, _⟩ => ⟨S20x4096x512, .f32⟩
  | .hbm, ⟨1, _⟩ => ⟨S20x4096x128, .f32⟩
  | .hbm, ⟨2, _⟩ => ⟨S20x4096x128, .f32⟩
  | .hbm, ⟨3, _⟩ => ⟨S8, .f32⟩
  | .hbm, ⟨4, _⟩ => ⟨S20x4096x64, .f32⟩
  | .hbm, ⟨5, _⟩ => ⟨S20x4096x64, .f32⟩
  | .hbm, ⟨6, _⟩ => ⟨S20x4096x128, .f32⟩
  | .hbm, ⟨7, _⟩ => ⟨S20x4096x64, .f32⟩
  | .hbm, ⟨8, _⟩ => ⟨S20x4096x64, .f32⟩
  | .hbm, ⟨9, _⟩ => ⟨S20x4096x128, .f32⟩
  | .hbm, ⟨10, _⟩ => ⟨S20x4096x512, .f32⟩
  | .hbm, ⟨11, _⟩ => ⟨S20x4096x512, .bf16⟩
  | .hbm, ⟨12, _⟩ => ⟨S20x4096x512, .bf16⟩
  | .hbm, ⟨13, _⟩ => ⟨S128, .i32⟩
  | .hbm, ⟨14, _⟩ => ⟨S128x1, .i32⟩
  | .hbm, ⟨15, _⟩ => ⟨S384, .i32⟩
  | .hbm, ⟨16, _⟩ => ⟨S1x384, .i32⟩
  | .hbm, ⟨17, _⟩ => ⟨S_, .i32⟩
  | .hbm, ⟨18, _⟩ => ⟨S1x384, .i32⟩
  | .hbm, ⟨19, _⟩ => ⟨S1x384, .i32⟩
  | .hbm, ⟨20, _⟩ => ⟨S128x384, .i32⟩
  | .hbm, ⟨21, _⟩ => ⟨S128x384, .i32⟩
  | .hbm, ⟨22, _⟩ => ⟨S128x384, .i32⟩
  | .hbm, ⟨23, _⟩ => ⟨S128x384, .i32⟩
  | .hbm, ⟨24, _⟩ => ⟨S_, .i32⟩
  | .hbm, ⟨25, _⟩ => ⟨S128x384, .i32⟩
  | .hbm, ⟨26, _⟩ => ⟨S128x384, .i1⟩
  | .hbm, ⟨27, _⟩ => ⟨S_, .i32⟩
  | .hbm, ⟨28, _⟩ => ⟨S1x384, .i32⟩
  | .hbm, ⟨29, _⟩ => ⟨S1x384, .i1⟩
  | .hbm, ⟨30, _⟩ => ⟨S128x384, .i1⟩
  | .hbm, ⟨31, _⟩ => ⟨S128x384, .i1⟩
  | .hbm, ⟨32, _⟩ => ⟨S_, .i32⟩
  | .hbm, ⟨33, _⟩ => ⟨S1x384, .i32⟩
  | .hbm, ⟨34, _⟩ => ⟨S1x384, .i1⟩
  | .hbm, ⟨35, _⟩ => ⟨S128x384, .i1⟩
  | .hbm, ⟨36, _⟩ => ⟨S128x384, .i1⟩
  | .hbm, ⟨37, _⟩ => ⟨S1x128x384, .i1⟩
  | .hbm, ⟨38, _⟩ => ⟨S1x128x384, .i1⟩
  | .hbm, ⟨39, _⟩ => ⟨S1x128x384, .i1⟩
  | .hbm, ⟨40, _⟩ => ⟨S3x128x384, .i1⟩
  | .hbm, ⟨41, _⟩ => ⟨S3x128x384, .f32⟩
  | .hbm, ⟨42, _⟩ => ⟨S_, .f32⟩
  | .hbm, ⟨43, _⟩ => ⟨S3x128x384, .f32⟩
  | .hbm, ⟨44, _⟩ => ⟨S3x128x384, .f32⟩
  | .hbm, ⟨45, _⟩ => ⟨S20x4096x512, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x128x512, .bf16⟩
  | .local _ .vmem, ⟨7, _⟩ => ⟨S1x128x512, .bf16⟩
  | .local _ .vmem, ⟨8, _⟩ => ⟨S3x128x384, .f32⟩
  | .local _ .vmem, ⟨9, _⟩ => ⟨S1x1024x512, .bf16⟩
  | .local _ .vmem, ⟨10, _⟩ => ⟨S1x1024x512, .bf16⟩
  | .local _ .smem, ⟨0, _⟩ => ⟨S8, .f32⟩
  | _, _ => ⟨S20x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c_0 : Ref sig .tc := ⟨.hbm, 24, rfl⟩
abbrev main_v19 : Ref sig .tc := ⟨.hbm, 25, rfl⟩
abbrev main_v20 : Ref sig .tc := ⟨.hbm, 26, rfl⟩
abbrev main_c_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![20, 4], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c31_i32 : BitVec 32 := 31#32
  let v2 : BitVec 32 := Scalar.minsi v1 c31_i32
  let c0_i32 : BitVec 32 := 0#32
  let c0_i32_0 : BitVec 32 := 0#32
  ![arg0.toNat, v2.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S3x128x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "qscale" => some (((Real.log 2)⁻¹ * (1 / 8) : ℝ) : EReal)
  | _ => none
-- ==== ReferenceIdeal.lean ====
abbrev S20x4096x512 : Shape := ⟨3, ![20, 4096, 512]⟩
abbrev S20x4096x128 : Shape := ⟨3, ![20, 4096, 128]⟩
abbrev S8 : Shape := ⟨1, ![8]⟩
abbrev S20x32x128x2x4x64 : Shape := ⟨6, ![20, 32, 128, 2, 4, 64]⟩
abbrev S20x4096x2x64 : Shape := ⟨4, ![20, 4096, 2, 64]⟩
abbrev S_ : Shape := ⟨0, ![]⟩
abbrev S20x4352x2x64 : Shape := ⟨4, ![20, 4352, 2, 64]⟩
abbrev S20x34x128x2x64 : Shape := ⟨5, ![20, 34, 128, 2, 64]⟩
abbrev S20x32x128x2x64 : Shape := ⟨5, ![20, 32, 128, 2, 64]⟩
abbrev S20x32x384x2x64 : Shape := ⟨5, ![20, 32, 384, 2, 64]⟩
abbrev S20x32x2x384x128x4 : Shape := ⟨6, ![20, 32, 2, 384, 128, 4]⟩
abbrev S20x32x2x4x128x384 : Shape := ⟨6, ![20, 32, 2, 4, 128, 384]⟩
abbrev S32 : Shape := ⟨1, ![32]⟩
abbrev S32x1x1 : Shape := ⟨3, ![32, 1, 1]⟩
abbrev S128 : Shape := ⟨1, ![128]⟩
abbrev S1x128x1 : Shape := ⟨3, ![1, 128, 1]⟩
abbrev S32x128x1 : Shape := ⟨3, ![32, 128, 1]⟩
abbrev S384 : Shape := ⟨1, ![384]⟩
abbrev S1x1x384 : Shape := ⟨3, ![1, 1, 384]⟩
abbrev S32x1x384 : Shape := ⟨3, ![32, 1, 384]⟩
abbrev S32x128x384 : Shape := ⟨3, ![32, 128, 384]⟩
abbrev S1x32x1x1x128x384 : Shape := ⟨6, ![1, 32, 1, 1, 128, 384]⟩
abbrev S1x1x2x4x1x1 : Shape := ⟨6, ![1, 1, 2, 4, 1, 1]⟩
abbrev S20x32x2x4x128x1 : Shape := ⟨6, ![20, 32, 2, 4, 128, 1]⟩
abbrev S20x32x2x4x128x385 : Shape := ⟨6, ![20, 32, 2, 4, 128, 385]⟩
abbrev S20x32x2x4x128 : Shape := ⟨5, ![20, 32, 2, 4, 128]⟩
abbrev S20x32x2x64x4x128 : Shape := ⟨6, ![20, 32, 2, 64, 4, 128]⟩

abbrev nBuf : Space → Nat
  | .hbm => 94
  | .vmem => 0
  | .smem => 0
  | _ => 0

abbrev bufTy : (tb : Table) → Fin (tcTables nBuf tb) → BufTy
  | .hbm, ⟨0, _⟩ => ⟨S20x4096x512, .f32⟩
  | .hbm, ⟨1, _⟩ => ⟨S20x4096x128, .f32⟩
  | .hbm, ⟨2, _⟩ => ⟨S20x4096x128, .f32⟩
  | .hbm, ⟨3, _⟩ => ⟨S8, .f32⟩
  | .hbm, ⟨4, _⟩ => ⟨S20x32x128x2x4x64, .f32⟩
  | .hbm, ⟨5, _⟩ => ⟨S20x4096x2x64, .f32⟩
  | .hbm, ⟨6, _⟩ => ⟨S_, .i32⟩
  | .hbm, ⟨7, _⟩ => ⟨S_, .f32⟩
  | .hbm, ⟨8, _⟩ => ⟨S20x4352x2x64, .f32⟩
  | .hbm, ⟨9, _⟩ => ⟨S20x34x128x2x64, .f32⟩
  | .hbm, ⟨10, _⟩ => ⟨S20x32x128x2x64, .f32⟩
  | .hbm, ⟨11, _⟩ => ⟨S20x32x128x2x64, .f32⟩
  | .hbm, ⟨12, _⟩ => ⟨S20x32x128x2x64, .f32⟩
  | .hbm, ⟨13, _⟩ => ⟨S20x32x384x2x64, .f32⟩
  | .hbm, ⟨14, _⟩ => ⟨S20x4096x2x64, .f32⟩
  | .hbm, ⟨15, _⟩ => ⟨S_, .i32⟩
  | .hbm, ⟨16, _⟩ => ⟨S_, .f32⟩
  | .hbm, ⟨17, _⟩ => ⟨S20x4352x2x64, .f32⟩
  | .hbm, ⟨18, _⟩ => ⟨S20x34x128x2x64, .f32⟩
  | .hbm, ⟨19, _⟩ => ⟨S20x32x128x2x64, .f32⟩
  | .hbm, ⟨20, _⟩ => ⟨S20x32x128x2x64, .f32⟩
  | .hbm, ⟨21, _⟩ => ⟨S20x32x128x2x64, .f32⟩
  | .hbm, ⟨22, _⟩ => ⟨S20x32x384x2x64, .f32⟩
  | .hbm, ⟨23, _⟩ => ⟨S20x32x2x384x128x4, .f32⟩
  | .hbm, ⟨24, _⟩ => ⟨S20x32x2x4x128x384, .f32⟩
  | .hbm, ⟨25, _⟩ => ⟨S_, .f32⟩
  | .hbm, ⟨26, _⟩ => ⟨S20x32x2x4x128x384, .f32⟩
  | .hbm, ⟨27, _⟩ => ⟨S20x32x2x4x128x384, .f32⟩
  | .hbm, ⟨28, _⟩ => ⟨S32, .i32⟩
  | .hbm, ⟨29, _⟩ => ⟨S32x1x1, .i32⟩
  | .hbm, ⟨30, _⟩ => ⟨S_, .i32⟩
  | .hbm, ⟨31, _⟩ => ⟨S32x1x1, .i32⟩
  | .hbm, ⟨32, _⟩ => ⟨S32x1x1, .i32⟩
  | .hbm, ⟨33, _⟩ => ⟨S128, .i32⟩
  | .hbm, ⟨34, _⟩ => ⟨S1x128x1, .i32⟩
  | .hbm, ⟨35, _⟩ => ⟨S32x128x1, .i32⟩
  | .hbm, ⟨36, _⟩ => ⟨S32x128x1, .i32⟩
  | .hbm, ⟨37, _⟩ => ⟨S32x128x1, .i32⟩
  | .hbm, ⟨38, _⟩ => ⟨S_, .i32⟩
  | .hbm, ⟨39, _⟩ => ⟨S32x1x1, .i32⟩
  | .hbm, ⟨40, _⟩ => ⟨S32x1x1, .i32⟩
  | .hbm, ⟨41, _⟩ => ⟨S_, .i32⟩
  | .hbm, ⟨42, _⟩ => ⟨S32x1x1, .i32⟩
  | .hbm, ⟨43, _⟩ => ⟨S32x1x1, .i32⟩
  | .hbm, ⟨44, _⟩ => ⟨S384, .i32⟩
  | .hbm, ⟨45, _⟩ => ⟨S1x1x384, .i32⟩
  | .hbm, ⟨46, _⟩ => ⟨S32x1x384, .i32⟩
  | .hbm, ⟨47, _⟩ => ⟨S32x1x384, .i32⟩
  | .hbm, ⟨48, _⟩ => ⟨S32x1x384, .i32⟩
  | .hbm, ⟨49, _⟩ => ⟨S32x128x384, .i32⟩
  | .hbm, ⟨50, _⟩ => ⟨S32x128x384, .i32⟩
  | .hbm, ⟨51, _⟩ => ⟨S32x128x384, .i32⟩
  | .hbm, ⟨52, _⟩ => ⟨S32x128x384, .i32⟩
  | .hbm, ⟨53, _⟩ => ⟨S_, .i32⟩
  | .hbm, ⟨54, _⟩ => ⟨S32x128x384, .i32⟩
  | .hbm, ⟨55, _⟩ => ⟨S32x128x384, .i1⟩
  | .hbm, ⟨56, _⟩ => ⟨S_, .i32⟩
  | .hbm, ⟨57, _⟩ => ⟨S32x1x384, .i32⟩
  | .hbm, ⟨58, _⟩ => ⟨S32x1x384, .i1⟩
  | .hbm, ⟨59, _⟩ => ⟨S32x128x384, .i1⟩
  | .hbm, ⟨60, _⟩ => ⟨S32x128x384, .i1⟩
  | .hbm, ⟨61, _⟩ => ⟨S_, .i32⟩
  | .hbm, ⟨62, _⟩ => ⟨S32x1x384, .i32⟩
  | .hbm, ⟨63, _⟩ => ⟨S32x1x384, .i1⟩
  | .hbm, ⟨64, _⟩ => ⟨S32x128x384, .i1⟩
  | .hbm, ⟨65, _⟩ => ⟨S32x128x384, .i1⟩
  | .hbm, ⟨66, _⟩ => ⟨S1x32x1x1x128x384, .i1⟩
  | .hbm, ⟨67, _⟩ => ⟨S_, .f32⟩
  | .hbm, ⟨68, _⟩ => ⟨S_, .f32⟩
  | .hbm, ⟨69, _⟩ => ⟨S20x32x2x4x128x384, .i1⟩
  | .hbm, ⟨70, _⟩ => ⟨S20x32x2x4x128x384, .f32⟩
  | .hbm, ⟨71, _⟩ => ⟨S20x32x2x4x128x384, .f32⟩
  | .hbm, ⟨72, _⟩ => ⟨S1x1x2x4x1x1, .f32⟩
  | .hbm, ⟨73, _⟩ => ⟨S20x32x2x4x128x1, .f32⟩
  | .hbm, ⟨74, _⟩ => ⟨S20x32x2x4x128x385, .f32⟩
  | .hbm, ⟨75, _⟩ => ⟨S_, .f32⟩
  | .hbm, ⟨76, _⟩ => ⟨S20x32x2x4x128, .f32⟩
  | .hbm, ⟨77, _⟩ => ⟨S_, .f32⟩
  | .hbm, ⟨78, _⟩ => ⟨S20x32x2x4x128, .f32⟩
  | .hbm, ⟨79, _⟩ => ⟨S20x32x2x4x128, .f32⟩
  | .hbm, ⟨80, _⟩ => ⟨S20x32x2x4x128x1, .f32⟩
  | .hbm, ⟨81, _⟩ => ⟨S20x32x2x4x128x385, .f32⟩
  | .hbm, ⟨82, _⟩ => ⟨S20x32x2x4x128x385, .f32⟩
  | .hbm, ⟨83, _⟩ => ⟨S20x32x2x4x128x385, .f32⟩
  | .hbm, ⟨84, _⟩ => ⟨S_, .f32⟩
  | .hbm, ⟨85, _⟩ => ⟨S20x32x2x4x128, .f32⟩
  | .hbm, ⟨86, _⟩ => ⟨S20x32x2x4x128x1, .f32⟩
  | .hbm, ⟨87, _⟩ => ⟨S20x32x2x4x128x385, .f32⟩
  | .hbm, ⟨88, _⟩ => ⟨S20x32x2x4x128x385, .f32⟩
  | .hbm, ⟨89, _⟩ => ⟨S20x32x2x4x128x384, .f32⟩
  | .hbm, ⟨90, _⟩ => ⟨S20x32x2x64x4x128, .f32⟩
  | .hbm, ⟨91, _⟩ => ⟨S20x32x128x2x4x64, .f32⟩
  | .hbm, ⟨92, _⟩ => ⟨S20x4096x512, .f32⟩
  | .hbm, ⟨93, _⟩ => ⟨S20x4096x512, .bf16⟩
  | _, _ => ⟨S20x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_call1_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_2 : Ref sig .tc := ⟨.hbm, 38, rfl⟩
abbrev main_v28 : Ref sig .tc := ⟨.hbm, 39, rfl⟩
abbrev main_v29 : Ref sig .tc := ⟨.hbm, 40, rfl⟩
abbrev main_c_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_c_4 : Ref sig .tc := ⟨.hbm, 53, rfl⟩
abbrev main_v41 : Ref sig .tc := ⟨.hbm, 54, rfl⟩
abbrev main_v42 : Ref sig .tc := ⟨.hbm, 55, rfl⟩
abbrev main_c_5 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_6 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_7 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_8 : Ref sig .tc := ⟨.hbm, 75, rfl⟩
abbrev main_v56 : Ref sig .tc := ⟨.hbm, 76, rfl⟩
abbrev main_cst_9 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_10 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩

abbrev nD : Nat := 1
abbrev τ : Topo := Topo.v7x

variable {F : FTy → Type} [FloatOps F]
-- ==== Experts.lean ====
abbrev S20987904x128 : Shape := ⟨2, ![20987904, 128]⟩
abbrev S32x128 : Shape := ⟨2, ![32, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1 : Shape := ⟨2, ![32, 1]⟩
abbrev S32 : Shape := ⟨1, ![32]⟩
abbrev S_ : Shape := ⟨0, ![]⟩
abbrev S1 : Shape := ⟨1, ![1]⟩
abbrev S672 : Shape := ⟨1, ![672]⟩
abbrev S672x1 : Shape := ⟨2, ![672, 1]⟩
abbrev S1x32 : Shape := ⟨2, ![1, 32]⟩
abbrev S672x32 : Shape := ⟨2, ![672, 32]⟩
abbrev S32x1x2048 : Shape := ⟨3, ![32, 1, 2048]⟩
abbrev S32x1x1024 : Shape := ⟨3, ![32, 1, 1024]⟩
abbrev S2752512x128 : Shape := ⟨2, ![2752512, 128]⟩
abbrev S4096x128 : Shape := ⟨2, ![4096, 128]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S512x128 : Shape := ⟨2, ![512, 128]⟩
abbrev S512x1024 : Shape := ⟨2, ![512, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 71
  | .vmem => 14
  | .smem => 4
  | _ => 0

abbrev bufTy : (tb : Table) → Fin (tcTables nBuf tb) → BufTy
  | .hbm, ⟨0, _⟩ => ⟨S20987904x128, .f32⟩
  | .hbm, ⟨1, _⟩ => ⟨S32x128, .f32⟩
  | .hbm, ⟨2, _⟩ => ⟨S32x1024x2048, .f32⟩
  | .hbm, ⟨3, _⟩ => ⟨S32x2048, .f32⟩
  | .hbm, ⟨4, _⟩ => ⟨S32x1024x1024, .f32⟩
  | .hbm, ⟨5, _⟩ => ⟨S32x1024, .f32⟩
  | .hbm, ⟨6, _⟩ => ⟨S32x1, .f32⟩
  | .hbm, ⟨7, _⟩ => ⟨S32, .f32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S_, .i32⟩
  | .hbm, ⟨16, _⟩ => ⟨S_, .i32⟩
  | .hbm, ⟨17, _⟩ => ⟨S32, .i32⟩
  | .hbm, ⟨18, _⟩ => ⟨S32, .i32⟩
  | .hbm, ⟨19, _⟩ => ⟨S32, .i32⟩
  | .hbm, ⟨20, _⟩ => ⟨S_, .i32⟩
  | .hbm, ⟨21, _⟩ => ⟨S32, .i32⟩
  | .hbm, ⟨22, _⟩ => ⟨S32, .i1⟩
  | .hbm, ⟨23, _⟩ => ⟨S32, .i32⟩
  | .hbm, ⟨24, _⟩ => ⟨S32, .i32⟩
  | .hbm, ⟨25, _⟩ => ⟨S_, .i32⟩
  | .hbm, ⟨26, _⟩ => ⟨S32, .i32⟩
  | .hbm, ⟨27, _⟩ => ⟨S32, .i1⟩
  | .hbm, ⟨28, _⟩ => ⟨S32, .i1⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S32, .i32⟩
  | .hbm, ⟨33, _⟩ => ⟨S_, .i32⟩
  | .hbm, ⟨34, _⟩ => ⟨S_, .i32⟩
  | .hbm, ⟨35, _⟩ => ⟨S32, .i32⟩
  | .hbm, ⟨36, _⟩ => ⟨S32, .i32⟩
  | .hbm, ⟨37, _⟩ => ⟨S1, .i32⟩
  | .hbm, ⟨38, _⟩ => ⟨S_, .i32⟩
  | .hbm, ⟨39, _⟩ => ⟨S672, .i32⟩
  | .hbm, ⟨40, _⟩ => ⟨S_, .i32⟩
  | .hbm, ⟨41, _⟩ => ⟨S_, .i32⟩
  | .hbm, ⟨42, _⟩ => ⟨S672, .i32⟩
  | .hbm, ⟨43, _⟩ => ⟨S672x1, .i32⟩
  | .hbm, ⟨44, _⟩ => ⟨S1x32, .i32⟩
  | .hbm, ⟨45, _⟩ => ⟨S672x32, .i32⟩
  | .hbm, ⟨46, _⟩ => ⟨S672x32, .i32⟩
  | .hbm, ⟨47, _⟩ => ⟨S672x32, .i1⟩
  | .hbm, ⟨48, _⟩ => ⟨S672x32, .i32⟩
  | .hbm, ⟨49, _⟩ => ⟨S_, .i32⟩
  | .hbm, ⟨50, _⟩ => ⟨S672x1, .i32⟩
  | .hbm, ⟨51, _⟩ => ⟨S32, .i32⟩
  | .hbm, ⟨52, _⟩ => ⟨S1x32, .i32⟩
  | .hbm, ⟨53, _⟩ => ⟨S672x32, .i32⟩
  | .hbm, ⟨54, _⟩ => ⟨S672x32, .i32⟩
  | .hbm, ⟨55, _⟩ => ⟨S672x32, .i1⟩
  | .hbm, ⟨56, _⟩ => ⟨S1x32, .i32⟩
  | .hbm, ⟨57, _⟩ => ⟨S_, .i32⟩
  | .hbm, ⟨58, _⟩ => ⟨S_, .i32⟩
  | .hbm, ⟨59, _⟩ => ⟨S672x32, .i32⟩
  | .hbm, ⟨60, _⟩ => ⟨S672x32, .i32⟩
  | .hbm, ⟨61, _⟩ => ⟨S672x32, .i32⟩
  | .hbm, ⟨62, _⟩ => ⟨S_, .i32⟩
  | .hbm, ⟨63, _⟩ => ⟨S672, .i32⟩
  | .hbm, ⟨64, _⟩ => ⟨S_, .i32⟩
  | .hbm, ⟨65, _⟩ => ⟨S672, .i32⟩
  | .hbm, ⟨66, _⟩ => ⟨S672, .i32⟩
  | .hbm, ⟨67, _⟩ => ⟨S672, .i32⟩
  | .hbm, ⟨68, _⟩ => ⟨S32x1x2048, .f32⟩
  | .hbm, ⟨69, _⟩ => ⟨S32x1x1024, .f32⟩
  | .hbm, ⟨70, _⟩ => ⟨S2752512x128, .f32⟩
  | .local _ .vmem, ⟨0, _⟩ => ⟨S4096x128, .f32⟩
  | .local _ .vmem, ⟨1, _⟩ => ⟨S4096x128, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S4096x128, .f32⟩
  | .local _ .vmem, ⟨11, _⟩ => ⟨S4096x128, .f32⟩
  | .local _ .vmem, ⟨12, _⟩ => ⟨S1024x2048, .bf16⟩
  | .local _ .vmem, ⟨13, _⟩ => ⟨S1024x1024, .bf16⟩
  | .local _ .smem, ⟨0, _⟩ => ⟨S672, .i32⟩
  | .local _ .smem, ⟨1, _⟩ => ⟨S672, .i32⟩
  | .local _ .smem, ⟨2, _⟩ => ⟨S672, .i32⟩
  | .local _ .smem, ⟨3, _⟩ => ⟨S1, .i32⟩
  | _, _ => ⟨S20987904x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v7 : Ref sig .tc := ⟨.hbm, 32, rfl⟩
abbrev main_call1_call0_c : Ref sig .tc := ⟨.hbm, 33, rfl⟩
abbrev main_call1_call0_v0 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_c_2 : Ref sig .tc := ⟨.hbm, 40, rfl⟩
abbrev main_v13 : Ref sig .tc := ⟨.hbm, 41, rfl⟩
abbrev main_v14 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c_3 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_c_4 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v30 : Ref sig .tc := ⟨.hbm, 61, rfl⟩
abbrev main_c_5 : Ref sig .tc := ⟨.hbm, 62, rfl⟩
abbrev main_v31 : Ref sig .tc := ⟨.hbm, 63, rfl⟩
abbrev main_c_6 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v22 : Ref sig .tc := ⟨.smem, 0, rfl⟩
abbrev main_v35 : Ref sig .tc := ⟨.smem, 1, rfl⟩
abbrev main_v15 : Ref sig .tc := ⟨.smem, 2, rfl⟩
abbrev main_v36 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![672], ![false]⟩

abbrev pre0 : Pipeline.Prefetch sig := ⟨4, ![main_v22.idx, main_v35.idx, main_v15.idx, main_v36.idx], fun | 0 => main_v22.names | 1 => main_v35.names | 2 => main_v15.names | 3 => main_v36.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def cc0_transform_0 (k0_off1_inb : ∀ i : grid0.Coords, ∀ a, (k0_off1 i) a + S1.size a ≤ S672.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S672) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S672.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S672) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S672.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S672) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S672.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S672) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S672.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S672) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S672.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 2 (Rect.unit (s := S672) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertsReferenceIdeal.lean ====
abbrev S20987904x128 : Shape := ⟨2, ![20987904, 128]⟩
abbrev S32x128 : Shape := ⟨2, ![32, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1 : Shape := ⟨2, ![32, 1]⟩
abbrev S32 : Shape := ⟨1, ![32]⟩
abbrev S_ : Shape := ⟨0, ![]⟩
abbrev S1x32 : Shape := ⟨2, ![1, 32]⟩
abbrev S32x32 : Shape := ⟨2, ![32, 32]⟩
abbrev S344064 : Shape := ⟨1, ![344064]⟩
abbrev S344064x1 : Shape := ⟨2, ![344064, 1]⟩
abbrev S344064x32 : Shape := ⟨2, ![344064, 32]⟩
abbrev S2623488x1024 : Shape := ⟨2, ![2623488, 1024]⟩
abbrev S344064x1024 : Shape := ⟨2, ![344064, 1024]⟩
abbrev S32x2048x344064 : Shape := ⟨3, ![32, 2048, 344064]⟩
abbrev S32x344064x2048 : Shape := ⟨3, ![32, 344064, 2048]⟩
abbrev S32x1x2048 : Shape := ⟨3, ![32, 1, 2048]⟩
abbrev S32x344064x1024 : Shape := ⟨3, ![32, 344064, 1024]⟩
abbrev S32x1x1024 : Shape := ⟨3, ![32, 1, 1024]⟩
abbrev S32x344064 : Shape := ⟨2, ![32, 344064]⟩
abbrev S32x344064x1 : Shape := ⟨3, ![32, 344064, 1]⟩
abbrev S2752512x128 : Shape := ⟨2, ![2752512, 128]⟩

abbrev nBuf : Space → Nat
  | .hbm => 132
  | .vmem => 0
  | .smem => 0
  | _ => 0

abbrev hbmTy0_0 (i : Nat) : BufTy := match i % 128 with
  | 0 => ⟨S20987904x128, .f32⟩
  | 1 => ⟨S32x128, .f32⟩
  | 2 => ⟨S32x1024x2048, .f32⟩
  | 3 => ⟨S32x2048, .f32⟩
  | 4 => ⟨S32x1024x1024, .f32⟩
  | 5 => ⟨S32x1024, .f32⟩
  | 6 => ⟨S32x1, .f32⟩
  | 7 => ⟨S32, .f32⟩
  | 8 => ⟨S32, .i32⟩
  | 9 => ⟨S_, .i32⟩
  | 10 => ⟨S32, .i32⟩
  | 11 => ⟨S32, .i32⟩
  | 12 => ⟨S_, .i32⟩
  | 13 => ⟨S_, .i32⟩
  | 14 => ⟨S32, .i32⟩
  | 15 => ⟨S32, .i32⟩
  | 16 => ⟨S32, .i32⟩
  | 17 => ⟨S_, .i32⟩
  | 18 => ⟨S32, .i32⟩
  | 19 => ⟨S32, .i1⟩
  | 20 => ⟨S32, .i32⟩
  | 21 => ⟨S32, .i32⟩
  | 22 => ⟨S_, .i32⟩
  | 23 => ⟨S32, .i32⟩
  | 24 => ⟨S32, .i1⟩
  | 25 => ⟨S32, .i1⟩
  | 26 => ⟨S_, .i32⟩
  | 27 => ⟨S32, .i32⟩
  | 28 => ⟨S32, .i32⟩
  | 29 => ⟨S32, .i32⟩
  | 30 => ⟨S_, .i32⟩
  | 31 => ⟨S32, .i32⟩
  | 32 => ⟨S32, .i32⟩
  | 33 => ⟨S32, .i32⟩
  | 34 => ⟨S32x1, .i32⟩
  | 35 => ⟨S1x32, .i32⟩
  | 36 => ⟨S32x32, .i32⟩
  | 37 => ⟨S32x32, .i32⟩
  | 38 => ⟨S32x32, .i1⟩
  | 39 => ⟨S1x32, .i32⟩
  | 40 => ⟨S_, .i32⟩
  | 41 => ⟨S_, .i32⟩
  | 42 => ⟨S32x32, .i32⟩
  | 43 => ⟨S32x32, .i32⟩
  | 44 => ⟨S32x32, .i32⟩
  | 45 => ⟨S_, .i32⟩
  | 46 => ⟨S32, .i32⟩
  | 47 => ⟨S344064, .i32⟩
  | 48 => ⟨S344064x1, .i32⟩
  | 49 => ⟨S1x32, .i32⟩
  | 50 => ⟨S344064x32, .i32⟩
  | 51 => ⟨S344064x32, .i32⟩
  | 52 => ⟨S344064x32, .i1⟩
  | 53 => ⟨S344064x32, .i32⟩
  | 54 => ⟨S_, .i32⟩
  | 55 => ⟨S344064, .i32⟩
  | 56 => ⟨S344064x1, .i32⟩
  | 57 => ⟨S32, .i32⟩
  | 58 => ⟨S1x32, .i32⟩
  | 59 => ⟨S344064x32, .i32⟩
  | 60 => ⟨S344064x32, .i32⟩
  | 61 => ⟨S344064x32, .i1⟩
  | 62 => ⟨S32, .i32⟩
  | 63 => ⟨S1x32, .i32⟩
  | 64 => ⟨S_, .i32⟩
  | 65 => ⟨S_, .i32⟩
  | 66 => ⟨S344064x32, .i32⟩
  | 67 => ⟨S344064x32, .i32⟩
  | 68 => ⟨S344064x32, .i32⟩
  | 69 => ⟨S_, .i32⟩
  | 70 => ⟨S344064, .i32⟩
  | 71 => ⟨S2623488x1024, .f32⟩
  | 72 => ⟨S_, .i32⟩
  | 73 => ⟨S344064, .i32⟩
  | 74 => ⟨S344064, .i32⟩
  | 75 => ⟨S344064, .i32⟩
  | 76 => ⟨S344064, .i32⟩
  | 77 => ⟨S_, .i32⟩
  | 78 => ⟨S344064, .i32⟩
  | 79 => ⟨S344064, .i1⟩
  | 80 => ⟨S_, .i32⟩
  | 81 => ⟨S344064, .i32⟩
  | 82 => ⟨S344064, .i32⟩
  | 83 => ⟨S344064, .i32⟩
  | 84 => ⟨S344064x1, .i32⟩
  | 85 => ⟨S344064x1024, .f32⟩
  | 86 => ⟨S32x2048x344064, .f32⟩
  | 87 => ⟨S32x344064x2048, .f32⟩
  | 88 => ⟨S32x1x2048, .f32⟩
  | 89 => ⟨S32x344064x2048, .f32⟩
  | 90 => ⟨S32x344064x2048, .f32⟩
  | 91 => ⟨S32x344064x1024, .f32⟩
  | 92 => ⟨S_, .f32⟩
  | 93 => ⟨S32x344064x1024, .f32⟩
  | 94 => ⟨S32x344064x1024, .f32⟩
  | 95 => ⟨S32x344064x1024, .f32⟩
  | 96 => ⟨S_, .f32⟩
  | 97 => ⟨S_, .f32⟩
  | 98 => ⟨S_, .f32⟩
  | 99 => ⟨S32x344064x1024, .f32⟩
  | 100 => ⟨S32x344064x1024, .f32⟩
  | 101 => ⟨S_, .f32⟩
  | 102 => ⟨S32x344064x1024, .f32⟩
  | 103 => ⟨S32x344064x1024, .f32⟩
  | 104 => ⟨S_, .f32⟩
  | 105 => ⟨S32x344064x1024, .f32⟩
  | 106 => ⟨S32x344064x1024, .f32⟩
  | 107 => ⟨S_, .f32⟩
  | 108 => ⟨S32x344064x1024, .f32⟩
  | 109 => ⟨S32x344064x1024, .f32⟩
  | 110 => ⟨S32x344064x1024, .f32⟩
  | 111 => ⟨S32x344064x1024, .f32⟩
  | 112 => ⟨S_, .f32⟩
  | 113 => ⟨S32x344064x1024, .f32⟩
  | 114 => ⟨S32x344064x1024, .f32⟩
  | 115 => ⟨S_, .f32⟩
  | 116 => ⟨S32x344064x1024, .f32⟩
  | 117 => ⟨S32x344064x1024, .f32⟩
  | 118 => ⟨S32x344064x1024, .f32⟩
  | 119 => ⟨S32x344064x1024, .f32⟩
  | 120 => ⟨S32x344064x1024, .f32⟩
  | 121 => ⟨S32x1x1024, .f32⟩
  | 122 => ⟨S32x344064x1024, .f32⟩
  | 123 => ⟨S32x344064x1024, .f32⟩
  | 124 => ⟨S344064x32, .f32⟩
  | 125 => ⟨S32x344064, .f32⟩
  | 126 => ⟨S32x344064x1, .f32⟩
  | 127 => ⟨S32x344064x1024, .f32⟩
  | _ => ⟨S20987904x128, .f32⟩

abbrev hbmTy0_1 (i : Nat) : BufTy := match i % 128 with
  | 0 => ⟨S32x344064x1024, .f32⟩
  | 1 => ⟨S_, .f32⟩
  | 2 => ⟨S344064x1024, .f32⟩
  | 3 => ⟨S2752512x128, .f32⟩
  | _ => ⟨S20987904x128, .f32⟩

abbrev hbmTy (i : Nat) : BufTy := match i / 128 with
  | 0 => hbmTy0_0 i
  | 1 => hbmTy0_1 i
  | _ => ⟨S20987904x128, .f32⟩

abbrev bufTy : (tb : Table) → Fin (tcTables nBuf tb) → BufTy
  | .hbm, ⟨i, _⟩ => hbmTy i
  | _, _ => ⟨S20987904x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v5 : Ref sig .tc := ⟨.hbm, 29, rfl⟩
abbrev main_c_1 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_c_2 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v15 : Ref sig .tc := ⟨.hbm, 44, rfl⟩
abbrev main_c_3 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_c_4 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_c_5 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_v33 : Ref sig .tc := ⟨.hbm, 68, rfl⟩
abbrev main_c_6 : Ref sig .tc := ⟨.hbm, 69, rfl⟩
abbrev main_v34 : Ref sig .tc := ⟨.hbm, 70, rfl⟩
abbrev main_v35 : Ref sig .tc := ⟨.hbm, 71, rfl⟩
abbrev main_c_7 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_c_8 : Ref sig .tc := ⟨.hbm, 77, rfl⟩
abbrev main_v40 : Ref sig .tc := ⟨.hbm, 78, rfl⟩
abbrev main_v41 : Ref sig .tc := ⟨.hbm, 79, rfl⟩
abbrev main_c_9 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_cst : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_cst_10 : Ref sig .tc := ⟨.hbm, 96, rfl⟩
abbrev main_cst_11 : Ref sig .tc := ⟨.hbm, 97, rfl⟩
abbrev main_call3_v0 : Ref sig .tc := ⟨.hbm, 98, rfl⟩
abbrev main_call3_v1 : Ref sig .tc := ⟨.hbm, 99, rfl⟩
abbrev main_call3_v2 : Ref sig .tc := ⟨.hbm, 100, rfl⟩
abbrev main_call3_v3 : Ref sig .tc := ⟨.hbm, 101, rfl⟩
abbrev main_call3_v4 : Ref sig .tc := ⟨.hbm, 102, rfl⟩
abbrev main_v56 : Ref sig .tc := ⟨.hbm, 103, rfl⟩
abbrev main_cst_12 : Ref sig .tc := ⟨.hbm, 104, rfl⟩
abbrev main_v57 : Ref sig .tc := ⟨.hbm, 105, rfl⟩
abbrev main_v58 : Ref sig .tc := ⟨.hbm, 106, rfl⟩
abbrev main_cst_13 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_cst_14 : Ref sig .tc := ⟨.hbm, 112, rfl⟩
abbrev main_v63 : Ref sig .tc := ⟨.hbm, 113, rfl⟩
abbrev main_v64 : Ref sig .tc := ⟨.hbm, 114, rfl⟩
abbrev main_cst_15 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_cst_16 : Ref sig .tc := ⟨.hbm, 129, rfl⟩
abbrev main_v78 : Ref sig .tc := ⟨.hbm, 130, rfl⟩
abbrev main_v79 : Ref sig .tc := ⟨.hbm, 131, rfl⟩

abbrev nD : Nat := 1
abbrev τ : Topo := Topo.v7x

variable {F : FTy → Type} [FloatOps F]
-- ==== Memkv.lean ====
abbrev S4x256x1024 : Shape := ⟨3, ![4, 256, 1024]⟩
abbrev S16x256x1024 : Shape := ⟨3, ![16, 256, 1024]⟩
abbrev S1024 : Shape := ⟨1, ![1024]⟩
abbrev S1024x1024 : Shape := ⟨2, ![1024, 1024]⟩
abbrev S1x1024 : Shape := ⟨2, ![1, 1024]⟩
abbrev S20x256x1024 : Shape := ⟨3, ![20, 256, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 8
  | .smem => 0
  | _ => 0

abbrev bufTy : (tb : Table) → Fin (tcTables nBuf tb) → BufTy
  | .hbm, ⟨0, _⟩ => ⟨S4x256x1024, .f32⟩
  | .hbm, ⟨1, _⟩ => ⟨S16x256x1024, .f32⟩
  | .hbm, ⟨2, _⟩ => ⟨S1024, .f32⟩
  | .hbm, ⟨3, _⟩ => ⟨S1024x1024, .f32⟩
  | .hbm, ⟨4, _⟩ => ⟨S1x1024, .f32⟩
  | .hbm, ⟨5, _⟩ => ⟨S1024x1024, .bf16⟩
  | .hbm, ⟨6, _⟩ => ⟨S20x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1024, .f32⟩
  | .local _ .vmem, ⟨5, _⟩ => ⟨S1024x1024, .bf16⟩
  | .local _ .vmem, ⟨6, _⟩ => ⟨S1x256x1024, .bf16⟩
  | .local _ .vmem, ⟨7, _⟩ => ⟨S1x256x1024, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 3 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MemkvReferenceIdeal.lean ====
abbrev S4x256x1024 : Shape := ⟨3, ![4, 256, 1024]⟩
abbrev S16x256x1024 : Shape := ⟨3, ![16, 256, 1024]⟩
abbrev S1024 : Shape := ⟨1, ![1024]⟩
abbrev S1024x1024 : Shape := ⟨2, ![1024, 1024]⟩
abbrev S20x256x1024 : Shape := ⟨3, ![20, 256, 1024]⟩
abbrev S_ : Shape := ⟨0, ![]⟩
abbrev S20x256 : Shape := ⟨2, ![20, 256]⟩
abbrev S20x256x1 : Shape := ⟨3, ![20, 256, 1]⟩
abbrev S1x1x1024 : Shape := ⟨3, ![1, 1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S16x256x1024, .f32⟩
  | .hbm, ⟨2, _⟩ => ⟨S1024, .f32⟩
  | .hbm, ⟨3, _⟩ => ⟨S1024x1024, .f32⟩
  | .hbm, ⟨4, _⟩ => ⟨S20x256x1024, .f32⟩
  | .hbm, ⟨5, _⟩ => ⟨S20x256x1024, .f32⟩
  | .hbm, ⟨6, _⟩ => ⟨S_, .f32⟩
  | .hbm, ⟨7, _⟩ => ⟨S20x256, .f32⟩
  | .hbm, ⟨8, _⟩ => ⟨S20x256x1, .f32⟩
  | .hbm, ⟨9, _⟩ => ⟨S_, .f32⟩
  | .hbm, ⟨10, _⟩ => ⟨S20x256x1, .f32⟩
  | .hbm, ⟨11, _⟩ => ⟨S20x256x1, .f32⟩
  | .hbm, ⟨12, _⟩ => ⟨S_, .f32⟩
  | .hbm, ⟨13, _⟩ => ⟨S20x256x1, .f32⟩
  | .hbm, ⟨14, _⟩ => ⟨S20x256x1, .f32⟩
  | .hbm, ⟨15, _⟩ => ⟨S20x256x1, .f32⟩
  | .hbm, ⟨16, _⟩ => ⟨S20x256x1024, .f32⟩
  | .hbm, ⟨17, _⟩ => ⟨S20x256x1024, .f32⟩
  | .hbm, ⟨18, _⟩ => ⟨S1x1x1024, .f32⟩
  | .hbm, ⟨19, _⟩ => ⟨S20x256x1024, .f32⟩
  | .hbm, ⟨20, _⟩ => ⟨S20x256x1024, .f32⟩
  | .hbm, ⟨21, _⟩ => ⟨S20x256x1024, .f32⟩
  | .hbm, ⟨22, _⟩ => ⟨S20x256x1024, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Inproj.lean ====
abbrev S4x4096x1024 : Shape := ⟨3, ![4, 4096, 1024]⟩
abbrev S16x4096x1024 : Shape := ⟨3, ![16, 4096, 1024]⟩
abbrev S1024 : Shape := ⟨1, ![1024]⟩
abbrev S1024x1280 : Shape := ⟨2, ![1024, 1280]⟩
abbrev S1024x128 : Shape := ⟨2, ![1024, 128]⟩
abbrev S1024x512 : Shape := ⟨2, ![1024, 512]⟩
abbrev S1024x64 : Shape := ⟨2, ![1024, 64]⟩
abbrev S1024x1536 : Shape := ⟨2, ![1024, 1536]⟩
abbrev S8 : Shape := ⟨1, ![8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S4x4 : Shape := ⟨2, ![4, 4]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S256x512 : Shape := ⟨2, ![256, 512]⟩
abbrev S1x1024 : Shape := ⟨2, ![1, 1024]⟩
abbrev S20x4096x512 : Shape := ⟨3, ![20, 4096, 512]⟩
abbrev S20x4096x1024 : Shape := ⟨3, ![20, 4096, 1024]⟩
abbrev S1x1024x1024 : Shape := ⟨3, ![1, 1024, 1024]⟩
abbrev S1x1024x512 : Shape := ⟨3, ![1, 1024, 512]⟩
abbrev S1024x1024 : Shape := ⟨2, ![1024, 1024]⟩
abbrev S1024x1 : Shape := ⟨2, ![1024, 1]⟩
abbrev S1024x256 : Shape := ⟨2, ![1024, 256]⟩

abbrev nBuf : Space → Nat
  | .hbm => 111
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S16x4096x1024, .f32⟩
  | .hbm, ⟨2, _⟩ => ⟨S1024, .f32⟩
  | .hbm, ⟨3, _⟩ => ⟨S1024x1280, .f32⟩
  | .hbm, ⟨4, _⟩ => ⟨S1024x128, .f32⟩
  | .hbm, ⟨5, _⟩ => ⟨S1024x128, .f32⟩
  | .hbm, ⟨6, _⟩ => ⟨S1024x512, .f32⟩
  | .hbm, ⟨7, _⟩ => ⟨S1024x64, .f32⟩
  | .hbm, ⟨8, _⟩ => ⟨S1024x64, .f32⟩
  | .hbm, ⟨9, _⟩ => ⟨S1024x128, .f32⟩
  | .hbm, ⟨10, _⟩ => ⟨S1024x64, .f32⟩
  | .hbm, ⟨11, _⟩ => ⟨S1024x64, .f32⟩
  | .hbm, ⟨12, _⟩ => ⟨S1024x128, .f32⟩
  | .hbm, ⟨13, _⟩ => ⟨S1024x512, .f32⟩
  | .hbm, ⟨14, _⟩ => ⟨S1024x1536, .f32⟩
  | .hbm, ⟨15, _⟩ => ⟨S1024x1536, .bf16⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S4096, .i32⟩
  | .hbm, ⟨28, _⟩ => ⟨S4096, .f32⟩
  | .hbm, ⟨29, _⟩ => ⟨S4096x1, .f32⟩
  | .hbm, ⟨30, _⟩ => ⟨S1x8, .f32⟩
  | .hbm, ⟨31, _⟩ => ⟨S4096x8, .f32⟩
  | .hbm, ⟨32, _⟩ => ⟨S4096x8, .f32⟩
  | .hbm, ⟨33, _⟩ => ⟨S4096x8, .f32⟩
  | .hbm, ⟨34, _⟩ => ⟨S4096x8, .f32⟩
  | .hbm, ⟨35, _⟩ => ⟨S4096x8, .f32⟩
  | .hbm, ⟨36, _⟩ => ⟨S_, .f32⟩
  | .hbm, ⟨37, _⟩ => ⟨S4096x48, .f32⟩
  | .hbm, ⟨38, _⟩ => ⟨S4096x64, .f32⟩
  | .hbm, ⟨39, _⟩ => ⟨S4096x8, .f32⟩
  | .hbm, ⟨40, _⟩ => ⟨S_, .f32⟩
  | .hbm, ⟨41, _⟩ => ⟨S4096x48, .f32⟩
  | .hbm, ⟨42, _⟩ => ⟨S4096x64, .f32⟩
  | .hbm, ⟨43, _⟩ => ⟨S1x4096x1x64, .f32⟩
  | .hbm, ⟨44, _⟩ => ⟨S1x4096x2x64, .f32⟩
  | .hbm, ⟨45, _⟩ => ⟨S4096x128, .f32⟩
  | .hbm, ⟨46, _⟩ => ⟨S1x4096x1x64, .f32⟩
  | .hbm, ⟨47, _⟩ => ⟨S1x4096x2x64, .f32⟩
  | .hbm, ⟨48, _⟩ => ⟨S4096x128, .f32⟩
  | .hbm, ⟨49, _⟩ => ⟨S64, .i32⟩
  | .hbm, ⟨50, _⟩ => ⟨S64x1, .i32⟩
  | .hbm, ⟨51, _⟩ => ⟨S1x64, .i32⟩
  | .hbm, ⟨52, _⟩ => ⟨S64x64, .i32⟩
  | .hbm, ⟨53, _⟩ => ⟨S64x64, .i32⟩
  | .hbm, ⟨54, _⟩ => ⟨S64x64, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i1⟩
  | .hbm, ⟨59, _⟩ => ⟨S_, .i32⟩
  | .hbm, ⟨60, _⟩ => ⟨S_, .i32⟩
  | .hbm, ⟨61, _⟩ => ⟨S64x64, .i32⟩
  | .hbm, ⟨62, _⟩ => ⟨S64x64, .i32⟩
  | .hbm, ⟨63, _⟩ => ⟨S_, .i32⟩
  | .hbm, ⟨64, _⟩ => ⟨S64x64, .i32⟩
  | .hbm, ⟨65, _⟩ => ⟨S64x64, .i1⟩
  | .hbm, ⟨66, _⟩ => ⟨S_, .i32⟩
  | .hbm, ⟨67, _⟩ => ⟨S64x64, .i32⟩
  | .hbm, ⟨68, _⟩ => ⟨S64x64, .i1⟩
  | .hbm, ⟨69, _⟩ => ⟨S_, .i32⟩
  | .hbm, ⟨70, _⟩ => ⟨S_, .i1⟩
  | .hbm, ⟨71, _⟩ => ⟨S64x64, .i1⟩
  | .hbm, ⟨72, _⟩ => ⟨S64x64, .i1⟩
  | .hbm, ⟨73, _⟩ => ⟨S64x64, .i1⟩
  | .hbm, ⟨74, _⟩ => ⟨S64x64, .i32⟩
  | .hbm, ⟨75, _⟩ => ⟨S64x64, .i32⟩
  | .hbm, ⟨76, _⟩ => ⟨S64x64, .i32⟩
  | .hbm, ⟨77, _⟩ => ⟨S64x64, .f32⟩
  | .hbm, ⟨78, _⟩ => ⟨S_, .f32⟩
  | .hbm, ⟨79, _⟩ => ⟨S64x64, .f32⟩
  | .hbm, ⟨80, _⟩ => ⟨S64x64, .f32⟩
  | .hbm, ⟨81, _⟩ => ⟨S_, .f32⟩
  | .hbm, ⟨82, _⟩ => ⟨S64x64, .f32⟩
  | .hbm, ⟨83, _⟩ => ⟨S64x64, .f32⟩
  | .hbm, ⟨84, _⟩ => ⟨S4x4, .i32⟩
  | .hbm, ⟨85, _⟩ => ⟨S4x4, .i32⟩
  | .hbm, ⟨86, _⟩ => ⟨S_, .i32⟩
  | .hbm, ⟨87, _⟩ => ⟨S4x4, .i32⟩
  | .hbm, ⟨88, _⟩ => ⟨S4x4, .i32⟩
  | .hbm, ⟨89, _⟩ => ⟨S4x4, .i1⟩
  | .hbm, ⟨90, _⟩ => ⟨S4x4, .f32⟩
  | .hbm, ⟨91, _⟩ => ⟨S64x64, .f32⟩
  | .hbm, ⟨92, _⟩ => ⟨S4x1x4x1, .f32⟩
  | .hbm, ⟨93, _⟩ => ⟨S1x64x1x64, .f32⟩
  | .hbm, ⟨94, _⟩ => ⟨S4x64x4x64, .f32⟩
  | .hbm, ⟨95, _⟩ => ⟨S4x64x4x64, .f32⟩
  | .hbm, ⟨96, _⟩ => ⟨S4x64x4x64, .f32⟩
  | .hbm, ⟨97, _⟩ => ⟨S256x256, .f32⟩
  | .hbm, ⟨98, _⟩ => ⟨S64x64, .f32⟩
  | .hbm, ⟨99, _⟩ => ⟨S4x1x4x1, .f32⟩
  | .hbm, ⟨100, _⟩ => ⟨S1x64x1x64, .f32⟩
  | .hbm, ⟨101, _⟩ => ⟨S4x64x4x64, .f32⟩
  | .hbm, ⟨102, _⟩ => ⟨S4x64x4x64, .f32⟩
  | .hbm, ⟨103, _⟩ => ⟨S4x64x4x64, .f32⟩
  | .hbm, ⟨104, _⟩ => ⟨S256x256, .f32⟩
  | .hbm, ⟨105, _⟩ => ⟨S256x512, .f32⟩
  | .hbm, ⟨106, _⟩ => ⟨S256x512, .bf16⟩
  | .hbm, ⟨107, _⟩ => ⟨S1x1024, .f32⟩
  | .hbm, ⟨108, _⟩ => ⟨S20x4096x512, .bf16⟩
  | .hbm, ⟨109, _⟩ => ⟨S20x4096x512, .bf16⟩
  | .hbm, ⟨110, _⟩ => ⟨S20x4096x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024, .f32⟩
  | .local _ .vmem, ⟨5, _⟩ => ⟨S1024x1536, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S256x512, .bf16⟩
  | .local _ .vmem, ⟨11, _⟩ => ⟨S1x1024x512, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x1024x512, .bf16⟩
  | .local _ .vmem, ⟨15, _⟩ => ⟨S1x1024x1024, .bf16⟩
  | .local _ .vmem, ⟨16, _⟩ => ⟨S1x1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_c : Ref sig .tc := ⟨.hbm, 55, rfl⟩
abbrev main_call0_v0 : Ref sig .tc := ⟨.hbm, 56, rfl⟩
abbrev main_call0_c : Ref sig .tc := ⟨.hbm, 57, rfl⟩
abbrev main_call0_v1 : Ref sig .tc := ⟨.hbm, 58, rfl⟩
abbrev main_call0_c_0 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_c_1 : Ref sig .tc := ⟨.hbm, 63, rfl⟩
abbrev main_call0_v5 : Ref sig .tc := ⟨.hbm, 64, rfl⟩
abbrev main_call0_v6 : Ref sig .tc := ⟨.hbm, 65, rfl⟩
abbrev main_call0_c_2 : Ref sig .tc := ⟨.hbm, 66, rfl⟩
abbrev main_call0_v7 : Ref sig .tc := ⟨.hbm, 67, rfl⟩
abbrev main_call0_v8 : Ref sig .tc := ⟨.hbm, 68, rfl⟩
abbrev main_call0_c_3 : Ref sig .tc := ⟨.hbm, 69, rfl⟩
abbrev main_call0_v9 : Ref sig .tc := ⟨.hbm, 70, rfl⟩
abbrev main_call0_v10 : Ref sig .tc := ⟨.hbm, 71, rfl⟩
abbrev main_call0_v11 : Ref sig .tc := ⟨.hbm, 72, rfl⟩
abbrev main_call0_v12 : Ref sig .tc := ⟨.hbm, 73, rfl⟩
abbrev main_call0_v13 : Ref sig .tc := ⟨.hbm, 74, rfl⟩
abbrev main_call0_v14 : Ref sig .tc := ⟨.hbm, 75, rfl⟩
abbrev main_v46 : Ref sig .tc := ⟨.hbm, 76, rfl⟩
abbrev main_v47 : Ref sig .tc := ⟨.hbm, 77, rfl⟩
abbrev main_cst_4 : Ref sig .tc := ⟨.hbm, 78, rfl⟩
abbrev main_v48 : Ref sig .tc := ⟨.hbm, 79, rfl⟩
abbrev main_v49 : Ref sig .tc := ⟨.hbm, 80, rfl⟩
abbrev main_cst_5 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_c_6 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_call1_v3 : Ref sig .tc := ⟨.hbm, 95, rfl⟩
abbrev main_call1_v4 : Ref sig .tc := ⟨.hbm, 96, rfl⟩
abbrev main_v59 : Ref sig .tc := ⟨.hbm, 97, rfl⟩
abbrev main_v60 : Ref sig .tc := ⟨.hbm, 98, rfl⟩
abbrev main_call2_v0 : Ref sig .tc := ⟨.hbm, 99, rfl⟩
abbrev main_call2_v1 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65_0 : Ref sig .tc := ⟨.hbm, 108, rfl⟩
abbrev main_v65_1 : Ref sig .tc := ⟨.hbm, 109, rfl⟩
abbrev main_v65_2 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![4, 20], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  let c0_i32_1 : BitVec 32 := 0#32
  ![v1.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== InprojReferenceIdeal.lean ====
abbrev S4x4096x1024 : Shape := ⟨3, ![4, 4096, 1024]⟩
abbrev S16x4096x1024 : Shape := ⟨3, ![16, 4096, 1024]⟩
abbrev S1024 : Shape := ⟨1, ![1024]⟩
abbrev S1024x1280 : Shape := ⟨2, ![1024, 1280]⟩
abbrev S20x4096x1024 : Shape := ⟨3, ![20, 4096, 1024]⟩
abbrev S_ : Shape := ⟨0, ![]⟩
abbrev S20x4096 : Shape := ⟨2, ![20, 4096]⟩
abbrev S20x4096x1 : Shape := ⟨3, ![20, 4096, 1]⟩
abbrev S1x1x1024 : Shape := ⟨3, ![1, 1, 1024]⟩
abbrev S20x4096x1280 : Shape := ⟨3, ![20, 4096, 1280]⟩
abbrev S4096 : Shape := ⟨1, ![4096]⟩
abbrev S20x4096x512 : Shape := ⟨3, ![20, 4096, 512]⟩
abbrev S20x4096x8x64 : Shape := ⟨4, ![20, 4096, 8, 64]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S1x4096x1x8 : Shape := ⟨4, ![1, 4096, 1, 8]⟩
abbrev S20x4096x8x16 : Shape := ⟨4, ![20, 4096, 8, 16]⟩
abbrev S20x4096x8x8 : Shape := ⟨4, ![20, 4096, 8, 8]⟩
abbrev S20x4096x8x48 : Shape := ⟨4, ![20, 4096, 8, 48]⟩
abbrev S20x4096x128 : Shape := ⟨3, ![20, 4096, 128]⟩
abbrev S20x4096x2x64 : Shape := ⟨4, ![20, 4096, 2, 64]⟩
abbrev S20x4096x2x16 : Shape := ⟨4, ![20, 4096, 2, 16]⟩
abbrev S20x4096x2x8 : Shape := ⟨4, ![20, 4096, 2, 8]⟩
abbrev S20x4096x2x48 : Shape := ⟨4, ![20, 4096, 2, 48]⟩
abbrev S64 : Shape := ⟨1, ![64]⟩
abbrev S64x1 : Shape := ⟨2, ![64, 1]⟩
abbrev S1x64 : Shape := ⟨2, ![1, 64]⟩
abbrev S64x64 : Shape := ⟨2, ![64, 64]⟩

abbrev nBuf : Space → Nat
  | .hbm => 155
  | .vmem => 0
  | .smem => 0
  | _ => 0

abbrev hbmTy0_0 (i : Nat) : BufTy := match i % 128 with
  | 0 => ⟨S4x4096x1024, .f32⟩
  | 1 => ⟨S16x4096x1024, .f32⟩
  | 2 => ⟨S1024, .f32⟩
  | 3 => ⟨S1024x1280, .f32⟩
  | 4 => ⟨S20x4096x1024, .f32⟩
  | 5 => ⟨S20x4096x1024, .f32⟩
  | 6 => ⟨S_, .f32⟩
  | 7 => ⟨S20x4096, .f32⟩
  | 8 => ⟨S20x4096x1, .f32⟩
  | 9 => ⟨S_, .f32⟩
  | 10 => ⟨S20x4096x1, .f32⟩
  | 11 => ⟨S20x4096x1, .f32⟩
  | 12 => ⟨S_, .f32⟩
  | 13 => ⟨S20x4096x1, .f32⟩
  | 14 => ⟨S20x4096x1, .f32⟩
  | 15 => ⟨S20x4096x1, .f32⟩
  | 16 => ⟨S20x4096x1024, .f32⟩
  | 17 => ⟨S20x4096x1024, .f32⟩
  | 18 => ⟨S1x1x1024, .f32⟩
  | 19 => ⟨S20x4096x1024, .f32⟩
  | 20 => ⟨S20x4096x1024, .f32⟩
  | 21 => ⟨S20x4096x1280, .f32⟩
  | 22 => ⟨S4096, .i32⟩
  | 23 => ⟨S20x4096x512, .f32⟩
  | 24 => ⟨S20x4096x8x64, .f32⟩
  | 25 => ⟨S8, .f32⟩
  | 26 => ⟨S_, .f32⟩
  | 27 => ⟨S8, .f32⟩
  | 28 => ⟨S8, .f32⟩
  | 29 => ⟨S8, .f32⟩
  | 30 => ⟨S_, .f32⟩
  | 31 => ⟨S8, .f32⟩
  | 32 => ⟨S8, .f32⟩
  | 33 => ⟨S_, .f32⟩
  | 34 => ⟨S8, .f32⟩
  | 35 => ⟨S8, .f32⟩
  | 36 => ⟨S4096, .f32⟩
  | 37 => ⟨S4096x1, .f32⟩
  | 38 => ⟨S1x8, .f32⟩
  | 39 => ⟨S4096x8, .f32⟩
  | 40 => ⟨S4096x8, .f32⟩
  | 41 => ⟨S4096x8, .f32⟩
  | 42 => ⟨S4096x8, .f32⟩
  | 43 => ⟨S1x4096x1x8, .f32⟩
  | 44 => ⟨S4096x8, .f32⟩
  | 45 => ⟨S1x4096x1x8, .f32⟩
  | 46 => ⟨S20x4096x8x16, .f32⟩
  | 47 => ⟨S20x4096x8x8, .f32⟩
  | 48 => ⟨S20x4096x8x8, .f32⟩
  | 49 => ⟨S20x4096x8x8, .f32⟩
  | 50 => ⟨S20x4096x8x8, .f32⟩
  | 51 => ⟨S20x4096x8x8, .f32⟩
  | 52 => ⟨S20x4096x8x8, .f32⟩
  | 53 => ⟨S20x4096x8x8, .f32⟩
  | 54 => ⟨S20x4096x8x8, .f32⟩
  | 55 => ⟨S20x4096x8x8, .f32⟩
  | 56 => ⟨S20x4096x8x8, .f32⟩
  | 57 => ⟨S20x4096x8x8, .f32⟩
  | 58 => ⟨S20x4096x8x8, .f32⟩
  | 59 => ⟨S20x4096x8x16, .f32⟩
  | 60 => ⟨S20x4096x8x48, .f32⟩
  | 61 => ⟨S20x4096x8x64, .f32⟩
  | 62 => ⟨S20x4096x128, .f32⟩
  | 63 => ⟨S20x4096x2x64, .f32⟩
  | 64 => ⟨S8, .f32⟩
  | 65 => ⟨S_, .f32⟩
  | 66 => ⟨S8, .f32⟩
  | 67 => ⟨S8, .f32⟩
  | 68 => ⟨S8, .f32⟩
  | 69 => ⟨S_, .f32⟩
  | 70 => ⟨S8, .f32⟩
  | 71 => ⟨S8, .f32⟩
  | 72 => ⟨S_, .f32⟩
  | 73 => ⟨S8, .f32⟩
  | 74 => ⟨S8, .f32⟩
  | 75 => ⟨S4096, .f32⟩
  | 76 => ⟨S4096x1, .f32⟩
  | 77 => ⟨S1x8, .f32⟩
  | 78 => ⟨S4096x8, .f32⟩
  | 79 => ⟨S4096x8, .f32⟩
  | 80 => ⟨S4096x8, .f32⟩
  | 81 => ⟨S4096x8, .f32⟩
  | 82 => ⟨S1x4096x1x8, .f32⟩
  | 83 => ⟨S4096x8, .f32⟩
  | 84 => ⟨S1x4096x1x8, .f32⟩
  | 85 => ⟨S20x4096x2x16, .f32⟩
  | 86 => ⟨S20x4096x2x8, .f32⟩
  | 87 => ⟨S20x4096x2x8, .f32⟩
  | 88 => ⟨S20x4096x2x8, .f32⟩
  | 89 => ⟨S20x4096x2x8, .f32⟩
  | 90 => ⟨S20x4096x2x8, .f32⟩
  | 91 => ⟨S20x4096x2x8, .f32⟩
  | 92 => ⟨S20x4096x2x8, .f32⟩
  | 93 => ⟨S20x4096x2x8, .f32⟩
  | 94 => ⟨S20x4096x2x8, .f32⟩
  | 95 => ⟨S20x4096x2x8, .f32⟩
  | 96 => ⟨S20x4096x2x8, .f32⟩
  | 97 => ⟨S20x4096x2x8, .f32⟩
  | 98 => ⟨S20x4096x2x16, .f32⟩
  | 99 => ⟨S20x4096x2x48, .f32⟩
  | 100 => ⟨S20x4096x2x64, .f32⟩
  | 101 => ⟨S20x4096x128, .f32⟩
  | 102 => ⟨S20x4096x2x64, .f32⟩
  | 103 => ⟨S20x4096x2x64, .f32⟩
  | 104 => ⟨S20x4096x2x64, .f32⟩
  | 105 => ⟨S20x4096x8x64, .f32⟩
  | 106 => ⟨S20x4096x512, .f32⟩
  | 107 => ⟨S20x4096x8x64, .f32⟩
  | 108 => ⟨S64, .i32⟩
  | 109 => ⟨S64x1, .i32⟩
  | 110 => ⟨S1x64, .i32⟩
  | 111 => ⟨S64x64, .i32⟩
  | 112 => ⟨S64x64, .i32⟩
  | 113 => ⟨S64x64, .i32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S64x64, .i32⟩
  | 121 => ⟨S64x64, .i32⟩
  | 122 => ⟨S_, .i32⟩
  | 123 => ⟨S64x64, .i32⟩
  | 124 => ⟨S64x64, .i1⟩
  | 125 => ⟨S_, .i32⟩
  | 126 => ⟨S64x64, .i32⟩
  | 127 => ⟨S64x64, .i1⟩
  | _ => ⟨S4x4096x1024, .f32⟩

abbrev hbmTy0_1 (i : Nat) : BufTy := match i % 128 with
  | 0 => ⟨S_, .i32⟩
  | 1 => ⟨S_, .i1⟩
  | 2 => ⟨S64x64, .i1⟩
  | 3 => ⟨S64x64, .i1⟩
  | 4 => ⟨S64x64, .i1⟩
  | 5 => ⟨S64x64, .i32⟩
  | 6 => ⟨S64x64, .i32⟩
  | 7 => ⟨S64x64, .i32⟩
  | 8 => ⟨S64x64, .f32⟩
  | 9 => ⟨S_, .f32⟩
  | 10 => ⟨S64x64, .f32⟩
  | 11 => ⟨S64x64, .f32⟩
  | 12 => ⟨S_, .f32⟩
  | 13 => ⟨S64x64, .f32⟩
  | 14 => ⟨S64x64, .f32⟩
  | 15 => ⟨S64x64, .f32⟩
  | 16 => ⟨S20x4096x8x64, .f32⟩
  | 17 => ⟨S20x4096x512, .f32⟩
  | 18 => ⟨S64x64, .f32⟩
  | 19 => ⟨S20x4096x8x64, .f32⟩
  | 20 => ⟨S20x4096x512, .f32⟩
  | 21 => ⟨S20x4096x512, .f32⟩
  | 22 => ⟨S20x4096x512, .bf16⟩
  | 23 => ⟨S20x4096x512, .f32⟩
  | 24 => ⟨S20x4096x512, .bf16⟩
  | 25 => ⟨S20x4096x1024, .f32⟩
  | 26 => ⟨S20x4096x1024, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_cst_5 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_cst_6 : Ref sig .tc := ⟨.hbm, 69, rfl⟩
abbrev main_v58 : Ref sig .tc := ⟨.hbm, 70, rfl⟩
abbrev main_v59 : Ref sig .tc := ⟨.hbm, 71, rfl⟩
abbrev main_cst_7 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_c : Ref sig .tc := ⟨.hbm, 114, rfl⟩
abbrev main_call0_v0 : Ref sig .tc := ⟨.hbm, 115, rfl⟩
abbrev main_call0_c : Ref sig .tc := ⟨.hbm, 116, rfl⟩
abbrev main_call0_v1 : Ref sig .tc := ⟨.hbm, 117, rfl⟩
abbrev main_call0_c_0 : Ref sig .tc := ⟨.hbm, 118, rfl⟩
abbrev main_call0_v2 : Ref sig .tc := ⟨.hbm, 119, rfl⟩
abbrev main_call0_v3 : Ref sig .tc := ⟨.hbm, 120, rfl⟩
abbrev main_call0_v4 : Ref sig .tc := ⟨.hbm, 121, rfl⟩
abbrev main_call0_c_1 : Ref sig .tc := ⟨.hbm, 122, rfl⟩
abbrev main_call0_v5 : Ref sig .tc := ⟨.hbm, 123, rfl⟩
abbrev main_call0_v6 : Ref sig .tc := ⟨.hbm, 124, rfl⟩
abbrev main_call0_c_2 : Ref sig .tc := ⟨.hbm, 125, rfl⟩
abbrev main_call0_v7 : Ref sig .tc := ⟨.hbm, 126, rfl⟩
abbrev main_call0_v8 : Ref sig .tc := ⟨.hbm, 127, rfl⟩
abbrev main_call0_c_3 : Ref sig .tc := ⟨.hbm, 128, rfl⟩
abbrev main_call0_v9 : Ref sig .tc := ⟨.hbm, 129, rfl⟩
abbrev main_call0_v10 : Ref sig .tc := ⟨.hbm, 130, rfl⟩
abbrev main_call0_v11 : Ref sig .tc := ⟨.hbm, 131, rfl⟩
abbrev main_call0_v12 : Ref sig .tc := ⟨.hbm, 132, rfl⟩
abbrev main_call0_v13 : Ref sig .tc := ⟨.hbm, 133, rfl⟩
abbrev main_call0_v14 : Ref sig .tc := ⟨.hbm, 134, rfl⟩
abbrev main_v101 : Ref sig .tc := ⟨.hbm, 135, rfl⟩
abbrev main_v102 : Ref sig .tc := ⟨.hbm, 136, rfl⟩
abbrev main_cst_8 : Ref sig .tc := ⟨.hbm, 137, rfl⟩
abbrev main_v103 : Ref sig .tc := ⟨.hbm, 138, rfl⟩
abbrev main_v104 : Ref sig .tc := ⟨.hbm, 139, rfl⟩
abbrev main_cst_9 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩

abbrev nD : Nat := 1
abbrev τ : Topo := Topo.v7x

variable {F : FTy → Type} [FloatOps F]
-- ==== Proof.Swa.Tile.lean ====
module

public import proofs.«01_k».proof.Proof.Gen.KernelIdeal.Skeleton
public import Idealize.ShloMosaic.Lib.Pointwise
public import Idealize.ShloMosaic.Lib.Pipeline.Value
public import Idealize.ShloMosaic.Lib.MatmulPlain

@[expose] public section

set_option maxRecDepth 16384

noncomputable section

namespace Cert.Swa

open Idealize.ShloMosaic Cert.KernelIdeal Cert.KernelIdeal.Gen

/-- The query scale and log₂ e as the kernel's body holds them. -/
abbrev QS : EReal := Named.named (F := Ideal) κ "qscale" (φ := .f32) 0x3E38AA3B#32
abbrev LG : EReal := Named.named (F := Ideal) κ "log2e" (φ := .f32) 0x3FB8AA3B#32
abbrev MK : EReal := Named.named (F := Ideal) κ "mask" (φ := .f32) 0xF149F2CA#32

/-! ## One attention tile, operation by operation -/

/-- A query block scaled. -/
def qsc (q : Vec Ideal S1x128x128 .bf16) : FVec Ideal S128x128 .bf16 :=
  truncf .bf16 (mulf (extf .f32 (shapeCast S128x128 q shapeCasts_S1x128x128_S128x128) bitsLt_bf16_f32) (broadcast S128x128 QS)) bitsLt_bf16_f32

/-- The zero block. -/
def zb : FVec Ideal S128x128 .bf16 := broadcast S128x128 (Scalar.ofBits (F := Ideal) .bf16 0x0000#16)

/-- The four heads of a tile stacked, each with the other head's lanes zeroed. -/
def q4 (qa qb : FVec Ideal S128x128 .bf16) : FVec Ideal S512x128 .bf16 :=
  concatenate S512x128 0 [⟨S128x128, select k0_pay12 qa zb⟩, ⟨S128x128, select k0_pay12 zb qa⟩, ⟨S128x128, select k0_pay12 qb zb⟩,
    ⟨S128x128, select k0_pay12 zb qb⟩] concatenates_S128x128_S128x128_S128x128_S128x128_S512x128_d0

/-- The scores of a tile. -/
def scr (qa qb : FVec Ideal S128x128 .bf16) (kw : FVec Ideal S384x128 .bf16) (bias : FVec Ideal S512x384 .f32) : FVec Ideal S512x384 .f32 :=
  addf (matmul dot_S512x128_S384x128_S512x384_1_1_0_0_n_n none (q4 qa qb) kw (constant S512x384 .f32 0x00000000#32)) bias

/-- The rows' sinks. -/
def snk (a b c d : EReal) : FVec Ideal S512x1 .f32 := k0_pay16 (F := Ideal) (iota .tc S512x1 32 [0] iota_S512x1_d0_w32) a b c d

/-- The rows' maxima. -/
def mx (s : FVec Ideal S512x384 .f32) (sk : FVec Ideal S512x1 .f32) : FVec Ideal S512x1 .f32 :=
  maximumf (shapeCast S512x1 (multiReduction .maximumf [1] S512 s 0xFF800000#32 reduces_S512x384_S512 (.inl rfl) rfl) shapeCasts_S512_S512x1) sk

/-- The exponentials. -/
def ex (s : FVec Ideal S512x384 .f32) (sk : FVec Ideal S512x1 .f32) : FVec Ideal S512x384 .f32 :=
  exp2 (subf s (broadcastTo S512x384 (mx s sk) broadcasts_S512x1_S512x384))

/-- The rows' denominators. -/
def den (s : FVec Ideal S512x384 .f32) (sk : FVec Ideal S512x1 .f32) : FVec Ideal S512x1 .f32 :=
  addf (shapeCast S512x1 (multiReduction .add [1] S512 (ex s sk) 0x00000000#32 reduces_S512x384_S512 (.inl rfl) rfl) shapeCasts_S512_S512x1)
    (exp2 (subf sk (mx s sk)))

/-- The attention output of the stacked heads. -/
def att (s : FVec Ideal S512x384 .f32) (sk : FVec Ideal S512x1 .f32) (vw : FVec Ideal S384x128 .bf16) : FVec Ideal S512x128 .f32 :=
  mulf (matmul dot_S512x384_S384x128_S512x128_1_0_0_1_n_n none (truncf .bf16 (ex s sk) bitsLt_bf16_f32) vw (constant S512x128 .f32 0x00000000#32))
    (broadcastTo S512x128 (divf (broadcast S512x1 (Scalar.ofBits (F := Ideal) .f32 0x3F800000#32)) (den s sk)) broadcasts_S512x1_S512x128)

/-- The first two heads side by side. -/
def lo (o : FVec Ideal S512x128 .f32) : FVec Ideal S1x128x128 .bf16 :=
  shapeCast S1x128x128 (truncf .bf16 (select k0_pay12 (extractStridedSlice S128x128 ![0, 0] o slices_S512x128_o0_0_S128x128)
    (extractStridedSlice S128x128 ![128, 0] o slices_S512x128_o128_0_S128x128)) bitsLt_bf16_f32) shapeCasts_S128x128_S1x128x128

/-- The last two heads side by side. -/
def hi (o : FVec Ideal S512x128 .f32) : FVec Ideal S1x128x128 .bf16 := k0_pay1 (F := Ideal) k0_pay12 o

/-! ## Each read at an index -/

theorem dot_qk : dot_S512x128_S384x128_S512x384_1_1_0_0_n_n = DotDims.transposedRhs 512 128 384 := rfl
theorem dot_pv : dot_S512x384_S384x128_S512x128_1_0_0_1_n_n = DotDims.plain 512 384 128 := rfl

theorem qsc_apply (q : Vec Ideal S1x128x128 .bf16) (r l : Fin 128) : qsc q (ix2 r l) = q (ix3 0 r l) * QS := by
  unfold qsc; pointwise

theorem cmpi_slt_ofNat (a b : ℕ) (ha : a < 2 ^ 31) (hb : b < 2 ^ 31) :
    IntOp.cmpi .slt (BitVec.ofNat 32 a) (BitVec.ofNat 32 b) = if a < b then 1#1 else 0#1 := by
  have h1 : (BitVec.ofNat 32 a).toInt = a := by rw [BitVec.toInt_ofNat']; exact Int.bmod_eq_of_le (by omega) (by omega)
  have h2 : (BitVec.ofNat 32 b).toInt = b := by rw [BitVec.toInt_ofNat']; exact Int.bmod_eq_of_le (by omega) (by omega)
  simp only [IntOp.cmpi, BitVec.slt, h1, h2]
  by_cases h : a < b <;> simp [h]

theorem ofBits_bot : Ideal.ofBits .f32 0xFF800000#32 = ⊥ := by
  simp [Ideal.ofBits, Ideal.ieee]

theorem pay12_apply (r l : Fin 128) : k0_pay12 (ix2 r l) = if l.val < 64 then 1#1 else 0#1 := by
  unfold k0_pay12; pointwise
  rw [cmpi_slt_ofNat _ _ (by omega) (by omega)]

theorem zb_apply (r l : Fin 128) : zb (ix2 r l) = 0 := by
  unfold zb; pointwise

theorem q4_apply_0 (qa qb : FVec Ideal S128x128 .bf16) (r : Fin 128) (l : Fin 128) (R : Fin 512) (h : R.val = 0 + r.val) :
    q4 qa qb (ix2 R l) = if l.val < 64 then qa (ix2 r l) else 0 := by
  unfold q4
  rw [concatenate_apply_piece (t := S512x128) (0 : Fin 2) _ _ (ix2 R l) 0 (by simp) S128x128 (select k0_pay12 qa zb) rfl rfl 0 rfl (ix2 r l)
    (by intro b hb; fin_cases b <;> first | rfl | exact absurd rfl hb) (by exact h.symm)]
  pointwise [pay12_apply, zb_apply]
  split <;> rfl

theorem q4_apply_1 (qa qb : FVec Ideal S128x128 .bf16) (r : Fin 128) (l : Fin 128) (R : Fin 512) (h : R.val = 128 + r.val) :
    q4 qa qb (ix2 R l) = if l.val < 64 then 0 else qa (ix2 r l) := by
  unfold q4
  rw [concatenate_apply_piece (t := S512x128) (0 : Fin 2) _ _ (ix2 R l) 1 (by simp) S128x128 (select k0_pay12 zb qa) rfl rfl 128 rfl (ix2 r l)
    (by intro b hb; fin_cases b <;> first | rfl | exact absurd rfl hb) (by exact h.symm)]
  pointwise [pay12_apply, zb_apply]
  split <;> rfl

theorem q4_apply_2 (qa qb : FVec Ideal S128x128 .bf16) (r : Fin 128) (l : Fin 128) (R : Fin 512) (h : R.val = 256 + r.val) :
    q4 qa qb (ix2 R l) = if l.val < 64 then qb (ix2 r l) else 0 := by
  unfold q4
  rw [concatenate_apply_piece (t := S512x128) (0 : Fin 2) _ _ (ix2 R l) 2 (by simp) S128x128 (select k0_pay12 qb zb) rfl rfl 256 rfl (ix2 r l)
    (by intro b hb; fin_cases b <;> first | rfl | exact absurd rfl hb) (by exact h.symm)]
  pointwise [pay12_apply, zb_apply]
  split <;> rfl

theorem q4_apply_3 (qa qb : FVec Ideal S128x128 .bf16) (r : Fin 128) (l : Fin 128) (R : Fin 512) (h : R.val = 384 + r.val) :
    q4 qa qb (ix2 R l) = if l.val < 64 then 0 else qb (ix2 r l) := by
  unfold q4
  rw [concatenate_apply_piece (t := S512x128) (0 : Fin 2) _ _ (ix2 R l) 3 (by simp) S128x128 (select k0_pay12 zb qb) rfl rfl 384 rfl (ix2 r l)
    (by intro b hb; fin_cases b <;> first | rfl | exact absurd rfl hb) (by exact h.symm)]
  pointwise [pay12_apply, zb_apply]
  split <;> rfl

theorem lo_apply (o : FVec Ideal S512x128 .f32) (r l : Fin 128) :
    lo o (ix3 0 r l) = if l.val < 64 then o (ix2 ⟨r.val, by omega⟩ l) else o (ix2 ⟨128 + r.val, by omega⟩ l) := by
  unfold lo; pointwise
  rw [pay12_apply]; split <;> rfl
theorem snk_apply (a b c d : EReal) (R : Fin 512) :
    snk a b c d (ix2 R 0) = (if R.val < 128 then a else if R.val < 256 then b else if R.val < 384 then c else d) * LG := by
  unfold snk k0_pay16; pointwise
  have hR := R.isLt
  rw [cmpi_slt_ofNat _ 128 (by omega) (by omega), cmpi_slt_ofNat _ 256 (by omega) (by omega), cmpi_slt_ofNat _ 384 (by omega) (by omega)]
  split
  · rfl
  · split
    · rfl
    · split <;> rfl
theorem mx_apply (s : FVec Ideal S512x384 .f32) (sk : FVec Ideal S512x1 .f32) (R : Fin 512) :
    mx s sk (ix2 R 0) = max ((Finset.univ : Finset (Fin 384)).sup fun c => s (ix2 R c)) (sk (ix2 R 0)) := by
  unfold mx; pointwise
  rw [ofBits_bot]; rfl
theorem ex_apply (s : FVec Ideal S512x384 .f32) (sk : FVec Ideal S512x1 .f32) (R : Fin 512) (c : Fin 384) :
    ex s sk (ix2 R c) = Ideal.exp2 (s (ix2 R c) - mx s sk (ix2 R 0)) := by
  unfold ex; pointwise
  rfl
theorem den_apply (s : FVec Ideal S512x384 .f32) (sk : FVec Ideal S512x1 .f32) (R : Fin 512) :
    den s sk (ix2 R 0) = (∑ c : Fin 384, ex s sk (ix2 R c)) + Ideal.exp2 (sk (ix2 R 0) - mx s sk (ix2 R 0)) := by
  unfold den; pointwise
  rfl
theorem att_apply (s : FVec Ideal S512x384 .f32) (sk : FVec Ideal S512x1 .f32) (vw : FVec Ideal S384x128 .bf16) (R : Fin 512) (l : Fin 128) :
    att s sk vw (ix2 R l) = (∑ c : Fin 384, ex s sk (ix2 R c) * vw (ix2 c l)) * Ideal.div 1 (den s sk (ix2 R 0)) := by
  unfold att; rw [dot_pv]; pointwise
theorem scr_apply (qa qb : FVec Ideal S128x128 .bf16) (kw : FVec Ideal S384x128 .bf16) (bias : FVec Ideal S512x384 .f32) (R : Fin 512) (c : Fin 384) :
    scr qa qb kw bias (ix2 R c) = (∑ k : Fin 128, q4 qa qb (ix2 R k) * kw (ix2 c k)) + bias (ix2 R c) := by
  unfold scr; rw [dot_qk]; pointwise

end Cert.Swa

end
-- ==== Proof.Swa.Body.lean ====
module

public import proofs.«01_k».proof.Proof.Swa.Tile
public import Idealize.ShloMosaic.Lib.Pipeline.ValueKit.Tiles

@[expose] public section

set_option maxRecDepth 16384

noncomputable section

namespace Cert.Swa

open Idealize.ShloMosaic Cert.KernelIdeal Cert.KernelIdeal.Gen

/-- One query row against its window: scores over 64 lanes with the mask's bias, the softmax with the sink, the values. -/
def row (q : Fin 64 → EReal) (k : Fin 384 → Fin 64 → EReal) (b : Fin 384 → EReal) (sk : EReal) (v : Fin 384 → EReal) : EReal :=
  let s : Fin 384 → EReal := fun c => (∑ d, q d * QS * k c d) + b c
  let M : EReal := max (Finset.univ.sup s) (sk * LG)
  (∑ c, Ideal.exp2 (s c - M) * v c) * Ideal.div 1 ((∑ c, Ideal.exp2 (s c - M)) + Ideal.exp2 (sk * LG - M))

theorem sum_lo (f g : Fin 128 → EReal) :
    (∑ k : Fin 128, (if k.val < 64 then f k else 0) * g k) = ∑ d : Fin 64, f ⟨d.val, by omega⟩ * g ⟨d.val, by omega⟩ := by
  rw [Fin.sum_univ_add (a := 64) (b := 64)]
  have h2 : (∑ i : Fin 64, (if (Fin.natAdd 64 i).val < 64 then f (Fin.natAdd 64 i) else 0) * g (Fin.natAdd 64 i)) = 0 :=
    Finset.sum_eq_zero fun i _ => by rw [if_neg (by simp), zero_mul]
  rw [h2, add_zero]
  exact Finset.sum_congr rfl fun i _ => by rw [if_pos (by simp)]; rfl

theorem sum_hi (f g : Fin 128 → EReal) :
    (∑ k : Fin 128, (if k.val < 64 then 0 else f k) * g k) = ∑ d : Fin 64, f ⟨64 + d.val, by omega⟩ * g ⟨64 + d.val, by omega⟩ := by
  rw [Fin.sum_univ_add (a := 64) (b := 64)]
  have h2 : (∑ i : Fin 64, (if (Fin.castAdd 64 i).val < 64 then 0 else f (Fin.castAdd 64 i)) * g (Fin.castAdd 64 i)) = 0 :=
    Finset.sum_eq_zero fun i _ => by rw [if_pos (by simp), zero_mul]
  rw [h2, zero_add]
  exact Finset.sum_congr rfl fun i _ => by rw [if_neg (by simp)]; rfl

/-- A row of the tile is that row's attention. -/
theorem att_row (s : FVec Ideal S512x384 .f32) (a b c d : EReal) (vw : FVec Ideal S384x128 .bf16) (R : Fin 512) (l : Fin 128)
    (q : Fin 64 → EReal) (k : Fin 384 → Fin 64 → EReal) (bi : Fin 384 → EReal) (sk : EReal)
    (hs : ∀ c, s (ix2 R c) = (∑ d, q d * QS * k c d) + bi c)
    (hsk : (if R.val < 128 then a else if R.val < 256 then b else if R.val < 384 then c else d) = sk) :
    att s (snk a b c d) vw (ix2 R l) = row q k bi sk (fun c => vw (ix2 c l)) := by
  simp only [att_apply, den_apply, ex_apply, mx_apply, snk_apply, hs, hsk, row]

theorem row_congr {q q' : Fin 64 → EReal} {k k' : Fin 384 → Fin 64 → EReal} {b b' : Fin 384 → EReal} {sk sk' : EReal} {v v' : Fin 384 → EReal}
    (h1 : ∀ d, q d = q' d) (h2 : ∀ c d, k c d = k' c d) (h3 : ∀ c, b c = b' c) (h4 : sk = sk') (h5 : ∀ c, v c = v' c) :
    row q k b sk v = row q' k' b' sk' v' := by
  rw [funext h1, funext fun c => funext (h2 c), funext h3, h4, funext h5]

theorem hi_apply (o : FVec Ideal S512x128 .f32) (r l : Fin 128) :
    hi o (ix3 0 r l) = if l.val < 64 then o (ix2 ⟨256 + r.val, by omega⟩ l) else o (ix2 ⟨384 + r.val, by omega⟩ l) := by
  unfold hi k0_pay1; pointwise
  rw [pay12_apply]; split <;> rfl

/-- The bias of a tile's four heads from one block of the table. -/
def bs (v : Vec Ideal S1x128x384 .f32) : FVec Ideal S128x384 .f32 :=
  mulf (shapeCast S128x384 v shapeCasts_S1x128x384_S128x384) (broadcast S128x384 MK)

theorem bs_apply (v : Vec Ideal S1x128x384 .f32) (r : Fin 128) (c : Fin 384) : bs v (ix2 r c) = v (ix3 0 r c) * MK := by
  unfold bs; pointwise

def b4 (b : FVec Ideal S128x384 .f32) : FVec Ideal S512x384 .f32 :=
  concatenate S512x384 0 [⟨S128x384, b⟩, ⟨S128x384, b⟩, ⟨S128x384, b⟩, ⟨S128x384, b⟩] concatenates_S128x384_S128x384_S128x384_S128x384_S512x384_d0

theorem b4_apply (b : FVec Ideal S128x384 .f32) (R : Fin 512) (c : Fin 384) (r : Fin 128) (g : ℕ) (hg : g < 4) (h : R.val = 128 * g + r.val) :
    b4 b (ix2 R c) = b (ix2 r c) := by
  unfold b4
  rw [concatenate_apply_piece (t := S512x384) (0 : Fin 2) _ _ (ix2 R c) g (by simpa using hg) S128x384 b
    (by interval_cases g <;> rfl) rfl (128 * g) (by interval_cases g <;> rfl) (ix2 r c)
    (by intro b hb; fin_cases b <;> first | rfl | exact absurd rfl hb) (by exact h.symm)]

/-- The keys' and values' lanes of one block of rows. -/
theorem win_apply (o : ℕ) (hs : S1280x128.Slices ![o, 0] S384x128) (K : FVec Ideal S1280x128 .bf16) (c : Fin 384) (l : Fin 128) (h : o + c.val < 1280) :
    extractStridedSlice S384x128 ![o, 0] K hs (ix2 c l) = K (ix2 ⟨o + c.val, h⟩ l) :=
  extractStridedSlice_apply _ _ _ _ _ (by intro a; fin_cases a <;> simp [ix2])

/-- The first two heads of a tile read at an index. -/
theorem lo_tile (qa qb : Vec Ideal S1x128x128 .bf16) (kw vw : FVec Ideal S384x128 .bf16) (bi : FVec Ideal S128x384 .f32) (a b c d : EReal) (r l : Fin 128) :
    lo (att (scr (qsc qa) (qsc qb) kw (b4 bi)) (snk a b c d) vw) (ix3 0 r l)
      = row (fun t => qa (ix3 0 r ⟨64 * (l.val / 64) + t.val, by omega⟩)) (fun c t => kw (ix2 c ⟨64 * (l.val / 64) + t.val, by omega⟩))
          (fun c => bi (ix2 r c)) (if l.val < 64 then a else b) (fun c => vw (ix2 c l)) := by
  rw [lo_apply]
  split
  · rename_i h
    refine att_row _ _ _ _ _ _ _ _ _ _ _ _ (fun e => ?_) ?_
    · rw [scr_apply, b4_apply _ _ _ r 0 (by omega) (by simp)]
      simp only [fun k => q4_apply_0 (qsc qa) (qsc qb) r k ⟨r.val, by omega⟩ (by simp), qsc_apply]
      rw [sum_lo]
      congr 1
      refine Finset.sum_congr rfl fun t _ => ?_
      have e0 : 64 * (l.val / 64) = 0 := by omega
      simp only [e0, Nat.zero_add]
    · rw [if_pos (by simp)]
  · rename_i h
    refine att_row _ _ _ _ _ _ _ _ _ _ _ _ (fun e => ?_) ?_
    · rw [scr_apply, b4_apply _ _ _ r 1 (by omega) (by simp)]
      simp only [fun k => q4_apply_1 (qsc qa) (qsc qb) r k ⟨128 + r.val, by omega⟩ (by simp), qsc_apply]
      rw [sum_hi]
      congr 1
      refine Finset.sum_congr rfl fun t _ => ?_
      have e0 : 64 * (l.val / 64) = 64 := by omega
      simp only [e0]
    · rw [if_neg (by simp), if_pos (by simp; omega)]

/-- The last two heads of a tile read at an index. -/
theorem hi_tile (qa qb : Vec Ideal S1x128x128 .bf16) (kw vw : FVec Ideal S384x128 .bf16) (bi : FVec Ideal S128x384 .f32) (a b c d : EReal) (r l : Fin 128) :
    hi (att (scr (qsc qa) (qsc qb) kw (b4 bi)) (snk a b c d) vw) (ix3 0 r l)
      = row (fun t => qb (ix3 0 r ⟨64 * (l.val / 64) + t.val, by omega⟩)) (fun c t => kw (ix2 c ⟨64 * (l.val / 64) + t.val, by omega⟩))
          (fun c => bi (ix2 r c)) (if l.val < 64 then c else d) (fun c => vw (ix2 c l)) := by
  rw [hi_apply]
  split
  · rename_i h
    refine att_row _ _ _ _ _ _ _ _ _ _ _ _ (fun e => ?_) ?_
    · rw [scr_apply, b4_apply _ _ _ r 2 (by omega) (by simp)]
      simp only [fun k => q4_apply_2 (qsc qa) (qsc qb) r k ⟨256 + r.val, by omega⟩ (by simp), qsc_apply]
      rw [sum_lo]
      congr 1
      refine Finset.sum_congr rfl fun t _ => ?_
      have e0 : 64 * (l.val / 64) = 0 := by omega
      simp only [e0, Nat.zero_add]
    · rw [if_neg (by simp; omega), if_neg (by simp), if_pos (by simp; omega)]
  · rename_i h
    refine att_row _ _ _ _ _ _ _ _ _ _ _ _ (fun e => ?_) ?_
    · rw [scr_apply, b4_apply _ _ _ r 3 (by omega) (by simp)]
      simp only [fun k => q4_apply_3 (qsc qa) (qsc qb) r k ⟨384 + r.val, by omega⟩ (by simp), qsc_apply]
      rw [sum_hi]
      congr 1
      refine Finset.sum_congr rfl fun t _ => ?_
      have e0 : 64 * (l.val / 64) = 64 := by omega
      simp only [e0]
    · rw [if_neg (by simp; omega), if_neg (by simp; omega), if_neg (by simp)]

/-! ## The keys and values of a block's window -/

/-- The rows of the window: the block before, the block, the block after. -/
def kvrow (x2 : Vec Ideal S1x1024x512 .bf16) (x3 x4 : Vec Ideal S1x128x512 .bf16) (r : Fin 1280) (l : Fin 512) : EReal :=
  if h : r.val < 128 then x3 (ix3 0 ⟨r.val, h⟩ l) else if h' : r.val < 1152 then x2 (ix3 0 ⟨r.val - 128, by omega⟩ l)
    else x4 (ix3 0 ⟨r.val - 1152, by omega⟩ l)

theorem pay2_apply (x2 : Vec Ideal S1x1024x512 .bf16) (x3 x4 : Vec Ideal S1x128x512 .bf16) (r : Fin 1280) (l : Fin 512) :
    k0_pay2 (F := Ideal) x3 x2 x4 (ix2 r l) = kvrow x2 x3 x4 r l := by
  unfold k0_pay2 kvrow
  split
  · rename_i h
    rw [concatenate_apply_piece (t := S1280x512) (0 : Fin 2) _ _ (ix2 r l) 0 (by simp) S128x512 _ rfl rfl 0 rfl (ix2 ⟨r.val, h⟩ l)
      (by intro b hb; fin_cases b <;> first | rfl | exact absurd rfl hb) (by simp [ix2])]
    pointwise
  · rename_i h
    split
    · rename_i h'
      rw [concatenate_apply_piece (t := S1280x512) (0 : Fin 2) _ _ (ix2 r l) 1 (by simp) S1024x512 _ rfl rfl 128 rfl (ix2 ⟨r.val - 128, by omega⟩ l)
        (by intro b hb; fin_cases b <;> first | rfl | exact absurd rfl hb) (by simp [ix2]; omega)]
      pointwise
    · rename_i h'
      rw [concatenate_apply_piece (t := S1280x512) (0 : Fin 2) _ _ (ix2 r l) 2 (by simp) S128x512 _ rfl rfl 1152 rfl (ix2 ⟨r.val - 1152, by omega⟩ l)
        (by intro b hb; fin_cases b <;> first | rfl | exact absurd rfl hb) (by simp [ix2]; omega)]
      pointwise

/-- The lane of the packed keys holding lane `l` of the tile's duplicated head `kvh`. -/
def kl (kvh : ℕ) (l : Fin 128) : ℕ := if l.val / 64 = kvh then l.val else 128 + l.val

theorem pay7_apply (r : Fin 1280) (l : Fin 128) : k0_pay7 (ix2 r l) = if l.val < 64 then 1#1 else 0#1 := by
  unfold k0_pay7; pointwise
  rw [cmpi_slt_ofNat _ _ (by omega) (by omega)]

theorem pay8_apply (x2 : Vec Ideal S1x1024x512 .bf16) (x3 x4 : Vec Ideal S1x128x512 .bf16) (r : Fin 1280) (l : Fin 128) (L : Fin 512) (hL : L.val = kl 0 l) :
    k0_pay8 (F := Ideal) x3 x2 x4 (ix2 r l) = kvrow x2 x3 x4 r L := by
  unfold k0_pay8 k0_pay3 k0_pay4; pointwise
  simp only [pay7_apply, pay2_apply]
  unfold kl at hL
  split
  · rw [if_pos (by omega)] at hL; rw [Scalar.select]; simp; congr 1; apply Fin.ext; simp [hL]
  · rw [if_neg (by omega)] at hL; rw [Scalar.select]; simp; congr 1; apply Fin.ext; simp [hL]

theorem pay9_apply (x2 : Vec Ideal S1x1024x512 .bf16) (x3 x4 : Vec Ideal S1x128x512 .bf16) (r : Fin 1280) (l : Fin 128) (L : Fin 512) (hL : L.val = kl 1 l) :
    k0_pay9 (F := Ideal) x3 x2 x4 (ix2 r l) = kvrow x2 x3 x4 r L := by
  unfold k0_pay9 k0_pay3 k0_pay4; pointwise
  simp only [pay7_apply, pay2_apply]
  unfold kl at hL
  split
  · rw [if_neg (by omega)] at hL; rw [Scalar.select]; simp; congr 1; apply Fin.ext; simp [hL]
  · rw [if_pos (by omega)] at hL; rw [Scalar.select]; simp; congr 1; apply Fin.ext; simp [hL]

theorem pay10_apply (x2 : Vec Ideal S1x1024x512 .bf16) (x3 x4 : Vec Ideal S1x128x512 .bf16) (r : Fin 1280) (l : Fin 128) (L : Fin 512) (hL : L.val = 256 + kl 0 l) :
    k0_pay10 (F := Ideal) x3 x2 x4 (ix2 r l) = kvrow x2 x3 x4 r L := by
  unfold k0_pay10 k0_pay5 k0_pay6; pointwise
  simp only [pay7_apply, pay2_apply]
  unfold kl at hL
  split
  · rw [if_pos (by omega)] at hL; rw [Scalar.select]; simp; congr 1; apply Fin.ext; simp [hL]
  · rw [if_neg (by omega)] at hL; rw [Scalar.select]; simp; congr 1; apply Fin.ext; simp [hL]; omega

theorem pay11_apply (x2 : Vec Ideal S1x1024x512 .bf16) (x3 x4 : Vec Ideal S1x128x512 .bf16) (r : Fin 1280) (l : Fin 128) (L : Fin 512) (hL : L.val = 256 + kl 1 l) :
    k0_pay11 (F := Ideal) x3 x2 x4 (ix2 r l) = kvrow x2 x3 x4 r L := by
  unfold k0_pay11 k0_pay5 k0_pay6; pointwise
  simp only [pay7_apply, pay2_apply]
  unfold kl at hL
  split
  · rw [if_neg (by omega)] at hL; rw [Scalar.select]; simp; congr 1; apply Fin.ext; simp [hL]; omega
  · rw [if_pos (by omega)] at hL; rw [Scalar.select]; simp; congr 1; apply Fin.ext; simp [hL]

end Cert.Swa

end
-- ==== Proof.Swa.Pieces.lean ====
module

public import proofs.«01_k».proof.Proof.Swa.Body
public import proofs.«01_k».proof.Proof.Gen.KernelIdeal.Value

@[expose] public section

set_option maxRecDepth 16384

noncomputable section

namespace Cert.Swa

open Idealize.ShloMosaic Idealize.ShloMosaic.Tactic Cert.KernelIdeal Cert.KernelIdeal.Gen Idealize.SL.Sem Idealize.ShloMosaic.TcCoe

/-- Which block of the mask's table a query block takes: the first block's, the last block's, or the others'. -/
def sel (i j : ℕ) : Fin 3 := if j = 0 ∧ i = 0 then 0 else if j = 7 ∧ i = 3 then 2 else 1

/-- What the body leaves at row `r` and lane `l` of its output block. -/
def G (i : ℕ) (x0 : Vec Ideal S8 .f32) (x1 x2 : Vec Ideal S1x1024x512 .bf16) (x3 x4 : Vec Ideal S1x128x512 .bf16) (x5 : Vec Ideal S3x128x384 .f32)
    (r : Fin 1024) (l : Fin 512) : EReal :=
  row (fun t => x1 (ix3 0 r ⟨64 * (l.val / 64) + t.val, by omega⟩))
    (fun c t => kvrow x2 x3 x4 ⟨128 * (r.val / 128) + c.val, by omega⟩
      ⟨kl (l.val / 256) ⟨64 * (l.val / 64 % 2) + t.val, by omega⟩, by simp only [kl]; split <;> omega⟩)
    (fun c => x5 (ix3 (sel i (r.val / 128)) ⟨r.val % 128, by omega⟩ c) * MK) (x0 (ix1 ⟨l.val / 64, by omega⟩))
    (fun c => kvrow x2 x3 x4 ⟨128 * (r.val / 128) + c.val, by omega⟩
      ⟨256 + kl (l.val / 256) ⟨l.val % 128, by omega⟩, by simp only [kl]; split <;> omega⟩)

/-- The same at an index of the block. -/
def GY (i : ℕ) (x0 : Vec Ideal S8 .f32) (x1 x2 : Vec Ideal S1x1024x512 .bf16) (x3 x4 : Vec Ideal S1x128x512 .bf16) (x5 : Vec Ideal S3x128x384 .f32)
    (y : S1x1024x512.Idx) : EReal := G i x0 x1 x2 x3 x4 x5 (y 1) (y 2)

section
variable (i : ℕ) (x0 : Vec Ideal S8 .f32) (x1 x2 : Vec Ideal S1x1024x512 .bf16) (x3 x4 : Vec Ideal S1x128x512 .bf16) (x5 : Vec Ideal S3x128x384 .f32)

theorem ldq (o la : ℕ) (inb) (r l : Fin 128) (R : Fin 1024) (L : Fin 512) (hR : R.val = o + r.val) (hL : L.val = la + l.val) :
    View.ld x1 (Rect.unit (s := S1x1024x512) ![0, o, la] S1x128x128.size inb) (ix3 0 r l) = x1 (ix3 0 R L) :=
  View.ld_unit_apply_of x1 _ _ inb _ _ (by intro a; fin_cases a <;> simp [ix3, hR, hL])

theorem ldb (o : ℕ) (inb) (r : Fin 128) (c : Fin 384) (a : Fin 3) (ha : a.val = o) :
    View.ld x5 (Rect.unit (s := S3x128x384) ![o, 0, 0] S1x128x384.size inb) (ix3 0 r c) = x5 (ix3 a r c) :=
  View.ld_unit_apply_of x5 _ _ inb _ _ (by intro a; fin_cases a <;> simp [ix3, ha])

theorem ldk (o : ℕ) (inb) (h) (a : Fin 8) (ha : a.val = o) :
    View.ld x0 (Rect.unit (s := S8) ![o] S1.size inb) (Shape.Idx.first h) = x0 (ix1 a) :=
  View.ld_unit_apply_of x0 _ _ inb _ _ (by intro a; fin_cases a; simp [ix1, ha, Shape.Idx.first])

theorem piece_lo (kvh j : ℕ) (hkvh : kvh < 2) (hj : j < 8) (o la lb : ℕ) (ho : o = 128 * j) (hla : la = 256 * kvh) (hlb : lb = la + 128)
    (ina) (inb) (hs : S1280x128.Slices ![o, 0] S384x128) (K V : FVec Ideal S1280x128 .bf16) (bi : FVec Ideal S128x384 .f32) (a b c d : EReal)
    (hK : ∀ (r : Fin 1280) (l : Fin 128) (L : Fin 512), L.val = kl kvh l → K (ix2 r l) = kvrow x2 x3 x4 r L)
    (hV : ∀ (r : Fin 1280) (l : Fin 128) (L : Fin 512), L.val = 256 + kl kvh l → V (ix2 r l) = kvrow x2 x3 x4 r L)
    (hb : ∀ (r : Fin 128) (c : Fin 384), bi (ix2 r c) = x5 (ix3 (sel i j) r c) * MK)
    (ha : a = x0 (ix1 ⟨4 * kvh, by omega⟩)) (hb' : b = x0 (ix1 ⟨4 * kvh + 1, by omega⟩)) (r l : Fin 128) :
    lo (att (scr (qsc (View.ld x1 (Rect.unit (s := S1x1024x512) ![0, o, la] S1x128x128.size ina)))
        (qsc (View.ld x1 (Rect.unit (s := S1x1024x512) ![0, o, lb] S1x128x128.size inb)))
        (extractStridedSlice S384x128 ![o, 0] K hs) (b4 bi)) (snk a b c d) (extractStridedSlice S384x128 ![o, 0] V hs)) (ix3 0 r l)
      = G i x0 x1 x2 x3 x4 x5 ⟨o + r.val, by omega⟩ ⟨la + l.val, by omega⟩ := by
  rw [lo_tile, G]
  subst ho hla hlb
  refine row_congr (fun t => ?_) (fun e t => ?_) (fun e => ?_) ?_ (fun e => ?_)
  · exact ldq x1 _ _ _ _ _ _ _ rfl (by simp; omega)
  · rw [win_apply _ _ _ _ _ (by omega)]
    rw [hK _ _ ⟨kl kvh ⟨64 * (l.val / 64) + t.val, by omega⟩, by simp only [kl]; split <;> omega⟩ rfl]
    congr 1 <;> apply Fin.ext <;> simp only [kl] <;> (try split) <;> (try split) <;> omega
  · rw [hb]
    have e1 : (128 * j + r.val) / 128 = j := by omega
    have e2 : (128 * j + r.val) % 128 = r.val := by omega
    simp only [e1, e2]
  · have : (256 * kvh + l.val) / 64 = 4 * kvh + l.val / 64 := by omega
    split
    · rw [ha]; congr 2; apply Fin.ext; simp; omega
    · rw [hb']; congr 2; apply Fin.ext; simp; omega
  · rw [win_apply _ _ _ _ _ (by omega)]
    rw [hV _ _ ⟨256 + kl kvh l, by simp only [kl]; split <;> omega⟩ rfl]
    congr 1 <;> apply Fin.ext <;> simp only [kl] <;> (try split) <;> (try split) <;> omega

theorem piece_hi (kvh j : ℕ) (hkvh : kvh < 2) (hj : j < 8) (o la lb : ℕ) (ho : o = 128 * j) (hla : la = 256 * kvh) (hlb : lb = la + 128)
    (ina) (inb) (hs : S1280x128.Slices ![o, 0] S384x128) (K V : FVec Ideal S1280x128 .bf16) (bi : FVec Ideal S128x384 .f32) (a b c d : EReal)
    (hK : ∀ (r : Fin 1280) (l : Fin 128) (L : Fin 512), L.val = kl kvh l → K (ix2 r l) = kvrow x2 x3 x4 r L)
    (hV : ∀ (r : Fin 1280) (l : Fin 128) (L : Fin 512), L.val = 256 + kl kvh l → V (ix2 r l) = kvrow x2 x3 x4 r L)
    (hb : ∀ (r : Fin 128) (c : Fin 384), bi (ix2 r c) = x5 (ix3 (sel i j) r c) * MK)
    (hc : c = x0 (ix1 ⟨4 * kvh + 2, by omega⟩)) (hd : d = x0 (ix1 ⟨4 * kvh + 3, by omega⟩)) (r l : Fin 128) :
    hi (att (scr (qsc (View.ld x1 (Rect.unit (s := S1x1024x512) ![0, o, la] S1x128x128.size ina)))
        (qsc (View.ld x1 (Rect.unit (s := S1x1024x512) ![0, o, lb] S1x128x128.size inb)))
        (extractStridedSlice S384x128 ![o, 0] K hs) (b4 bi)) (snk a b c d) (extractStridedSlice S384x128 ![o, 0] V hs)) (ix3 0 r l)
      = G i x0 x1 x2 x3 x4 x5 ⟨o + r.val, by omega⟩ ⟨lb + l.val, by omega⟩ := by
  rw [hi_tile, G]
  subst ho hla hlb
  refine row_congr (fun t => ?_) (fun e t => ?_) (fun e => ?_) ?_ (fun e => ?_)
  · exact ldq x1 _ _ _ _ _ _ _ rfl (by simp; omega)
  · rw [win_apply _ _ _ _ _ (by omega)]
    rw [hK _ _ ⟨kl kvh ⟨64 * (l.val / 64) + t.val, by omega⟩, by simp only [kl]; split <;> omega⟩ rfl]
    congr 1 <;> apply Fin.ext <;> simp only [kl] <;> (try split) <;> (try split) <;> omega
  · rw [hb]
    have e1 : (128 * j + r.val) / 128 = j := by omega
    have e2 : (128 * j + r.val) % 128 = r.val := by omega
    simp only [e1, e2]
  · have : (256 * kvh + l.val) / 64 = 4 * kvh + l.val / 64 := by omega
    split
    · rw [hc]; congr 2; apply Fin.ext; simp; omega
    · rw [hd]; congr 2; apply Fin.ext; simp; omega
  · rw [win_apply _ _ _ _ _ (by omega)]
    rw [hV _ _ ⟨256 + kl kvh l, by simp only [kl]; split <;> omega⟩ rfl]
    congr 1 <;> apply Fin.ext <;> simp only [kl] <;> (try split) <;> (try split) <;> omega

end

theorem readAt_ld {sp : Space} {s : Shape} {e : EltTy} {arg : Memref sig .tc sp s e} (harg : arg.IsWhole) (x : s.Idx → Elt Ideal e) (r : Rect s) :
    View.readAt (Elt Ideal) arg.view r.toLoadRect (harg.unread x) = View.ld x r :=
  (View.readAt_eq_ld _ _ _).trans (by rw [harg.read_unread])

theorem ld_row (x : Vec Ideal S1x128x512 .bf16) (inb) : View.ld x (Rect.unit (s := S1x128x512) ![0, 0, 0] ![1, 128, 512] inb) = x :=
  View.ld_unit_lit inb x (by decide)
theorem ld_blk (x : Vec Ideal S1x1024x512 .bf16) (inb) : View.ld x (Rect.unit (s := S1x1024x512) ![0, 0, 0] ![1, 1024, 512] inb) = x :=
  View.ld_unit_lit inb x (by decide)

theorem forall_tile (P : S1x128x128.Idx → Prop) (h : ∀ r l : Fin 128, P (ix3 0 r l)) (x : S1x128x128.Idx) : P x := by
  have e : x = ix3 (0 : Fin 1) (x 1) (x 2) := by
    funext a
    match a with
    | ⟨0, _⟩ => exact Subsingleton.elim (α := Fin 1) _ _
    | ⟨1, _⟩ => rfl
    | ⟨2, _⟩ => rfl
  rw [e]; exact h _ _

theorem GY_emb (i : ℕ) (x0 : Vec Ideal S8 .f32) (x1 x2 : Vec Ideal S1x1024x512 .bf16) (x3 x4 : Vec Ideal S1x128x512 .bf16) (x5 : Vec Ideal S3x128x384 .f32)
    (o la : ℕ) (inc) (r l : Fin 128) (h1 : o + r.val < 1024) (h2 : la + l.val < 512) :
    G i x0 x1 x2 x3 x4 x5 ⟨o + r.val, h1⟩ ⟨la + l.val, h2⟩
      = GY i x0 x1 x2 x3 x4 x5 ((Rect.unit (s := S1x1024x512) ![0, o, la] ![1, 128, 128] inc).emb (ix3 0 r l)) := by
  unfold GY
  congr 1
  · exact (Fin.ext (Rect.idx_unit_val _ _ inc _ _)).symm
  · exact (Fin.ext (Rect.idx_unit_val _ _ inc _ _)).symm

theorem bias_mid (x5 : Vec Ideal S3x128x384 .f32) (inb) (i j : ℕ) (h0 : j ≠ 0) (h7 : j ≠ 7) (r : Fin 128) (c : Fin 384) :
    bs (View.ld x5 (Rect.unit (s := S3x128x384) ![1, 0, 0] S1x128x384.size inb)) (ix2 r c) = x5 (ix3 (sel i j) r c) * MK := by
  rw [bs_apply, ldb x5 1 _ _ _ 1 rfl, sel, if_neg (by tauto), if_neg (by tauto)]

theorem cmpi_eq_lit (i : Fin 4) (k : Fin 4) : Scalar.cmpi .eq (BitVec.ofNat 32 i.val) (BitVec.ofNat 32 k.val) = if i.val = k.val then 1#1 else 0#1 := by
  revert i k; decide

theorem bias_first (x5 : Vec Ideal S3x128x384 .f32) (ina inb) (i : Fin 4) (r : Fin 128) (c : Fin 384) :
    Scalar.select (Scalar.cmpi .eq (BitVec.ofNat 32 i.val) 0#32) (bs (View.ld x5 (Rect.unit (s := S3x128x384) ![0, 0, 0] S1x128x384.size inb)))
      (bs (View.ld x5 (Rect.unit (s := S3x128x384) ![1, 0, 0] S1x128x384.size ina))) (ix2 r c) = x5 (ix3 (sel i.val 0) r c) * MK := by
  have e := cmpi_eq_lit i 0
  rw [show (BitVec.ofNat 32 (0 : Fin 4).val) = 0#32 from rfl] at e
  rw [e, sel]
  by_cases h : i.val = 0
  · rw [if_pos (by simpa using h), if_pos ⟨rfl, h⟩]
    exact (bs_apply _ _ _).trans (by rw [ldb x5 0 _ _ _ 0 rfl])
  · rw [if_neg (by simpa using h), if_neg (by tauto), if_neg (by omega)]
    exact (bs_apply _ _ _).trans (by rw [ldb x5 1 _ _ _ 1 rfl])

theorem bias_last (x5 : Vec Ideal S3x128x384 .f32) (ina inb) (i : Fin 4) (r : Fin 128) (c : Fin 384) :
    Scalar.select (Scalar.cmpi .eq (BitVec.ofNat 32 i.val) 3#32) (bs (View.ld x5 (Rect.unit (s := S3x128x384) ![2, 0, 0] S1x128x384.size inb)))
      (bs (View.ld x5 (Rect.unit (s := S3x128x384) ![1, 0, 0] S1x128x384.size ina))) (ix2 r c) = x5 (ix3 (sel i.val 7) r c) * MK := by
  have e := cmpi_eq_lit i 3
  rw [show (BitVec.ofNat 32 (3 : Fin 4).val) = 3#32 from rfl] at e
  have es : sel i.val 7 = if i.val = 3 then 2 else 1 := by simp [sel]
  rw [e, es]
  by_cases h : i.val = 3
  · rw [if_pos (by simpa using h), if_pos h]
    exact (bs_apply _ _ _).trans (by rw [ldb x5 2 _ _ _ 2 rfl])
  · rw [if_neg (by simpa using h), if_neg h]
    exact (bs_apply _ _ _).trans (by rw [ldb x5 1 _ _ _ 1 rfl])

theorem out_apply (c : Dev nD) (i : grid0.Coords) (arg2 : Memref sig .tc .smem S8 .f32) (harg2 : arg2.IsWhole) (arg3 : Memref sig .tc .vmem S1x1024x512 .bf16) (harg3 : arg3.IsWhole) (arg4 : Memref sig .tc .vmem S1x1024x512 .bf16) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S3x128x384 .f32) (harg7 : arg7.IsWhole) (arg8 : Memref sig .tc .vmem S1x1024x512 .bf16) (harg8 : arg8.IsWhole)
    (x0 : Vec Ideal S8 .f32) (x1 : Vec Ideal S1x1024x512 .bf16) (x2 : Vec Ideal S1x1024x512 .bf16) (x3 : Vec Ideal S1x128x512 .bf16) (x4 : Vec Ideal S1x128x512 .bf16) (x5 : Vec Ideal S3x128x384 .f32) (y : S1x1024x512.Idx) :
    out0_A_6 c i arg2 harg2 arg3 harg3 arg4 harg4 arg5 harg5 arg6 harg6 arg7 harg7 arg8 harg8 x0 x1 x2 x3 x4 x5 y
      = GY (i 1).val x0 x1 x2 x3 x4 x5 y := by
  unfold out0_A_6
  rw [View.read_writes_eq_canon _ _ _ (cover0_A_6 c i _ _ _ _ _ _ _ _ _ _ _ _ _ _ x0 x1 x2 x3 x4 x5)]
  refine View.canon_apply_of_pieces (GY (i 1).val x0 x1 x2 x3 x4 x5) _ ?_ y (cover0_A_6 c i _ _ _ _ _ _ _ _ _ _ _ _ _ _ x0 x1 x2 x3 x4 x5 y)
  unfold kernelRun0_A
  dsimp only
  refine List.forall_mem_cons.2 ⟨?_, ?_⟩
  · dsimp only
    refine forall_tile _ fun r l => ?_
    sl_unfold_words
    simp only [readAt_ld harg2, readAt_ld harg3, readAt_ld harg4, readAt_ld harg5, readAt_ld harg6, readAt_ld harg7, ld_row, ld_blk]
    refine (congrFun (?_ : _ = hi (att (scr (qsc (View.ld x1 (Rect.unit (s := S1x1024x512) ![0, 896, 256] S1x128x128.size inb_S1x1024x512_S1x128x128_0_896_256)))
        (qsc (View.ld x1 (Rect.unit (s := S1x1024x512) ![0, 896, 384] S1x128x128.size inb_S1x1024x512_S1x128x128_0_896_384)))
        (extractStridedSlice S384x128 ![896, 0] (k0_pay9 (F := Ideal) x3 x2 x4) slices_S1280x128_o896_0_S384x128)
        (b4 (Scalar.select (Scalar.cmpi .eq (BitVec.ofNat 32 (i 1).val) 3#32) (bs (View.ld x5 (Rect.unit (s := S3x128x384) ![2, 0, 0] S1x128x384.size inb_S3x128x384_S1x128x384_2_0_0))) (bs (View.ld x5 (Rect.unit (s := S3x128x384) ![1, 0, 0] S1x128x384.size inb_S3x128x384_S1x128x384_1_0_0))))))
        (snk (View.ld x0 (Rect.unit (s := S8) ![4] S1.size inb_S8_S1_4) (Shape.Idx.first (by decide))) (View.ld x0 (Rect.unit (s := S8) ![5] S1.size inb_S8_S1_5) (Shape.Idx.first (by decide))) (View.ld x0 (Rect.unit (s := S8) ![6] S1.size inb_S8_S1_6) (Shape.Idx.first (by decide))) (View.ld x0 (Rect.unit (s := S8) ![7] S1.size inb_S8_S1_7) (Shape.Idx.first (by decide))))
        (extractStridedSlice S384x128 ![896, 0] (k0_pay11 (F := Ideal) x3 x2 x4) slices_S1280x128_o896_0_S384x128))) _).trans ?_
    · rfl
    exact (piece_hi (i 1).val x0 x1 x2 x3 x4 x5 1 7 (by omega) (by omega) 896 256 384 rfl rfl rfl _ _ _ _ _ _ _ _ _ _
      (fun r l L h => pay9_apply x2 x3 x4 r l L h) (fun r l L h => pay11_apply x2 x3 x4 r l L h)
      (fun r c => bias_last x5 _ _ (i 1) r c) (ldk x0 6 _ _ 6 rfl) (ldk x0 7 _ _ 7 rfl) r l).trans
      (GY_emb (i 1).val x0 x1 x2 x3 x4 x5 896 384 _ r l _ _)
  refine List.forall_mem_cons.2 ⟨?_, ?_⟩
  · dsimp only
    refine forall_tile _ fun r l => ?_
    sl_unfold_words
    simp only [readAt_ld harg2, readAt_ld harg3, readAt_ld harg4, readAt_ld harg5, readAt_ld harg6, readAt_ld harg7, ld_row, ld_blk]
    refine (congrFun (?_ : _ = lo (att (scr (qsc (View.ld x1 (Rect.unit (s := S1x1024x512) ![0, 896, 256] S1x128x128.size inb_S1x1024x512_S1x128x128_0_896_256)))
        (qsc (View.ld x1 (Rect.unit (s := S1x1024x512) ![0, 896, 384] S1x128x128.size inb_S1x1024x512_S1x128x128_0_896_384)))
        (extractStridedSlice S384x128 ![896, 0] (k0_pay9 (F := Ideal) x3 x2 x4) slices_S1280x128_o896_0_S384x128)
        (b4 (Scalar.select (Scalar.cmpi .eq (BitVec.ofNat 32 (i 1).val) 3#32) (bs (View.ld x5 (Rect.unit (s := S3x128x384) ![2, 0, 0] S1x128x384.size inb_S3x128x384_S1x128x384_2_0_0))) (bs (View.ld x5 (Rect.unit (s := S3x128x384) ![1, 0, 0] S1x128x384.size inb_S3x128x384_S1x128x384_1_0_0))))))
        (snk (View.ld x0 (Rect.unit (s := S8) ![4] S1.size inb_S8_S1_4) (Shape.Idx.first (by decide))) (View.ld x0 (Rect.unit (s := S8) ![5] S1.size inb_S8_S1_5) (Shape.Idx.first (by decide))) (View.ld x0 (Rect.unit (s := S8) ![6] S1.size inb_S8_S1_6) (Shape.Idx.first (by decide))) (View.ld x0 (Rect.unit (s := S8) ![7] S1.size inb_S8_S1_7) (Shape.Idx.first (by decide))))
        (extractStridedSlice S384x128 ![896, 0] (k0_pay11 (F := Ideal) x3 x2 x4) slices_S1280x128_o896_0_S384x128))) _).trans ?_
    · rfl
    exact (piece_lo (i 1).val x0 x1 x2 x3 x4 x5 1 7 (by omega) (by omega) 896 256 384 rfl rfl rfl _ _ _ _ _ _ _ _ _ _
      (fun r l L h => pay9_apply x2 x3 x4 r l L h) (fun r l L h => pay11_apply x2 x3 x4 r l L h)
      (fun r c => bias_last x5 _ _ (i 1) r c) (ldk x0 4 _ _ 4 rfl) (ldk x0 5 _ _ 5 rfl) r l).trans
      (GY_emb (i 1).val x0 x1 x2 x3 x4 x5 896 256 _ r l _ _)
  refine List.forall_mem_cons.2 ⟨?_, ?_⟩
  · dsimp only
    refine forall_tile _ fun r l => ?_
    sl_unfold_words
    simp only [readAt_ld harg2, readAt_ld harg3, readAt_ld harg4, readAt_ld harg5, readAt_ld harg6, readAt_ld harg7, ld_row, ld_blk]
    refine (congrFun (?_ : _ = hi (att (scr (qsc (View.ld x1 (Rect.unit (s := S1x1024x512) ![0, 896, 0] S1x128x128.size inb_S1x1024x512_S1x128x128_0_896_0)))
        (qsc (View.ld x1 (Rect.unit (s := S1x1024x512) ![0, 896, 128] S1x128x128.size inb_S1x1024x512_S1x128x128_0_896_128)))
        (extractStridedSlice S384x128 ![896, 0] (k0_pay8 (F := Ideal) x3 x2 x4) slices_S1280x128_o896_0_S384x128)
        (b4 (Scalar.select (Scalar.cmpi .eq (BitVec.ofNat 32 (i 1).val) 3#32) (bs (View.ld x5 (Rect.unit (s := S3x128x384) ![2, 0, 0] S1x128x384.size inb_S3x128x384_S1x128x384_2_0_0))) (bs (View.ld x5 (Rect.unit (s := S3x128x384) ![1, 0, 0] S1x128x384.size inb_S3x128x384_S1x128x384_1_0_0))))))
        (snk (View.ld x0 (Rect.unit (s := S8) ![0] S1.size inb_S8_S1_0) (Shape.Idx.first (by decide))) (View.ld x0 (Rect.unit (s := S8) ![1] S1.size inb_S8_S1_1) (Shape.Idx.first (by decide))) (View.ld x0 (Rect.unit (s := S8) ![2] S1.size inb_S8_S1_2) (Shape.Idx.first (by decide))) (View.ld x0 (Rect.unit (s := S8) ![3] S1.size inb_S8_S1_3) (Shape.Idx.first (by decide))))
        (extractStridedSlice S384x128 ![896, 0] (k0_pay10 (F := Ideal) x3 x2 x4) slices_S1280x128_o896_0_S384x128))) _).trans ?_
    · rfl
    exact (piece_hi (i 1).val x0 x1 x2 x3 x4 x5 0 7 (by omega) (by omega) 896 0 128 rfl rfl rfl _ _ _ _ _ _ _ _ _ _
      (fun r l L h => pay8_apply x2 x3 x4 r l L h) (fun r l L h => pay10_apply x2 x3 x4 r l L h)
      (fun r c => bias_last x5 _ _ (i 1) r c) (ldk x0 2 _ _ 2 rfl) (ldk x0 3 _ _ 3 rfl) r l).trans
      (GY_emb (i 1).val x0 x1 x2 x3 x4 x5 896 128 _ r l _ _)
  refine List.forall_mem_cons.2 ⟨?_, ?_⟩
  · dsimp only
    refine forall_tile _ fun r l => ?_
    sl_unfold_words
    simp only [readAt_ld harg2, readAt_ld harg3, readAt_ld harg4, readAt_ld harg5, readAt_ld harg6, readAt_ld harg7, ld_row, ld_blk]
    refine (congrFun (?_ : _ = lo (att (scr (qsc (View.ld x1 (Rect.unit (s := S1x1024x512) ![0, 896, 0] S1x128x128.size inb_S1x1024x512_S1x128x128_0_896_0)))
        (qsc (View.ld x1 (Rect.unit (s := S1x1024x512) ![0, 896, 128] S1x128x128.size inb_S1x1024x512_S1x128x128_0_896_128)))
        (extractStridedSlice S384x128 ![896, 0] (k0_pay8 (F := Ideal) x3 x2 x4) slices_S1280x128_o896_0_S384x128)
        (b4 (Scalar.select (Scalar.cmpi .eq (BitVec.ofNat 32 (i 1).val) 3#32) (bs (View.ld x5 (Rect.unit (s := S3x128x384) ![2, 0, 0] S1x128x384.size inb_S3x128x384_S1x128x384_2_0_0))) (bs (View.ld x5 (Rect.unit (s := S3x128x384) ![1, 0, 0] S1x128x384.size inb_S3x128x384_S1x128x384_1_0_0))))))
        (snk (View.ld x0 (Rect.unit (s := S8) ![0] S1.size inb_S8_S1_0) (Shape.Idx.first (by decide))) (View.ld x0 (Rect.unit (s := S8) ![1] S1.size inb_S8_S1_1) (Shape.Idx.first (by decide))) (View.ld x0 (Rect.unit (s := S8) ![2] S1.size inb_S8_S1_2) (Shape.Idx.first (by decide))) (View.ld x0 (Rect.unit (s := S8) ![3] S1.size inb_S8_S1_3) (Shape.Idx.first (by decide))))
        (extractStridedSlice S384x128 ![896, 0] (k0_pay10 (F := Ideal) x3 x2 x4) slices_S1280x128_o896_0_S384x128))) _).trans ?_
    · rfl
    exact (piece_lo (i 1).val x0 x1 x2 x3 x4 x5 0 7 (by omega) (by omega) 896 0 128 rfl rfl rfl _ _ _ _ _ _ _ _ _ _
      (fun r l L h => pay8_apply x2 x3 x4 r l L h) (fun r l L h => pay10_apply x2 x3 x4 r l L h)
      (fun r c => bias_last x5 _ _ (i 1) r c) (ldk x0 0 _ _ 0 rfl) (ldk x0 1 _ _ 1 rfl) r l).trans
      (GY_emb (i 1).val x0 x1 x2 x3 x4 x5 896 0 _ r l _ _)
  refine List.forall_mem_cons.2 ⟨?_, ?_⟩
  · dsimp only
    refine forall_tile _ fun r l => ?_
    sl_unfold_words
    simp only [readAt_ld harg2, readAt_ld harg3, readAt_ld harg4, readAt_ld harg5, readAt_ld harg6, readAt_ld harg7, ld_row, ld_blk]
    refine (congrFun (?_ : _ = hi (att (scr (qsc (View.ld x1 (Rect.unit (s := S1x1024x512) ![0, 768, 256] S1x128x128.size inb_S1x1024x512_S1x128x128_0_768_256)))
        (qsc (View.ld x1 (Rect.unit (s := S1x1024x512) ![0, 768, 384] S1x128x128.size inb_S1x1024x512_S1x128x128_0_768_384)))
        (extractStridedSlice S384x128 ![768, 0] (k0_pay9 (F := Ideal) x3 x2 x4) slices_S1280x128_o768_0_S384x128)
        (b4 (bs (View.ld x5 (Rect.unit (s := S3x128x384) ![1, 0, 0] S1x128x384.size inb_S3x128x384_S1x128x384_1_0_0)))))
        (snk (View.ld x0 (Rect.unit (s := S8) ![4] S1.size inb_S8_S1_4) (Shape.Idx.first (by decide))) (View.ld x0 (Rect.unit (s := S8) ![5] S1.size inb_S8_S1_5) (Shape.Idx.first (by decide))) (View.ld x0 (Rect.unit (s := S8) ![6] S1.size inb_S8_S1_6) (Shape.Idx.first (by decide))) (View.ld x0 (Rect.unit (s := S8) ![7] S1.size inb_S8_S1_7) (Shape.Idx.first (by decide))))
        (extractStridedSlice S384x128 ![768, 0] (k0_pay11 (F := Ideal) x3 x2 x4) slices_S1280x128_o768_0_S384x128))) _).trans ?_
    · rfl
    exact (piece_hi (i 1).val x0 x1 x2 x3 x4 x5 1 6 (by omega) (by omega) 768 256 384 rfl rfl rfl _ _ _ _ _ _ _ _ _ _
      (fun r l L h => pay9_apply x2 x3 x4 r l L h) (fun r l L h => pay11_apply x2 x3 x4 r l L h)
      (fun r c => bias_mid x5 _ (i 1).val 6 (by omega) (by omega) r c) (ldk x0 6 _ _ 6 rfl) (ldk x0 7 _ _ 7 rfl) r l).trans
      (GY_emb (i 1).val x0 x1 x2 x3 x4 x5 768 384 _ r l _ _)
  refine List.forall_mem_cons.2 ⟨?_, ?_⟩
  · dsimp only
    refine forall_tile _ fun r l => ?_
    sl_unfold_words
    simp only [readAt_ld harg2, readAt_ld harg3, readAt_ld harg4, readAt_ld harg5, readAt_ld harg6, readAt_ld harg7, ld_row, ld_blk]
    refine (congrFun (?_ : _ = lo (att (scr (qsc (View.ld x1 (Rect.unit (s := S1x1024x512) ![0, 768, 256] S1x128x128.size inb_S1x1024x512_S1x128x128_0_768_256)))
        (qsc (View.ld x1 (Rect.unit (s := S1x1024x512) ![0, 768, 384] S1x128x128.size inb_S1x1024x512_S1x128x128_0_768_384)))
        (extractStridedSlice S384x128 ![768, 0] (k0_pay9 (F := Ideal) x3 x2 x4) slices_S1280x128_o768_0_S384x128)
        (b4 (bs (View.ld x5 (Rect.unit (s := S3x128x384) ![1, 0, 0] S1x128x384.size inb_S3x128x384_S1x128x384_1_0_0)))))
        (snk (View.ld x0 (Rect.unit (s := S8) ![4] S1.size inb_S8_S1_4) (Shape.Idx.first (by decide))) (View.ld x0 (Rect.unit (s := S8) ![5] S1.size inb_S8_S1_5) (Shape.Idx.first (by decide))) (View.ld x0 (Rect.unit (s := S8) ![6] S1.size inb_S8_S1_6) (Shape.Idx.first (by decide))) (View.ld x0 (Rect.unit (s := S8) ![7] S1.size inb_S8_S1_7) (Shape.Idx.first (by decide))))
        (extractStridedSlice S384x128 ![768, 0] (k0_pay11 (F := Ideal) x3 x2 x4) slices_S1280x128_o768_0_S384x128))) _).trans ?_
    · rfl
    exact (piece_lo (i 1).val x0 x1 x2 x3 x4 x5 1 6 (by omega) (by omega) 768 256 384 rfl rfl rfl _ _ _ _ _ _ _ _ _ _
      (fun r l L h => pay9_apply x2 x3 x4 r l L h) (fun r l L h => pay11_apply x2 x3 x4 r l L h)
      (fun r c => bias_mid x5 _ (i 1).val 6 (by omega) (by omega) r c) (ldk x0 4 _ _ 4 rfl) (ldk x0 5 _ _ 5 rfl) r l).trans
      (GY_emb (i 1).val x0 x1 x2 x3 x4 x5 768 256 _ r l _ _)
  refine List.forall_mem_cons.2 ⟨?_, ?_⟩
  · dsimp only
    refine forall_tile _ fun r l => ?_
    sl_unfold_words
    simp only [readAt_ld harg2, readAt_ld harg3, readAt_ld harg4, readAt_ld harg5, readAt_ld harg6, readAt_ld harg7, ld_row, ld_blk]
    refine (congrFun (?_ : _ = hi (att (scr (qsc (View.ld x1 (Rect.unit (s := S1x1024x512) ![0, 768, 0] S1x128x128.size inb_S1x1024x512_S1x128x128_0_768_0)))
        (qsc (View.ld x1 (Rect.unit (s := S1x1024x512) ![0, 768, 128] S1x128x128.size inb_S1x1024x512_S1x128x128_0_768_128)))
        (extractStridedSlice S384x128 ![768, 0] (k0_pay8 (F := Ideal) x3 x2 x4) slices_S1280x128_o768_0_S384x128)
        (b4 (bs (View.ld x5 (Rect.unit (s := S3x128x384) ![1, 0, 0] S1x128x384.size inb_S3x128x384_S1x128x384_1_0_0)))))
        (snk (View.ld x0 (Rect.unit (s := S8) ![0] S1.size inb_S8_S1_0) (Shape.Idx.first (by decide))) (View.ld x0 (Rect.unit (s := S8) ![1] S1.size inb_S8_S1_1) (Shape.Idx.first (by decide))) (View.ld x0 (Rect.unit (s := S8) ![2] S1.size inb_S8_S1_2) (Shape.Idx.first (by decide))) (View.ld x0 (Rect.unit (s := S8) ![3] S1.size inb_S8_S1_3) (Shape.Idx.first (by decide))))
        (extractStridedSlice S384x128 ![768, 0] (k0_pay10 (F := Ideal) x3 x2 x4) slices_S1280x128_o768_0_S384x128))) _).trans ?_
    · rfl
    exact (piece_hi (i 1).val x0 x1 x2 x3 x4 x5 0 6 (by omega) (by omega) 768 0 128 rfl rfl rfl _ _ _ _ _ _ _ _ _ _
      (fun r l L h => pay8_apply x2 x3 x4 r l L h) (fun r l L h => pay10_apply x2 x3 x4 r l L h)
      (fun r c => bias_mid x5 _ (i 1).val 6 (by omega) (by omega) r c) (ldk x0 2 _ _ 2 rfl) (ldk x0 3 _ _ 3 rfl) r l).trans
      (GY_emb (i 1).val x0 x1 x2 x3 x4 x5 768 128 _ r l _ _)
  refine List.forall_mem_cons.2 ⟨?_, ?_⟩
  · dsimp only
    refine forall_tile _ fun r l => ?_
    sl_unfold_words
    simp only [readAt_ld harg2, readAt_ld harg3, readAt_ld harg4, readAt_ld harg5, readAt_ld harg6, readAt_ld harg7, ld_row, ld_blk]
    refine (congrFun (?_ : _ = lo (att (scr (qsc (View.ld x1 (Rect.unit (s := S1x1024x512) ![0, 768, 0] S1x128x128.size inb_S1x1024x512_S1x128x128_0_768_0)))
        (qsc (View.ld x1 (Rect.unit (s := S1x1024x512) ![0, 768, 128] S1x128x128.size inb_S1x1024x512_S1x128x128_0_768_128)))
        (extractStridedSlice S384x128 ![768, 0] (k0_pay8 (F := Ideal) x3 x2 x4) slices_S1280x128_o768_0_S384x128)
        (b4 (bs (View.ld x5 (Rect.unit (s := S3x128x384) ![1, 0, 0] S1x128x384.size inb_S3x128x384_S1x128x384_1_0_0)))))
        (snk (View.ld x0 (Rect.unit (s := S8) ![0] S1.size inb_S8_S1_0) (Shape.Idx.first (by decide))) (View.ld x0 (Rect.unit (s := S8) ![1] S1.size inb_S8_S1_1) (Shape.Idx.first (by decide))) (View.ld x0 (Rect.unit (s := S8) ![2] S1.size inb_S8_S1_2) (Shape.Idx.first (by decide))) (View.ld x0 (Rect.unit (s := S8) ![3] S1.size inb_S8_S1_3) (Shape.Idx.first (by decide))))
        (extractStridedSlice S384x128 ![768, 0] (k0_pay10 (F := Ideal) x3 x2 x4) slices_S1280x128_o768_0_S384x128))) _).trans ?_
    · rfl
    exact (piece_lo (i 1).val x0 x1 x2 x3 x4 x5 0 6 (by omega) (by omega) 768 0 128 rfl rfl rfl _ _ _ _ _ _ _ _ _ _
      (fun r l L h => pay8_apply x2 x3 x4 r l L h) (fun r l L h => pay10_apply x2 x3 x4 r l L h)
      (fun r c => bias_mid x5 _ (i 1).val 6 (by omega) (by omega) r c) (ldk x0 0 _ _ 0 rfl) (ldk x0 1 _ _ 1 rfl) r l).trans
      (GY_emb (i 1).val x0 x1 x2 x3 x4 x5 768 0 _ r l _ _)
  refine List.forall_mem_cons.2 ⟨?_, ?_⟩
  · dsimp only
    refine forall_tile _ fun r l => ?_
    sl_unfold_words
    simp only [readAt_ld harg2, readAt_ld harg3, readAt_ld harg4, readAt_ld harg5, readAt_ld harg6, readAt_ld harg7, ld_row, ld_blk]
    refine (congrFun (?_ : _ = hi (att (scr (qsc (View.ld x1 (Rect.unit (s := S1x1024x512) ![0, 640, 256] S1x128x128.size inb_S1x1024x512_S1x128x128_0_640_256)))
        (qsc (View.ld x1 (Rect.unit (s := S1x1024x512) ![0, 640, 384] S1x128x128.size inb_S1x1024x512_S1x128x128_0_640_384)))
        (extractStridedSlice S384x128 ![640, 0] (k0_pay9 (F := Ideal) x3 x2 x4) slices_S1280x128_o640_0_S384x128)
        (b4 (bs (View.ld x5 (Rect.unit (s := S3x128x384) ![1, 0, 0] S1x128x384.size inb_S3x128x384_S1x128x384_1_0_0)))))
        (snk (View.ld x0 (Rect.unit (s := S8) ![4] S1.size inb_S8_S1_4) (Shape.Idx.first (by decide))) (View.ld x0 (Rect.unit (s := S8) ![5] S1.size inb_S8_S1_5) (Shape.Idx.first (by decide))) (View.ld x0 (Rect.unit (s := S8) ![6] S1.size inb_S8_S1_6) (Shape.Idx.first (by decide))) (View.ld x0 (Rect.unit (s := S8) ![7] S1.size inb_S8_S1_7) (Shape.Idx.first (by decide))))
        (extractStridedSlice S384x128 ![640, 0] (k0_pay11 (F := Ideal) x3 x2 x4) slices_S1280x128_o640_0_S384x128))) _).trans ?_
    · rfl
    exact (piece_hi (i 1).val x0 x1 x2 x3 x4 x5 1 5 (by omega) (by omega) 640 256 384 rfl rfl rfl _ _ _ _ _ _ _ _ _ _
      (fun r l L h => pay9_apply x2 x3 x4 r l L h) (fun r l L h => pay11_apply x2 x3 x4 r l L h)
      (fun r c => bias_mid x5 _ (i 1).val 5 (by omega) (by omega) r c) (ldk x0 6 _ _ 6 rfl) (ldk x0 7 _ _ 7 rfl) r l).trans
      (GY_emb (i 1).val x0 x1 x2 x3 x4 x5 640 384 _ r l _ _)
  refine List.forall_mem_cons.2 ⟨?_, ?_⟩
  · dsimp only
    refine forall_tile _ fun r l => ?_
    sl_unfold_words
    simp only [readAt_ld harg2, readAt_ld harg3, readAt_ld harg4, readAt_ld harg5, readAt_ld harg6, readAt_ld harg7, ld_row, ld_blk]
    refine (congrFun (?_ : _ = lo (att (scr (qsc (View.ld x1 (Rect.unit (s := S1x1024x512) ![0, 640, 256] S1x128x128.size inb_S1x1024x512_S1x128x128_0_640_256)))
        (qsc (View.ld x1 (Rect.unit (s := S1x1024x512) ![0, 640, 384] S1x128x128.size inb_S1x1024x512_S1x128x128_0_640_384)))
        (extractStridedSlice S384x128 ![640, 0] (k0_pay9 (F := Ideal) x3 x2 x4) slices_S1280x128_o640_0_S384x128)
        (b4 (bs (View.ld x5 (Rect.unit (s := S3x128x384) ![1, 0, 0] S1x128x384.size inb_S3x128x384_S1x128x384_1_0_0)))))
        (snk (View.ld x0 (Rect.unit (s := S8) ![4] S1.size inb_S8_S1_4) (Shape.Idx.first (by decide))) (View.ld x0 (Rect.unit (s := S8) ![5] S1.size inb_S8_S1_5) (Shape.Idx.first (by decide))) (View.ld x0 (Rect.unit (s := S8) ![6] S1.size inb_S8_S1_6) (Shape.Idx.first (by decide))) (View.ld x0 (Rect.unit (s := S8) ![7] S1.size inb_S8_S1_7) (Shape.Idx.first (by decide))))
        (extractStridedSlice S384x128 ![640, 0] (k0_pay11 (F := Ideal) x3 x2 x4) slices_S1280x128_o640_0_S384x128))) _).trans ?_
    · rfl
    exact (piece_lo (i 1).val x0 x1 x2 x3 x4 x5 1 5 (by omega) (by omega) 640 256 384 rfl rfl rfl _ _ _ _ _ _ _ _ _ _
      (fun r l L h => pay9_apply x2 x3 x4 r l L h) (fun r l L h => pay11_apply x2 x3 x4 r l L h)
      (fun r c => bias_mid x5 _ (i 1).val 5 (by omega) (by omega) r c) (ldk x0 4 _ _ 4 rfl) (ldk x0 5 _ _ 5 rfl) r l).trans
      (GY_emb (i 1).val x0 x1 x2 x3 x4 x5 640 256 _ r l _ _)
  refine List.forall_mem_cons.2 ⟨?_, ?_⟩
  · dsimp only
    refine forall_tile _ fun r l => ?_
    sl_unfold_words
    simp only [readAt_ld harg2, readAt_ld harg3, readAt_ld harg4, readAt_ld harg5, readAt_ld harg6, readAt_ld harg7, ld_row, ld_blk]
    refine (congrFun (?_ : _ = hi (att (scr (qsc (View.ld x1 (Rect.unit (s := S1x1024x512) ![0, 640, 0] S1x128x128.size inb_S1x1024x512_S1x128x128_0_640_0)))
        (qsc (View.ld x1 (Rect.unit (s := S1x1024x512) ![0, 640, 128] S1x128x128.size inb_S1x1024x512_S1x128x128_0_640_128)))
        (extractStridedSlice S384x128 ![640, 0] (k0_pay8 (F := Ideal) x3 x2 x4) slices_S1280x128_o640_0_S384x128)
        (b4 (bs (View.ld x5 (Rect.unit (s := S3x128x384) ![1, 0, 0] S1x128x384.size inb_S3x128x384_S1x128x384_1_0_0)))))
        (snk (View.ld x0 (Rect.unit (s := S8) ![0] S1.size inb_S8_S1_0) (Shape.Idx.first (by decide))) (View.ld x0 (Rect.unit (s := S8) ![1] S1.size inb_S8_S1_1) (Shape.Idx.first (by decide))) (View.ld x0 (Rect.unit (s := S8) ![2] S1.size inb_S8_S1_2) (Shape.Idx.first (by decide))) (View.ld x0 (Rect.unit (s := S8) ![3] S1.size inb_S8_S1_3) (Shape.Idx.first (by decide))))
        (extractStridedSlice S384x128 ![640, 0] (k0_pay10 (F := Ideal) x3 x2 x4) slices_S1280x128_o640_0_S384x128))) _).trans ?_
    · rfl
    exact (piece_hi (i 1).val x0 x1 x2 x3 x4 x5 0 5 (by omega) (by omega) 640 0 128 rfl rfl rfl _ _ _ _ _ _ _ _ _ _
      (fun r l L h => pay8_apply x2 x3 x4 r l L h) (fun r l L h => pay10_apply x2 x3 x4 r l L h)
      (fun r c => bias_mid x5 _ (i 1).val 5 (by omega) (by omega) r c) (ldk x0 2 _ _ 2 rfl) (ldk x0 3 _ _ 3 rfl) r l).trans
      (GY_emb (i 1).val x0 x1 x2 x3 x4 x5 640 128 _ r l _ _)
  refine List.forall_mem_cons.2 ⟨?_, ?_⟩
  · dsimp only
    refine forall_tile _ fun r l => ?_
    sl_unfold_words
    simp only [readAt_ld harg2, readAt_ld harg3, readAt_ld harg4, readAt_ld harg5, readAt_ld harg6, readAt_ld harg7, ld_row, ld_blk]
    refine (congrFun (?_ : _ = lo (att (scr (qsc (View.ld x1 (Rect.unit (s := S1x1024x512) ![0, 640, 0] S1x128x128.size inb_S1x1024x512_S1x128x128_0_640_0)))
        (qsc (View.ld x1 (Rect.unit (s := S1x1024x512) ![0, 640, 128] S1x128x128.size inb_S1x1024x512_S1x128x128_0_640_128)))
        (extractStridedSlice S384x128 ![640, 0] (k0_pay8 (F := Ideal) x3 x2 x4) slices_S1280x128_o640_0_S384x128)
        (b4 (bs (View.ld x5 (Rect.unit (s := S3x128x384) ![1, 0, 0] S1x128x384.size inb_S3x128x384_S1x128x384_1_0_0)))))
        (snk (View.ld x0 (Rect.unit (s := S8) ![0] S1.size inb_S8_S1_0) (Shape.Idx.first (by decide))) (View.ld x0 (Rect.unit (s := S8) ![1] S1.size inb_S8_S1_1) (Shape.Idx.first (by decide))) (View.ld x0 (Rect.unit (s := S8) ![2] S1.size inb_S8_S1_2) (Shape.Idx.first (by decide))) (View.ld x0 (Rect.unit (s := S8) ![3] S1.size inb_S8_S1_3) (Shape.Idx.first (by decide))))
        (extractStridedSlice S384x128 ![640, 0] (k0_pay10 (F := Ideal) x3 x2 x4) slices_S1280x128_o640_0_S384x128))) _).trans ?_
    · rfl
    exact (piece_lo (i 1).val x0 x1 x2 x3 x4 x5 0 5 (by omega) (by omega) 640 0 128 rfl rfl rfl _ _ _ _ _ _ _ _ _ _
      (fun r l L h => pay8_apply x2 x3 x4 r l L h) (fun r l L h => pay10_apply x2 x3 x4 r l L h)
      (fun r c => bias_mid x5 _ (i 1).val 5 (by omega) (by omega) r c) (ldk x0 0 _ _ 0 rfl) (ldk x0 1 _ _ 1 rfl) r l).trans
      (GY_emb (i 1).val x0 x1 x2 x3 x4 x5 640 0 _ r l _ _)
  refine List.forall_mem_cons.2 ⟨?_, ?_⟩
  · dsimp only
    refine forall_tile _ fun r l => ?_
    sl_unfold_words
    simp only [readAt_ld harg2, readAt_ld harg3, readAt_ld harg4, readAt_ld harg5, readAt_ld harg6, readAt_ld harg7, ld_row, ld_blk]
    refine (congrFun (?_ : _ = hi (att (scr (qsc (View.ld x1 (Rect.unit (s := S1x1024x512) ![0, 512, 256] S1x128x128.size inb_S1x1024x512_S1x128x128_0_512_256)))
        (qsc (View.ld x1 (Rect.unit (s := S1x1024x512) ![0, 512, 384] S1x128x128.size inb_S1x1024x512_S1x128x128_0_512_384)))
        (extractStridedSlice S384x128 ![512, 0] (k0_pay9 (F := Ideal) x3 x2 x4) slices_S1280x128_o512_0_S384x128)
        (b4 (bs (View.ld x5 (Rect.unit (s := S3x128x384) ![1, 0, 0] S1x128x384.size inb_S3x128x384_S1x128x384_1_0_0)))))
        (snk (View.ld x0 (Rect.unit (s := S8) ![4] S1.size inb_S8_S1_4) (Shape.Idx.first (by decide))) (View.ld x0 (Rect.unit (s := S8) ![5] S1.size inb_S8_S1_5) (Shape.Idx.first (by decide))) (View.ld x0 (Rect.unit (s := S8) ![6] S1.size inb_S8_S1_6) (Shape.Idx.first (by decide))) (View.ld x0 (Rect.unit (s := S8) ![7] S1.size inb_S8_S1_7) (Shape.Idx.first (by decide))))
        (extractStridedSlice S384x128 ![512, 0] (k0_pay11 (F := Ideal) x3 x2 x4) slices_S1280x128_o512_0_S384x128))) _).trans ?_
    · rfl
    exact (piece_hi (i 1).val x0 x1 x2 x3 x4 x5 1 4 (by omega) (by omega) 512 256 384 rfl rfl rfl _ _ _ _ _ _ _ _ _ _
      (fun r l L h => pay9_apply x2 x3 x4 r l L h) (fun r l L h => pay11_apply x2 x3 x4 r l L h)
      (fun r c => bias_mid x5 _ (i 1).val 4 (by omega) (by omega) r c) (ldk x0 6 _ _ 6 rfl) (ldk x0 7 _ _ 7 rfl) r l).trans
      (GY_emb (i 1).val x0 x1 x2 x3 x4 x5 512 384 _ r l _ _)
  refine List.forall_mem_cons.2 ⟨?_, ?_⟩
  · dsimp only
    refine forall_tile _ fun r l => ?_
    sl_unfold_words
    simp only [readAt_ld harg2, readAt_ld harg3, readAt_ld harg4, readAt_ld harg5, readAt_ld harg6, readAt_ld harg7, ld_row, ld_blk]
    refine (congrFun (?_ : _ = lo (att (scr (qsc (View.ld x1 (Rect.unit (s := S1x1024x512) ![0, 512, 256] S1x128x128.size inb_S1x1024x512_S1x128x128_0_512_256)))
        (qsc (View.ld x1 (Rect.unit (s := S1x1024x512) ![0, 512, 384] S1x128x128.size inb_S1x1024x512_S1x128x128_0_512_384)))
        (extractStridedSlice S384x128 ![512, 0] (k0_pay9 (F := Ideal) x3 x2 x4) slices_S1280x128_o512_0_S384x128)
        (b4 (bs (View.ld x5 (Rect.unit (s := S3x128x384) ![1, 0, 0] S1x128x384.size inb_S3x128x384_S1x128x384_1_0_0)))))
        (snk (View.ld x0 (Rect.unit (s := S8) ![4] S1.size inb_S8_S1_4) (Shape.Idx.first (by decide))) (View.ld x0 (Rect.unit (s := S8) ![5] S1.size inb_S8_S1_5) (Shape.Idx.first (by decide))) (View.ld x0 (Rect.unit (s := S8) ![6] S1.size inb_S8_S1_6) (Shape.Idx.first (by decide))) (View.ld x0 (Rect.unit (s := S8) ![7] S1.size inb_S8_S1_7) (Shape.Idx.first (by decide))))
        (extractStridedSlice S384x128 ![512, 0] (k0_pay11 (F := Ideal) x3 x2 x4) slices_S1280x128_o512_0_S384x128))) _).trans ?_
    · rfl
    exact (piece_lo (i 1).val x0 x1 x2 x3 x4 x5 1 4 (by omega) (by omega) 512 256 384 rfl rfl rfl _ _ _ _ _ _ _ _ _ _
      (fun r l L h => pay9_apply x2 x3 x4 r l L h) (fun r l L h => pay11_apply x2 x3 x4 r l L h)
      (fun r c => bias_mid x5 _ (i 1).val 4 (by omega) (by omega) r c) (ldk x0 4 _ _ 4 rfl) (ldk x0 5 _ _ 5 rfl) r l).trans
      (GY_emb (i 1).val x0 x1 x2 x3 x4 x5 512 256 _ r l _ _)
  refine List.forall_mem_cons.2 ⟨?_, ?_⟩
  · dsimp only
    refine forall_tile _ fun r l => ?_
    sl_unfold_words
    simp only [readAt_ld harg2, readAt_ld harg3, readAt_ld harg4, readAt_ld harg5, readAt_ld harg6, readAt_ld harg7, ld_row, ld_blk]
    refine (congrFun (?_ : _ = hi (att (scr (qsc (View.ld x1 (Rect.unit (s := S1x1024x512) ![0, 512, 0] S1x128x128.size inb_S1x1024x512_S1x128x128_0_512_0)))
        (qsc (View.ld x1 (Rect.unit (s := S1x1024x512) ![0, 512, 128] S1x128x128.size inb_S1x1024x512_S1x128x128_0_512_128)))
        (extractStridedSlice S384x128 ![512, 0] (k0_pay8 (F := Ideal) x3 x2 x4) slices_S1280x128_o512_0_S384x128)
        (b4 (bs (View.ld x5 (Rect.unit (s := S3x128x384) ![1, 0, 0] S1x128x384.size inb_S3x128x384_S1x128x384_1_0_0)))))
        (snk (View.ld x0 (Rect.unit (s := S8) ![0] S1.size inb_S8_S1_0) (Shape.Idx.first (by decide))) (View.ld x0 (Rect.unit (s := S8) ![1] S1.size inb_S8_S1_1) (Shape.Idx.first (by decide))) (View.ld x0 (Rect.unit (s := S8) ![2] S1.size inb_S8_S1_2) (Shape.Idx.first (by decide))) (View.ld x0 (Rect.unit (s := S8) ![3] S1.size inb_S8_S1_3) (Shape.Idx.first (by decide))))
        (extractStridedSlice S384x128 ![512, 0] (k0_pay10 (F := Ideal) x3 x2 x4) slices_S1280x128_o512_0_S384x128))) _).trans ?_
    · rfl
    exact (piece_hi (i 1).val x0 x1 x2 x3 x4 x5 0 4 (by omega) (by omega) 512 0 128 rfl rfl rfl _ _ _ _ _ _ _ _ _ _
      (fun r l L h => pay8_apply x2 x3 x4 r l L h) (fun r l L h => pay10_apply x2 x3 x4 r l L h)
      (fun r c => bias_mid x5 _ (i 1).val 4 (by omega) (by omega) r c) (ldk x0 2 _ _ 2 rfl) (ldk x0 3 _ _ 3 rfl) r l).trans
      (GY_emb (i 1).val x0 x1 x2 x3 x4 x5 512 128 _ r l _ _)
  refine List.forall_mem_cons.2 ⟨?_, ?_⟩
  · dsimp only
    refine forall_tile _ fun r l => ?_
    sl_unfold_words
    simp only [readAt_ld harg2, readAt_ld harg3, readAt_ld harg4, readAt_ld harg5, readAt_ld harg6, readAt_ld harg7, ld_row, ld_blk]
    refine (congrFun (?_ : _ = lo (att (scr (qsc (View.ld x1 (Rect.unit (s := S1x1024x512) ![0, 512, 0] S1x128x128.size inb_S1x1024x512_S1x128x128_0_512_0)))
        (qsc (View.ld x1 (Rect.unit (s := S1x1024x512) ![0, 512, 128] S1x128x128.size inb_S1x1024x512_S1x128x128_0_512_128)))
        (extractStridedSlice S384x128 ![512, 0] (k0_pay8 (F := Ideal) x3 x2 x4) slices_S1280x128_o512_0_S384x128)
        (b4 (bs (View.ld x5 (Rect.unit (s := S3x128x384) ![1, 0, 0] S1x128x384.size inb_S3x128x384_S1x128x384_1_0_0)))))
        (snk (View.ld x0 (Rect.unit (s := S8) ![0] S1.size inb_S8_S1_0) (Shape.Idx.first (by decide))) (View.ld x0 (Rect.unit (s := S8) ![1] S1.size inb_S8_S1_1) (Shape.Idx.first (by decide))) (View.ld x0 (Rect.unit (s := S8) ![2] S1.size inb_S8_S1_2) (Shape.Idx.first (by decide))) (View.ld x0 (Rect.unit (s := S8) ![3] S1.size inb_S8_S1_3) (Shape.Idx.first (by decide))))
        (extractStridedSlice S384x128 ![512, 0] (k0_pay10 (F := Ideal) x3 x2 x4) slices_S1280x128_o512_0_S384x128))) _).trans ?_
    · rfl
    exact (piece_lo (i 1).val x0 x1 x2 x3 x4 x5 0 4 (by omega) (by omega) 512 0 128 rfl rfl rfl _ _ _ _ _ _ _ _ _ _
      (fun r l L h => pay8_apply x2 x3 x4 r l L h) (fun r l L h => pay10_apply x2 x3 x4 r l L h)
      (fun r c => bias_mid x5 _ (i 1).val 4 (by omega) (by omega) r c) (ldk x0 0 _ _ 0 rfl) (ldk x0 1 _ _ 1 rfl) r l).trans
      (GY_emb (i 1).val x0 x1 x2 x3 x4 x5 512 0 _ r l _ _)
  refine List.forall_mem_cons.2 ⟨?_, ?_⟩
  · dsimp only
    refine forall_tile _ fun r l => ?_
    sl_unfold_words
    simp only [readAt_ld harg2, readAt_ld harg3, readAt_ld harg4, readAt_ld harg5, readAt_ld harg6, readAt_ld harg7, ld_row, ld_blk]
    refine (congrFun (?_ : _ = hi (att (scr (qsc (View.ld x1 (Rect.unit (s := S1x1024x512) ![0, 384, 256] S1x128x128.size inb_S1x1024x512_S1x128x128_0_384_256)))
        (qsc (View.ld x1 (Rect.unit (s := S1x1024x512) ![0, 384, 384] S1x128x128.size inb_S1x1024x512_S1x128x128_0_384_384)))
        (extractStridedSlice S384x128 ![384, 0] (k0_pay9 (F := Ideal) x3 x2 x4) slices_S1280x128_o384_0_S384x128)
        (b4 (bs (View.ld x5 (Rect.unit (s := S3x128x384) ![1, 0, 0] S1x128x384.size inb_S3x128x384_S1x128x384_1_0_0)))))
        (snk (View.ld x0 (Rect.unit (s := S8) ![4] S1.size inb_S8_S1_4) (Shape.Idx.first (by decide))) (View.ld x0 (Rect.unit (s := S8) ![5] S1.size inb_S8_S1_5) (Shape.Idx.first (by decide))) (View.ld x0 (Rect.unit (s := S8) ![6] S1.size inb_S8_S1_6) (Shape.Idx.first (by decide))) (View.ld x0 (Rect.unit (s := S8) ![7] S1.size inb_S8_S1_7) (Shape.Idx.first (by decide))))
        (extractStridedSlice S384x128 ![384, 0] (k0_pay11 (F := Ideal) x3 x2 x4) slices_S1280x128_o384_0_S384x128))) _).trans ?_
    · rfl
    exact (piece_hi (i 1).val x0 x1 x2 x3 x4 x5 1 3 (by omega) (by omega) 384 256 384 rfl rfl rfl _ _ _ _ _ _ _ _ _ _
      (fun r l L h => pay9_apply x2 x3 x4 r l L h) (fun r l L h => pay11_apply x2 x3 x4 r l L h)
      (fun r c => bias_mid x5 _ (i 1).val 3 (by omega) (by omega) r c) (ldk x0 6 _ _ 6 rfl) (ldk x0 7 _ _ 7 rfl) r l).trans
      (GY_emb (i 1).val x0 x1 x2 x3 x4 x5 384 384 _ r l _ _)
  refine List.forall_mem_cons.2 ⟨?_, ?_⟩
  · dsimp only
    refine forall_tile _ fun r l => ?_
    sl_unfold_words
    simp only [readAt_ld harg2, readAt_ld harg3, readAt_ld harg4, readAt_ld harg5, readAt_ld harg6, readAt_ld harg7, ld_row, ld_blk]
    refine (congrFun (?_ : _ = lo (att (scr (qsc (View.ld x1 (Rect.unit (s := S1x1024x512) ![0, 384, 256] S1x128x128.size inb_S1x1024x512_S1x128x128_0_384_256)))
        (qsc (View.ld x1 (Rect.unit (s := S1x1024x512) ![0, 384, 384] S1x128x128.size inb_S1x1024x512_S1x128x128_0_384_384)))
        (extractStridedSlice S384x128 ![384, 0] (k0_pay9 (F := Ideal) x3 x2 x4) slices_S1280x128_o384_0_S384x128)
        (b4 (bs (View.ld x5 (Rect.unit (s := S3x128x384) ![1, 0, 0] S1x128x384.size inb_S3x128x384_S1x128x384_1_0_0)))))
        (snk (View.ld x0 (Rect.unit (s := S8) ![4] S1.size inb_S8_S1_4) (Shape.Idx.first (by decide))) (View.ld x0 (Rect.unit (s := S8) ![5] S1.size inb_S8_S1_5) (Shape.Idx.first (by decide))) (View.ld x0 (Rect.unit (s := S8) ![6] S1.size inb_S8_S1_6) (Shape.Idx.first (by decide))) (View.ld x0 (Rect.unit (s := S8) ![7] S1.size inb_S8_S1_7) (Shape.Idx.first (by decide))))
        (extractStridedSlice S384x128 ![384, 0] (k0_pay11 (F := Ideal) x3 x2 x4) slices_S1280x128_o384_0_S384x128))) _).trans ?_
    · rfl
    exact (piece_lo (i 1).val x0 x1 x2 x3 x4 x5 1 3 (by omega) (by omega) 384 256 384 rfl rfl rfl _ _ _ _ _ _ _ _ _ _
      (fun r l L h => pay9_apply x2 x3 x4 r l L h) (fun r l L h => pay11_apply x2 x3 x4 r l L h)
      (fun r c => bias_mid x5 _ (i 1).val 3 (by omega) (by omega) r c) (ldk x0 4 _ _ 4 rfl) (ldk x0 5 _ _ 5 rfl) r l).trans
      (GY_emb (i 1).val x0 x1 x2 x3 x4 x5 384 256 _ r l _ _)
  refine List.forall_mem_cons.2 ⟨?_, ?_⟩
  · dsimp only
    refine forall_tile _ fun r l => ?_
    sl_unfold_words
    simp only [readAt_ld harg2, readAt_ld harg3, readAt_ld harg4, readAt_ld harg5, readAt_ld harg6, readAt_ld harg7, ld_row, ld_blk]
    refine (congrFun (?_ : _ = hi (att (scr (qsc (View.ld x1 (Rect.unit (s := S1x1024x512) ![0, 384, 0] S1x128x128.size inb_S1x1024x512_S1x128x128_0_384_0)))
        (qsc (View.ld x1 (Rect.unit (s := S1x1024x512) ![0, 384, 128] S1x128x128.size inb_S1x1024x512_S1x128x128_0_384_128)))
        (extractStridedSlice S384x128 ![384, 0] (k0_pay8 (F := Ideal) x3 x2 x4) slices_S1280x128_o384_0_S384x128)
        (b4 (bs (View.ld x5 (Rect.unit (s := S3x128x384) ![1, 0, 0] S1x128x384.size inb_S3x128x384_S1x128x384_1_0_0)))))
        (snk (View.ld x0 (Rect.unit (s := S8) ![0] S1.size inb_S8_S1_0) (Shape.Idx.first (by decide))) (View.ld x0 (Rect.unit (s := S8) ![1] S1.size inb_S8_S1_1) (Shape.Idx.first (by decide))) (View.ld x0 (Rect.unit (s := S8) ![2] S1.size inb_S8_S1_2) (Shape.Idx.first (by decide))) (View.ld x0 (Rect.unit (s := S8) ![3] S1.size inb_S8_S1_3) (Shape.Idx.first (by decide))))
        (extractStridedSlice S384x128 ![384, 0] (k0_pay10 (F := Ideal) x3 x2 x4) slices_S1280x128_o384_0_S384x128))) _).trans ?_
    · rfl
    exact (piece_hi (i 1).val x0 x1 x2 x3 x4 x5 0 3 (by omega) (by omega) 384 0 128 rfl rfl rfl _ _ _ _ _ _ _ _ _ _
      (fun r l L h => pay8_apply x2 x3 x4 r l L h) (fun r l L h => pay10_apply x2 x3 x4 r l L h)
      (fun r c => bias_mid x5 _ (i 1).val 3 (by omega) (by omega) r c) (ldk x0 2 _ _ 2 rfl) (ldk x0 3 _ _ 3 rfl) r l).trans
      (GY_emb (i 1).val x0 x1 x2 x3 x4 x5 384 128 _ r l _ _)
  refine List.forall_mem_cons.2 ⟨?_, ?_⟩
  · dsimp only
    refine forall_tile _ fun r l => ?_
    sl_unfold_words
    simp only [readAt_ld harg2, readAt_ld harg3, readAt_ld harg4, readAt_ld harg5, readAt_ld harg6, readAt_ld harg7, ld_row, ld_blk]
    refine (congrFun (?_ : _ = lo (att (scr (qsc (View.ld x1 (Rect.unit (s := S1x1024x512) ![0, 384, 0] S1x128x128.size inb_S1x1024x512_S1x128x128_0_384_0)))
        (qsc (View.ld x1 (Rect.unit (s := S1x1024x512) ![0, 384, 128] S1x128x128.size inb_S1x1024x512_S1x128x128_0_384_128)))
        (extractStridedSlice S384x128 ![384, 0] (k0_pay8 (F := Ideal) x3 x2 x4) slices_S1280x128_o384_0_S384x128)
        (b4 (bs (View.ld x5 (Rect.unit (s := S3x128x384) ![1, 0, 0] S1x128x384.size inb_S3x128x384_S1x128x384_1_0_0)))))
        (snk (View.ld x0 (Rect.unit (s := S8) ![0] S1.size inb_S8_S1_0) (Shape.Idx.first (by decide))) (View.ld x0 (Rect.unit (s := S8) ![1] S1.size inb_S8_S1_1) (Shape.Idx.first (by decide))) (View.ld x0 (Rect.unit (s := S8) ![2] S1.size inb_S8_S1_2) (Shape.Idx.first (by decide))) (View.ld x0 (Rect.unit (s := S8) ![3] S1.size inb_S8_S1_3) (Shape.Idx.first (by decide))))
        (extractStridedSlice S384x128 ![384, 0] (k0_pay10 (F := Ideal) x3 x2 x4) slices_S1280x128_o384_0_S384x128))) _).trans ?_
    · rfl
    exact (piece_lo (i 1).val x0 x1 x2 x3 x4 x5 0 3 (by omega) (by omega) 384 0 128 rfl rfl rfl _ _ _ _ _ _ _ _ _ _
      (fun r l L h => pay8_apply x2 x3 x4 r l L h) (fun r l L h => pay10_apply x2 x3 x4 r l L h)
      (fun r c => bias_mid x5 _ (i 1).val 3 (by omega) (by omega) r c) (ldk x0 0 _ _ 0 rfl) (ldk x0 1 _ _ 1 rfl) r l).trans
      (GY_emb (i 1).val x0 x1 x2 x3 x4 x5 384 0 _ r l _ _)
  refine List.forall_mem_cons.2 ⟨?_, ?_⟩
  · dsimp only
    refine forall_tile _ fun r l => ?_
    sl_unfold_words
    simp only [readAt_ld harg2, readAt_ld harg3, readAt_ld harg4, readAt_ld harg5, readAt_ld harg6, readAt_ld harg7, ld_row, ld_blk]
    refine (congrFun (?_ : _ = hi (att (scr (qsc (View.ld x1 (Rect.unit (s := S1x1024x512) ![0, 256, 256] S1x128x128.size inb_S1x1024x512_S1x128x128_0_256_256)))
        (qsc (View.ld x1 (Rect.unit (s := S1x1024x512) ![0, 256, 384] S1x128x128.size inb_S1x1024x512_S1x128x128_0_256_384)))
        (extractStridedSlice S384x128 ![256, 0] (k0_pay9 (F := Ideal) x3 x2 x4) slices_S1280x128_o256_0_S384x128)
        (b4 (bs (View.ld x5 (Rect.unit (s := S3x128x384) ![1, 0, 0] S1x128x384.size inb_S3x128x384_S1x128x384_1_0_0)))))
        (snk (View.ld x0 (Rect.unit (s := S8) ![4] S1.size inb_S8_S1_4) (Shape.Idx.first (by decide))) (View.ld x0 (Rect.unit (s := S8) ![5] S1.size inb_S8_S1_5) (Shape.Idx.first (by decide))) (View.ld x0 (Rect.unit (s := S8) ![6] S1.size inb_S8_S1_6) (Shape.Idx.first (by decide))) (View.ld x0 (Rect.unit (s := S8) ![7] S1.size inb_S8_S1_7) (Shape.Idx.first (by decide))))
        (extractStridedSlice S384x128 ![256, 0] (k0_pay11 (F := Ideal) x3 x2 x4) slices_S1280x128_o256_0_S384x128))) _).trans ?_
    · rfl
    exact (piece_hi (i 1).val x0 x1 x2 x3 x4 x5 1 2 (by omega) (by omega) 256 256 384 rfl rfl rfl _ _ _ _ _ _ _ _ _ _
      (fun r l L h => pay9_apply x2 x3 x4 r l L h) (fun r l L h => pay11_apply x2 x3 x4 r l L h)
      (fun r c => bias_mid x5 _ (i 1).val 2 (by omega) (by omega) r c) (ldk x0 6 _ _ 6 rfl) (ldk x0 7 _ _ 7 rfl) r l).trans
      (GY_emb (i 1).val x0 x1 x2 x3 x4 x5 256 384 _ r l _ _)
  refine List.forall_mem_cons.2 ⟨?_, ?_⟩
  · dsimp only
    refine forall_tile _ fun r l => ?_
    sl_unfold_words
    simp only [readAt_ld harg2, readAt_ld harg3, readAt_ld harg4, readAt_ld harg5, readAt_ld harg6, readAt_ld harg7, ld_row, ld_blk]
    refine (congrFun (?_ : _ = lo (att (scr (qsc (View.ld x1 (Rect.unit (s := S1x1024x512) ![0, 256, 256] S1x128x128.size inb_S1x1024x512_S1x128x128_0_256_256)))
        (qsc (View.ld x1 (Rect.unit (s := S1x1024x512) ![0, 256, 384] S1x128x128.size inb_S1x1024x512_S1x128x128_0_256_384)))
        (extractStridedSlice S384x128 ![256, 0] (k0_pay9 (F := Ideal) x3 x2 x4) slices_S1280x128_o256_0_S384x128)
        (b4 (bs (View.ld x5 (Rect.unit (s := S3x128x384) ![1, 0, 0] S1x128x384.size inb_S3x128x384_S1x128x384_1_0_0)))))
        (snk (View.ld x0 (Rect.unit (s := S8) ![4] S1.size inb_S8_S1_4) (Shape.Idx.first (by decide))) (View.ld x0 (Rect.unit (s := S8) ![5] S1.size inb_S8_S1_5) (Shape.Idx.first (by decide))) (View.ld x0 (Rect.unit (s := S8) ![6] S1.size inb_S8_S1_6) (Shape.Idx.first (by decide))) (View.ld x0 (Rect.unit (s := S8) ![7] S1.size inb_S8_S1_7) (Shape.Idx.first (by decide))))
        (extractStridedSlice S384x128 ![256, 0] (k0_pay11 (F := Ideal) x3 x2 x4) slices_S1280x128_o256_0_S384x128))) _).trans ?_
    · rfl
    exact (piece_lo (i 1).val x0 x1 x2 x3 x4 x5 1 2 (by omega) (by omega) 256 256 384 rfl rfl rfl _ _ _ _ _ _ _ _ _ _
      (fun r l L h => pay9_apply x2 x3 x4 r l L h) (fun r l L h => pay11_apply x2 x3 x4 r l L h)
      (fun r c => bias_mid x5 _ (i 1).val 2 (by omega) (by omega) r c) (ldk x0 4 _ _ 4 rfl) (ldk x0 5 _ _ 5 rfl) r l).trans
      (GY_emb (i 1).val x0 x1 x2 x3 x4 x5 256 256 _ r l _ _)
  refine List.forall_mem_cons.2 ⟨?_, ?_⟩
  · dsimp only
    refine forall_tile _ fun r l => ?_
    sl_unfold_words
    simp only [readAt_ld harg2, readAt_ld harg3, readAt_ld harg4, readAt_ld harg5, readAt_ld harg6, readAt_ld harg7, ld_row, ld_blk]
    refine (congrFun (?_ : _ = hi (att (scr (qsc (View.ld x1 (Rect.unit (s := S1x1024x512) ![0, 256, 0] S1x128x128.size inb_S1x1024x512_S1x128x128_0_256_0)))
        (qsc (View.ld x1 (Rect.unit (s := S1x1024x512) ![0, 256, 128] S1x128x128.size inb_S1x1024x512_S1x128x128_0_256_128)))
        (extractStridedSlice S384x128 ![256, 0] (k0_pay8 (F := Ideal) x3 x2 x4) slices_S1280x128_o256_0_S384x128)
        (b4 (bs (View.ld x5 (Rect.unit (s := S3x128x384) ![1, 0, 0] S1x128x384.size inb_S3x128x384_S1x128x384_1_0_0)))))
        (snk (View.ld x0 (Rect.unit (s := S8) ![0] S1.size inb_S8_S1_0) (Shape.Idx.first (by decide))) (View.ld x0 (Rect.unit (s := S8) ![1] S1.size inb_S8_S1_1) (Shape.Idx.first (by decide))) (View.ld x0 (Rect.unit (s := S8) ![2] S1.size inb_S8_S1_2) (Shape.Idx.first (by decide))) (View.ld x0 (Rect.unit (s := S8) ![3] S1.size inb_S8_S1_3) (Shape.Idx.first (by decide))))
        (extractStridedSlice S384x128 ![256, 0] (k0_pay10 (F := Ideal) x3 x2 x4) slices_S1280x128_o256_0_S384x128))) _).trans ?_
    · rfl
    exact (piece_hi (i 1).val x0 x1 x2 x3 x4 x5 0 2 (by omega) (by omega) 256 0 128 rfl rfl rfl _ _ _ _ _ _ _ _ _ _
      (fun r l L h => pay8_apply x2 x3 x4 r l L h) (fun r l L h => pay10_apply x2 x3 x4 r l L h)
      (fun r c => bias_mid x5 _ (i 1).val 2 (by omega) (by omega) r c) (ldk x0 2 _ _ 2 rfl) (ldk x0 3 _ _ 3 rfl) r l).trans
      (GY_emb (i 1).val x0 x1 x2 x3 x4 x5 256 128 _ r l _ _)
  refine List.forall_mem_cons.2 ⟨?_, ?_⟩
  · dsimp only
    refine forall_tile _ fun r l => ?_
    sl_unfold_words
    simp only [readAt_ld harg2, readAt_ld harg3, readAt_ld harg4, readAt_ld harg5, readAt_ld harg6, readAt_ld harg7, ld_row, ld_blk]
    refine (congrFun (?_ : _ = lo (att (scr (qsc (View.ld x1 (Rect.unit (s := S1x1024x512) ![0, 256, 0] S1x128x128.size inb_S1x1024x512_S1x128x128_0_256_0)))
        (qsc (View.ld x1 (Rect.unit (s := S1x1024x512) ![0, 256, 128] S1x128x128.size inb_S1x1024x512_S1x128x128_0_256_128)))
        (extractStridedSlice S384x128 ![256, 0] (k0_pay8 (F := Ideal) x3 x2 x4) slices_S1280x128_o256_0_S384x128)
        (b4 (bs (View.ld x5 (Rect.unit (s := S3x128x384) ![1, 0, 0] S1x128x384.size inb_S3x128x384_S1x128x384_1_0_0)))))
        (snk (View.ld x0 (Rect.unit (s := S8) ![0] S1.size inb_S8_S1_0) (Shape.Idx.first (by decide))) (View.ld x0 (Rect.unit (s := S8) ![1] S1.size inb_S8_S1_1) (Shape.Idx.first (by decide))) (View.ld x0 (Rect.unit (s := S8) ![2] S1.size inb_S8_S1_2) (Shape.Idx.first (by decide))) (View.ld x0 (Rect.unit (s := S8) ![3] S1.size inb_S8_S1_3) (Shape.Idx.first (by decide))))
        (extractStridedSlice S384x128 ![256, 0] (k0_pay10 (F := Ideal) x3 x2 x4) slices_S1280x128_o256_0_S384x128))) _).trans ?_
    · rfl
    exact (piece_lo (i 1).val x0 x1 x2 x3 x4 x5 0 2 (by omega) (by omega) 256 0 128 rfl rfl rfl _ _ _ _ _ _ _ _ _ _
      (fun r l L h => pay8_apply x2 x3 x4 r l L h) (fun r l L h => pay10_apply x2 x3 x4 r l L h)
      (fun r c => bias_mid x5 _ (i 1).val 2 (by omega) (by omega) r c) (ldk x0 0 _ _ 0 rfl) (ldk x0 1 _ _ 1 rfl) r l).trans
      (GY_emb (i 1).val x0 x1 x2 x3 x4 x5 256 0 _ r l _ _)
  refine List.forall_mem_cons.2 ⟨?_, ?_⟩
  · dsimp only
    refine forall_tile _ fun r l => ?_
    sl_unfold_words
    simp only [readAt_ld harg2, readAt_ld harg3, readAt_ld harg4, readAt_ld harg5, readAt_ld harg6, readAt_ld harg7, ld_row, ld_blk]
    refine (congrFun (?_ : _ = hi (att (scr (qsc (View.ld x1 (Rect.unit (s := S1x1024x512) ![0, 128, 256] S1x128x128.size inb_S1x1024x512_S1x128x128_0_128_256)))
        (qsc (View.ld x1 (Rect.unit (s := S1x1024x512) ![0, 128, 384] S1x128x128.size inb_S1x1024x512_S1x128x128_0_128_384)))
        (extractStridedSlice S384x128 ![128, 0] (k0_pay9 (F := Ideal) x3 x2 x4) slices_S1280x128_o128_0_S384x128)
        (b4 (bs (View.ld x5 (Rect.unit (s := S3x128x384) ![1, 0, 0] S1x128x384.size inb_S3x128x384_S1x128x384_1_0_0)))))
        (snk (View.ld x0 (Rect.unit (s := S8) ![4] S1.size inb_S8_S1_4) (Shape.Idx.first (by decide))) (View.ld x0 (Rect.unit (s := S8) ![5] S1.size inb_S8_S1_5) (Shape.Idx.first (by decide))) (View.ld x0 (Rect.unit (s := S8) ![6] S1.size inb_S8_S1_6) (Shape.Idx.first (by decide))) (View.ld x0 (Rect.unit (s := S8) ![7] S1.size inb_S8_S1_7) (Shape.Idx.first (by decide))))
        (extractStridedSlice S384x128 ![128, 0] (k0_pay11 (F := Ideal) x3 x2 x4) slices_S1280x128_o128_0_S384x128))) _).trans ?_
    · rfl
    exact (piece_hi (i 1).val x0 x1 x2 x3 x4 x5 1 1 (by omega) (by omega) 128 256 384 rfl rfl rfl _ _ _ _ _ _ _ _ _ _
      (fun r l L h => pay9_apply x2 x3 x4 r l L h) (fun r l L h => pay11_apply x2 x3 x4 r l L h)
      (fun r c => bias_mid x5 _ (i 1).val 1 (by omega) (by omega) r c) (ldk x0 6 _ _ 6 rfl) (ldk x0 7 _ _ 7 rfl) r l).trans
      (GY_emb (i 1).val x0 x1 x2 x3 x4 x5 128 384 _ r l _ _)
  refine List.forall_mem_cons.2 ⟨?_, ?_⟩
  · dsimp only
    refine forall_tile _ fun r l => ?_
    sl_unfold_words
    simp only [readAt_ld harg2, readAt_ld harg3, readAt_ld harg4, readAt_ld harg5, readAt_ld harg6, readAt_ld harg7, ld_row, ld_blk]
    refine (congrFun (?_ : _ = lo (att (scr (qsc (View.ld x1 (Rect.unit (s := S1x1024x512) ![0, 128, 256] S1x128x128.size inb_S1x1024x512_S1x128x128_0_128_256)))
        (qsc (View.ld x1 (Rect.unit (s := S1x1024x512) ![0, 128, 384] S1x128x128.size inb_S1x1024x512_S1x128x128_0_128_384)))
        (extractStridedSlice S384x128 ![128, 0] (k0_pay9 (F := Ideal) x3 x2 x4) slices_S1280x128_o128_0_S384x128)
        (b4 (bs (View.ld x5 (Rect.unit (s := S3x128x384) ![1, 0, 0] S1x128x384.size inb_S3x128x384_S1x128x384_1_0_0)))))
        (snk (View.ld x0 (Rect.unit (s := S8) ![4] S1.size inb_S8_S1_4) (Shape.Idx.first (by decide))) (View.ld x0 (Rect.unit (s := S8) ![5] S1.size inb_S8_S1_5) (Shape.Idx.first (by decide))) (View.ld x0 (Rect.unit (s := S8) ![6] S1.size inb_S8_S1_6) (Shape.Idx.first (by decide))) (View.ld x0 (Rect.unit (s := S8) ![7] S1.size inb_S8_S1_7) (Shape.Idx.first (by decide))))
        (extractStridedSlice S384x128 ![128, 0] (k0_pay11 (F := Ideal) x3 x2 x4) slices_S1280x128_o128_0_S384x128))) _).trans ?_
    · rfl
    exact (piece_lo (i 1).val x0 x1 x2 x3 x4 x5 1 1 (by omega) (by omega) 128 256 384 rfl rfl rfl _ _ _ _ _ _ _ _ _ _
      (fun r l L h => pay9_apply x2 x3 x4 r l L h) (fun r l L h => pay11_apply x2 x3 x4 r l L h)
      (fun r c => bias_mid x5 _ (i 1).val 1 (by omega) (by omega) r c) (ldk x0 4 _ _ 4 rfl) (ldk x0 5 _ _ 5 rfl) r l).trans
      (GY_emb (i 1).val x0 x1 x2 x3 x4 x5 128 256 _ r l _ _)
  refine List.forall_mem_cons.2 ⟨?_, ?_⟩
  · dsimp only
    refine forall_tile _ fun r l => ?_
    sl_unfold_words
    simp only [readAt_ld harg2, readAt_ld harg3, readAt_ld harg4, readAt_ld harg5, readAt_ld harg6, readAt_ld harg7, ld_row, ld_blk]
    refine (congrFun (?_ : _ = hi (att (scr (qsc (View.ld x1 (Rect.unit (s := S1x1024x512) ![0, 128, 0] S1x128x128.size inb_S1x1024x512_S1x128x128_0_128_0)))
        (qsc (View.ld x1 (Rect.unit (s := S1x1024x512) ![0, 128, 128] S1x128x128.size inb_S1x1024x512_S1x128x128_0_128_128)))
        (extractStridedSlice S384x128 ![128, 0] (k0_pay8 (F := Ideal) x3 x2 x4) slices_S1280x128_o128_0_S384x128)
        (b4 (bs (View.ld x5 (Rect.unit (s := S3x128x384) ![1, 0, 0] S1x128x384.size inb_S3x128x384_S1x128x384_1_0_0)))))
        (snk (View.ld x0 (Rect.unit (s := S8) ![0] S1.size inb_S8_S1_0) (Shape.Idx.first (by decide))) (View.ld x0 (Rect.unit (s := S8) ![1] S1.size inb_S8_S1_1) (Shape.Idx.first (by decide))) (View.ld x0 (Rect.unit (s := S8) ![2] S1.size inb_S8_S1_2) (Shape.Idx.first (by decide))) (View.ld x0 (Rect.unit (s := S8) ![3] S1.size inb_S8_S1_3) (Shape.Idx.first (by decide))))
        (extractStridedSlice S384x128 ![128, 0] (k0_pay10 (F := Ideal) x3 x2 x4) slices_S1280x128_o128_0_S384x128))) _).trans ?_
    · rfl
    exact (piece_hi (i 1).val x0 x1 x2 x3 x4 x5 0 1 (by omega) (by omega) 128 0 128 rfl rfl rfl _ _ _ _ _ _ _ _ _ _
      (fun r l L h => pay8_apply x2 x3 x4 r l L h) (fun r l L h => pay10_apply x2 x3 x4 r l L h)
      (fun r c => bias_mid x5 _ (i 1).val 1 (by omega) (by omega) r c) (ldk x0 2 _ _ 2 rfl) (ldk x0 3 _ _ 3 rfl) r l).trans
      (GY_emb (i 1).val x0 x1 x2 x3 x4 x5 128 128 _ r l _ _)
  refine List.forall_mem_cons.2 ⟨?_, ?_⟩
  · dsimp only
    refine forall_tile _ fun r l => ?_
    sl_unfold_words
    simp only [readAt_ld harg2, readAt_ld harg3, readAt_ld harg4, readAt_ld harg5, readAt_ld harg6, readAt_ld harg7, ld_row, ld_blk]
    refine (congrFun (?_ : _ = lo (att (scr (qsc (View.ld x1 (Rect.unit (s := S1x1024x512) ![0, 128, 0] S1x128x128.size inb_S1x1024x512_S1x128x128_0_128_0)))
        (qsc (View.ld x1 (Rect.unit (s := S1x1024x512) ![0, 128, 128] S1x128x128.size inb_S1x1024x512_S1x128x128_0_128_128)))
        (extractStridedSlice S384x128 ![128, 0] (k0_pay8 (F := Ideal) x3 x2 x4) slices_S1280x128_o128_0_S384x128)
        (b4 (bs (View.ld x5 (Rect.unit (s := S3x128x384) ![1, 0, 0] S1x128x384.size inb_S3x128x384_S1x128x384_1_0_0)))))
        (snk (View.ld x0 (Rect.unit (s := S8) ![0] S1.size inb_S8_S1_0) (Shape.Idx.first (by decide))) (View.ld x0 (Rect.unit (s := S8) ![1] S1.size inb_S8_S1_1) (Shape.Idx.first (by decide))) (View.ld x0 (Rect.unit (s := S8) ![2] S1.size inb_S8_S1_2) (Shape.Idx.first (by decide))) (View.ld x0 (Rect.unit (s := S8) ![3] S1.size inb_S8_S1_3) (Shape.Idx.first (by decide))))
        (extractStridedSlice S384x128 ![128, 0] (k0_pay10 (F := Ideal) x3 x2 x4) slices_S1280x128_o128_0_S384x128))) _).trans ?_
    · rfl
    exact (piece_lo (i 1).val x0 x1 x2 x3 x4 x5 0 1 (by omega) (by omega) 128 0 128 rfl rfl rfl _ _ _ _ _ _ _ _ _ _
      (fun r l L h => pay8_apply x2 x3 x4 r l L h) (fun r l L h => pay10_apply x2 x3 x4 r l L h)
      (fun r c => bias_mid x5 _ (i 1).val 1 (by omega) (by omega) r c) (ldk x0 0 _ _ 0 rfl) (ldk x0 1 _ _ 1 rfl) r l).trans
      (GY_emb (i 1).val x0 x1 x2 x3 x4 x5 128 0 _ r l _ _)
  refine List.forall_mem_cons.2 ⟨?_, ?_⟩
  · dsimp only
    refine forall_tile _ fun r l => ?_
    sl_unfold_words
    simp only [readAt_ld harg2, readAt_ld harg3, readAt_ld harg4, readAt_ld harg5, readAt_ld harg6, readAt_ld harg7, ld_row, ld_blk]
    refine (congrFun (?_ : _ = hi (att (scr (qsc (View.ld x1 (Rect.unit (s := S1x1024x512) ![0, 0, 256] S1x128x128.size inb_S1x1024x512_S1x128x128_0_0_256)))
        (qsc (View.ld x1 (Rect.unit (s := S1x1024x512) ![0, 0, 384] S1x128x128.size inb_S1x1024x512_S1x128x128_0_0_384)))
        (extractStridedSlice S384x128 ![0, 0] (k0_pay9 (F := Ideal) x3 x2 x4) slices_S1280x128_o0_0_S384x128)
        (b4 (Scalar.select (Scalar.cmpi .eq (BitVec.ofNat 32 (i 1).val) 0#32) (bs (View.ld x5 (Rect.unit (s := S3x128x384) ![0, 0, 0] S1x128x384.size inb_S3x128x384_S1x128x384_0_0_0))) (bs (View.ld x5 (Rect.unit (s := S3x128x384) ![1, 0, 0] S1x128x384.size inb_S3x128x384_S1x128x384_1_0_0))))))
        (snk (View.ld x0 (Rect.unit (s := S8) ![4] S1.size inb_S8_S1_4) (Shape.Idx.first (by decide))) (View.ld x0 (Rect.unit (s := S8) ![5] S1.size inb_S8_S1_5) (Shape.Idx.first (by decide))) (View.ld x0 (Rect.unit (s := S8) ![6] S1.size inb_S8_S1_6) (Shape.Idx.first (by decide))) (View.ld x0 (Rect.unit (s := S8) ![7] S1.size inb_S8_S1_7) (Shape.Idx.first (by decide))))
        (extractStridedSlice S384x128 ![0, 0] (k0_pay11 (F := Ideal) x3 x2 x4) slices_S1280x128_o0_0_S384x128))) _).trans ?_
    · rfl
    exact (piece_hi (i 1).val x0 x1 x2 x3 x4 x5 1 0 (by omega) (by omega) 0 256 384 rfl rfl rfl _ _ _ _ _ _ _ _ _ _
      (fun r l L h => pay9_apply x2 x3 x4 r l L h) (fun r l L h => pay11_apply x2 x3 x4 r l L h)
      (fun r c => bias_first x5 _ _ (i 1) r c) (ldk x0 6 _ _ 6 rfl) (ldk x0 7 _ _ 7 rfl) r l).trans
      (GY_emb (i 1).val x0 x1 x2 x3 x4 x5 0 384 _ r l _ _)
  refine List.forall_mem_cons.2 ⟨?_, ?_⟩
  · dsimp only
    refine forall_tile _ fun r l => ?_
    sl_unfold_words
    simp only [readAt_ld harg2, readAt_ld harg3, readAt_ld harg4, readAt_ld harg5, readAt_ld harg6, readAt_ld harg7, ld_row, ld_blk]
    refine (congrFun (?_ : _ = lo (att (scr (qsc (View.ld x1 (Rect.unit (s := S1x1024x512) ![0, 0, 256] S1x128x128.size inb_S1x1024x512_S1x128x128_0_0_256)))
        (qsc (View.ld x1 (Rect.unit (s := S1x1024x512) ![0, 0, 384] S1x128x128.size inb_S1x1024x512_S1x128x128_0_0_384)))
        (extractStridedSlice S384x128 ![0, 0] (k0_pay9 (F := Ideal) x3 x2 x4) slices_S1280x128_o0_0_S384x128)
        (b4 (Scalar.select (Scalar.cmpi .eq (BitVec.ofNat 32 (i 1).val) 0#32) (bs (View.ld x5 (Rect.unit (s := S3x128x384) ![0, 0, 0] S1x128x384.size inb_S3x128x384_S1x128x384_0_0_0))) (bs (View.ld x5 (Rect.unit (s := S3x128x384) ![1, 0, 0] S1x128x384.size inb_S3x128x384_S1x128x384_1_0_0))))))
        (snk (View.ld x0 (Rect.unit (s := S8) ![4] S1.size inb_S8_S1_4) (Shape.Idx.first (by decide))) (View.ld x0 (Rect.unit (s := S8) ![5] S1.size inb_S8_S1_5) (Shape.Idx.first (by decide))) (View.ld x0 (Rect.unit (s := S8) ![6] S1.size inb_S8_S1_6) (Shape.Idx.first (by decide))) (View.ld x0 (Rect.unit (s := S8) ![7] S1.size inb_S8_S1_7) (Shape.Idx.first (by decide))))
        (extractStridedSlice S384x128 ![0, 0] (k0_pay11 (F := Ideal) x3 x2 x4) slices_S1280x128_o0_0_S384x128))) _).trans ?_
    · rfl
    exact (piece_lo (i 1).val x0 x1 x2 x3 x4 x5 1 0 (by omega) (by omega) 0 256 384 rfl rfl rfl _ _ _ _ _ _ _ _ _ _
      (fun r l L h => pay9_apply x2 x3 x4 r l L h) (fun r l L h => pay11_apply x2 x3 x4 r l L h)
      (fun r c => bias_first x5 _ _ (i 1) r c) (ldk x0 4 _ _ 4 rfl) (ldk x0 5 _ _ 5 rfl) r l).trans
      (GY_emb (i 1).val x0 x1 x2 x3 x4 x5 0 256 _ r l _ _)
  refine List.forall_mem_cons.2 ⟨?_, ?_⟩
  · dsimp only
    refine forall_tile _ fun r l => ?_
    sl_unfold_words
    simp only [readAt_ld harg2, readAt_ld harg3, readAt_ld harg4, readAt_ld harg5, readAt_ld harg6, readAt_ld harg7, ld_row, ld_blk]
    refine (congrFun (?_ : _ = hi (att (scr (qsc (View.ld x1 (Rect.unit (s := S1x1024x512) ![0, 0, 0] S1x128x128.size inb_S1x1024x512_S1x128x128_0_0_0)))
        (qsc (View.ld x1 (Rect.unit (s := S1x1024x512) ![0, 0, 128] S1x128x128.size inb_S1x1024x512_S1x128x128_0_0_128)))
        (extractStridedSlice S384x128 ![0, 0] (k0_pay8 (F := Ideal) x3 x2 x4) slices_S1280x128_o0_0_S384x128)
        (b4 (Scalar.select (Scalar.cmpi .eq (BitVec.ofNat 32 (i 1).val) 0#32) (bs (View.ld x5 (Rect.unit (s := S3x128x384) ![0, 0, 0] S1x128x384.size inb_S3x128x384_S1x128x384_0_0_0))) (bs (View.ld x5 (Rect.unit (s := S3x128x384) ![1, 0, 0] S1x128x384.size inb_S3x128x384_S1x128x384_1_0_0))))))
        (snk (View.ld x0 (Rect.unit (s := S8) ![0] S1.size inb_S8_S1_0) (Shape.Idx.first (by decide))) (View.ld x0 (Rect.unit (s := S8) ![1] S1.size inb_S8_S1_1) (Shape.Idx.first (by decide))) (View.ld x0 (Rect.unit (s := S8) ![2] S1.size inb_S8_S1_2) (Shape.Idx.first (by decide))) (View.ld x0 (Rect.unit (s := S8) ![3] S1.size inb_S8_S1_3) (Shape.Idx.first (by decide))))
        (extractStridedSlice S384x128 ![0, 0] (k0_pay10 (F := Ideal) x3 x2 x4) slices_S1280x128_o0_0_S384x128))) _).trans ?_
    · rfl
    exact (piece_hi (i 1).val x0 x1 x2 x3 x4 x5 0 0 (by omega) (by omega) 0 0 128 rfl rfl rfl _ _ _ _ _ _ _ _ _ _
      (fun r l L h => pay8_apply x2 x3 x4 r l L h) (fun r l L h => pay10_apply x2 x3 x4 r l L h)
      (fun r c => bias_first x5 _ _ (i 1) r c) (ldk x0 2 _ _ 2 rfl) (ldk x0 3 _ _ 3 rfl) r l).trans
      (GY_emb (i 1).val x0 x1 x2 x3 x4 x5 0 128 _ r l _ _)
  refine List.forall_mem_cons.2 ⟨?_, ?_⟩
  · dsimp only
    refine forall_tile _ fun r l => ?_
    sl_unfold_words
    simp only [readAt_ld harg2, readAt_ld harg3, readAt_ld harg4, readAt_ld harg5, readAt_ld harg6, readAt_ld harg7, ld_row, ld_blk]
    refine (congrFun (?_ : _ = lo (att (scr (qsc (View.ld x1 (Rect.unit (s := S1x1024x512) ![0, 0, 0] S1x128x128.size inb_S1x1024x512_S1x128x128_0_0_0)))
        (qsc (View.ld x1 (Rect.unit (s := S1x1024x512) ![0, 0, 128] S1x128x128.size inb_S1x1024x512_S1x128x128_0_0_128)))
        (extractStridedSlice S384x128 ![0, 0] (k0_pay8 (F := Ideal) x3 x2 x4) slices_S1280x128_o0_0_S384x128)
        (b4 (Scalar.select (Scalar.cmpi .eq (BitVec.ofNat 32 (i 1).val) 0#32) (bs (View.ld x5 (Rect.unit (s := S3x128x384) ![0, 0, 0] S1x128x384.size inb_S3x128x384_S1x128x384_0_0_0))) (bs (View.ld x5 (Rect.unit (s := S3x128x384) ![1, 0, 0] S1x128x384.size inb_S3x128x384_S1x128x384_1_0_0))))))
        (snk (View.ld x0 (Rect.unit (s := S8) ![0] S1.size inb_S8_S1_0) (Shape.Idx.first (by decide))) (View.ld x0 (Rect.unit (s := S8) ![1] S1.size inb_S8_S1_1) (Shape.Idx.first (by decide))) (View.ld x0 (Rect.unit (s := S8) ![2] S1.size inb_S8_S1_2) (Shape.Idx.first (by decide))) (View.ld x0 (Rect.unit (s := S8) ![3] S1.size inb_S8_S1_3) (Shape.Idx.first (by decide))))
        (extractStridedSlice S384x128 ![0, 0] (k0_pay10 (F := Ideal) x3 x2 x4) slices_S1280x128_o0_0_S384x128))) _).trans ?_
    · rfl
    exact (piece_lo (i 1).val x0 x1 x2 x3 x4 x5 0 0 (by omega) (by omega) 0 0 128 rfl rfl rfl _ _ _ _ _ _ _ _ _ _
      (fun r l L h => pay8_apply x2 x3 x4 r l L h) (fun r l L h => pay10_apply x2 x3 x4 r l L h)
      (fun r c => bias_first x5 _ _ (i 1) r c) (ldk x0 0 _ _ 0 rfl) (ldk x0 1 _ _ 1 rfl) r l).trans
      (GY_emb (i 1).val x0 x1 x2 x3 x4 x5 0 0 _ r l _ _)
  exact fun _ h => absurd h List.not_mem_nil

end Cert.Swa

end
-- ==== Proof.Swa.Mask.lean ====
module

public import proofs.«01_k».proof.Proof.Gen.ReferenceIdeal.Read
public import Idealize.ShloMosaic.Lib.Pointwise
public import Idealize.ShloMosaic.Lib.ValueIdxRank6

@[expose] public section

set_option maxRecDepth 16384

noncomputable section

namespace Cert.Swa

open Idealize.ShloMosaic Cert.ReferenceIdeal Cert.ReferenceIdeal.Gen Cert.ReferenceIdeal.Read

/-- Key `c` of the three blocks around block `n` is a position of the sequence and at most 128 away from query `q` of block `n`. -/
def ok (n q c : ℕ) : Prop := 128 ≤ n * 128 + c ∧ n * 128 + c < 4224 ∧ q ≤ c ∧ c ≤ q + 256

instance (n q c : ℕ) : Decidable (ok n q c) := by unfold ok; infer_instance

theorem toInt_ofInt_small (z : ℤ) (h1 : -100000 ≤ z) (h2 : z ≤ 100000) : (BitVec.ofInt 32 z).toInt = z :=
  BitVec.toInt_ofInt_eq_self (by decide) (by norm_num; omega) (by norm_num; omega)

theorem absi_small (z : ℤ) (h1 : -100000 ≤ z) (h2 : z ≤ 100000) : IntOp.absi (BitVec.ofInt 32 z) = BitVec.ofInt 32 |z| := by
  unfold IntOp.absi
  rw [BitVec.msb_eq_toInt, toInt_ofInt_small z h1 h2]
  by_cases h : z < 0
  · rw [if_pos (by simpa using h), abs_of_neg h, BitVec.ofInt_neg]
  · rw [if_neg (by simpa using h), abs_of_nonneg (by omega)]

theorem mask_words (n q c : ℕ) (hn : n < 32) (hq : q < 128) (hc : c < 384) :
    IntOp.andi (IntOp.andi
      (IntOp.cmpi .sle (IntOp.absi (IntOp.subi (IntOp.addi (IntOp.muli (IntOp.subi (BitVec.ofNat 32 n) 1#32) 128#32) (BitVec.ofNat 32 c))
        (IntOp.addi (IntOp.muli (BitVec.ofNat 32 n) 128#32) (BitVec.ofNat 32 q)))) 128#32)
      (IntOp.cmpi .sge (IntOp.addi (IntOp.muli (IntOp.subi (BitVec.ofNat 32 n) 1#32) 128#32) (BitVec.ofNat 32 c)) 0#32))
      (IntOp.cmpi .slt (IntOp.addi (IntOp.muli (IntOp.subi (BitVec.ofNat 32 n) 1#32) 128#32) (BitVec.ofNat 32 c)) 4096#32)
    = if ok n q c then 1#1 else 0#1 := by
  have eA : IntOp.addi (IntOp.muli (IntOp.subi (BitVec.ofNat 32 n) 1#32) 128#32) (BitVec.ofNat 32 c)
      = BitVec.ofInt 32 (((n : ℤ) - 1) * 128 + c) := by
    rw [BitVec.ofInt_add, BitVec.ofInt_mul, sub_eq_add_neg, BitVec.ofInt_add, BitVec.ofInt_neg]
    simp only [IntOp.addi, IntOp.muli, IntOp.subi, BitVec.sub_eq_add_neg]
    rfl
  have eB : IntOp.addi (IntOp.muli (BitVec.ofNat 32 n) 128#32) (BitVec.ofNat 32 q) = BitVec.ofInt 32 ((n : ℤ) * 128 + q) := by
    rw [BitVec.ofInt_add, BitVec.ofInt_mul]
    rfl
  rw [eA, eB]
  have eD : IntOp.subi (BitVec.ofInt 32 (((n : ℤ) - 1) * 128 + c)) (BitVec.ofInt 32 ((n : ℤ) * 128 + q)) = BitVec.ofInt 32 ((c : ℤ) - 128 - q) := by
    rw [show (c : ℤ) - 128 - q = (((n : ℤ) - 1) * 128 + c) + -((n : ℤ) * 128 + q) by ring]
    generalize ((n : ℤ) - 1) * 128 + c = y
    generalize (n : ℤ) * 128 + q = z
    rw [BitVec.ofInt_add, BitVec.ofInt_neg]
    simp only [IntOp.subi, BitVec.sub_eq_add_neg]
  rw [eD, absi_small _ (by omega) (by omega)]
  have hb : |(c : ℤ) - 128 - q| ≤ 128 ↔ q ≤ c ∧ c ≤ q + 256 := by rw [abs_le]; omega
  have hab : |(c : ℤ) - 128 - q| ≤ 1000 := by rw [abs_le]; omega
  have hab0 : 0 ≤ |(c : ℤ) - 128 - q| := abs_nonneg _
  simp only [IntOp.cmpi, IntOp.andi, BitVec.sle_eq_decide, BitVec.slt_eq_decide]
  rw [toInt_ofInt_small _ (by omega) (by omega), toInt_ofInt_small _ (by omega) (by omega)]
  rw [show (128#32).toInt = 128 from rfl, show (0#32).toInt = 0 from rfl, show (4096#32).toInt = 4096 from rfl]
  have e1 : decide (|(c : ℤ) - 128 - q| ≤ 128) = decide (q ≤ c ∧ c ≤ q + 256) := decide_eq_decide.2 hb
  have e2 : decide ((0 : ℤ) ≤ ((n : ℤ) - 1) * 128 + c) = decide (128 ≤ n * 128 + c) := decide_eq_decide.2 (by omega)
  have e3 : decide (((n : ℤ) - 1) * 128 + c < (4096 : ℤ)) = decide (n * 128 + c < 4224) := decide_eq_decide.2 (by omega)
  rw [e1, e2, e3]
  unfold ok
  by_cases h1 : q ≤ c ∧ c ≤ q + 256 <;> by_cases h2 : 128 ≤ n * 128 + c <;> by_cases h3 : n * 128 + c < 4224 <;> simp [h1, h2, h3]

theorem v50_apply (n : Fin 32) (q : Fin 128) (c : Fin 384) :
    val_main_v50 (F := Ideal) (ix3 n q c) = if ok n.val q.val c.val then 1#1 else 0#1 := by
  rw [← mask_words n.val q.val c.val n.isLt q.isLt c.isLt]
  simp only [val_main_v50_apply, val_main_v49_apply, val_main_v48_apply, val_main_v47_apply, val_main_c_6_apply, val_main_v46_apply, val_main_v45_apply,
    val_main_v44_apply, val_main_v43_apply, val_main_c_5_apply, val_main_v42_apply, val_main_v41_apply, val_main_c_4_apply, val_main_v40_apply,
    val_main_v39_apply, val_main_v38_apply, val_main_v37_apply, val_main_v36_apply, val_main_v35_apply, val_main_v34_apply, val_main_v33_apply,
    val_main_v32_apply, val_main_v31_apply, val_main_v30_apply, val_main_c_3_apply, val_main_v29_apply, val_main_v28_apply, val_main_c_2_apply,
    val_main_v27_apply, val_main_v26_apply, val_main_v25_apply, val_main_v24_apply, val_main_v23_apply, val_main_v22_apply, val_main_v21_apply,
    val_main_c_1_apply, val_main_v20_apply, val_main_v19_apply]
  rfl

end Cert.Swa

end
-- ==== Proof.Swa.Host.lean ====
module

public import proofs.«01_k».proof.Proof.Gen.KernelIdeal.Value
public import proofs.«01_k».proof.Proof.Swa.Mask

@[expose] public section

set_option maxRecDepth 16384

noncomputable section

namespace Cert.Swa

open Idealize.ShloMosaic Idealize.ShloMosaic.TcCoe Idealize.ShloMosaic.StableHlo Cert.KernelIdeal Cert.KernelIdeal.Gen

/-! ## What the region finds in its operands -/

/-- The two heads of keys (or values) in swapped order. -/
def hSwap (x : Vec Ideal S20x4096x128 .f32) : Vec Ideal S20x4096x128 .f32 :=
  concatenate S20x4096x128 2 [⟨S20x4096x64, extractStridedSlice S20x4096x64 ![0, 0, 64] x slices_S20x4096x128_S20x4096x64_0_0_64⟩,
    ⟨S20x4096x64, extractStridedSlice S20x4096x64 ![0, 0, 0] x slices_S20x4096x128_S20x4096x64_0_0_0⟩] concatenates_S20x4096x64_S20x4096x64_S20x4096x128_d2

/-- Keys and values packed side by side. -/
def hKV (k v : Vec Ideal S20x4096x128 .f32) : Vec Ideal S20x4096x512 .bf16 :=
  truncf (F := Ideal) (φ := .f32) .bf16 (concatenate S20x4096x512 2 [⟨S20x4096x128, k⟩, ⟨S20x4096x128, hSwap k⟩, ⟨S20x4096x128, v⟩, ⟨S20x4096x128, hSwap v⟩]
    concatenates_S20x4096x128_S20x4096x128_S20x4096x128_S20x4096x128_S20x4096x512_d2) bitsLt_bf16_f32

/-- The key offsets 0 … 383 as words. -/
def hC : IVec S1x384 32 := broadcastInDim S1x384 ![1] bcast_S384_S1x384_1 (iotaInDim S384 32 0)

/-- Where a key is at most 128 away. -/
def hBand : IVec S128x384 1 :=
  cmpi .sle (absi (subi (broadcastInDim S128x384 ![0, 1] bcast_S1x384_S128x384_0_1 (subi hC (broadcastInDim S1x384 ![] bcast_S_S1x384 (constantI S_ 32 128#32))))
    (broadcastInDim S128x384 ![0, 1] bcast_S128x1_S128x384_0_1 (broadcastInDim S128x1 ![0] bcast_S128_S128x1_0 (iotaInDim S128 32 0)))))
    (broadcastInDim S128x384 ![] bcast_S_S128x384 (constantI S_ 32 128#32))

/-- The first block's mask, and the last block's. -/
def hFirst : IVec S128x384 1 :=
  andi hBand (broadcastInDim S128x384 ![0, 1] bcast_S1x384_S128x384_0_1 (cmpi .sge hC (broadcastInDim S1x384 ![] bcast_S_S1x384 (constantI S_ 32 128#32))))
def hLast : IVec S128x384 1 :=
  andi hBand (broadcastInDim S128x384 ![0, 1] bcast_S1x384_S128x384_0_1 (cmpi .slt hC (broadcastInDim S1x384 ![] bcast_S_S1x384 (constantI S_ 32 256#32))))

/-- The three masks stacked. -/
def hMasks : IVec S3x128x384 1 :=
  concatenate S3x128x384 0 [⟨S1x128x384, broadcastInDim S1x128x384 ![1, 2] bcast_S128x384_S1x128x384_1_2 hFirst⟩,
    ⟨S1x128x384, broadcastInDim S1x128x384 ![1, 2] bcast_S128x384_S1x128x384_1_2 hBand⟩,
    ⟨S1x128x384, broadcastInDim S1x128x384 ![1, 2] bcast_S128x384_S1x128x384_1_2 hLast⟩] concatenates_S1x128x384_S1x128x384_S1x128x384_S3x128x384_d0

/-- The table of masked places: one where masked, zero elsewhere. -/
def hTab : Vec Ideal S3x128x384 .f32 :=
  subf (broadcastInDim S3x128x384 ![] bcast_S_S3x128x384 (constant (F := Ideal) S_ .f32 0x3F800000#32)) (uitofp .f32 hMasks)

section
variable (m : (ℓ : Loc nD τ sig) → Buf (Elt Ideal) ℓ) (c : Dev nD)

theorem pack_congr {a a' b b' k k' v v' : Vec Ideal S20x4096x128 .f32} (ha : a = a') (hb : b = b') (hk : k = k') (hv : v = v') :
    (truncf (F := Ideal) (φ := .f32) .bf16 (concatenate S20x4096x512 2 [⟨S20x4096x128, a⟩, ⟨S20x4096x128, b⟩, ⟨S20x4096x128, k⟩, ⟨S20x4096x128, v⟩]
      concatenates_S20x4096x128_S20x4096x128_S20x4096x128_S20x4096x128_S20x4096x512_d2) bitsLt_bf16_f32 : Vec Ideal S20x4096x512 .bf16)
    = truncf (F := Ideal) (φ := .f32) .bf16 (concatenate S20x4096x512 2 [⟨S20x4096x128, a'⟩, ⟨S20x4096x128, b'⟩, ⟨S20x4096x128, k'⟩, ⟨S20x4096x128, v'⟩]
      concatenates_S20x4096x128_S20x4096x128_S20x4096x128_S20x4096x128_S20x4096x512_d2) bitsLt_bf16_f32 := by
  rw [ha, hb, hk, hv]

theorem V_v7 : V m c main_v7 = hKV (m ((c.tc : Thread nD τ).loc main_arg1)) (m ((c.tc : Thread nD τ).loc main_arg2)) := by
  unfold_abbrev_sides
  after_results_simp
  refine pack_congr ?_ ?_ ?_ ?_
  · show HloOp.result _ _ (Proc.devRef .tc main_arg1) = _
    after_results_simp
  · show HloOp.result _ _ (Proc.devRef .tc main_v2) = _
    after_results_simp
    rfl
  · show HloOp.result _ _ (Proc.devRef .tc main_arg2) = _
    after_results_simp
  · show HloOp.result _ _ (Proc.devRef .tc main_v5) = _
    after_results_simp
    rfl

theorem V_v8 : V m c main_v8 = (truncf (F := Ideal) (φ := .f32) .bf16 (m ((c.tc : Thread nD τ).loc main_arg0) : Vec Ideal S20x4096x512 .f32) bitsLt_bf16_f32 : Vec Ideal S20x4096x512 .bf16) := by
  unfold_abbrev_sides
  after_results

theorem V_v35 : V m c main_v35 = hTab := by
  unfold_abbrev_sides
  after_results
  rfl

end

/-- A place of the table that is not masked. -/
def tabOk (s r c : ℕ) : Prop := r ≤ c ∧ c ≤ r + 256 ∧ (s = 0 → 128 ≤ c) ∧ (s = 2 → c < 256)

instance (s r c : ℕ) : Decidable (tabOk s r c) := by unfold tabOk; infer_instance

theorem band_word (r c : ℕ) (hr : r < 128) (hc : c < 384) :
    IntOp.cmpi .sle (IntOp.absi (IntOp.subi (IntOp.subi (BitVec.ofNat 32 c) 128#32) (BitVec.ofNat 32 r))) 128#32
      = if r ≤ c ∧ c ≤ r + 256 then 1#1 else 0#1 := by
  have eD : IntOp.subi (IntOp.subi (BitVec.ofNat 32 c) 128#32) (BitVec.ofNat 32 r) = BitVec.ofInt 32 ((c : ℤ) - 128 - r) := by
    rw [show (c : ℤ) - 128 - r = ((c : ℤ) + -128) + -(r : ℤ) by ring]
    rw [BitVec.ofInt_add, BitVec.ofInt_add, BitVec.ofInt_neg, BitVec.ofInt_neg]
    simp only [IntOp.subi, BitVec.sub_eq_add_neg]
    rfl
  rw [eD, absi_small _ (by omega) (by omega)]
  have hb : |(c : ℤ) - 128 - r| ≤ 128 ↔ r ≤ c ∧ c ≤ r + 256 := by rw [abs_le]; omega
  have hab : |(c : ℤ) - 128 - r| ≤ 1000 := by rw [abs_le]; omega
  have hab0 : 0 ≤ |(c : ℤ) - 128 - r| := abs_nonneg _
  have e : (BitVec.ofInt 32 |(c : ℤ) - 128 - r|).sle 128#32 = decide (r ≤ c ∧ c ≤ r + 256) := by
    rw [BitVec.sle, toInt_ofInt_small _ (by omega) (by omega)]
    simp only [decide_eq_decide]
    rw [← hb]; rfl
  simp only [IntOp.cmpi]
  rw [e]
  by_cases h : r ≤ c ∧ c ≤ r + 256 <;> simp [h]

theorem ge_word (c : Fin 384) : IntOp.cmpi .sge (BitVec.ofNat 32 c.val) 128#32 = if 128 ≤ c.val then 1#1 else 0#1 := by
  revert c; decide +kernel

theorem lt_word (c : Fin 384) : IntOp.cmpi .slt (BitVec.ofNat 32 c.val) 256#32 = if c.val < 256 then 1#1 else 0#1 := by
  revert c; decide +kernel

theorem and_word (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

theorem one_sub_word (p : Prop) [Decidable p] : (1 : Ideal .f32) - FloatOps.uitofp (F := Ideal) .f32 (if p then 1#1 else 0#1) = if p then 0 else 1 := by
  by_cases hp : p
  · simp only [hp, if_true]
    show (1 : EReal) - (((1#1 : BitVec 1).toNat : ℝ) : EReal) = 0
    norm_num
    rw [← EReal.coe_one, ← EReal.coe_sub]; norm_num
  · simp only [hp, if_false]
    show (1 : EReal) - (((0#1 : BitVec 1).toNat : ℝ) : EReal) = 1
    norm_num

theorem hTab_apply (s : Fin 3) (r : Fin 128) (c : Fin 384) : hTab (ix3 s r c) = if tabOk s.val r.val c.val then (0 : EReal) else 1 := by
  unfold hTab hMasks hFirst hLast hBand hC
  pointwise
  rw [band_word _ _ r.isLt c.isLt, ge_word, lt_word, and_word, and_word]
  have e : (if h : s.val < 1 then (if (r.val ≤ c.val ∧ c.val ≤ r.val + 256) ∧ 128 ≤ c.val then 1#1 else 0#1)
      else if h : s.val - 1 < 1 then (if r.val ≤ c.val ∧ c.val ≤ r.val + 256 then 1#1 else 0#1)
      else (if (r.val ≤ c.val ∧ c.val ≤ r.val + 256) ∧ c.val < 256 then 1#1 else 0#1) : BitVec 1)
      = if tabOk s.val r.val c.val then 1#1 else 0#1 := by
    have hs := s.isLt
    rcases (by omega : s.val = 0 ∨ s.val = 1 ∨ s.val = 2) with h | h | h <;> simp [h, tabOk, and_assoc]
  refine Eq.trans (congrArg (fun w => (1 : Ideal .f32) - FloatOps.uitofp (F := Ideal) .f32 w) ?_) (one_sub_word (tabOk s.val r.val c.val))
  exact e

/-- The packed row: keys, keys with heads swapped, values, values with heads swapped. -/
def packRow (k v : Fin 128 → EReal) (l : Fin 512) : EReal :=
  if l.val < 256 then k ⟨(if l.val < 128 then l.val else (l.val - 64) % 128), by split <;> omega⟩
  else v ⟨(if l.val < 384 then l.val - 256 else (l.val - 320) % 128), by split <;> omega⟩

theorem packRow_k (k v : Fin 128 → EReal) (l : Fin 512) (t : Fin 128) (h : l.val < 256)
    (ht : t.val = if l.val < 128 then l.val else (l.val - 64) % 128) : packRow k v l = k t := by
  unfold packRow
  rw [if_pos h]
  exact congrArg k (Fin.ext ht.symm)

theorem packRow_v (k v : Fin 128 → EReal) (l : Fin 512) (t : Fin 128) (h : ¬ l.val < 256)
    (ht : t.val = if l.val < 384 then l.val - 256 else (l.val - 320) % 128) : packRow k v l = v t := by
  unfold packRow
  rw [if_neg h]
  exact congrArg v (Fin.ext ht.symm)

theorem hKV_apply (k v : Vec Ideal S20x4096x128 .f32) (b : Fin 20) (r : Fin 4096) (l : Fin 512) :
    hKV k v (ix3 b r l) = packRow (fun t => k (ix3 b r t)) (fun t => v (ix3 b r t)) l := by
  unfold hKV hSwap
  pointwise
  have hl := l.isLt
  by_cases a : l.val < 128
  · rw [dif_pos a]
    exact (packRow_k (fun t => k (ix3 b r t)) (fun t => v (ix3 b r t)) l ⟨l.val, a⟩ (by omega) (by simp only; rw [if_pos a])).symm
  rw [dif_neg a]
  by_cases a1 : l.val - 128 < 128
  · rw [dif_pos a1]
    by_cases a2 : l.val - 128 < 64
    · rw [dif_pos a2]
      exact (packRow_k (fun t => k (ix3 b r t)) (fun t => v (ix3 b r t)) l ⟨64 + (l.val - 128), by omega⟩ (by omega) (by simp only; rw [if_neg a]; omega)).symm
    · rw [dif_neg a2]
      exact (packRow_k (fun t => k (ix3 b r t)) (fun t => v (ix3 b r t)) l ⟨l.val - 128 - 64, by omega⟩ (by omega) (by simp only; rw [if_neg a]; omega)).symm
  rw [dif_neg a1]
  by_cases a3 : l.val - 128 - 128 < 128
  · rw [dif_pos a3]
    exact (packRow_v (fun t => k (ix3 b r t)) (fun t => v (ix3 b r t)) l ⟨l.val - 128 - 128, a3⟩ (by omega) (by simp only; rw [if_pos (by omega)]; omega)).symm
  rw [dif_neg a3]
  by_cases a2 : l.val - 128 - 128 - 128 < 64
  · rw [dif_pos a2]
    exact (packRow_v (fun t => k (ix3 b r t)) (fun t => v (ix3 b r t)) l ⟨64 + (l.val - 128 - 128 - 128), by omega⟩ (by omega) (by simp only; rw [if_neg (by omega)]; omega)).symm
  · rw [dif_neg a2]
    exact (packRow_v (fun t => k (ix3 b r t)) (fun t => v (ix3 b r t)) l ⟨l.val - 128 - 128 - 128 - 64, by omega⟩ (by omega) (by simp only; rw [if_neg (by omega)]; omega)).symm

end Cert.Swa

end
-- ==== Proof.Swa.Blocks.lean ====
module

public import proofs.«01_k».proof.Proof.Swa.Pieces
public import proofs.«01_k».proof.Proof.Swa.Host

@[expose] public section

set_option maxRecDepth 16384

noncomputable section

namespace Cert.Swa

open Idealize.ShloMosaic Idealize.ShloMosaic.TcCoe Cert.KernelIdeal Cert.KernelIdeal.Gen Idealize.SL.Sem

/-! ## The blocks a grid point sees -/

theorem idx_facts : ∀ t : Fin cfg0.N,
    (grid0.coords t 1).val = t.val % 4
    ∧ (win0_0.index t (0 : Fin 1) = 0)
    ∧ (win0_1.index t (0 : Fin 3) = t.val / 4 ∧ win0_1.index t (1 : Fin 3) = t.val % 4 ∧ win0_1.index t (2 : Fin 3) = 0)
    ∧ (win0_2.index t (0 : Fin 3) = t.val / 4 ∧ win0_2.index t (1 : Fin 3) = t.val % 4 ∧ win0_2.index t (2 : Fin 3) = 0)
    ∧ (win0_3.index t (0 : Fin 3) = t.val / 4 ∧ win0_3.index t (1 : Fin 3) = 8 * (t.val % 4) - 1 ∧ win0_3.index t (2 : Fin 3) = 0)
    ∧ (win0_4.index t (0 : Fin 3) = t.val / 4 ∧ win0_4.index t (1 : Fin 3) = min (8 * (t.val % 4) + 8) 31 ∧ win0_4.index t (2 : Fin 3) = 0)
    ∧ (win0_5.index t (0 : Fin 3) = 0 ∧ win0_5.index t (1 : Fin 3) = 0 ∧ win0_5.index t (2 : Fin 3) = 0)
    ∧ (win0_6.index t (0 : Fin 3) = t.val / 4 ∧ win0_6.index t (1 : Fin 3) = t.val % 4 ∧ win0_6.index t (2 : Fin 3) = 0) :=
  (by decide +kernel : ∀ t : Fin grid0.N, _)

/-- The grid point of sequence `b` and tile `i`. -/
def pt (b : Fin 20) (i : Fin 4) : Fin cfg0.N := ⟨4 * b.val + i.val, by show _ < 80; omega⟩

section
variable (m : (ℓ : Loc nD τ sig) → Buf (Elt Ideal) ℓ) (c : Dev nD) (b : Fin 20) (i : Fin 4)

theorem pt_div : (pt b i).val / 4 = b.val := by show (4 * b.val + i.val) / 4 = _; omega
theorem pt_mod : (pt b i).val % 4 = i.val := by show (4 * b.val + i.val) % 4 = _; omega

theorem coord1 : (grid0.coords (pt b i) 1).val = i.val := (idx_facts (pt b i)).1.trans (pt_mod b i)

theorem emb6 (r : Fin 1024) (l : Fin 512) : ((cfg0.win 6).blk (pt b i)).view.emb (ix3 (0 : Fin 1) r l : S1x1024x512.Idx)
    = (ix3 b (⟨1024 * i.val + r.val, by omega⟩ : Fin 4096) l : S20x4096x512.Idx) := by
  obtain ⟨_, _, _, _, _, _, _, e0, e1, e2⟩ := idx_facts (pt b i)
  rw [pt_div, pt_mod] at *
  funext a; apply Fin.ext
  match a with
  | ⟨0, _⟩ => show win0_6.index (pt b i) (0 : Fin 3) * 1 + 1 * 0 = b.val; omega
  | ⟨1, _⟩ => show win0_6.index (pt b i) (1 : Fin 3) * 1024 + 1 * r.val = 1024 * i.val + r.val; omega
  | ⟨2, _⟩ => show win0_6.index (pt b i) (2 : Fin 3) * 512 + 1 * l.val = l.val; omega

theorem emb1 (r : Fin 1024) (l : Fin 512) : ((cfg0.win 1).blk (pt b i)).view.emb (ix3 (0 : Fin 1) r l : S1x1024x512.Idx)
    = (ix3 b (⟨1024 * i.val + r.val, by omega⟩ : Fin 4096) l : S20x4096x512.Idx) := by
  obtain ⟨_, _, ⟨e0, e1, e2⟩, _⟩ := idx_facts (pt b i)
  rw [pt_div, pt_mod] at *
  funext a; apply Fin.ext
  match a with
  | ⟨0, _⟩ => show win0_1.index (pt b i) (0 : Fin 3) * 1 + 1 * 0 = b.val; omega
  | ⟨1, _⟩ => show win0_1.index (pt b i) (1 : Fin 3) * 1024 + 1 * r.val = 1024 * i.val + r.val; omega
  | ⟨2, _⟩ => show win0_1.index (pt b i) (2 : Fin 3) * 512 + 1 * l.val = l.val; omega

theorem emb2 (r : Fin 1024) (l : Fin 512) : ((cfg0.win 2).blk (pt b i)).view.emb (ix3 (0 : Fin 1) r l : S1x1024x512.Idx)
    = (ix3 b (⟨1024 * i.val + r.val, by omega⟩ : Fin 4096) l : S20x4096x512.Idx) := by
  obtain ⟨_, _, _, ⟨e0, e1, e2⟩, _⟩ := idx_facts (pt b i)
  rw [pt_div, pt_mod] at *
  funext a; apply Fin.ext
  match a with
  | ⟨0, _⟩ => show win0_2.index (pt b i) (0 : Fin 3) * 1 + 1 * 0 = b.val; omega
  | ⟨1, _⟩ => show win0_2.index (pt b i) (1 : Fin 3) * 1024 + 1 * r.val = 1024 * i.val + r.val; omega
  | ⟨2, _⟩ => show win0_2.index (pt b i) (2 : Fin 3) * 512 + 1 * l.val = l.val; omega

theorem emb3 (r : Fin 128) (l : Fin 512) : ((cfg0.win 3).blk (pt b i)).view.emb (ix3 (0 : Fin 1) r l : S1x128x512.Idx)
    = (ix3 b (⟨(8 * i.val - 1) * 128 + r.val, by omega⟩ : Fin 4096) l : S20x4096x512.Idx) := by
  obtain ⟨_, _, _, _, ⟨e0, e1, e2⟩, _⟩ := idx_facts (pt b i)
  rw [pt_div, pt_mod] at *
  funext a; apply Fin.ext
  match a with
  | ⟨0, _⟩ => show win0_3.index (pt b i) (0 : Fin 3) * 1 + 1 * 0 = b.val; omega
  | ⟨1, _⟩ => show win0_3.index (pt b i) (1 : Fin 3) * 128 + 1 * r.val = (8 * i.val - 1) * 128 + r.val; rw [e1]; omega
  | ⟨2, _⟩ => show win0_3.index (pt b i) (2 : Fin 3) * 512 + 1 * l.val = l.val; omega

theorem emb4 (r : Fin 128) (l : Fin 512) : ((cfg0.win 4).blk (pt b i)).view.emb (ix3 (0 : Fin 1) r l : S1x128x512.Idx)
    = (ix3 b (⟨min (8 * i.val + 8) 31 * 128 + r.val, by omega⟩ : Fin 4096) l : S20x4096x512.Idx) := by
  obtain ⟨_, _, _, _, _, ⟨e0, e1, e2⟩, _⟩ := idx_facts (pt b i)
  rw [pt_div, pt_mod] at *
  funext a; apply Fin.ext
  match a with
  | ⟨0, _⟩ => show win0_4.index (pt b i) (0 : Fin 3) * 1 + 1 * 0 = b.val; omega
  | ⟨1, _⟩ => show win0_4.index (pt b i) (1 : Fin 3) * 128 + 1 * r.val = min (8 * i.val + 8) 31 * 128 + r.val; rw [e1]; omega
  | ⟨2, _⟩ => show win0_4.index (pt b i) (2 : Fin 3) * 512 + 1 * l.val = l.val; omega

theorem emb5 (y : S3x128x384.Idx) : ((cfg0.win 5).blk (pt b i)).view.emb y = y := by
  obtain ⟨_, _, _, _, _, _, ⟨e0, e1, e2⟩, _⟩ := idx_facts (pt b i)
  funext a; apply Fin.ext
  match a with
  | ⟨0, _⟩ => show win0_5.index (pt b i) (0 : Fin 3) * 3 + 1 * (y 0).val = (y 0).val; omega
  | ⟨1, _⟩ => show win0_5.index (pt b i) (1 : Fin 3) * 128 + 1 * (y 1).val = (y 1).val; omega
  | ⟨2, _⟩ => show win0_5.index (pt b i) (2 : Fin 3) * 384 + 1 * (y 2).val = (y 2).val; omega

theorem emb0 (y : S8.Idx) : ((cfg0.win 0).blk (pt b i)).view.emb y = y := by
  obtain ⟨_, e0, _⟩ := idx_facts (pt b i)
  funext a; apply Fin.ext
  match a with
  | ⟨0, _⟩ => show win0_0.index (pt b i) (0 : Fin 1) * 8 + 1 * (y 0).val = (y 0).val; omega

theorem iblk0_apply (y : S8.Idx) : iblk m c 0 (pt b i) y = m ((c.tc : Thread nD τ).loc main_arg3) y := by
  show V m c main_arg3 (((cfg0.win 0).blk (pt b i)).view.emb y) = _
  rw [emb0, V_main_arg3]

theorem iblk1_apply (r : Fin 1024) (l : Fin 512) : iblk m c 1 (pt b i) (ix3 (0 : Fin 1) r l : S1x1024x512.Idx)
    = m ((c.tc : Thread nD τ).loc main_arg0) (ix3 b (⟨1024 * i.val + r.val, by omega⟩ : Fin 4096) l : S20x4096x512.Idx) := by
  show V m c main_v8 (((cfg0.win 1).blk (pt b i)).view.emb _) = _
  rw [emb1, V_v8]
  rfl

/-- A row of the packed keys and values. -/
def pk (R : Fin 4096) (l : Fin 512) : EReal :=
  packRow (fun t => m ((c.tc : Thread nD τ).loc main_arg1) (ix3 b R t : S20x4096x128.Idx)) (fun t => m ((c.tc : Thread nD τ).loc main_arg2) (ix3 b R t : S20x4096x128.Idx)) l

theorem iblk2_apply (r : Fin 1024) (l : Fin 512) : iblk m c 2 (pt b i) (ix3 (0 : Fin 1) r l : S1x1024x512.Idx)
    = pk m c b ⟨1024 * i.val + r.val, by omega⟩ l := by
  show V m c main_v7 (((cfg0.win 2).blk (pt b i)).view.emb _) = _
  rw [emb2, V_v7]
  exact hKV_apply _ _ _ _ _

theorem iblk3_apply (r : Fin 128) (l : Fin 512) : iblk m c 3 (pt b i) (ix3 (0 : Fin 1) r l : S1x128x512.Idx)
    = pk m c b ⟨(8 * i.val - 1) * 128 + r.val, by omega⟩ l := by
  show V m c main_v7 (((cfg0.win 3).blk (pt b i)).view.emb _) = _
  rw [emb3, V_v7]
  exact hKV_apply _ _ _ _ _

theorem iblk4_apply (r : Fin 128) (l : Fin 512) : iblk m c 4 (pt b i) (ix3 (0 : Fin 1) r l : S1x128x512.Idx)
    = pk m c b ⟨min (8 * i.val + 8) 31 * 128 + r.val, by omega⟩ l := by
  show V m c main_v7 (((cfg0.win 4).blk (pt b i)).view.emb _) = _
  rw [emb4, V_v7]
  exact hKV_apply _ _ _ _ _

theorem iblk5_apply (s : Fin 3) (r : Fin 128) (q : Fin 384) : iblk m c 5 (pt b i) (ix3 s r q : S3x128x384.Idx)
    = if tabOk s.val r.val q.val then (0 : EReal) else 1 := by
  show V m c main_v35 (((cfg0.win 5).blk (pt b i)).view.emb _) = _
  rw [emb5, V_v35]
  exact hTab_apply _ _ _

/-- A window row is some row of the sequence: where it lies in the sequence, the row that stands there. -/
theorem kv_some (r : Fin 1280) (l : Fin 512) : ∃ R : Fin 4096, (128 ≤ 1024 * i.val + r.val → 1024 * i.val + r.val < 4224 → R.val = 1024 * i.val + r.val - 128)
    ∧ kvrow (iblk m c 2 (pt b i)) (iblk m c 3 (pt b i)) (iblk m c 4 (pt b i)) r l = pk m c b R l := by
  unfold kvrow
  split
  · exact ⟨_, by intro h1 h2; simp only; omega, iblk3_apply m c b i _ l⟩
  · split
    · exact ⟨_, by intro h1 h2; simp only; omega, iblk2_apply m c b i _ l⟩
    · exact ⟨_, by intro h1 h2; simp only; omega, iblk4_apply m c b i _ l⟩

/-- One element of the result after the run. -/
theorem out_elem (r : Fin 1024) (l : Fin 512) :
    (dats m 0 c).arrAt 6 cfg0.N (ix3 b (⟨1024 * i.val + r.val, by omega⟩ : Fin 4096) l : S20x4096x512.Idx)
      = G i.val (iblk m c 0 (pt b i)) (iblk m c 1 (pt b i)) (iblk m c 2 (pt b i)) (iblk m c 3 (pt b i)) (iblk m c 4 (pt b i)) (iblk m c 5 (pt b i)) r l := by
  have e := congrFun (Cert.KernelIdeal.Value.blocks6 m c (pt b i) (flush0_6 _)) (ix3 (0 : Fin 1) r l : S1x1024x512.Idx)
  rw [Cert.KernelIdeal.Value.flushed6_A] at e
  have e' : (dats m 0 c).arrAt 6 cfg0.N (((cfg0.win 6).blk (pt b i)).view.emb (ix3 (0 : Fin 1) r l : S1x1024x512.Idx)) = _ := e
  rw [emb6] at e'
  rw [e']
  refine (out_apply c (grid0.coords (pt b i)) _ _ _ _ _ _ _ _ _ _ _ _ _ _ _ _ _ _ _ _ _).trans ?_
  rw [coord1]
  rfl

end

end Cert.Swa

end
-- ==== Proof.Swa.Math.lean ====
module

public import Idealize.ShloMosaic.PureOps.Ideal
public import Idealize.ShloMosaic.Lib.IdealHost
public import Idealize.ShloMosaic.Lib.Pointwise

@[expose] public section

noncomputable section

namespace Cert.Swa

open Idealize.ShloMosaic

/-- A maximum attained. -/
theorem sup_max_eq {n : ℕ} (f : Fin n → EReal) (sk mr : EReal) (h1 : ∀ c, f c ≤ mr) (h2 : sk ≤ mr) (h3 : sk = mr ∨ ∃ c, f c = mr) :
    max (Finset.univ.sup f) sk = mr := by
  apply le_antisymm
  · exact max_le (Finset.sup_le fun c _ => h1 c) h2
  · rcases h3 with h | ⟨c, h⟩
    · exact h ▸ le_max_right _ _
    · exact h ▸ (Finset.le_sup (f := f) (Finset.mem_univ c)).trans (le_max_left _ _)

/-- Multiplication by a nonnegative real distributes over a sum of extended reals. -/
theorem sum_mul_real {n : ℕ} (f : Fin n → EReal) (r : ℝ) (hr : 0 ≤ r) : (∑ c, f c) * (r : EReal) = ∑ c, f c * (r : EReal) := by
  have key : ∀ t : Finset (Fin n), (∑ c ∈ t, f c) * (r : EReal) = ∑ c ∈ t, f c * (r : EReal) := by
    intro t
    induction t using Finset.induction_on with
    | empty => simp
    | insert a t ha ih =>
      rw [Finset.sum_insert ha, Finset.sum_insert ha, EReal.right_distrib_of_nonneg_of_ne_top (by exact_mod_cast hr) (EReal.coe_ne_top r), ih]
  exact key _

/-- The sum of reals, as extended reals. -/
theorem sum_coe {ι : Type*} (t : Finset ι) (f : ι → ℝ) : ∑ c ∈ t, ((f c : ℝ) : EReal) = ((∑ c ∈ t, f c : ℝ) : EReal) := by
  induction t using Finset.cons_induction with
  | empty => simp
  | cons a t ha ih => rw [Finset.sum_cons, Finset.sum_cons, ih, EReal.coe_add]

theorem exp2_log (y : ℝ) : Ideal.exp2 ((y * (Real.log 2)⁻¹ : ℝ) : EReal) = (Real.exp y : EReal) := by
  show ((Real.rpow 2 _ : ℝ) : EReal) = _
  congr 1
  show (2 : ℝ) ^ (y * (Real.log 2)⁻¹) = _
  rw [Real.rpow_def_of_pos (by norm_num)]
  congr 1
  have : Real.log 2 ≠ 0 := (Real.log_pos (by norm_num)).ne'
  field_simp

/-- A row's softmax with a sink, base two against base e, the division after the product against before it. -/
theorem softmax_row {n : ℕ} (a : Fin n → ℝ) (valid : Fin n → Prop) [DecidablePred valid] (sk : ℝ) (V V' : Fin n → EReal)
    (hV : ∀ c, valid c → V c = V' c) (s x : Fin n → EReal)
    (hs : ∀ c, s c = if valid c then ((a c * (Real.log 2)⁻¹ : ℝ) : EReal) else ⊥)
    (hx : ∀ c, x c = if valid c then ((a c : ℝ) : EReal) else ⊥) (M' M : EReal)
    (hM' : M' = max (Finset.univ.sup s) ((sk * (Real.log 2)⁻¹ : ℝ) : EReal)) (hM : M = max (Finset.univ.sup x) (sk : EReal)) :
    (∑ c, Ideal.exp2 (s c - M') * V c)
        * Ideal.div 1 ((∑ c, Ideal.exp2 (s c - M')) + Ideal.exp2 (((sk * (Real.log 2)⁻¹ : ℝ) : EReal) - M'))
      = ∑ c, Ideal.div (Ideal.exp (x c - M)) ((∑ c, Ideal.exp (x c - M)) + Ideal.exp ((sk : EReal) - M)) * V' c := by
  have hL : (0 : ℝ) < (Real.log 2)⁻¹ := inv_pos.2 (Real.log_pos (by norm_num))
  obtain ⟨mr, h1, h2, h3⟩ : ∃ mr : ℝ, (∀ c, valid c → a c ≤ mr) ∧ sk ≤ mr ∧ (sk = mr ∨ ∃ c, valid c ∧ a c = mr) := by
    let S : Finset ℝ := insert sk ((Finset.univ.filter valid).image a)
    have hS : S.Nonempty := Finset.insert_nonempty _ _
    refine ⟨S.max' hS, fun c hc => S.le_max' _ ?_, S.le_max' _ (Finset.mem_insert_self _ _), ?_⟩
    · exact Finset.mem_insert_of_mem (Finset.mem_image_of_mem _ (by simp [hc]))
    · have := S.max'_mem hS
      rcases Finset.mem_insert.1 this with h | h
      · exact .inl h.symm
      · obtain ⟨c, hc, e⟩ := Finset.mem_image.1 h
        exact .inr ⟨c, by simpa using hc, e⟩
  have eM : M = mr := by
    rw [hM]
    refine sup_max_eq _ _ _ (fun c => ?_) (by exact_mod_cast h2) ?_
    · rw [hx]; split
      · exact_mod_cast h1 c ‹_›
      · exact bot_le
    · rcases h3 with h | ⟨c, hc, h⟩
      · exact .inl (by rw [h])
      · exact .inr ⟨c, by rw [hx, if_pos hc, h]⟩
  have eM' : M' = ((mr * (Real.log 2)⁻¹ : ℝ) : EReal) := by
    rw [hM']
    refine sup_max_eq _ _ _ (fun c => ?_) (by exact_mod_cast mul_le_mul_of_nonneg_right h2 hL.le) ?_
    · rw [hs]; split
      · exact_mod_cast mul_le_mul_of_nonneg_right (h1 c ‹_›) hL.le
      · exact bot_le
    · rcases h3 with h | ⟨c, hc, h⟩
      · exact .inl (by rw [h])
      · exact .inr ⟨c, by rw [hs, if_pos hc, h]⟩
  let e : Fin n → ℝ := fun c => if valid c then Real.exp (a c - mr) else 0
  have he2 : ∀ c, Ideal.exp2 (s c - M') = (e c : EReal) := by
    intro c
    rw [hs, eM']
    by_cases hc : valid c
    · simp only [e, if_pos hc]
      rw [← EReal.coe_sub, ← sub_mul, exp2_log]
    · simp only [e, if_neg hc]
      rw [EReal.bot_sub]
      rfl
  have he : ∀ c, Ideal.exp (x c - M) = (e c : EReal) := by
    intro c
    rw [hx, eM]
    by_cases hc : valid c
    · simp only [e, if_pos hc]
      rw [← EReal.coe_sub]; rfl
    · simp only [e, if_neg hc]
      rw [EReal.bot_sub]
      rfl
  have hk2 : Ideal.exp2 (((sk * (Real.log 2)⁻¹ : ℝ) : EReal) - M') = (Real.exp (sk - mr) : EReal) := by
    rw [eM', ← EReal.coe_sub, ← sub_mul, exp2_log]
  have hk : Ideal.exp ((sk : EReal) - M) = (Real.exp (sk - mr) : EReal) := by rw [eM, ← EReal.coe_sub]; rfl
  simp only [he2, he, hk2, hk]
  rw [sum_coe, ← EReal.coe_add]
  have hD : 0 < (∑ c, e c) + Real.exp (sk - mr) := by
    refine add_pos_of_nonneg_of_pos (Finset.sum_nonneg fun c _ => ?_) (Real.exp_pos _)
    simp only [e]; split
    · exact (Real.exp_pos _).le
    · exact le_rfl
  generalize (∑ c, e c) + Real.exp (sk - mr) = D at hD ⊢
  rw [Ideal.div_coe hD.ne', one_mul, sum_mul_real _ _ (one_div_pos.2 hD).le]
  refine Finset.sum_congr rfl fun c _ => ?_
  rw [Ideal.div_coe hD.ne']
  by_cases hc : valid c
  · rw [hV c hc, mul_right_comm]
  · simp [e, hc]

end Cert.Swa

end
-- ==== Proof.Swa.RefRead.lean ====
module

public import proofs.«01_k».proof.Proof.Swa.Mask
public import proofs.«01_k».proof.Proof.Swa.Math
public import Idealize.ShloMosaic.Lib.KernelVsHost
public import Idealize.ShloMosaic.Lib.Pipeline.Value

@[expose] public section

set_option maxRecDepth 16384

noncomputable section

namespace Cert.Swa

open Idealize.ShloMosaic Cert.ReferenceIdeal Cert.ReferenceIdeal.Gen Cert.ReferenceIdeal.Read

/-! ## Keys and values of the three blocks around a query block -/

theorem kv_slice (x : (⟨S20x4096x128, .f32⟩ : BufTy).Contents (Elt Ideal)) (b : Fin 20) (m : Fin 34) (p : Fin 128) (h : Fin 2) (d : Fin 64)
    (h1 : 1 ≤ m.val) (h2 : m.val ≤ 32) :
    val_main_v3 (F := Ideal) x (ValueIdx.ix5 b m p h d) = x (ValueIdx.ix3 b ⟨m.val * 128 + p.val - 128, by omega⟩ ⟨h.val * 64 + d.val, by omega⟩) := by
  have hb := b.isLt; have hm := m.isLt; have hp := p.isLt; have hh := h.isLt; have hd := d.isLt
  rw [val_main_v3_apply]
  unfold val_main_v2
  refine (pad_apply_of_inside _ _ _ _ _ _ _ _ (ValueIdx.ix4 b (⟨m.val * 128 + p.val - 128, by omega⟩ : Fin 4096) h d) (fun a => ?_)).trans ?_
  · match a with
    | ⟨0, _⟩ => show ((((b.val * 34 + m.val) * 128 + p.val) * 2 + h.val) * 64 + d.val) / 557056 = 0 + b.val * (0 + 1); omega
    | ⟨1, _⟩ => show ((((b.val * 34 + m.val) * 128 + p.val) * 2 + h.val) * 64 + d.val) / 128 % 4352 = 128 + (m.val * 128 + p.val - 128) * (0 + 1); omega
    | ⟨2, _⟩ => show ((((b.val * 34 + m.val) * 128 + p.val) * 2 + h.val) * 64 + d.val) / 64 % 2 = 0 + h.val * (0 + 1); omega
    | ⟨3, _⟩ => show ((((b.val * 34 + m.val) * 128 + p.val) * 2 + h.val) * 64 + d.val) % 64 = 0 + d.val * (0 + 1); omega
  · rw [val_main_v1_apply]
    refine congrArg x (funext fun a => Fin.ext ?_)
    match a with
    | ⟨0, _⟩ => show (((b.val * 4096 + (m.val * 128 + p.val - 128)) * 2 + h.val) * 64 + d.val) / 524288 = b.val; omega
    | ⟨1, _⟩ => show (((b.val * 4096 + (m.val * 128 + p.val - 128)) * 2 + h.val) * 64 + d.val) / 128 % 4096 = m.val * 128 + p.val - 128; omega
    | ⟨2, _⟩ => show (((b.val * 4096 + (m.val * 128 + p.val - 128)) * 2 + h.val) * 64 + d.val) % 128 = h.val * 64 + d.val; omega

theorem v7_piece (x : (⟨S20x4096x128, .f32⟩ : BufTy).Contents (Elt Ideal)) (b : Fin 20) (n : Fin 32) (c : Fin 384) (h : Fin 2) (d : Fin 64) :
    val_main_v7 (F := Ideal) x (ValueIdx.ix5 b n c h d)
      = val_main_v3 (F := Ideal) x (ValueIdx.ix5 b ⟨n.val + c.val / 128, by omega⟩ ⟨c.val % 128, by omega⟩ h d) := by
  have hn := n.isLt; have hc := c.isLt
  unfold val_main_v7
  have key : ∀ (k : ℕ) (hk : k < 3) (y : (⟨S20x32x128x2x64, .f32⟩ : BufTy).Contents (Elt Ideal)), c.val / 128 = k →
      ([⟨S20x32x128x2x64, val_main_v4 (F := Ideal) x⟩, ⟨S20x32x128x2x64, val_main_v5 (F := Ideal) x⟩, ⟨S20x32x128x2x64, val_main_v6 (F := Ideal) x⟩]
        : List ((s : Shape) × (s.Idx → EReal)))[k]'(by simpa using hk) = ⟨S20x32x128x2x64, y⟩ →
      concatenate S20x32x384x2x64 2 [⟨S20x32x128x2x64, val_main_v4 (F := Ideal) x⟩, ⟨S20x32x128x2x64, val_main_v5 (F := Ideal) x⟩, ⟨S20x32x128x2x64, val_main_v6 (F := Ideal) x⟩]
        concatenates_S20x32x128x2x64_S20x32x128x2x64_S20x32x128x2x64_S20x32x384x2x64_d2 (ValueIdx.ix5 b n c h d)
      = y (ValueIdx.ix5 b n (⟨c.val % 128, by omega⟩ : Fin 128) h d) := by
    intro k hk y hck hy
    refine concatenate_apply_piece (t := S20x32x384x2x64) 2 _ _ (ValueIdx.ix5 b n c h d) k (by simpa using hk) S20x32x128x2x64 y hy rfl (128 * k) ?_
      (ValueIdx.ix5 b n (⟨c.val % 128, by omega⟩ : Fin 128) h d) ?_ ?_
    · interval_cases k <;> rfl
    · intro a ha
      match a with
      | ⟨0, _⟩ => rfl
      | ⟨1, _⟩ => rfl
      | ⟨2, _⟩ => exact absurd rfl ha
      | ⟨3, _⟩ => rfl
      | ⟨4, _⟩ => rfl
    · show 128 * k + c.val % 128 = c.val; omega
  have h3 : c.val / 128 = 0 ∨ c.val / 128 = 1 ∨ c.val / 128 = 2 := by omega
  rcases h3 with h | h | h
  · rw [key 0 (by omega) _ h rfl, val_main_v4_apply]
    refine congrArg _ (funext fun a => Fin.ext ?_)
    match a with
    | ⟨0, _⟩ => rfl
    | ⟨1, _⟩ => show n.val = n.val + c.val / 128; omega
    | ⟨2, _⟩ => rfl
    | ⟨3, _⟩ => rfl
    | ⟨4, _⟩ => rfl
  · rw [key 1 (by omega) _ h rfl, val_main_v5_apply]
    refine congrArg _ (funext fun a => Fin.ext ?_)
    match a with
    | ⟨0, _⟩ => rfl
    | ⟨1, _⟩ => show 1 + n.val = n.val + c.val / 128; omega
    | ⟨2, _⟩ => rfl
    | ⟨3, _⟩ => rfl
    | ⟨4, _⟩ => rfl
  · rw [key 2 (by omega) _ h rfl, val_main_v6_apply]
    refine congrArg _ (funext fun a => Fin.ext ?_)
    match a with
    | ⟨0, _⟩ => rfl
    | ⟨1, _⟩ => show 2 + n.val = n.val + c.val / 128; omega
    | ⟨2, _⟩ => rfl
    | ⟨3, _⟩ => rfl
    | ⟨4, _⟩ => rfl

/-- The keys a block sees, where they are positions of the sequence. -/
theorem v7_apply (x : (⟨S20x4096x128, .f32⟩ : BufTy).Contents (Elt Ideal)) (b : Fin 20) (n : Fin 32) (c : Fin 384) (h : Fin 2) (d : Fin 64)
    (h1 : 128 ≤ n.val * 128 + c.val) (h2 : n.val * 128 + c.val < 4224) :
    val_main_v7 (F := Ideal) x (ValueIdx.ix5 b n c h d) = x (ValueIdx.ix3 b ⟨n.val * 128 + c.val - 128, by omega⟩ ⟨h.val * 64 + d.val, by omega⟩) := by
  rw [v7_piece, kv_slice x b _ _ h d (by show 1 ≤ n.val + c.val / 128; omega) (by show n.val + c.val / 128 ≤ 32; omega)]
  refine congrArg (fun t => x (ValueIdx.ix3 b t _)) (Fin.ext ?_)
  show (n.val + c.val / 128) * 128 + c.val % 128 - 128 = n.val * 128 + c.val - 128
  omega

theorem v14_eq (x : (⟨S20x4096x128, .f32⟩ : BufTy).Contents (Elt Ideal)) : val_main_v14 (F := Ideal) x = val_main_v7 (F := Ideal) x := rfl

/-! ## The scores -/

theorem v0_apply (x : (⟨S20x4096x512, .f32⟩ : BufTy).Contents (Elt Ideal)) (b : Fin 20) (n : Fin 32) (q : Fin 128) (h : Fin 2) (g : Fin 4) (d : Fin 64) :
    val_main_v0 (F := Ideal) x (ValueIdx.ix6 b n q h g d) = x (ValueIdx.ix3 b ⟨n.val * 128 + q.val, by omega⟩ ⟨(h.val * 4 + g.val) * 64 + d.val, by omega⟩) := by
  unfold val_main_v0
  refine shapeCast_apply x _ (ValueIdx.ix6 b n q h g d) _ ?_
  rw [Shape.rowMajor_val_three, Shape.rowMajor_val_six]
  show (b.val * 4096 + (n.val * 128 + q.val)) * 512 + ((h.val * 4 + g.val) * 64 + d.val)
    = ((((b.val * 32 + n.val) * 128 + q.val) * 2 + h.val) * 4 + g.val) * 64 + d.val
  ring

/-- A masked score. -/
theorem v52_apply (x0 : (⟨S20x4096x512, .f32⟩ : BufTy).Contents (Elt Ideal)) (x1 : (⟨S20x4096x128, .f32⟩ : BufTy).Contents (Elt Ideal))
    (b : Fin 20) (n : Fin 32) (h : Fin 2) (g : Fin 4) (q : Fin 128) (c : Fin 384) :
    val_main_v52 (F := Ideal) x0 x1 (ValueIdx.ix6 b n h g q c)
      = if ok n.val q.val c.val then
          (∑ d : Fin 64, val_main_v7 (F := Ideal) x1 (ValueIdx.ix5 b n c h d)
            * x0 (ValueIdx.ix3 b ⟨n.val * 128 + q.val, by omega⟩ ⟨(h.val * 4 + g.val) * 64 + d.val, by omega⟩)) * Ideal.ofBits .f32 0x3E000000#32
        else ⊥ := by
  rw [val_main_v52_apply, val_main_call2_v1_apply, val_main_v51_apply,
    show idx_main_v51 (idx_main_call2_v1 (ValueIdx.ix6 b n h g q c)) = Idealize.ShloMosaic.ix3 n q c from
      funext fun a => Fin.ext (by match a with | ⟨0, _⟩ => rfl | ⟨1, _⟩ => rfl | ⟨2, _⟩ => rfl), v50_apply]
  by_cases hk : ok n.val q.val c.val
  · rw [if_pos hk, if_pos hk]
    show val_main_v18 (F := Ideal) x0 x1 (ValueIdx.ix6 b n h g q c) = _
    rw [val_main_v18_apply, val_main_v17_apply, val_main_cst_apply, val_main_v16_apply, val_main_v15_apply]
    refine congrArg (· * Ideal.ofBits .f32 0x3E000000#32) (Finset.sum_congr rfl fun d _ => ?_)
    rw [show lidx_main_v15 (idx_main_v16 (ValueIdx.ix6 b n h g q c)) d = ValueIdx.ix5 b n c h d from
        funext fun a => Fin.ext (by match a with | ⟨0, _⟩ => rfl | ⟨1, _⟩ => rfl | ⟨2, _⟩ => rfl | ⟨3, _⟩ => rfl | ⟨4, _⟩ => rfl),
      show ridx_main_v15 (idx_main_v16 (ValueIdx.ix6 b n h g q c)) d = ValueIdx.ix6 b n q h g d from
        funext fun a => Fin.ext (by match a with | ⟨0, _⟩ => rfl | ⟨1, _⟩ => rfl | ⟨2, _⟩ => rfl | ⟨3, _⟩ => rfl | ⟨4, _⟩ => rfl | ⟨5, _⟩ => rfl), v0_apply]
  · rw [if_neg hk, if_neg hk]
    show val_main_call2_v2 (F := Ideal) (ValueIdx.ix6 b n h g q c) = _
    rw [val_main_call2_v2_apply, val_main_call2_v0_apply, val_main_cst_7_apply]
    show Ideal.ofBits .f32 0xFF800000#32 = ⊥
    simp [Ideal.ofBits, Ideal.ieee]

/-! ## The scores with the sink -/

theorem v54_apply (x3 : (⟨S8, .f32⟩ : BufTy).Contents (Elt Ideal)) (b : Fin 20) (n : Fin 32) (h : Fin 2) (g : Fin 4) (q : Fin 128) :
    val_main_v54 (F := Ideal) x3 (ValueIdx.ix6 b n h g q (0 : Fin 1)) = x3 (ValueIdx.ix1 ⟨h.val * 4 + g.val, by omega⟩) := by
  rw [val_main_v54_apply]
  unfold val_main_v53
  refine shapeCast_apply x3 _ _ _ ?_
  rw [Shape.rowMajor_val_one, Shape.rowMajor_val_six]
  show h.val * 4 + g.val = ((((0 * 1 + 0) * 2 + h.val) * 4 + g.val) * 1 + 0) * 1 + 0
  ring

theorem v55_lt (x0 : (⟨S20x4096x512, .f32⟩ : BufTy).Contents (Elt Ideal)) (x1 : (⟨S20x4096x128, .f32⟩ : BufTy).Contents (Elt Ideal))
    (x3 : (⟨S8, .f32⟩ : BufTy).Contents (Elt Ideal)) (b : Fin 20) (n : Fin 32) (h : Fin 2) (g : Fin 4) (q : Fin 128) (c : Fin 384) :
    val_main_v55 (F := Ideal) x0 x1 x3 (ValueIdx.ix6 b n h g q (c.castSucc : Fin 385)) = val_main_v52 (F := Ideal) x0 x1 (ValueIdx.ix6 b n h g q c) := by
  unfold val_main_v55
  refine concatenate_apply_piece (t := S20x32x2x4x128x385) 5 _ _ _ 0 (by simp) S20x32x2x4x128x384 _ rfl rfl 0 rfl (ValueIdx.ix6 b n h g q c) ?_ ?_
  · intro a ha
    match a with
    | ⟨0, _⟩ => rfl
    | ⟨1, _⟩ => rfl
    | ⟨2, _⟩ => rfl
    | ⟨3, _⟩ => rfl
    | ⟨4, _⟩ => rfl
    | ⟨5, _⟩ => exact absurd rfl ha
  · show 0 + c.val = c.val; omega

theorem v55_last (x0 : (⟨S20x4096x512, .f32⟩ : BufTy).Contents (Elt Ideal)) (x1 : (⟨S20x4096x128, .f32⟩ : BufTy).Contents (Elt Ideal))
    (x3 : (⟨S8, .f32⟩ : BufTy).Contents (Elt Ideal)) (b : Fin 20) (n : Fin 32) (h : Fin 2) (g : Fin 4) (q : Fin 128) :
    val_main_v55 (F := Ideal) x0 x1 x3 (ValueIdx.ix6 b n h g q (Fin.last 384 : Fin 385)) = x3 (ValueIdx.ix1 ⟨h.val * 4 + g.val, by omega⟩) := by
  unfold val_main_v55
  refine (concatenate_apply_piece (t := S20x32x2x4x128x385) 5 _ _ _ 1 (by simp) S20x32x2x4x128x1 _ rfl rfl 384 rfl (ValueIdx.ix6 b n h g q (0 : Fin 1)) ?_ ?_).trans
    (v54_apply x3 b n h g q)
  · intro a ha
    match a with
    | ⟨0, _⟩ => rfl
    | ⟨1, _⟩ => rfl
    | ⟨2, _⟩ => rfl
    | ⟨3, _⟩ => rfl
    | ⟨4, _⟩ => rfl
    | ⟨5, _⟩ => exact absurd rfl ha
  · rfl

/-! ## Row maximum, exponentials, denominator -/

theorem sup_castSucc {n : ℕ} (f : Fin (n + 1) → EReal) :
    Finset.univ.sup f = max (Finset.univ.sup fun c : Fin n => f c.castSucc) (f (Fin.last n)) := by
  apply le_antisymm
  · refine Finset.sup_le fun c _ => ?_
    induction c using Fin.lastCases with
    | last => exact le_max_right _ _
    | cast c => exact (Finset.le_sup (f := fun c : Fin n => f c.castSucc) (Finset.mem_univ c)).trans (le_max_left _ _)
  · exact max_le (Finset.sup_le fun c _ => Finset.le_sup (f := f) (Finset.mem_univ _)) (Finset.le_sup (f := f) (Finset.mem_univ _))

section Row

variable (x0 : (⟨S20x4096x512, .f32⟩ : BufTy).Contents (Elt Ideal)) (x1 x2 : (⟨S20x4096x128, .f32⟩ : BufTy).Contents (Elt Ideal))
  (x3 : (⟨S8, .f32⟩ : BufTy).Contents (Elt Ideal)) (b : Fin 20) (n : Fin 32) (h : Fin 2) (g : Fin 4) (q : Fin 128)

/-- The reference's masked scores of one query. -/
def rS (c : Fin 384) : EReal := val_main_v52 (F := Ideal) x0 x1 (ValueIdx.ix6 b n h g q c)
/-- The sink of a head. -/
def rK : EReal := x3 (ValueIdx.ix1 ⟨h.val * 4 + g.val, by omega⟩)
/-- The row's maximum, the sink included. -/
def rM : EReal := max (Finset.univ.sup (rS x0 x1 b n h g q)) (rK x3 h g)

theorem v56_apply : val_main_v56 (F := Ideal) x0 x1 x3 (ValueIdx.ix5 b n h g q) = rM x0 x1 x3 b n h g q := by
  unfold val_main_v56
  rw [Host.reduce_eq_fold_single FloatOps.maximumf _ _ reducesTo_S20x32x2x4x128x385_S20x32x2x4x128_d5 (by decide) h_S_]
  have hb : val_main_cst_8 (F := Ideal) (Shape.Idx.first h_S_) = (⊥ : EReal) := by
    show Ideal.ofBits .f32 0xFF800000#32 = ⊥
    simp [Ideal.ofBits, Ideal.ieee]
  rw [hb]
  have hf : ∀ k : Fin 385, val_main_v55 (F := Ideal) x0 x1 x3
      (Shape.Reduces.lift (s := S20x32x2x4x128x385) (t := S20x32x2x4x128) (a := 5) (by decide) (ValueIdx.ix5 b n h g q) k)
      = val_main_v55 (F := Ideal) x0 x1 x3 (ValueIdx.ix6 b n h g q k) := fun k => by
    refine congrArg _ (funext fun a => Fin.ext ?_)
    match a with
    | ⟨0, _⟩ => rfl
    | ⟨1, _⟩ => rfl
    | ⟨2, _⟩ => rfl
    | ⟨3, _⟩ => rfl
    | ⟨4, _⟩ => rfl
    | ⟨5, _⟩ => rfl
  have e : Finset.univ.sup (fun k : Fin 385 => val_main_v55 (F := Ideal) x0 x1 x3 (ValueIdx.ix6 b n h g q k)) = rM x0 x1 x3 b n h g q := by
    rw [sup_castSucc]
    unfold rM rS rK
    rw [v55_last]
    simp only [v55_lt]
  rw [← e]
  exact congrArg (fun f : Fin 385 → EReal => Finset.fold max ⊥ f Finset.univ) (funext hf)

theorem v62_apply (k : Fin 385) : val_main_v62 (F := Ideal) x0 x1 x3 (ValueIdx.ix6 b n h g q k)
    = Ideal.exp (val_main_v55 (F := Ideal) x0 x1 x3 (ValueIdx.ix6 b n h g q k) - rM x0 x1 x3 b n h g q) := by
  rw [val_main_v62_apply, val_main_v61_apply, val_main_v60_apply, val_main_v59_apply, val_main_v58_apply,
    show idx_main_v59 (idx_main_v60 (ValueIdx.ix6 b n h g q k)) = ValueIdx.ix5 b n h g q from
      funext fun a => Fin.ext (by match a with | ⟨0, _⟩ => rfl | ⟨1, _⟩ => rfl | ⟨2, _⟩ => rfl | ⟨3, _⟩ => rfl | ⟨4, _⟩ => rfl),
    v56_apply, val_main_v57_apply, val_main_cst_9_apply]
  have hb : (FloatOps.ofBits .f32 0xFF800000#32 : Ideal .f32) = (⊥ : EReal) := by
    show Ideal.ofBits .f32 0xFF800000#32 = ⊥
    simp [Ideal.ofBits, Ideal.ieee]
  rw [hb]
  show Ideal.exp (_ - max ⊥ (rM x0 x1 x3 b n h g q)) = _
  rw [max_eq_right bot_le]

theorem v63_apply : val_main_v63 (F := Ideal) x0 x1 x3 (ValueIdx.ix5 b n h g q)
    = (∑ c : Fin 384, Ideal.exp (rS x0 x1 b n h g q c - rM x0 x1 x3 b n h g q)) + Ideal.exp (rK x3 h g - rM x0 x1 x3 b n h g q) := by
  rw [val_main_v63_apply]
  have hz : val_main_cst_10 (F := Ideal) (Shape.Idx.first h_S_) = (0 : EReal) := by
    show Ideal.ofBits .f32 0x00000000#32 = 0
    simp [Ideal.ofBits, Ideal.ieee]
  rw [hz, zero_add, Fin.sum_univ_castSucc]
  have hi : ∀ k : Fin 385, idx_main_v63 (ValueIdx.ix5 b n h g q) k = ValueIdx.ix6 b n h g q k := fun k =>
    funext fun a => Fin.ext (by match a with | ⟨0, _⟩ => rfl | ⟨1, _⟩ => rfl | ⟨2, _⟩ => rfl | ⟨3, _⟩ => rfl | ⟨4, _⟩ => rfl | ⟨5, _⟩ => rfl)
  simp only [hi]
  rw [v62_apply, v55_last]
  refine congrArg₂ (· + ·) (Finset.sum_congr rfl fun c _ => ?_) rfl
  rw [v62_apply, v55_lt]; rfl

theorem v67_apply (c : Fin 384) : val_main_v67 (F := Ideal) x0 x1 x3 (ValueIdx.ix6 b n h g q c)
    = Ideal.div (Ideal.exp (rS x0 x1 b n h g q c - rM x0 x1 x3 b n h g q))
        ((∑ c : Fin 384, Ideal.exp (rS x0 x1 b n h g q c - rM x0 x1 x3 b n h g q)) + Ideal.exp (rK x3 h g - rM x0 x1 x3 b n h g q)) := by
  rw [val_main_v67_apply, show idx_main_v67 (ValueIdx.ix6 b n h g q c) = ValueIdx.ix6 b n h g q (c.castSucc : Fin 385) from
      funext fun a => Fin.ext (by
        match a with
        | ⟨0, _⟩ => first | rfl | simp
        | ⟨1, _⟩ => first | rfl | simp
        | ⟨2, _⟩ => first | rfl | simp
        | ⟨3, _⟩ => first | rfl | simp
        | ⟨4, _⟩ => first | rfl | simp
        | ⟨5, _⟩ => first | rfl | simp),
    val_main_v66_apply, v62_apply, v55_lt, val_main_v65_apply, val_main_v64_apply,
    show idx_main_v64 (idx_main_v65 (ValueIdx.ix6 b n h g q (c.castSucc : Fin 385))) = ValueIdx.ix5 b n h g q from
      funext fun a => Fin.ext (by match a with | ⟨0, _⟩ => rfl | ⟨1, _⟩ => rfl | ⟨2, _⟩ => rfl | ⟨3, _⟩ => rfl | ⟨4, _⟩ => rfl),
    v63_apply]
  rfl

/-- One entry of the reference's result. -/
theorem v69_apply (d : Fin 64) : val_main_v69 (F := Ideal) x0 x1 x2 x3 (ValueIdx.ix6 b n q h g d)
    = ∑ c : Fin 384, val_main_v7 (F := Ideal) x2 (ValueIdx.ix5 b n c h d)
        * Ideal.div (Ideal.exp (rS x0 x1 b n h g q c - rM x0 x1 x3 b n h g q))
          ((∑ c : Fin 384, Ideal.exp (rS x0 x1 b n h g q c - rM x0 x1 x3 b n h g q)) + Ideal.exp (rK x3 h g - rM x0 x1 x3 b n h g q)) := by
  rw [val_main_v69_apply, val_main_v68_apply]
  refine Finset.sum_congr rfl fun c _ => ?_
  rw [show lidx_main_v68 (idx_main_v69 (ValueIdx.ix6 b n q h g d)) c = ValueIdx.ix5 b n c h d from
      funext fun a => Fin.ext (by match a with | ⟨0, _⟩ => rfl | ⟨1, _⟩ => rfl | ⟨2, _⟩ => rfl | ⟨3, _⟩ => rfl | ⟨4, _⟩ => rfl),
    show ridx_main_v68 (idx_main_v69 (ValueIdx.ix6 b n q h g d)) c = ValueIdx.ix6 b n h g q c from
      funext fun a => Fin.ext (by match a with | ⟨0, _⟩ => rfl | ⟨1, _⟩ => rfl | ⟨2, _⟩ => rfl | ⟨3, _⟩ => rfl | ⟨4, _⟩ => rfl | ⟨5, _⟩ => rfl),
    v67_apply, v14_eq]

theorem v71_apply (r : Fin 4096) (l : Fin 512) (d : Fin 64) (hr : r.val = n.val * 128 + q.val) (hl : l.val = (h.val * 4 + g.val) * 64 + d.val) :
    val_main_v71 (F := Ideal) x0 x1 x2 x3 (ValueIdx.ix3 b r l) = val_main_v69 (F := Ideal) x0 x1 x2 x3 (ValueIdx.ix6 b n q h g d) := by
  rw [val_main_v71_apply]
  show val_main_v70 (F := Ideal) x0 x1 x2 x3 (ValueIdx.ix3 b r l) = _
  unfold val_main_v70
  refine shapeCast_apply _ _ (ValueIdx.ix3 b r l) _ ?_
  rw [Shape.rowMajor_val_three, Shape.rowMajor_val_six]
  show ((((b.val * 32 + n.val) * 128 + q.val) * 2 + h.val) * 4 + g.val) * 64 + d.val = (b.val * 4096 + r.val) * 512 + l.val
  rw [hr, hl]; ring

end Row

end Cert.Swa

end
-- ==== Proof.Swa.Final.lean ====
module

public import proofs.«01_k».proof.Proof.Swa.Blocks
public import proofs.«01_k».proof.Proof.Swa.RefRead
public import proofs.«01_k».proof.Defs
public import proofs.«01_k».proof.Proof.Gen.Pre_finite
public import Idealize.ShloMosaic.Lib.ReduceAll

@[expose] public section

set_option maxRecDepth 16384

noncomputable section

namespace Cert.Swa

open Idealize.ShloMosaic Idealize.ShloMosaic.TcCoe Cert.KernelIdeal.Gen Idealize.SL.Sem

/-! ## Finite inputs -/

theorem real_of_word (x : EReal) (h : Ideal.cmp .olt (max x (-x)) (Ideal.ofBits .f32 0x7F800000#32) = 1#1) : x = ((x.toReal : ℝ) : EReal) := by
  have e : Ideal.ofBits .f32 0x7F800000#32 = ⊤ := by simp [Ideal.ofBits, Ideal.ieee]
  rw [e] at h
  have h' : max x (-x) < ⊤ := by
    by_contra hc
    simp [Ideal.cmp, hc] at h
  have h1 : x ≠ ⊤ := fun hx => by rw [hx] at h'; simp at h'
  have h2 : x ≠ ⊥ := fun hx => by rw [hx] at h'; simp at h'
  exact (EReal.coe_toReal h1 h2).symm

theorem pre_real (a0 : FVec Ideal Cert.Pre_finite.S20x4096x512 .f32) (a1 a2 : FVec Ideal Cert.Pre_finite.S20x4096x128 .f32) (a3 : FVec Ideal Cert.Pre_finite.S8 .f32)
    (h : Cert.Pre_finite.fn (F := Ideal) a0 a1 a2 a3 = fun _ => 1#1) :
    (∀ i, a0 i = ((EReal.toReal (a0 i) : ℝ) : EReal)) ∧ (∀ i, a1 i = ((EReal.toReal (a1 i) : ℝ) : EReal)) ∧ (∀ i, a3 i = ((EReal.toReal (a3 i) : ℝ) : EReal)) := by
  have h0 := congrFun h (fun a => a.elim0)
  have and1 : ∀ x y : BitVec 1, IntOp.andi x y = 1#1 → x = 1#1 ∧ y = 1#1 := by decide
  obtain ⟨h1, h3⟩ := and1 _ _ h0
  obtain ⟨h1, h2⟩ := and1 _ _ h1
  haveI : Subsingleton Cert.Pre_finite.S_.Idx := ⟨fun x y => funext fun a => a.elim0⟩
  exact ⟨fun i => real_of_word _ (Host.reduce_andi_all _ _ _ _ _ h1 i), fun i => real_of_word _ (Host.reduce_andi_all _ _ _ _ _ h2 i),
    fun i => real_of_word _ (Host.reduce_andi_all _ _ _ _ _ h3 i)⟩

/-! ## A row of the kernel against a row of the reference -/

theorem QS_val : QS = (((Real.log 2)⁻¹ * (1 / 8) : ℝ) : EReal) := IdealRules.named_const.ideal_named_scalar _ _ _ _ rfl
theorem LG_val : LG = (((Real.log 2)⁻¹ : ℝ) : EReal) := IdealRules.named_const.ideal_named_scalar _ _ _ _ rfl
theorem MK_val : MK = (⊥ : EReal) := IdealRules.named_const.ideal_named_scalar _ _ _ _ rfl

theorem row_eq (q : Fin 64 → EReal) (k : Fin 384 → Fin 64 → EReal) (b : Fin 384 → EReal) (sk : EReal) (v : Fin 384 → EReal)
    (a : Fin 384 → ℝ) (valid : Fin 384 → Prop) [DecidablePred valid] (s : ℝ) (hsk : sk = (s : EReal)) (v' x : Fin 384 → EReal)
    (hv : ∀ c, valid c → v c = v' c)
    (hs : ∀ c, (∑ d, q d * QS * k c d) + b c = if valid c then ((a c * (Real.log 2)⁻¹ : ℝ) : EReal) else ⊥)
    (hx : ∀ c, x c = if valid c then ((a c : ℝ) : EReal) else ⊥) :
    row q k b sk v = ∑ c, Ideal.div (Ideal.exp (x c - max (Finset.univ.sup x) sk))
      ((∑ c, Ideal.exp (x c - max (Finset.univ.sup x) sk)) + Ideal.exp (sk - max (Finset.univ.sup x) sk)) * v' c := by
  unfold row
  subst hsk
  rw [show ((s : ℝ) : EReal) * LG = ((s * (Real.log 2)⁻¹ : ℝ) : EReal) by rw [LG_val, ← EReal.coe_mul]]
  exact softmax_row a valid s v v' hv _ x hs hx _ _ rfl rfl

section
variable (m : (ℓ : Loc Cert.KernelIdeal.nD Cert.KernelIdeal.τ Cert.KernelIdeal.sig) → Buf (Elt Ideal) ℓ) (c : Dev Cert.KernelIdeal.nD)

abbrev A0 : (⟨Cert.ReferenceIdeal.S20x4096x512, .f32⟩ : BufTy).Contents (Elt Ideal) := m ((c.tc : Thread Cert.KernelIdeal.nD Cert.KernelIdeal.τ).loc Cert.KernelIdeal.main_arg0)
abbrev A1 : (⟨Cert.ReferenceIdeal.S20x4096x128, .f32⟩ : BufTy).Contents (Elt Ideal) := m ((c.tc : Thread Cert.KernelIdeal.nD Cert.KernelIdeal.τ).loc Cert.KernelIdeal.main_arg1)
abbrev A2 : (⟨Cert.ReferenceIdeal.S20x4096x128, .f32⟩ : BufTy).Contents (Elt Ideal) := m ((c.tc : Thread Cert.KernelIdeal.nD Cert.KernelIdeal.τ).loc Cert.KernelIdeal.main_arg2)
abbrev A3 : (⟨Cert.ReferenceIdeal.S8, .f32⟩ : BufTy).Contents (Elt Ideal) := m ((c.tc : Thread Cert.KernelIdeal.nD Cert.KernelIdeal.τ).loc Cert.KernelIdeal.main_arg3)

theorem pk_key (b : Fin 20) (R : Fin 4096) (L : Fin 512) (h g : ℕ) (hh : h < 2) (t : Fin 64) (e : L.val = kl h ⟨64 * (g % 2) + t.val, by omega⟩) :
    pk m c b R L = A1 m c (ValueIdx.ix3 b R ⟨h * 64 + t.val, by omega⟩) := by
  unfold kl at e
  refine (packRow_k _ _ L ⟨h * 64 + t.val, by omega⟩ ?_ ?_).trans rfl
  · simp only at e; split at e <;> omega
  · simp only at e ⊢; split at e <;> split <;> omega

theorem pk_val (b : Fin 20) (R : Fin 4096) (L : Fin 512) (h g : ℕ) (hh : h < 2) (t : Fin 64) (e : L.val = 256 + kl h ⟨64 * (g % 2) + t.val, by omega⟩) :
    pk m c b R L = A2 m c (ValueIdx.ix3 b R ⟨h * 64 + t.val, by omega⟩) := by
  unfold kl at e
  refine (packRow_v _ _ L ⟨h * 64 + t.val, by omega⟩ ?_ ?_).trans rfl
  · simp only at e; split at e <;> omega
  · simp only at e ⊢; split at e <;> split <;> omega

theorem tab_iff (i j q x : ℕ) (hi : i < 4) (hj : j < 8) (hq : q < 128) (hx : x < 384) : tabOk (sel i j).val q x ↔ ok (8 * i + j) q x := by
  unfold tabOk ok sel
  split
  · simp; omega
  · split
    · simp; omega
    · simp; omega

theorem elem (h0 : ∀ i, A0 m c i = ((EReal.toReal (A0 m c i) : ℝ) : EReal)) (h1 : ∀ i, A1 m c i = ((EReal.toReal (A1 m c i) : ℝ) : EReal))
    (h3 : ∀ i, A3 m c i = ((EReal.toReal (A3 m c i) : ℝ) : EReal)) (b : Fin 20) (i : Fin 4) (r : Fin 1024) (l : Fin 512) :
    G i.val (iblk m c 0 (pt b i)) (iblk m c 1 (pt b i)) (iblk m c 2 (pt b i)) (iblk m c 3 (pt b i)) (iblk m c 4 (pt b i)) (iblk m c 5 (pt b i)) r l
      = Cert.ReferenceIdeal.Read.val_main_v71 (F := Ideal) (A0 m c) (A1 m c) (A2 m c) (A3 m c) (ValueIdx.ix3 b ⟨1024 * i.val + r.val, by omega⟩ l) := by
  let n : Fin 32 := ⟨8 * i.val + r.val / 128, by omega⟩
  let h : Fin 2 := ⟨l.val / 256, by omega⟩
  let g : Fin 4 := ⟨l.val / 64 % 4, by omega⟩
  let q : Fin 128 := ⟨r.val % 128, by omega⟩
  let d : Fin 64 := ⟨l.val % 64, by omega⟩
  rw [v71_apply (A0 m c) (A1 m c) (A2 m c) (A3 m c) b n h g q _ l d (by show 1024 * i.val + r.val = (8 * i.val + r.val / 128) * 128 + r.val % 128; omega)
    (by show l.val = (l.val / 256 * 4 + l.val / 64 % 4) * 64 + l.val % 64; omega), v69_apply]
  have hsk : iblk m c 0 (pt b i) (ix1 ⟨l.val / 64, by omega⟩) = rK (A3 m c) h g := by
    rw [iblk0_apply]
    unfold rK
    refine congrArg (A3 m c) (congrArg ValueIdx.ix1 (Fin.ext ?_))
    show l.val / 64 = l.val / 256 * 4 + l.val / 64 % 4
    omega
  have hrow : ∀ x : Fin 384, ok n.val q.val x.val → ∀ R : Fin 4096,
      (128 ≤ 1024 * i.val + (128 * (r.val / 128) + x.val) → 1024 * i.val + (128 * (r.val / 128) + x.val) < 4224 → R.val = 1024 * i.val + (128 * (r.val / 128) + x.val) - 128) →
      R.val = n.val * 128 + x.val - 128 := by
    intro x hx R hR
    obtain ⟨o1, o2, _, _⟩ := hx
    have en : n.val = 8 * i.val + r.val / 128 := rfl
    rw [en] at o1 o2 ⊢
    rw [hR (by omega) (by omega)]
    omega
  have hk7 : ∀ x : Fin 384, ok n.val q.val x.val → ∀ t : Fin 64, Cert.ReferenceIdeal.Read.val_main_v7 (F := Ideal) (A1 m c) (ValueIdx.ix5 b n x h t)
      = ((EReal.toReal (Cert.ReferenceIdeal.Read.val_main_v7 (F := Ideal) (A1 m c) (ValueIdx.ix5 b n x h t)) : ℝ) : EReal) := by
    intro x hx t
    rw [v7_apply _ b n x h t hx.1 hx.2.1]
    exact h1 _
  have e8 : Ideal.ofBits .f32 0x3E000000#32 = ((1 / 8 : ℝ) : EReal) := by
    simp [Ideal.ofBits, Ideal.ieee]
    norm_num
    rw [← EReal.coe_mul]
    norm_num
  unfold G
  rw [hsk]
  refine (row_eq _ _ _ _ _ (fun x => (∑ t : Fin 64, EReal.toReal (Cert.ReferenceIdeal.Read.val_main_v7 (F := Ideal) (A1 m c) (ValueIdx.ix5 b n x h t))
      * EReal.toReal (A0 m c (ValueIdx.ix3 b ⟨n.val * 128 + q.val, by omega⟩ ⟨(h.val * 4 + g.val) * 64 + t.val, by omega⟩))) * (1 / 8))
    (fun x => ok n.val q.val x.val) (EReal.toReal (rK (A3 m c) h g)) (show rK (A3 m c) h g = _ from h3 _)
    (fun x => Cert.ReferenceIdeal.Read.val_main_v7 (F := Ideal) (A2 m c) (ValueIdx.ix5 b n x h d)) (rS (A0 m c) (A1 m c) b n h g q) ?hv ?hs ?hx).trans ?hm
  case hm => exact Finset.sum_congr rfl fun x _ => mul_comm _ _
  case hv =>
    intro x hx
    obtain ⟨R, hR, e⟩ := kv_some m c b i ⟨128 * (r.val / 128) + x.val, by omega⟩ ⟨256 + kl (l.val / 256) ⟨l.val % 128, by omega⟩, by simp only [kl]; split <;> omega⟩
    refine e.trans ?_
    rw [v7_apply _ b n x h d hx.1 hx.2.1, pk_val m c b R _ (l.val / 256) (l.val / 64) h.isLt d (by
      simp only
      congr 2
      refine Fin.ext ?_
      show l.val % 128 = 64 * (l.val / 64 % 2) + l.val % 64
      omega)]
    refine congrArg (fun R => A2 m c (ValueIdx.ix3 b R _)) (Fin.ext ?_)
    exact hrow x hx R hR
  case hx =>
    intro x
    unfold rS
    rw [v52_apply]
    by_cases hx : ok n.val q.val x.val
    · rw [if_pos hx, if_pos hx, e8, EReal.coe_mul, ← sum_coe]
      refine congrArg (· * _) (Finset.sum_congr rfl fun t _ => ?_)
      rw [EReal.coe_mul, ← hk7 x hx t, ← h0]
    · rw [if_neg hx, if_neg hx]
  case hs =>
    intro x
    rw [iblk5_apply, MK_val]
    have ht := tab_iff i.val (r.val / 128) (r.val % 128) x.val i.isLt (by omega) (by omega) x.isLt
    by_cases hx : ok n.val q.val x.val
    · rw [if_pos (ht.2 hx), if_pos hx, zero_mul, add_zero, Finset.sum_mul, Finset.sum_mul, ← sum_coe]
      refine Finset.sum_congr rfl fun t _ => ?_
      obtain ⟨R, hR, e⟩ := kv_some m c b i ⟨128 * (r.val / 128) + x.val, by omega⟩ ⟨kl (l.val / 256) ⟨64 * (l.val / 64 % 2) + t.val, by omega⟩, by simp only [kl]; split <;> omega⟩
      rw [e, pk_key m c b R _ (l.val / 256) (l.val / 64) h.isLt t rfl, iblk1_apply]
      have e1 : A1 m c (ValueIdx.ix3 b R ⟨l.val / 256 * 64 + t.val, by omega⟩) = Cert.ReferenceIdeal.Read.val_main_v7 (F := Ideal) (A1 m c) (ValueIdx.ix5 b n x h t) := by
        rw [v7_apply _ b n x h t hx.1 hx.2.1]
        refine congrArg (fun R => A1 m c (ValueIdx.ix3 b R _)) (Fin.ext ?_)
        exact hrow x hx R hR
      have e0 : m ((c.tc : Thread Cert.KernelIdeal.nD Cert.KernelIdeal.τ).loc Cert.KernelIdeal.main_arg0) (ix3 b (⟨1024 * i.val + r.val, by omega⟩ : Fin 4096) (⟨64 * (l.val / 64) + t.val, by omega⟩ : Fin 512))
          = A0 m c (ValueIdx.ix3 b ⟨n.val * 128 + q.val, by omega⟩ ⟨(h.val * 4 + g.val) * 64 + t.val, by omega⟩) := by
        refine congrArg (A0 m c) (congrArg₂ (ValueIdx.ix3 b) (Fin.ext ?_) (Fin.ext ?_))
        · show 1024 * i.val + r.val = (8 * i.val + r.val / 128) * 128 + r.val % 128; omega
        · show 64 * (l.val / 64) + t.val = (l.val / 256 * 4 + l.val / 64 % 4) * 64 + t.val; omega
      rw [e1, e0, hk7 x hx t, h0, QS_val, ← EReal.coe_mul, ← EReal.coe_mul]
      simp only [EReal.toReal_coe]
      congr 1
      ring
    · rw [if_neg (fun h => hx (ht.1 h)), if_neg hx, one_mul, EReal.add_bot]

/-- The kernel's result is the reference's. -/
theorem out_eq (h0 : ∀ i, A0 m c i = ((EReal.toReal (A0 m c i) : ℝ) : EReal)) (h1 : ∀ i, A1 m c i = ((EReal.toReal (A1 m c i) : ℝ) : EReal))
    (h3 : ∀ i, A3 m c i = ((EReal.toReal (A3 m c i) : ℝ) : EReal)) :
    (dats m 0 c).arrAt 6 Cert.KernelIdeal.cfg0.N = Cert.ReferenceIdeal.Read.val_main_v71 (F := Ideal) (A0 m c) (A1 m c) (A2 m c) (A3 m c) := by
  funext y
  have hy : y = (ix3 (y 0 : Fin 20) (⟨1024 * ((y 1).val / 1024) + (y 1).val % 1024, by have := (y 1).isLt; change _ < 4096 at this; omega⟩ : Fin 4096) (y 2 : Fin 512) : Cert.KernelIdeal.S20x4096x512.Idx) := by
    funext a
    match a with
    | ⟨0, _⟩ => rfl
    | ⟨1, _⟩ => exact Fin.ext (Nat.div_add_mod _ _).symm
    | ⟨2, _⟩ => rfl
  have h4 : (y 1).val / 1024 < 4 := by have := (y 1).isLt; change _ < 4096 at this; omega
  have e := (out_elem m c (y 0) ⟨(y 1).val / 1024, h4⟩ ⟨(y 1).val % 1024, by omega⟩ (y 2)).trans (elem m c h0 h1 h3 (y 0) ⟨(y 1).val / 1024, h4⟩ ⟨(y 1).val % 1024, by omega⟩ (y 2))
  rw [hy]
  exact e

end

end Cert.Swa

end
-- ==== Proof.Experts.BaseI.lean ====
module

public import proofs.«01_k».proof.Proof.Gen.ExpertsIdeal.Launch
public import proofs.«01_k».proof.Proof.Gen.ExpertsIdeal.Skeleton
public import Idealize.ShloMosaic.Lib.Pipeline.Kit
public import Idealize.ShloMosaic.Lib.Exec
public import Idealize.ShloMosaic.Lib.WordCmp
public import Idealize.ShloMosaic.Lib.Claim
public import proofs.«01_k».proof.Proof.Gen.Kernel.Frame

@[expose] public section

set_option maxRecDepth 16384

noncomputable section

namespace Cert.ExpertsIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal.Gen

variable {F : FTy → Type} [FloatOps F]

/-- The resources of the separation logic at this program's signature. -/
abbrev MM (F : FTy → Type) [FloatOps F] := MT nD τ sig Unit (Elt F) ℕ (UR sig nD τ) ℕ

variable (m : (ℓ : Loc nD τ sig) → Buf (Elt F) ℓ) (ρ : Dev nD → PrngReg)

/-- The host operations before the call, stretch by stretch. -/
abbrev hostAll : List (List (HloOp τ sig (Elt F))) := [hostOps0, hostOps0_1, hostOps0_2, hostOps0_3, hostOps0_4, hostOps0_5]

/-- Core `c`'s buffers when the call is entered: after the host operations. -/
abbrev V (c : Dev nD) (b : Ref sig .tc) : Buf (Elt F) ((c : Thread nD τ).loc b) :=
  StableHlo.after (hostAll (F := F)).flatten (fun b => m (c, b)) b

theorem hostAll_sub : (hostAll (F := F)).Forall fun ops => ops.Forall fun op => op.bufs ⊆ StableHlo.tcRefs τ sig :=
  ⟨hostOps0_sub, hostOps0_1_sub, hostOps0_2_sub, hostOps0_3_sub, hostOps0_4_sub, hostOps0_5_sub⟩

theorem hostAll_fresh : (hostAll (F := F)).Forall fun ops => ops.Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main hostAll hostAll_sub hostAll_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostAll, hostOps0, hostOps0_1, hostOps0_2, hostOps0_3, hostOps0_4, hostOps0_5, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostAll, hostOps0, hostOps0_1, hostOps0_2, hostOps0_3, hostOps0_4, hostOps0_5, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostAll, hostOps0, hostOps0_1, hostOps0_2, hostOps0_3, hostOps0_4, hostOps0_5, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostAll, hostOps0, hostOps0_1, hostOps0_2, hostOps0_3, hostOps0_4, hostOps0_5, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostAll, hostOps0, hostOps0_1, hostOps0_2, hostOps0_3, hostOps0_4, hostOps0_5, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostAll, hostOps0, hostOps0_1, hostOps0_2, hostOps0_3, hostOps0_4, hostOps0_5, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    repeat' apply And.intro
    all_goals exact StableHlo.devRef_ne_of_ne (by decide)))
/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 4) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S672 .i32 := Memref.whole main_v22
abbrev htbM0_0 : tbM0_0.IsWhole := Memref.isWhole_whole _
abbrev tbM0_1 : Memref sig .tc .smem S672 .i32 := Memref.whole main_v35
abbrev htbM0_1 : tbM0_1.IsWhole := Memref.isWhole_whole _
abbrev tbM0_2 : Memref sig .tc .smem S672 .i32 := Memref.whole main_v15
abbrev htbM0_2 : tbM0_2.IsWhole := Memref.isWhole_whole _
abbrev tbM0_3 : Memref sig .tc .smem S1 .i32 := Memref.whole main_v36
abbrev htbM0_3 : tbM0_3.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MM F) :=
  M.view.loc (c : Thread nD τ) ↦{fullShare.right} f

theorem PhiT0_eq (c : Dev nD) : (Pipeline.ΦT pre0 (tbl m) c : sProp (MM F)) = iprop(tbPt0 c tbM0_0 (tbl m 0) ∗ tbPt0 c tbM0_1 (tbl m 1) ∗ tbPt0 c tbM0_2 (tbl m 2) ∗ tbPt0 c tbM0_3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).1 1).trans (((dats 0 c).arrAt_in 1 rfl _).trans ((hA c 1).trans (V_main_arg2 m c))),
      ((h c).2 main_arg3 (by decide : main_arg3 ∈ Pipeline.restRefs sig spec0)).trans (V_main_arg3 m c),
      ((h c).1 3).trans (((dats 0 c).arrAt_in 3 rfl _).trans ((hA c 3).trans (V_main_arg4 m c))),
      ((h c).2 main_arg5 (by decide : main_arg5 ∈ Pipeline.restRefs sig spec0)).trans (V_main_arg5 m c)⟩) h

/-- One staging buffer of output window 5, through which its contents are stated (`View.read_writes_of_cover`: the
    choice does not matter). -/
abbrev VO0_5 : View sig .tc .vmem S4096x128 .f32 := (Memref.whole cc0_stg5_0 : Memref sig .tc .vmem S4096x128 .f32).view
/-- Each window's current staging memref at point `t`, spelled as the pipeline passes it (`bodyAt0`), and its wholeness. -/
abbrev ms0_0 (hO : Ok m) (t : Fin (cfgM m hO).N) : Memref sig .tc .vmem S4096x128 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x2048 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1024x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S4096x128 .f32 := spec0_5.stage ((cfgM m hO).slots t 5)
abbrev hs0_5 (hO : Ok m) (t : Fin (cfgM m hO).N) : (ms0_5 m hO t).IsWhole := hstage0_5 (((cfgM m hO).slots t 5).cast nbuf0_5)
/-- The scratch operands: whole scoped buffers of the kernel's own, passed beside the windows. -/
abbrev scM0_0 : Memref sig .tc .vmem S1024x2048 .bf16 := Memref.whole cc0_scratch0
abbrev scM0_1 : Memref sig .tc .vmem S1024x1024 .bf16 := Memref.whole cc0_scratch1
/-- The scratch `arg11` the kernel carries between points, as a view: what it holds is stated through it. -/
abbrev VS0_0 : View sig .tc .vmem S1024x2048 .bf16 := scM0_0.view

theorem PhiA0_eq (c : Dev nD) :
    (Pipeline.ΦA spec0 c : sProp (MM F))
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_experts (grid0.coords t) (Memref.whole main_v22) (Memref.isWhole_whole _) (Memref.whole main_v35) (Memref.isWhole_whole _) (Memref.whole main_v15) (Memref.isWhole_whole _) (Memref.whole main_v36) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _)

end Cert.ExpertsIdeal.Fr

end
-- ==== Proof.Experts.RunI.lean ====
module

public import proofs.«01_k».proof.Proof.Experts.BaseI
public import Idealize.ShloMosaic.Lib.VecWindow
public import Idealize.ShloMosaic.Lib.Pipeline.Value
public import Idealize.ShloMosaic.Lib.Pointwise.Index

@[expose] public section

set_option maxRecDepth 16384

noncomputable section

namespace Cert.ExpertsIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal.Gen

variable {F : FTy → Type} [FloatOps F]

variable (c : Dev nD) (i : grid0.Coords)

/-- The only element of a one-word read. -/
abbrev word1 (r : Rect S672) (h : r.shape.numel = 1) (xt : TbBuf0 (F := F) c tbM0_0) : BitVec 32 :=
  View.readAt (Elt F) tbM0_0.view r.toLoadRect xt (Shape.Idx.first (h ▸ Nat.one_pos))

/-- The tile's expert differs from the tile's before, or the tile is the first: the weights are cast again. -/
abbrev cRef (xt0 : TbBuf0 (F := F) c tbM0_0) : Prop :=
  Scalar.cmpi .ne ((Scalar.extui (Scalar.ori (Scalar.cmpi .eq (BitVec.ofNat 32 (i 0).val) 0#32)
    (Scalar.cmpi .ne (word1 c (Rect.unit (s := S672) (k0_off1 i) S1.size (k0_off1_inb i)) numel1_S1 xt0)
      (word1 c (Rect.unit (s := S672) (k0_off2 i) S1.size (k0_off2_inb i)) numel1_S1 xt0))) : BitVec 32)) 0#32 = 1#1

/-- The tile is one of those in use. -/
abbrev cUse (xt3 : TbBuf0 (F := F) c tbM0_3) : Prop :=
  k0_cond2 i (View.readAt (Elt F) tbM0_3.view (Rect.unit (s := S1) ![0] S1.size inb_S1_S1_0).toLoadRect xt3 (Shape.Idx.first (numel1_S1 ▸ Nat.one_pos : 0 < S1.numel))) = 1#1

/-- The tile's rows, gathered column block by column block: column block `s` is the rows 8r + s of the block. -/
def gcol (x0 : Vec F S4096x128 .f32) (r : LoadRect S4096x128) : r.shape.Idx → F .f32 := fun x => x0 (r.idx x)

def hid13 (x0 : Vec F S4096x128 .f32) (x2 : Vec F S1x1x2048 .f32) (s0 : Vec F S1024x2048 .bf16) : FVec F S512x1024 .f32 :=
  k0_pay13 (gcol x0 (⟨![0, 0], S512x128.size, ![8, 1], inb_S4096x128_S512x128_0_0_s_8_1⟩ : LoadRect S4096x128)) (gcol x0 (⟨![1, 0], S512x128.size, ![8, 1], inb_S4096x128_S512x128_1_0_s_8_1⟩ : LoadRect S4096x128)) (gcol x0 (⟨![2, 0], S512x128.size, ![8, 1], inb_S4096x128_S512x128_2_0_s_8_1⟩ : LoadRect S4096x128)) (gcol x0 (⟨![3, 0], S512x128.size, ![8, 1], inb_S4096x128_S512x128_3_0_s_8_1⟩ : LoadRect S4096x128)) (gcol x0 (⟨![4, 0], S512x128.size, ![8, 1], inb_S4096x128_S512x128_4_0_s_8_1⟩ : LoadRect S4096x128)) (gcol x0 (⟨![5, 0], S512x128.size, ![8, 1], inb_S4096x128_S512x128_5_0_s_8_1⟩ : LoadRect S4096x128)) (gcol x0 (⟨![6, 0], S512x128.size, ![8, 1], inb_S4096x128_S512x128_6_0_s_8_1⟩ : LoadRect S4096x128)) (gcol x0 (⟨![7, 0], S512x128.size, ![8, 1], inb_S4096x128_S512x128_7_0_s_8_1⟩ : LoadRect S4096x128)) s0 x2
def hid14 (x0 : Vec F S4096x128 .f32) (x2 : Vec F S1x1x2048 .f32) (s0 : Vec F S1024x2048 .bf16) : FVec F S512x1024 .f32 :=
  k0_pay14 (gcol x0 (⟨![0, 0], S512x128.size, ![8, 1], inb_S4096x128_S512x128_0_0_s_8_1⟩ : LoadRect S4096x128)) (gcol x0 (⟨![1, 0], S512x128.size, ![8, 1], inb_S4096x128_S512x128_1_0_s_8_1⟩ : LoadRect S4096x128)) (gcol x0 (⟨![2, 0], S512x128.size, ![8, 1], inb_S4096x128_S512x128_2_0_s_8_1⟩ : LoadRect S4096x128)) (gcol x0 (⟨![3, 0], S512x128.size, ![8, 1], inb_S4096x128_S512x128_3_0_s_8_1⟩ : LoadRect S4096x128)) (gcol x0 (⟨![4, 0], S512x128.size, ![8, 1], inb_S4096x128_S512x128_4_0_s_8_1⟩ : LoadRect S4096x128)) (gcol x0 (⟨![5, 0], S512x128.size, ![8, 1], inb_S4096x128_S512x128_5_0_s_8_1⟩ : LoadRect S4096x128)) (gcol x0 (⟨![6, 0], S512x128.size, ![8, 1], inb_S4096x128_S512x128_6_0_s_8_1⟩ : LoadRect S4096x128)) (gcol x0 (⟨![7, 0], S512x128.size, ![8, 1], inb_S4096x128_S512x128_7_0_s_8_1⟩ : LoadRect S4096x128)) s0 x2
def hid15 (x0 : Vec F S4096x128 .f32) (x2 : Vec F S1x1x2048 .f32) (s0 : Vec F S1024x2048 .bf16) : FVec F S512x1024 .f32 :=
  k0_pay15 (gcol x0 (⟨![0, 0], S512x128.size, ![8, 1], inb_S4096x128_S512x128_0_0_s_8_1⟩ : LoadRect S4096x128)) (gcol x0 (⟨![1, 0], S512x128.size, ![8, 1], inb_S4096x128_S512x128_1_0_s_8_1⟩ : LoadRect S4096x128)) (gcol x0 (⟨![2, 0], S512x128.size, ![8, 1], inb_S4096x128_S512x128_2_0_s_8_1⟩ : LoadRect S4096x128)) (gcol x0 (⟨![3, 0], S512x128.size, ![8, 1], inb_S4096x128_S512x128_3_0_s_8_1⟩ : LoadRect S4096x128)) (gcol x0 (⟨![4, 0], S512x128.size, ![8, 1], inb_S4096x128_S512x128_4_0_s_8_1⟩ : LoadRect S4096x128)) (gcol x0 (⟨![5, 0], S512x128.size, ![8, 1], inb_S4096x128_S512x128_5_0_s_8_1⟩ : LoadRect S4096x128)) (gcol x0 (⟨![6, 0], S512x128.size, ![8, 1], inb_S4096x128_S512x128_6_0_s_8_1⟩ : LoadRect S4096x128)) (gcol x0 (⟨![7, 0], S512x128.size, ![8, 1], inb_S4096x128_S512x128_7_0_s_8_1⟩ : LoadRect S4096x128)) s0 x2

/-- The tile's result, row by row. -/
def rowsOut (x0 : Vec F S4096x128 .f32) (x2 : Vec F S1x1x2048 .f32) (x4 : Vec F S1x1x1024 .f32) (s0 : Vec F S1024x2048 .bf16) (s1 : Vec F S1024x1024 .bf16) : FVec F S512x1024 .f32 :=
  k0_pay3 (hid13 x0 x2 s0) (hid14 x0 x2 s0) (hid15 x0 x2 s0) (Scalar.ofBits .f32 0x3F800000#32) s1 x4

/-- The tile's result as its block holds it: row 8r + s of the block is column block s of row r. -/
def blkOut (x0 : Vec F S4096x128 .f32) (x2 : Vec F S1x1x2048 .f32) (x4 : Vec F S1x1x1024 .f32) (s0 : Vec F S1024x2048 .bf16) (s1 : Vec F S1024x1024 .bf16) : Vec F S4096x128 .f32 :=
  fun y => rowsOut x0 x2 x4 s0 s1 (ix2 ⟨(y 0).val / 8, by have h : (y 0).val < 4096 := (y 0).isLt; omega⟩ ⟨128 * ((y 0).val % 8) + (y 1).val, by have h : (y 1).val < 128 := (y 1).isLt; omega⟩)

/-- What the body stores in the output's block, the last store first. -/
def outPieces (x0 : Vec F S4096x128 .f32) (x2 : Vec F S1x1x2048 .f32) (x4 : Vec F S1x1x1024 .f32) (s0 : Vec F S1024x2048 .bf16) (s1 : Vec F S1024x1024 .bf16) : List (View.Piece (Elt F) S4096x128 .f32) :=
  [⟨⟨(⟨![7, 0], S512x128.size, ![8, 1], inb_S4096x128_S512x128_7_0_s_8_1⟩ : LoadRect S4096x128), spos_8_1⟩, k0_pay11 (hid13 x0 x2 s0) (hid14 x0 x2 s0) (hid15 x0 x2 s0) (Scalar.ofBits .f32 0x3F800000#32) s1 x4⟩,
   ⟨⟨(⟨![6, 0], S512x128.size, ![8, 1], inb_S4096x128_S512x128_6_0_s_8_1⟩ : LoadRect S4096x128), spos_8_1⟩, k0_pay10 (hid13 x0 x2 s0) (hid14 x0 x2 s0) (hid15 x0 x2 s0) (Scalar.ofBits .f32 0x3F800000#32) s1 x4⟩,
   ⟨⟨(⟨![5, 0], S512x128.size, ![8, 1], inb_S4096x128_S512x128_5_0_s_8_1⟩ : LoadRect S4096x128), spos_8_1⟩, k0_pay9 (hid13 x0 x2 s0) (hid14 x0 x2 s0) (hid15 x0 x2 s0) (Scalar.ofBits .f32 0x3F800000#32) s1 x4⟩,
   ⟨⟨(⟨![4, 0], S512x128.size, ![8, 1], inb_S4096x128_S512x128_4_0_s_8_1⟩ : LoadRect S4096x128), spos_8_1⟩, k0_pay8 (hid13 x0 x2 s0) (hid14 x0 x2 s0) (hid15 x0 x2 s0) (Scalar.ofBits .f32 0x3F800000#32) s1 x4⟩,
   ⟨⟨(⟨![3, 0], S512x128.size, ![8, 1], inb_S4096x128_S512x128_3_0_s_8_1⟩ : LoadRect S4096x128), spos_8_1⟩, k0_pay7 (hid13 x0 x2 s0) (hid14 x0 x2 s0) (hid15 x0 x2 s0) (Scalar.ofBits .f32 0x3F800000#32) s1 x4⟩,
   ⟨⟨(⟨![2, 0], S512x128.size, ![8, 1], inb_S4096x128_S512x128_2_0_s_8_1⟩ : LoadRect S4096x128), spos_8_1⟩, k0_pay6 (hid13 x0 x2 s0) (hid14 x0 x2 s0) (hid15 x0 x2 s0) (Scalar.ofBits .f32 0x3F800000#32) s1 x4⟩,
   ⟨⟨(⟨![1, 0], S512x128.size, ![8, 1], inb_S4096x128_S512x128_1_0_s_8_1⟩ : LoadRect S4096x128), spos_8_1⟩, k0_pay5 (hid13 x0 x2 s0) (hid14 x0 x2 s0) (hid15 x0 x2 s0) (Scalar.ofBits .f32 0x3F800000#32) s1 x4⟩,
   ⟨⟨(⟨![0, 0], S512x128.size, ![8, 1], inb_S4096x128_S512x128_0_0_s_8_1⟩ : LoadRect S4096x128), spos_8_1⟩, k0_pay4 (hid13 x0 x2 s0) (hid14 x0 x2 s0) (hid15 x0 x2 s0) (Scalar.ofBits .f32 0x3F800000#32) s1 x4⟩]

theorem outPieces_eq (x0 : Vec F S4096x128 .f32) (x2 : Vec F S1x1x2048 .f32) (x4 : Vec F S1x1x1024 .f32) (s0 : Vec F S1024x2048 .bf16) (s1 : Vec F S1024x1024 .bf16) :
    ∀ p ∈ outPieces x0 x2 x4 s0 s1, ∀ x : p.1.shape.Idx, p.2 x = blkOut x0 x2 x4 s0 s1 (p.1.emb x) := by
  unfold outPieces
  refine List.forall_mem_cons.mpr ⟨fun x => ?_, ?_⟩
  · show rowsOut x0 x2 x4 s0 s1 _ = rowsOut x0 x2 x4 s0 s1 _
    congr 1
    have h0 : (x 0).val < 512 := (x 0).isLt
    have h1 : (x 1).val < 128 := (x 1).isLt
    funext a
    match a with
    | ⟨0, _⟩ => exact Fin.ext (show 0 + (x 0).val = (7 + 8 * (x 0).val) / 8 by omega)
    | ⟨1, _⟩ => exact Fin.ext (show 896 + (x 1).val = 128 * ((7 + 8 * (x 0).val) % 8) + (0 + 1 * (x 1).val) by omega)
  refine List.forall_mem_cons.mpr ⟨fun x => ?_, ?_⟩
  · show rowsOut x0 x2 x4 s0 s1 _ = rowsOut x0 x2 x4 s0 s1 _
    congr 1
    have h0 : (x 0).val < 512 := (x 0).isLt
    have h1 : (x 1).val < 128 := (x 1).isLt
    funext a
    match a with
    | ⟨0, _⟩ => exact Fin.ext (show 0 + (x 0).val = (6 + 8 * (x 0).val) / 8 by omega)
    | ⟨1, _⟩ => exact Fin.ext (show 768 + (x 1).val = 128 * ((6 + 8 * (x 0).val) % 8) + (0 + 1 * (x 1).val) by omega)
  refine List.forall_mem_cons.mpr ⟨fun x => ?_, ?_⟩
  · show rowsOut x0 x2 x4 s0 s1 _ = rowsOut x0 x2 x4 s0 s1 _
    congr 1
    have h0 : (x 0).val < 512 := (x 0).isLt
    have h1 : (x 1).val < 128 := (x 1).isLt
    funext a
    match a with
    | ⟨0, _⟩ => exact Fin.ext (show 0 + (x 0).val = (5 + 8 * (x 0).val) / 8 by omega)
    | ⟨1, _⟩ => exact Fin.ext (show 640 + (x 1).val = 128 * ((5 + 8 * (x 0).val) % 8) + (0 + 1 * (x 1).val) by omega)
  refine List.forall_mem_cons.mpr ⟨fun x => ?_, ?_⟩
  · show rowsOut x0 x2 x4 s0 s1 _ = rowsOut x0 x2 x4 s0 s1 _
    congr 1
    have h0 : (x 0).val < 512 := (x 0).isLt
    have h1 : (x 1).val < 128 := (x 1).isLt
    funext a
    match a with
    | ⟨0, _⟩ => exact Fin.ext (show 0 + (x 0).val = (4 + 8 * (x 0).val) / 8 by omega)
    | ⟨1, _⟩ => exact Fin.ext (show 512 + (x 1).val = 128 * ((4 + 8 * (x 0).val) % 8) + (0 + 1 * (x 1).val) by omega)
  refine List.forall_mem_cons.mpr ⟨fun x => ?_, ?_⟩
  · show rowsOut x0 x2 x4 s0 s1 _ = rowsOut x0 x2 x4 s0 s1 _
    congr 1
    have h0 : (x 0).val < 512 := (x 0).isLt
    have h1 : (x 1).val < 128 := (x 1).isLt
    funext a
    match a with
    | ⟨0, _⟩ => exact Fin.ext (show 0 + (x 0).val = (3 + 8 * (x 0).val) / 8 by omega)
    | ⟨1, _⟩ => exact Fin.ext (show 384 + (x 1).val = 128 * ((3 + 8 * (x 0).val) % 8) + (0 + 1 * (x 1).val) by omega)
  refine List.forall_mem_cons.mpr ⟨fun x => ?_, ?_⟩
  · show rowsOut x0 x2 x4 s0 s1 _ = rowsOut x0 x2 x4 s0 s1 _
    congr 1
    have h0 : (x 0).val < 512 := (x 0).isLt
    have h1 : (x 1).val < 128 := (x 1).isLt
    funext a
    match a with
    | ⟨0, _⟩ => exact Fin.ext (show 0 + (x 0).val = (2 + 8 * (x 0).val) / 8 by omega)
    | ⟨1, _⟩ => exact Fin.ext (show 256 + (x 1).val = 128 * ((2 + 8 * (x 0).val) % 8) + (0 + 1 * (x 1).val) by omega)
  refine List.forall_mem_cons.mpr ⟨fun x => ?_, ?_⟩
  · show rowsOut x0 x2 x4 s0 s1 _ = rowsOut x0 x2 x4 s0 s1 _
    congr 1
    have h0 : (x 0).val < 512 := (x 0).isLt
    have h1 : (x 1).val < 128 := (x 1).isLt
    funext a
    match a with
    | ⟨0, _⟩ => exact Fin.ext (show 0 + (x 0).val = (1 + 8 * (x 0).val) / 8 by omega)
    | ⟨1, _⟩ => exact Fin.ext (show 128 + (x 1).val = 128 * ((1 + 8 * (x 0).val) % 8) + (0 + 1 * (x 1).val) by omega)
  refine List.forall_mem_cons.mpr ⟨fun x => ?_, ?_⟩
  · show rowsOut x0 x2 x4 s0 s1 _ = rowsOut x0 x2 x4 s0 s1 _
    congr 1
    have h0 : (x 0).val < 512 := (x 0).isLt
    have h1 : (x 1).val < 128 := (x 1).isLt
    funext a
    match a with
    | ⟨0, _⟩ => exact Fin.ext (show 0 + (x 0).val = (0 + 8 * (x 0).val) / 8 by omega)
    | ⟨1, _⟩ => exact Fin.ext (show 0 + (x 1).val = 128 * ((0 + 8 * (x 0).val) % 8) + (0 + 1 * (x 1).val) by omega)
  exact fun p hp => absurd hp (List.not_mem_nil)

theorem outPieces_cover (x0 : Vec F S4096x128 .f32) (x2 : Vec F S1x1x2048 .f32) (x4 : Vec F S1x1x1024 .f32) (s0 : Vec F S1024x2048 .bf16) (s1 : Vec F S1024x1024 .bf16) (y : S4096x128.Idx) :
    ∃ p ∈ outPieces x0 x2 x4 s0 s1, y ∈ p.1.set := by
  have h0 : (y 0).val < 4096 := (y 0).isLt
  have h1 : (y 1).val < 128 := (y 1).isLt
  have key : ∀ k : ℕ, (y 0).val % 8 = k → ∀ (r : Rect S4096x128), r.off = ![k, 0] → r.size = ![512, 128] → r.stride = ![8, 1] → y ∈ r.set := by
    intro k hk r e1 e2 e3
    rw [LoadRect.mem_set]
    intro a
    rw [e1, e2, e3]
    match a with
    | ⟨0, _⟩ => exact ⟨(y 0).val / 8, show (y 0).val / 8 < 512 by omega, show (y 0).val = k + 8 * ((y 0).val / 8) by omega⟩
    | ⟨1, _⟩ => exact ⟨(y 1).val, h1, show (y 1).val = 0 + 1 * (y 1).val by omega⟩
  have h8 : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
  unfold outPieces
  rcases h8 with h | h | h | h | h | h | h | h
  · exact ⟨_, List.getElem_mem (n := 7) (by simp), key 0 h _ rfl rfl rfl⟩
  · exact ⟨_, List.getElem_mem (n := 6) (by simp), key 1 h _ rfl rfl rfl⟩
  · exact ⟨_, List.getElem_mem (n := 5) (by simp), key 2 h _ rfl rfl rfl⟩
  · exact ⟨_, List.getElem_mem (n := 4) (by simp), key 3 h _ rfl rfl rfl⟩
  · exact ⟨_, List.getElem_mem (n := 3) (by simp), key 4 h _ rfl rfl rfl⟩
  · exact ⟨_, List.getElem_mem (n := 2) (by simp), key 5 h _ rfl rfl rfl⟩
  · exact ⟨_, List.getElem_mem (n := 1) (by simp), key 6 h _ rfl rfl rfl⟩
  · exact ⟨_, List.getElem_mem (n := 0) (by simp), key 7 h _ rfl rfl rfl⟩

/-- The body's stores leave the tile's result, through whatever memref and over whatever contents. -/
theorem read_outPieces {sp : Space} (v : View sig .tc sp S4096x128 .f32) (f : v.ty.Contents (Elt F)) (x0 : Vec F S4096x128 .f32) (x2 : Vec F S1x1x2048 .f32) (x4 : Vec F S1x1x1024 .f32) (s0 : Vec F S1024x2048 .bf16) (s1 : Vec F S1024x1024 .bf16) :
    v.read (Elt F) (v.writes (Elt F) f (outPieces x0 x2 x4 s0 s1)) = blkOut x0 x2 x4 s0 s1 :=
  funext fun y => View.read_writes_apply_of_pieces v f (blkOut x0 x2 x4 s0 s1) _ (outPieces_eq x0 x2 x4 s0 s1) y (outPieces_cover x0 x2 x4 s0 s1 y)

theorem readAt_gcol {arg : Memref sig .tc .vmem S4096x128 .f32} (harg : arg.IsWhole) (x : Vec F S4096x128 .f32) (r : LoadRect S4096x128) :
    View.readAt (Elt F) arg.view r (harg.unread x) = gcol x r := by
  funext z
  rw [View.readAt_apply, harg.read_unread]; rfl

theorem readAt_all {sp : Space} {s : Shape} {e : EltTy} {arg : Memref sig .tc sp s e} (harg : arg.IsWhole) (x : s.Idx → Elt F e) {off : Fin s.rank → ℕ} (inb : ∀ a, off a + s.size a ≤ s.size a) :
    View.readAt (Elt F) arg.view (Rect.unit off s.size inb).toLoadRect (harg.unread x) = x := by
  rw [View.readAt_full, harg.read_unread]

/-- The same stores, written over the loads as the body makes them. -/
def rawPieces {arg5 : Memref sig .tc .vmem S4096x128 .f32} (harg5 : arg5.IsWhole) {arg7 : Memref sig .tc .vmem S1x1x2048 .f32} (harg7 : arg7.IsWhole) {arg9 : Memref sig .tc .vmem S1x1x1024 .f32} (harg9 : arg9.IsWhole)
    (x0 : Vec F S4096x128 .f32) (x2 : Vec F S1x1x2048 .f32) (x4 : Vec F S1x1x1024 .f32) (s0 : Vec F S1024x2048 .bf16) (s1 : Vec F S1024x1024 .bf16) : List (View.Piece (Elt F) S4096x128 .f32) :=
  [⟨⟨(⟨![7, 0], S512x128.size, ![8, 1], inb_S4096x128_S512x128_7_0_s_8_1⟩ : LoadRect S4096x128), spos_8_1⟩, k0_pay11 (k0_pay13 (View.readAt (Elt F) arg5.view (⟨![0, 0], S512x128.size, ![8, 1], inb_S4096x128_S512x128_0_0_s_8_1⟩ : LoadRect S4096x128) (harg5.unread x0)) (View.readAt (Elt F) arg5.view (⟨![1, 0], S512x128.size, ![8, 1], inb_S4096x128_S512x128_1_0_s_8_1⟩ : LoadRect S4096x128) (harg5.unread x0)) (View.readAt (Elt F) arg5.view (⟨![2, 0], S512x128.size, ![8, 1], inb_S4096x128_S512x128_2_0_s_8_1⟩ : LoadRect S4096x128) (harg5.unread x0)) (View.readAt (Elt F) arg5.view (⟨![3, 0], S512x128.size, ![8, 1], inb_S4096x128_S512x128_3_0_s_8_1⟩ : LoadRect S4096x128) (harg5.unread x0)) (View.readAt (Elt F) arg5.view (⟨![4, 0], S512x128.size, ![8, 1], inb_S4096x128_S512x128_4_0_s_8_1⟩ : LoadRect S4096x128) (harg5.unread x0)) (View.readAt (Elt F) arg5.view (⟨![5, 0], S512x128.size, ![8, 1], inb_S4096x128_S512x128_5_0_s_8_1⟩ : LoadRect S4096x128) (harg5.unread x0)) (View.readAt (Elt F) arg5.view (⟨![6, 0], S512x128.size, ![8, 1], inb_S4096x128_S512x128_6_0_s_8_1⟩ : LoadRect S4096x128) (harg5.unread x0)) (View.readAt (Elt F) arg5.view (⟨![7, 0], S512x128.size, ![8, 1], inb_S4096x128_S512x128_7_0_s_8_1⟩ : LoadRect S4096x128) (harg5.unread x0)) s0 (View.readAt (Elt F) arg7.view (Rect.unit (s := S1x1x2048) ![0, 0, 0] S1x1x2048.size inb_S1x1x2048_S1x1x2048_0_0_0).toLoadRect (harg7.unread x2))) (k0_pay14 (View.readAt (Elt F) arg5.view (⟨![0, 0], S512x128.size, ![8, 1], inb_S4096x128_S512x128_0_0_s_8_1⟩ : LoadRect S4096x128) (harg5.unread x0)) (View.readAt (Elt F) arg5.view (⟨![1, 0], S512x128.size, ![8, 1], inb_S4096x128_S512x128_1_0_s_8_1⟩ : LoadRect S4096x128) (harg5.unread x0)) (View.readAt (Elt F) arg5.view (⟨![2, 0], S512x128.size, ![8, 1], inb_S4096x128_S512x128_2_0_s_8_1⟩ : LoadRect S4096x128) (harg5.unread x0)) (View.readAt (Elt F) arg5.view (⟨![3, 0], S512x128.size, ![8, 1], inb_S4096x128_S512x128_3_0_s_8_1⟩ : LoadRect S4096x128) (harg5.unread x0)) (View.readAt (Elt F) arg5.view (⟨![4, 0], S512x128.size, ![8, 1], inb_S4096x128_S512x128_4_0_s_8_1⟩ : LoadRect S4096x128) (harg5.unread x0)) (View.readAt (Elt F) arg5.view (⟨![5, 0], S512x128.size, ![8, 1], inb_S4096x128_S512x128_5_0_s_8_1⟩ : LoadRect S4096x128) (harg5.unread x0)) (View.readAt (Elt F) arg5.view (⟨![6, 0], S512x128.size, ![8, 1], inb_S4096x128_S512x128_6_0_s_8_1⟩ : LoadRect S4096x128) (harg5.unread x0)) (View.readAt (Elt F) arg5.view (⟨![7, 0], S512x128.size, ![8, 1], inb_S4096x128_S512x128_7_0_s_8_1⟩ : LoadRect S4096x128) (harg5.unread x0)) s0 (View.readAt (Elt F) arg7.view (Rect.unit (s := S1x1x2048) ![0, 0, 0] S1x1x2048.size inb_S1x1x2048_S1x1x2048_0_0_0).toLoadRect (harg7.unread x2))) (k0_pay15 (View.readAt (Elt F) arg5.view (⟨![0, 0], S512x128.size, ![8, 1], inb_S4096x128_S512x128_0_0_s_8_1⟩ : LoadRect S4096x128) (harg5.unread x0)) (View.readAt (Elt F) arg5.view (⟨![1, 0], S512x128.size, ![8, 1], inb_S4096x128_S512x128_1_0_s_8_1⟩ : LoadRect S4096x128) (harg5.unread x0)) (View.readAt (Elt F) arg5.view (⟨![2, 0], S512x128.size, ![8, 1], inb_S4096x128_S512x128_2_0_s_8_1⟩ : LoadRect S4096x128) (harg5.unread x0)) (View.readAt (Elt F) arg5.view (⟨![3, 0], S512x128.size, ![8, 1], inb_S4096x128_S512x128_3_0_s_8_1⟩ : LoadRect S4096x128) (harg5.unread x0)) (View.readAt (Elt F) arg5.view (⟨![4, 0], S512x128.size, ![8, 1], inb_S4096x128_S512x128_4_0_s_8_1⟩ : LoadRect S4096x128) (harg5.unread x0)) (View.readAt (Elt F) arg5.view (⟨![5, 0], S512x128.size, ![8, 1], inb_S4096x128_S512x128_5_0_s_8_1⟩ : LoadRect S4096x128) (harg5.unread x0)) (View.readAt (Elt F) arg5.view (⟨![6, 0], S512x128.size, ![8, 1], inb_S4096x128_S512x128_6_0_s_8_1⟩ : LoadRect S4096x128) (harg5.unread x0)) (View.readAt (Elt F) arg5.view (⟨![7, 0], S512x128.size, ![8, 1], inb_S4096x128_S512x128_7_0_s_8_1⟩ : LoadRect S4096x128) (harg5.unread x0)) s0 (View.readAt (Elt F) arg7.view (Rect.unit (s := S1x1x2048) ![0, 0, 0] S1x1x2048.size inb_S1x1x2048_S1x1x2048_0_0_0).toLoadRect (harg7.unread x2))) (Scalar.ofBits .f32 0x3F800000#32) s1 (View.readAt (Elt F) arg9.view (Rect.unit (s := S1x1x1024) ![0, 0, 0] S1x1x1024.size inb_S1x1x1024_S1x1x1024_0_0_0).toLoadRect (harg9.unread x4))⟩,
   ⟨⟨(⟨![6, 0], S512x128.size, ![8, 1], inb_S4096x128_S512x128_6_0_s_8_1⟩ : LoadRect S4096x128), spos_8_1⟩, k0_pay10 (k0_pay13 (View.readAt (Elt F) arg5.view (⟨![0, 0], S512x128.size, ![8, 1], inb_S4096x128_S512x128_0_0_s_8_1⟩ : LoadRect S4096x128) (harg5.unread x0)) (View.readAt (Elt F) arg5.view (⟨![1, 0], S512x128.size, ![8, 1], inb_S4096x128_S512x128_1_0_s_8_1⟩ : LoadRect S4096x128) (harg5.unread x0)) (View.readAt (Elt F) arg5.view (⟨![2, 0], S512x128.size, ![8, 1], inb_S4096x128_S512x128_2_0_s_8_1⟩ : LoadRect S4096x128) (harg5.unread x0)) (View.readAt (Elt F) arg5.view (⟨![3, 0], S512x128.size, ![8, 1], inb_S4096x128_S512x128_3_0_s_8_1⟩ : LoadRect S4096x128) (harg5.unread x0)) (View.readAt (Elt F) arg5.view (⟨![4, 0], S512x128.size, ![8, 1], inb_S4096x128_S512x128_4_0_s_8_1⟩ : LoadRect S4096x128) (harg5.unread x0)) (View.readAt (Elt F) arg5.view (⟨![5, 0], S512x128.size, ![8, 1], inb_S4096x128_S512x128_5_0_s_8_1⟩ : LoadRect S4096x128) (harg5.unread x0)) (View.readAt (Elt F) arg5.view (⟨![6, 0], S512x128.size, ![8, 1], inb_S4096x128_S512x128_6_0_s_8_1⟩ : LoadRect S4096x128) (harg5.unread x0)) (View.readAt (Elt F) arg5.view (⟨![7, 0], S512x128.size, ![8, 1], inb_S4096x128_S512x128_7_0_s_8_1⟩ : LoadRect S4096x128) (harg5.unread x0)) s0 (View.readAt (Elt F) arg7.view (Rect.unit (s := S1x1x2048) ![0, 0, 0] S1x1x2048.size inb_S1x1x2048_S1x1x2048_0_0_0).toLoadRect (harg7.unread x2))) (k0_pay14 (View.readAt (Elt F) arg5.view (⟨![0, 0], S512x128.size, ![8, 1], inb_S4096x128_S512x128_0_0_s_8_1⟩ : LoadRect S4096x128) (harg5.unread x0)) (View.readAt (Elt F) arg5.view (⟨![1, 0], S512x128.size, ![8, 1], inb_S4096x128_S512x128_1_0_s_8_1⟩ : LoadRect S4096x128) (harg5.unread x0)) (View.readAt (Elt F) arg5.view (⟨![2, 0], S512x128.size, ![8, 1], inb_S4096x128_S512x128_2_0_s_8_1⟩ : LoadRect S4096x128) (harg5.unread x0)) (View.readAt (Elt F) arg5.view (⟨![3, 0], S512x128.size, ![8, 1], inb_S4096x128_S512x128_3_0_s_8_1⟩ : LoadRect S4096x128) (harg5.unread x0)) (View.readAt (Elt F) arg5.view (⟨![4, 0], S512x128.size, ![8, 1], inb_S4096x128_S512x128_4_0_s_8_1⟩ : LoadRect S4096x128) (harg5.unread x0)) (View.readAt (Elt F) arg5.view (⟨![5, 0], S512x128.size, ![8, 1], inb_S4096x128_S512x128_5_0_s_8_1⟩ : LoadRect S4096x128) (harg5.unread x0)) (View.readAt (Elt F) arg5.view (⟨![6, 0], S512x128.size, ![8, 1], inb_S4096x128_S512x128_6_0_s_8_1⟩ : LoadRect S4096x128) (harg5.unread x0)) (View.readAt (Elt F) arg5.view (⟨![7, 0], S512x128.size, ![8, 1], inb_S4096x128_S512x128_7_0_s_8_1⟩ : LoadRect S4096x128) (harg5.unread x0)) s0 (View.readAt (Elt F) arg7.view (Rect.unit (s := S1x1x2048) ![0, 0, 0] S1x1x2048.size inb_S1x1x2048_S1x1x2048_0_0_0).toLoadRect (harg7.unread x2))) (k0_pay15 (View.readAt (Elt F) arg5.view (⟨![0, 0], S512x128.size, ![8, 1], inb_S4096x128_S512x128_0_0_s_8_1⟩ : LoadRect S4096x128) (harg5.unread x0)) (View.readAt (Elt F) arg5.view (⟨![1, 0], S512x128.size, ![8, 1], inb_S4096x128_S512x128_1_0_s_8_1⟩ : LoadRect S4096x128) (harg5.unread x0)) (View.readAt (Elt F) arg5.view (⟨![2, 0], S512x128.size, ![8, 1], inb_S4096x128_S512x128_2_0_s_8_1⟩ : LoadRect S4096x128) (harg5.unread x0)) (View.readAt (Elt F) arg5.view (⟨![3, 0], S512x128.size, ![8, 1], inb_S4096x128_S512x128_3_0_s_8_1⟩ : LoadRect S4096x128) (harg5.unread x0)) (View.readAt (Elt F) arg5.view (⟨![4, 0], S512x128.size, ![8, 1], inb_S4096x128_S512x128_4_0_s_8_1⟩ : LoadRect S4096x128) (harg5.unread x0)) (View.readAt (Elt F) arg5.view (⟨![5, 0], S512x128.size, ![8, 1], inb_S4096x128_S512x128_5_0_s_8_1⟩ : LoadRect S4096x128) (harg5.unread x0)) (View.readAt (Elt F) arg5.view (⟨![6, 0], S512x128.size, ![8, 1], inb_S4096x128_S512x128_6_0_s_8_1⟩ : LoadRect S4096x128) (harg5.unread x0)) (View.readAt (Elt F) arg5.view (⟨![7, 0], S512x128.size, ![8, 1], inb_S4096x128_S512x128_7_0_s_8_1⟩ : LoadRect S4096x128) (harg5.unread x0)) s0 (View.readAt (Elt F) arg7.view (Rect.unit (s := S1x1x2048) ![0, 0, 0] S1x1x2048.size inb_S1x1x2048_S1x1x2048_0_0_0).toLoadRect (harg7.unread x2))) (Scalar.ofBits .f32 0x3F800000#32) s1 (View.readAt (Elt F) arg9.view (Rect.unit (s := S1x1x1024) ![0, 0, 0] S1x1x1024.size inb_S1x1x1024_S1x1x1024_0_0_0).toLoadRect (harg9.unread x4))⟩,
   ⟨⟨(⟨![5, 0], S512x128.size, ![8, 1], inb_S4096x128_S512x128_5_0_s_8_1⟩ : LoadRect S4096x128), spos_8_1⟩, k0_pay9 (k0_pay13 (View.readAt (Elt F) arg5.view (⟨![0, 0], S512x128.size, ![8, 1], inb_S4096x128_S512x128_0_0_s_8_1⟩ : LoadRect S4096x128) (harg5.unread x0)) (View.readAt (Elt F) arg5.view (⟨![1, 0], S512x128.size, ![8, 1], inb_S4096x128_S512x128_1_0_s_8_1⟩ : LoadRect S4096x128) (harg5.unread x0)) (View.readAt (Elt F) arg5.view (⟨![2, 0], S512x128.size, ![8, 1], inb_S4096x128_S512x128_2_0_s_8_1⟩ : LoadRect S4096x128) (harg5.unread x0)) (View.readAt (Elt F) arg5.view (⟨![3, 0], S512x128.size, ![8, 1], inb_S4096x128_S512x128_3_0_s_8_1⟩ : LoadRect S4096x128) (harg5.unread x0)) (View.readAt (Elt F) arg5.view (⟨![4, 0], S512x128.size, ![8, 1], inb_S4096x128_S512x128_4_0_s_8_1⟩ : LoadRect S4096x128) (harg5.unread x0)) (View.readAt (Elt F) arg5.view (⟨![5, 0], S512x128.size, ![8, 1], inb_S4096x128_S512x128_5_0_s_8_1⟩ : LoadRect S4096x128) (harg5.unread x0)) (View.readAt (Elt F) arg5.view (⟨![6, 0], S512x128.size, ![8, 1], inb_S4096x128_S512x128_6_0_s_8_1⟩ : LoadRect S4096x128) (harg5.unread x0)) (View.readAt (Elt F) arg5.view (⟨![7, 0], S512x128.size, ![8, 1], inb_S4096x128_S512x128_7_0_s_8_1⟩ : LoadRect S4096x128) (harg5.unread x0)) s0 (View.readAt (Elt F) arg7.view (Rect.unit (s := S1x1x2048) ![0, 0, 0] S1x1x2048.size inb_S1x1x2048_S1x1x2048_0_0_0).toLoadRect (harg7.unread x2))) (k0_pay14 (View.readAt (Elt F) arg5.view (⟨![0, 0], S512x128.size, ![8, 1], inb_S4096x128_S512x128_0_0_s_8_1⟩ : LoadRect S4096x128) (harg5.unread x0)) (View.readAt (Elt F) arg5.view (⟨![1, 0], S512x128.size, ![8, 1], inb_S4096x128_S512x128_1_0_s_8_1⟩ : LoadRect S4096x128) (harg5.unread x0)) (View.readAt (Elt F) arg5.view (⟨![2, 0], S512x128.size, ![8, 1], inb_S4096x128_S512x128_2_0_s_8_1⟩ : LoadRect S4096x128) (harg5.unread x0)) (View.readAt (Elt F) arg5.view (⟨![3, 0], S512x128.size, ![8, 1], inb_S4096x128_S512x128_3_0_s_8_1⟩ : LoadRect S4096x128) (harg5.unread x0)) (View.readAt (Elt F) arg5.view (⟨![4, 0], S512x128.size, ![8, 1], inb_S4096x128_S512x128_4_0_s_8_1⟩ : LoadRect S4096x128) (harg5.unread x0)) (View.readAt (Elt F) arg5.view (⟨![5, 0], S512x128.size, ![8, 1], inb_S4096x128_S512x128_5_0_s_8_1⟩ : LoadRect S4096x128) (harg5.unread x0)) (View.readAt (Elt F) arg5.view (⟨![6, 0], S512x128.size, ![8, 1], inb_S4096x128_S512x128_6_0_s_8_1⟩ : LoadRect S4096x128) (harg5.unread x0)) (View.readAt (Elt F) arg5.view (⟨![7, 0], S512x128.size, ![8, 1], inb_S4096x128_S512x128_7_0_s_8_1⟩ : LoadRect S4096x128) (harg5.unread x0)) s0 (View.readAt (Elt F) arg7.view (Rect.unit (s := S1x1x2048) ![0, 0, 0] S1x1x2048.size inb_S1x1x2048_S1x1x2048_0_0_0).toLoadRect (harg7.unread x2))) (k0_pay15 (View.readAt (Elt F) arg5.view (⟨![0, 0], S512x128.size, ![8, 1], inb_S4096x128_S512x128_0_0_s_8_1⟩ : LoadRect S4096x128) (harg5.unread x0)) (View.readAt (Elt F) arg5.view (⟨![1, 0], S512x128.size, ![8, 1], inb_S4096x128_S512x128_1_0_s_8_1⟩ : LoadRect S4096x128) (harg5.unread x0)) (View.readAt (Elt F) arg5.view (⟨![2, 0], S512x128.size, ![8, 1], inb_S4096x128_S512x128_2_0_s_8_1⟩ : LoadRect S4096x128) (harg5.unread x0)) (View.readAt (Elt F) arg5.view (⟨![3, 0], S512x128.size, ![8, 1], inb_S4096x128_S512x128_3_0_s_8_1⟩ : LoadRect S4096x128) (harg5.unread x0)) (View.readAt (Elt F) arg5.view (⟨![4, 0], S512x128.size, ![8, 1], inb_S4096x128_S512x128_4_0_s_8_1⟩ : LoadRect S4096x128) (harg5.unread x0)) (View.readAt (Elt F) arg5.view (⟨![5, 0], S512x128.size, ![8, 1], inb_S4096x128_S512x128_5_0_s_8_1⟩ : LoadRect S4096x128) (harg5.unread x0)) (View.readAt (Elt F) arg5.view (⟨![6, 0], S512x128.size, ![8, 1], inb_S4096x128_S512x128_6_0_s_8_1⟩ : LoadRect S4096x128) (harg5.unread x0)) (View.readAt (Elt F) arg5.view (⟨![7, 0], S512x128.size, ![8, 1], inb_S4096x128_S512x128_7_0_s_8_1⟩ : LoadRect S4096x128) (harg5.unread x0)) s0 (View.readAt (Elt F) arg7.view (Rect.unit (s := S1x1x2048) ![0, 0, 0] S1x1x2048.size inb_S1x1x2048_S1x1x2048_0_0_0).toLoadRect (harg7.unread x2))) (Scalar.ofBits .f32 0x3F800000#32) s1 (View.readAt (Elt F) arg9.view (Rect.unit (s := S1x1x1024) ![0, 0, 0] S1x1x1024.size inb_S1x1x1024_S1x1x1024_0_0_0).toLoadRect (harg9.unread x4))⟩,
   ⟨⟨(⟨![4, 0], S512x128.size, ![8, 1], inb_S4096x128_S512x128_4_0_s_8_1⟩ : LoadRect S4096x128), spos_8_1⟩, k0_pay8 (k0_pay13 (View.readAt (Elt F) arg5.view (⟨![0, 0], S512x128.size, ![8, 1], inb_S4096x128_S512x128_0_0_s_8_1⟩ : LoadRect S4096x128) (harg5.unread x0)) (View.readAt (Elt F) arg5.view (⟨![1, 0], S512x128.size, ![8, 1], inb_S4096x128_S512x128_1_0_s_8_1⟩ : LoadRect S4096x128) (harg5.unread x0)) (View.readAt (Elt F) arg5.view (⟨![2, 0], S512x128.size, ![8, 1], inb_S4096x128_S512x128_2_0_s_8_1⟩ : LoadRect S4096x128) (harg5.unread x0)) (View.readAt (Elt F) arg5.view (⟨![3, 0], S512x128.size, ![8, 1], inb_S4096x128_S512x128_3_0_s_8_1⟩ : LoadRect S4096x128) (harg5.unread x0)) (View.readAt (Elt F) arg5.view (⟨![4, 0], S512x128.size, ![8, 1], inb_S4096x128_S512x128_4_0_s_8_1⟩ : LoadRect S4096x128) (harg5.unread x0)) (View.readAt (Elt F) arg5.view (⟨![5, 0], S512x128.size, ![8, 1], inb_S4096x128_S512x128_5_0_s_8_1⟩ : LoadRect S4096x128) (harg5.unread x0)) (View.readAt (Elt F) arg5.view (⟨![6, 0], S512x128.size, ![8, 1], inb_S4096x128_S512x128_6_0_s_8_1⟩ : LoadRect S4096x128) (harg5.unread x0)) (View.readAt (Elt F) arg5.view (⟨![7, 0], S512x128.size, ![8, 1], inb_S4096x128_S512x128_7_0_s_8_1⟩ : LoadRect S4096x128) (harg5.unread x0)) s0 (View.readAt (Elt F) arg7.view (Rect.unit (s := S1x1x2048) ![0, 0, 0] S1x1x2048.size inb_S1x1x2048_S1x1x2048_0_0_0).toLoadRect (harg7.unread x2))) (k0_pay14 (View.readAt (Elt F) arg5.view (⟨![0, 0], S512x128.size, ![8, 1], inb_S4096x128_S512x128_0_0_s_8_1⟩ : LoadRect S4096x128) (harg5.unread x0)) (View.readAt (Elt F) arg5.view (⟨![1, 0], S512x128.size, ![8, 1], inb_S4096x128_S512x128_1_0_s_8_1⟩ : LoadRect S4096x128) (harg5.unread x0)) (View.readAt (Elt F) arg5.view (⟨![2, 0], S512x128.size, ![8, 1], inb_S4096x128_S512x128_2_0_s_8_1⟩ : LoadRect S4096x128) (harg5.unread x0)) (View.readAt (Elt F) arg5.view (⟨![3, 0], S512x128.size, ![8, 1], inb_S4096x128_S512x128_3_0_s_8_1⟩ : LoadRect S4096x128) (harg5.unread x0)) (View.readAt (Elt F) arg5.view (⟨![4, 0], S512x128.size, ![8, 1], inb_S4096x128_S512x128_4_0_s_8_1⟩ : LoadRect S4096x128) (harg5.unread x0)) (View.readAt (Elt F) arg5.view (⟨![5, 0], S512x128.size, ![8, 1], inb_S4096x128_S512x128_5_0_s_8_1⟩ : LoadRect S4096x128) (harg5.unread x0)) (View.readAt (Elt F) arg5.view (⟨![6, 0], S512x128.size, ![8, 1], inb_S4096x128_S512x128_6_0_s_8_1⟩ : LoadRect S4096x128) (harg5.unread x0)) (View.readAt (Elt F) arg5.view (⟨![7, 0], S512x128.size, ![8, 1], inb_S4096x128_S512x128_7_0_s_8_1⟩ : LoadRect S4096x128) (harg5.unread x0)) s0 (View.readAt (Elt F) arg7.view (Rect.unit (s := S1x1x2048) ![0, 0, 0] S1x1x2048.size inb_S1x1x2048_S1x1x2048_0_0_0).toLoadRect (harg7.unread x2))) (k0_pay15 (View.readAt (Elt F) arg5.view (⟨![0, 0], S512x128.size, ![8, 1], inb_S4096x128_S512x128_0_0_s_8_1⟩ : LoadRect S4096x128) (harg5.unread x0)) (View.readAt (Elt F) arg5.view (⟨![1, 0], S512x128.size, ![8, 1], inb_S4096x128_S512x128_1_0_s_8_1⟩ : LoadRect S4096x128) (harg5.unread x0)) (View.readAt (Elt F) arg5.view (⟨![2, 0], S512x128.size, ![8, 1], inb_S4096x128_S512x128_2_0_s_8_1⟩ : LoadRect S4096x128) (harg5.unread x0)) (View.readAt (Elt F) arg5.view (⟨![3, 0], S512x128.size, ![8, 1], inb_S4096x128_S512x128_3_0_s_8_1⟩ : LoadRect S4096x128) (harg5.unread x0)) (View.readAt (Elt F) arg5.view (⟨![4, 0], S512x128.size, ![8, 1], inb_S4096x128_S512x128_4_0_s_8_1⟩ : LoadRect S4096x128) (harg5.unread x0)) (View.readAt (Elt F) arg5.view (⟨![5, 0], S512x128.size, ![8, 1], inb_S4096x128_S512x128_5_0_s_8_1⟩ : LoadRect S4096x128) (harg5.unread x0)) (View.readAt (Elt F) arg5.view (⟨![6, 0], S512x128.size, ![8, 1], inb_S4096x128_S512x128_6_0_s_8_1⟩ : LoadRect S4096x128) (harg5.unread x0)) (View.readAt (Elt F) arg5.view (⟨![7, 0], S512x128.size, ![8, 1], inb_S4096x128_S512x128_7_0_s_8_1⟩ : LoadRect S4096x128) (harg5.unread x0)) s0 (View.readAt (Elt F) arg7.view (Rect.unit (s := S1x1x2048) ![0, 0, 0] S1x1x2048.size inb_S1x1x2048_S1x1x2048_0_0_0).toLoadRect (harg7.unread x2))) (Scalar.ofBits .f32 0x3F800000#32) s1 (View.readAt (Elt F) arg9.view (Rect.unit (s := S1x1x1024) ![0, 0, 0] S1x1x1024.size inb_S1x1x1024_S1x1x1024_0_0_0).toLoadRect (harg9.unread x4))⟩,
   ⟨⟨(⟨![3, 0], S512x128.size, ![8, 1], inb_S4096x128_S512x128_3_0_s_8_1⟩ : LoadRect S4096x128), spos_8_1⟩, k0_pay7 (k0_pay13 (View.readAt (Elt F) arg5.view (⟨![0, 0], S512x128.size, ![8, 1], inb_S4096x128_S512x128_0_0_s_8_1⟩ : LoadRect S4096x128) (harg5.unread x0)) (View.readAt (Elt F) arg5.view (⟨![1, 0], S512x128.size, ![8, 1], inb_S4096x128_S512x128_1_0_s_8_1⟩ : LoadRect S4096x128) (harg5.unread x0)) (View.readAt (Elt F) arg5.view (⟨![2, 0], S512x128.size, ![8, 1], inb_S4096x128_S512x128_2_0_s_8_1⟩ : LoadRect S4096x128) (harg5.unread x0)) (View.readAt (Elt F) arg5.view (⟨![3, 0], S512x128.size, ![8, 1], inb_S4096x128_S512x128_3_0_s_8_1⟩ : LoadRect S4096x128) (harg5.unread x0)) (View.readAt (Elt F) arg5.view (⟨![4, 0], S512x128.size, ![8, 1], inb_S4096x128_S512x128_4_0_s_8_1⟩ : LoadRect S4096x128) (harg5.unread x0)) (View.readAt (Elt F) arg5.view (⟨![5, 0], S512x128.size, ![8, 1], inb_S4096x128_S512x128_5_0_s_8_1⟩ : LoadRect S4096x128) (harg5.unread x0)) (View.readAt (Elt F) arg5.view (⟨![6, 0], S512x128.size, ![8, 1], inb_S4096x128_S512x128_6_0_s_8_1⟩ : LoadRect S4096x128) (harg5.unread x0)) (View.readAt (Elt F) arg5.view (⟨![7, 0], S512x128.size, ![8, 1], inb_S4096x128_S512x128_7_0_s_8_1⟩ : LoadRect S4096x128) (harg5.unread x0)) s0 (View.readAt (Elt F) arg7.view (Rect.unit (s := S1x1x2048) ![0, 0, 0] S1x1x2048.size inb_S1x1x2048_S1x1x2048_0_0_0).toLoadRect (harg7.unread x2))) (k0_pay14 (View.readAt (Elt F) arg5.view (⟨![0, 0], S512x128.size, ![8, 1], inb_S4096x128_S512x128_0_0_s_8_1⟩ : LoadRect S4096x128) (harg5.unread x0)) (View.readAt (Elt F) arg5.view (⟨![1, 0], S512x128.size, ![8, 1], inb_S4096x128_S512x128_1_0_s_8_1⟩ : LoadRect S4096x128) (harg5.unread x0)) (View.readAt (Elt F) arg5.view (⟨![2, 0], S512x128.size, ![8, 1], inb_S4096x128_S512x128_2_0_s_8_1⟩ : LoadRect S4096x128) (harg5.unread x0)) (View.readAt (Elt F) arg5.view (⟨![3, 0], S512x128.size, ![8, 1], inb_S4096x128_S512x128_3_0_s_8_1⟩ : LoadRect S4096x128) (harg5.unread x0)) (View.readAt (Elt F) arg5.view (⟨![4, 0], S512x128.size, ![8, 1], inb_S4096x128_S512x128_4_0_s_8_1⟩ : LoadRect S4096x128) (harg5.unread x0)) (View.readAt (Elt F) arg5.view (⟨![5, 0], S512x128.size, ![8, 1], inb_S4096x128_S512x128_5_0_s_8_1⟩ : LoadRect S4096x128) (harg5.unread x0)) (View.readAt (Elt F) arg5.view (⟨![6, 0], S512x128.size, ![8, 1], inb_S4096x128_S512x128_6_0_s_8_1⟩ : LoadRect S4096x128) (harg5.unread x0)) (View.readAt (Elt F) arg5.view (⟨![7, 0], S512x128.size, ![8, 1], inb_S4096x128_S512x128_7_0_s_8_1⟩ : LoadRect S4096x128) (harg5.unread x0)) s0 (View.readAt (Elt F) arg7.view (Rect.unit (s := S1x1x2048) ![0, 0, 0] S1x1x2048.size inb_S1x1x2048_S1x1x2048_0_0_0).toLoadRect (harg7.unread x2))) (k0_pay15 (View.readAt (Elt F) arg5.view (⟨![0, 0], S512x128.size, ![8, 1], inb_S4096x128_S512x128_0_0_s_8_1⟩ : LoadRect S4096x128) (harg5.unread x0)) (View.readAt (Elt F) arg5.view (⟨![1, 0], S512x128.size, ![8, 1], inb_S4096x128_S512x128_1_0_s_8_1⟩ : LoadRect S4096x128) (harg5.unread x0)) (View.readAt (Elt F) arg5.view (⟨![2, 0], S512x128.size, ![8, 1], inb_S4096x128_S512x128_2_0_s_8_1⟩ : LoadRect S4096x128) (harg5.unread x0)) (View.readAt (Elt F) arg5.view (⟨![3, 0], S512x128.size, ![8, 1], inb_S4096x128_S512x128_3_0_s_8_1⟩ : LoadRect S4096x128) (harg5.unread x0)) (View.readAt (Elt F) arg5.view (⟨![4, 0], S512x128.size, ![8, 1], inb_S4096x128_S512x128_4_0_s_8_1⟩ : LoadRect S4096x128) (harg5.unread x0)) (View.readAt (Elt F) arg5.view (⟨![5, 0], S512x128.size, ![8, 1], inb_S4096x128_S512x128_5_0_s_8_1⟩ : LoadRect S4096x128) (harg5.unread x0)) (View.readAt (Elt F) arg5.view (⟨![6, 0], S512x128.size, ![8, 1], inb_S4096x128_S512x128_6_0_s_8_1⟩ : LoadRect S4096x128) (harg5.unread x0)) (View.readAt (Elt F) arg5.view (⟨![7, 0], S512x128.size, ![8, 1], inb_S4096x128_S512x128_7_0_s_8_1⟩ : LoadRect S4096x128) (harg5.unread x0)) s0 (View.readAt (Elt F) arg7.view (Rect.unit (s := S1x1x2048) ![0, 0, 0] S1x1x2048.size inb_S1x1x2048_S1x1x2048_0_0_0).toLoadRect (harg7.unread x2))) (Scalar.ofBits .f32 0x3F800000#32) s1 (View.readAt (Elt F) arg9.view (Rect.unit (s := S1x1x1024) ![0, 0, 0] S1x1x1024.size inb_S1x1x1024_S1x1x1024_0_0_0).toLoadRect (harg9.unread x4))⟩,
   ⟨⟨(⟨![2, 0], S512x128.size, ![8, 1], inb_S4096x128_S512x128_2_0_s_8_1⟩ : LoadRect S4096x128), spos_8_1⟩, k0_pay6 (k0_pay13 (View.readAt (Elt F) arg5.view (⟨![0, 0], S512x128.size, ![8, 1], inb_S4096x128_S512x128_0_0_s_8_1⟩ : LoadRect S4096x128) (harg5.unread x0)) (View.readAt (Elt F) arg5.view (⟨![1, 0], S512x128.size, ![8, 1], inb_S4096x128_S512x128_1_0_s_8_1⟩ : LoadRect S4096x128) (harg5.unread x0)) (View.readAt (Elt F) arg5.view (⟨![2, 0], S512x128.size, ![8, 1], inb_S4096x128_S512x128_2_0_s_8_1⟩ : LoadRect S4096x128) (harg5.unread x0)) (View.readAt (Elt F) arg5.view (⟨![3, 0], S512x128.size, ![8, 1], inb_S4096x128_S512x128_3_0_s_8_1⟩ : LoadRect S4096x128) (harg5.unread x0)) (View.readAt (Elt F) arg5.view (⟨![4, 0], S512x128.size, ![8, 1], inb_S4096x128_S512x128_4_0_s_8_1⟩ : LoadRect S4096x128) (harg5.unread x0)) (View.readAt (Elt F) arg5.view (⟨![5, 0], S512x128.size, ![8, 1], inb_S4096x128_S512x128_5_0_s_8_1⟩ : LoadRect S4096x128) (harg5.unread x0)) (View.readAt (Elt F) arg5.view (⟨![6, 0], S512x128.size, ![8, 1], inb_S4096x128_S512x128_6_0_s_8_1⟩ : LoadRect S4096x128) (harg5.unread x0)) (View.readAt (Elt F) arg5.view (⟨![7, 0], S512x128.size, ![8, 1], inb_S4096x128_S512x128_7_0_s_8_1⟩ : LoadRect S4096x128) (harg5.unread x0)) s0 (View.readAt (Elt F) arg7.view (Rect.unit (s := S1x1x2048) ![0, 0, 0] S1x1x2048.size inb_S1x1x2048_S1x1x2048_0_0_0).toLoadRect (harg7.unread x2))) (k0_pay14 (View.readAt (Elt F) arg5.view (⟨![0, 0], S512x128.size, ![8, 1], inb_S4096x128_S512x128_0_0_s_8_1⟩ : LoadRect S4096x128) (harg5.unread x0)) (View.readAt (Elt F) arg5.view (⟨![1, 0], S512x128.size, ![8, 1], inb_S4096x128_S512x128_1_0_s_8_1⟩ : LoadRect S4096x128) (harg5.unread x0)) (View.readAt (Elt F) arg5.view (⟨![2, 0], S512x128.size, ![8, 1], inb_S4096x128_S512x128_2_0_s_8_1⟩ : LoadRect S4096x128) (harg5.unread x0)) (View.readAt (Elt F) arg5.view (⟨![3, 0], S512x128.size, ![8, 1], inb_S4096x128_S512x128_3_0_s_8_1⟩ : LoadRect S4096x128) (harg5.unread x0)) (View.readAt (Elt F) arg5.view (⟨![4, 0], S512x128.size, ![8, 1], inb_S4096x128_S512x128_4_0_s_8_1⟩ : LoadRect S4096x128) (harg5.unread x0)) (View.readAt (Elt F) arg5.view (⟨![5, 0], S512x128.size, ![8, 1], inb_S4096x128_S512x128_5_0_s_8_1⟩ : LoadRect S4096x128) (harg5.unread x0)) (View.readAt (Elt F) arg5.view (⟨![6, 0], S512x128.size, ![8, 1], inb_S4096x128_S512x128_6_0_s_8_1⟩ : LoadRect S4096x128) (harg5.unread x0)) (View.readAt (Elt F) arg5.view (⟨![7, 0], S512x128.size, ![8, 1], inb_S4096x128_S512x128_7_0_s_8_1⟩ : LoadRect S4096x128) (harg5.unread x0)) s0 (View.readAt (Elt F) arg7.view (Rect.unit (s := S1x1x2048) ![0, 0, 0] S1x1x2048.size inb_S1x1x2048_S1x1x2048_0_0_0).toLoadRect (harg7.unread x2))) (k0_pay15 (View.readAt (Elt F) arg5.view (⟨![0, 0], S512x128.size, ![8, 1], inb_S4096x128_S512x128_0_0_s_8_1⟩ : LoadRect S4096x128) (harg5.unread x0)) (View.readAt (Elt F) arg5.view (⟨![1, 0], S512x128.size, ![8, 1], inb_S4096x128_S512x128_1_0_s_8_1⟩ : LoadRect S4096x128) (harg5.unread x0)) (View.readAt (Elt F) arg5.view (⟨![2, 0], S512x128.size, ![8, 1], inb_S4096x128_S512x128_2_0_s_8_1⟩ : LoadRect S4096x128) (harg5.unread x0)) (View.readAt (Elt F) arg5.view (⟨![3, 0], S512x128.size, ![8, 1], inb_S4096x128_S512x128_3_0_s_8_1⟩ : LoadRect S4096x128) (harg5.unread x0)) (View.readAt (Elt F) arg5.view (⟨![4, 0], S512x128.size, ![8, 1], inb_S4096x128_S512x128_4_0_s_8_1⟩ : LoadRect S4096x128) (harg5.unread x0)) (View.readAt (Elt F) arg5.view (⟨![5, 0], S512x128.size, ![8, 1], inb_S4096x128_S512x128_5_0_s_8_1⟩ : LoadRect S4096x128) (harg5.unread x0)) (View.readAt (Elt F) arg5.view (⟨![6, 0], S512x128.size, ![8, 1], inb_S4096x128_S512x128_6_0_s_8_1⟩ : LoadRect S4096x128) (harg5.unread x0)) (View.readAt (Elt F) arg5.view (⟨![7, 0], S512x128.size, ![8, 1], inb_S4096x128_S512x128_7_0_s_8_1⟩ : LoadRect S4096x128) (harg5.unread x0)) s0 (View.readAt (Elt F) arg7.view (Rect.unit (s := S1x1x2048) ![0, 0, 0] S1x1x2048.size inb_S1x1x2048_S1x1x2048_0_0_0).toLoadRect (harg7.unread x2))) (Scalar.ofBits .f32 0x3F800000#32) s1 (View.readAt (Elt F) arg9.view (Rect.unit (s := S1x1x1024) ![0, 0, 0] S1x1x1024.size inb_S1x1x1024_S1x1x1024_0_0_0).toLoadRect (harg9.unread x4))⟩,
   ⟨⟨(⟨![1, 0], S512x128.size, ![8, 1], inb_S4096x128_S512x128_1_0_s_8_1⟩ : LoadRect S4096x128), spos_8_1⟩, k0_pay5 (k0_pay13 (View.readAt (Elt F) arg5.view (⟨![0, 0], S512x128.size, ![8, 1], inb_S4096x128_S512x128_0_0_s_8_1⟩ : LoadRect S4096x128) (harg5.unread x0)) (View.readAt (Elt F) arg5.view (⟨![1, 0], S512x128.size, ![8, 1], inb_S4096x128_S512x128_1_0_s_8_1⟩ : LoadRect S4096x128) (harg5.unread x0)) (View.readAt (Elt F) arg5.view (⟨![2, 0], S512x128.size, ![8, 1], inb_S4096x128_S512x128_2_0_s_8_1⟩ : LoadRect S4096x128) (harg5.unread x0)) (View.readAt (Elt F) arg5.view (⟨![3, 0], S512x128.size, ![8, 1], inb_S4096x128_S512x128_3_0_s_8_1⟩ : LoadRect S4096x128) (harg5.unread x0)) (View.readAt (Elt F) arg5.view (⟨![4, 0], S512x128.size, ![8, 1], inb_S4096x128_S512x128_4_0_s_8_1⟩ : LoadRect S4096x128) (harg5.unread x0)) (View.readAt (Elt F) arg5.view (⟨![5, 0], S512x128.size, ![8, 1], inb_S4096x128_S512x128_5_0_s_8_1⟩ : LoadRect S4096x128) (harg5.unread x0)) (View.readAt (Elt F) arg5.view (⟨![6, 0], S512x128.size, ![8, 1], inb_S4096x128_S512x128_6_0_s_8_1⟩ : LoadRect S4096x128) (harg5.unread x0)) (View.readAt (Elt F) arg5.view (⟨![7, 0], S512x128.size, ![8, 1], inb_S4096x128_S512x128_7_0_s_8_1⟩ : LoadRect S4096x128) (harg5.unread x0)) s0 (View.readAt (Elt F) arg7.view (Rect.unit (s := S1x1x2048) ![0, 0, 0] S1x1x2048.size inb_S1x1x2048_S1x1x2048_0_0_0).toLoadRect (harg7.unread x2))) (k0_pay14 (View.readAt (Elt F) arg5.view (⟨![0, 0], S512x128.size, ![8, 1], inb_S4096x128_S512x128_0_0_s_8_1⟩ : LoadRect S4096x128) (harg5.unread x0)) (View.readAt (Elt F) arg5.view (⟨![1, 0], S512x128.size, ![8, 1], inb_S4096x128_S512x128_1_0_s_8_1⟩ : LoadRect S4096x128) (harg5.unread x0)) (View.readAt (Elt F) arg5.view (⟨![2, 0], S512x128.size, ![8, 1], inb_S4096x128_S512x128_2_0_s_8_1⟩ : LoadRect S4096x128) (harg5.unread x0)) (View.readAt (Elt F) arg5.view (⟨![3, 0], S512x128.size, ![8, 1], inb_S4096x128_S512x128_3_0_s_8_1⟩ : LoadRect S4096x128) (harg5.unread x0)) (View.readAt (Elt F) arg5.view (⟨![4, 0], S512x128.size, ![8, 1], inb_S4096x128_S512x128_4_0_s_8_1⟩ : LoadRect S4096x128) (harg5.unread x0)) (View.readAt (Elt F) arg5.view (⟨![5, 0], S512x128.size, ![8, 1], inb_S4096x128_S512x128_5_0_s_8_1⟩ : LoadRect S4096x128) (harg5.unread x0)) (View.readAt (Elt F) arg5.view (⟨![6, 0], S512x128.size, ![8, 1], inb_S4096x128_S512x128_6_0_s_8_1⟩ : LoadRect S4096x128) (harg5.unread x0)) (View.readAt (Elt F) arg5.view (⟨![7, 0], S512x128.size, ![8, 1], inb_S4096x128_S512x128_7_0_s_8_1⟩ : LoadRect S4096x128) (harg5.unread x0)) s0 (View.readAt (Elt F) arg7.view (Rect.unit (s := S1x1x2048) ![0, 0, 0] S1x1x2048.size inb_S1x1x2048_S1x1x2048_0_0_0).toLoadRect (harg7.unread x2))) (k0_pay15 (View.readAt (Elt F) arg5.view (⟨![0, 0], S512x128.size, ![8, 1], inb_S4096x128_S512x128_0_0_s_8_1⟩ : LoadRect S4096x128) (harg5.unread x0)) (View.readAt (Elt F) arg5.view (⟨![1, 0], S512x128.size, ![8, 1], inb_S4096x128_S512x128_1_0_s_8_1⟩ : LoadRect S4096x128) (harg5.unread x0)) (View.readAt (Elt F) arg5.view (⟨![2, 0], S512x128.size, ![8, 1], inb_S4096x128_S512x128_2_0_s_8_1⟩ : LoadRect S4096x128) (harg5.unread x0)) (View.readAt (Elt F) arg5.view (⟨![3, 0], S512x128.size, ![8, 1], inb_S4096x128_S512x128_3_0_s_8_1⟩ : LoadRect S4096x128) (harg5.unread x0)) (View.readAt (Elt F) arg5.view (⟨![4, 0], S512x128.size, ![8, 1], inb_S4096x128_S512x128_4_0_s_8_1⟩ : LoadRect S4096x128) (harg5.unread x0)) (View.readAt (Elt F) arg5.view (⟨![5, 0], S512x128.size, ![8, 1], inb_S4096x128_S512x128_5_0_s_8_1⟩ : LoadRect S4096x128) (harg5.unread x0)) (View.readAt (Elt F) arg5.view (⟨![6, 0], S512x128.size, ![8, 1], inb_S4096x128_S512x128_6_0_s_8_1⟩ : LoadRect S4096x128) (harg5.unread x0)) (View.readAt (Elt F) arg5.view (⟨![7, 0], S512x128.size, ![8, 1], inb_S4096x128_S512x128_7_0_s_8_1⟩ : LoadRect S4096x128) (harg5.unread x0)) s0 (View.readAt (Elt F) arg7.view (Rect.unit (s := S1x1x2048) ![0, 0, 0] S1x1x2048.size inb_S1x1x2048_S1x1x2048_0_0_0).toLoadRect (harg7.unread x2))) (Scalar.ofBits .f32 0x3F800000#32) s1 (View.readAt (Elt F) arg9.view (Rect.unit (s := S1x1x1024) ![0, 0, 0] S1x1x1024.size inb_S1x1x1024_S1x1x1024_0_0_0).toLoadRect (harg9.unread x4))⟩,
   ⟨⟨(⟨![0, 0], S512x128.size, ![8, 1], inb_S4096x128_S512x128_0_0_s_8_1⟩ : LoadRect S4096x128), spos_8_1⟩, k0_pay4 (k0_pay13 (View.readAt (Elt F) arg5.view (⟨![0, 0], S512x128.size, ![8, 1], inb_S4096x128_S512x128_0_0_s_8_1⟩ : LoadRect S4096x128) (harg5.unread x0)) (View.readAt (Elt F) arg5.view (⟨![1, 0], S512x128.size, ![8, 1], inb_S4096x128_S512x128_1_0_s_8_1⟩ : LoadRect S4096x128) (harg5.unread x0)) (View.readAt (Elt F) arg5.view (⟨![2, 0], S512x128.size, ![8, 1], inb_S4096x128_S512x128_2_0_s_8_1⟩ : LoadRect S4096x128) (harg5.unread x0)) (View.readAt (Elt F) arg5.view (⟨![3, 0], S512x128.size, ![8, 1], inb_S4096x128_S512x128_3_0_s_8_1⟩ : LoadRect S4096x128) (harg5.unread x0)) (View.readAt (Elt F) arg5.view (⟨![4, 0], S512x128.size, ![8, 1], inb_S4096x128_S512x128_4_0_s_8_1⟩ : LoadRect S4096x128) (harg5.unread x0)) (View.readAt (Elt F) arg5.view (⟨![5, 0], S512x128.size, ![8, 1], inb_S4096x128_S512x128_5_0_s_8_1⟩ : LoadRect S4096x128) (harg5.unread x0)) (View.readAt (Elt F) arg5.view (⟨![6, 0], S512x128.size, ![8, 1], inb_S4096x128_S512x128_6_0_s_8_1⟩ : LoadRect S4096x128) (harg5.unread x0)) (View.readAt (Elt F) arg5.view (⟨![7, 0], S512x128.size, ![8, 1], inb_S4096x128_S512x128_7_0_s_8_1⟩ : LoadRect S4096x128) (harg5.unread x0)) s0 (View.readAt (Elt F) arg7.view (Rect.unit (s := S1x1x2048) ![0, 0, 0] S1x1x2048.size inb_S1x1x2048_S1x1x2048_0_0_0).toLoadRect (harg7.unread x2))) (k0_pay14 (View.readAt (Elt F) arg5.view (⟨![0, 0], S512x128.size, ![8, 1], inb_S4096x128_S512x128_0_0_s_8_1⟩ : LoadRect S4096x128) (harg5.unread x0)) (View.readAt (Elt F) arg5.view (⟨![1, 0], S512x128.size, ![8, 1], inb_S4096x128_S512x128_1_0_s_8_1⟩ : LoadRect S4096x128) (harg5.unread x0)) (View.readAt (Elt F) arg5.view (⟨![2, 0], S512x128.size, ![8, 1], inb_S4096x128_S512x128_2_0_s_8_1⟩ : LoadRect S4096x128) (harg5.unread x0)) (View.readAt (Elt F) arg5.view (⟨![3, 0], S512x128.size, ![8, 1], inb_S4096x128_S512x128_3_0_s_8_1⟩ : LoadRect S4096x128) (harg5.unread x0)) (View.readAt (Elt F) arg5.view (⟨![4, 0], S512x128.size, ![8, 1], inb_S4096x128_S512x128_4_0_s_8_1⟩ : LoadRect S4096x128) (harg5.unread x0)) (View.readAt (Elt F) arg5.view (⟨![5, 0], S512x128.size, ![8, 1], inb_S4096x128_S512x128_5_0_s_8_1⟩ : LoadRect S4096x128) (harg5.unread x0)) (View.readAt (Elt F) arg5.view (⟨![6, 0], S512x128.size, ![8, 1], inb_S4096x128_S512x128_6_0_s_8_1⟩ : LoadRect S4096x128) (harg5.unread x0)) (View.readAt (Elt F) arg5.view (⟨![7, 0], S512x128.size, ![8, 1], inb_S4096x128_S512x128_7_0_s_8_1⟩ : LoadRect S4096x128) (harg5.unread x0)) s0 (View.readAt (Elt F) arg7.view (Rect.unit (s := S1x1x2048) ![0, 0, 0] S1x1x2048.size inb_S1x1x2048_S1x1x2048_0_0_0).toLoadRect (harg7.unread x2))) (k0_pay15 (View.readAt (Elt F) arg5.view (⟨![0, 0], S512x128.size, ![8, 1], inb_S4096x128_S512x128_0_0_s_8_1⟩ : LoadRect S4096x128) (harg5.unread x0)) (View.readAt (Elt F) arg5.view (⟨![1, 0], S512x128.size, ![8, 1], inb_S4096x128_S512x128_1_0_s_8_1⟩ : LoadRect S4096x128) (harg5.unread x0)) (View.readAt (Elt F) arg5.view (⟨![2, 0], S512x128.size, ![8, 1], inb_S4096x128_S512x128_2_0_s_8_1⟩ : LoadRect S4096x128) (harg5.unread x0)) (View.readAt (Elt F) arg5.view (⟨![3, 0], S512x128.size, ![8, 1], inb_S4096x128_S512x128_3_0_s_8_1⟩ : LoadRect S4096x128) (harg5.unread x0)) (View.readAt (Elt F) arg5.view (⟨![4, 0], S512x128.size, ![8, 1], inb_S4096x128_S512x128_4_0_s_8_1⟩ : LoadRect S4096x128) (harg5.unread x0)) (View.readAt (Elt F) arg5.view (⟨![5, 0], S512x128.size, ![8, 1], inb_S4096x128_S512x128_5_0_s_8_1⟩ : LoadRect S4096x128) (harg5.unread x0)) (View.readAt (Elt F) arg5.view (⟨![6, 0], S512x128.size, ![8, 1], inb_S4096x128_S512x128_6_0_s_8_1⟩ : LoadRect S4096x128) (harg5.unread x0)) (View.readAt (Elt F) arg5.view (⟨![7, 0], S512x128.size, ![8, 1], inb_S4096x128_S512x128_7_0_s_8_1⟩ : LoadRect S4096x128) (harg5.unread x0)) s0 (View.readAt (Elt F) arg7.view (Rect.unit (s := S1x1x2048) ![0, 0, 0] S1x1x2048.size inb_S1x1x2048_S1x1x2048_0_0_0).toLoadRect (harg7.unread x2))) (Scalar.ofBits .f32 0x3F800000#32) s1 (View.readAt (Elt F) arg9.view (Rect.unit (s := S1x1x1024) ![0, 0, 0] S1x1x1024.size inb_S1x1x1024_S1x1x1024_0_0_0).toLoadRect (harg9.unread x4))⟩]

theorem rawPieces_eq {arg5 : Memref sig .tc .vmem S4096x128 .f32} (harg5 : arg5.IsWhole) {arg7 : Memref sig .tc .vmem S1x1x2048 .f32} (harg7 : arg7.IsWhole) {arg9 : Memref sig .tc .vmem S1x1x1024 .f32} (harg9 : arg9.IsWhole)
    (x0 : Vec F S4096x128 .f32) (x2 : Vec F S1x1x2048 .f32) (x4 : Vec F S1x1x1024 .f32) (s0 : Vec F S1024x2048 .bf16) (s1 : Vec F S1024x1024 .bf16) :
    rawPieces harg5 harg7 harg9 x0 x2 x4 s0 s1 = outPieces x0 x2 x4 s0 s1 := by
  unfold rawPieces outPieces
  simp only [readAt_gcol harg5]
  rw [readAt_all harg7, readAt_all harg9]
  rfl

variable (x0 : Vec F S4096x128 .f32) (x1 : Vec F S1x1024x2048 .f32) (x2 : Vec F S1x1x2048 .f32) (x3 : Vec F S1x1024x1024 .f32) (x4 : Vec F S1x1x1024 .f32) (x5 : Vec F S4096x128 .f32) (xs0 : Vec F S1024x2048 .bf16) (xs1 : Vec F S1024x1024 .bf16) (xt0 : TbBuf0 (F := F) c tbM0_0) (xt1 : TbBuf0 (F := F) c tbM0_1) (xt2 : TbBuf0 (F := F) c tbM0_2) (xt3 : TbBuf0 (F := F) c tbM0_3)

set_option maxHeartbeats 1000000 in
theorem run_A (arg5 : Memref sig .tc .vmem S4096x128 .f32) (harg5 : arg5.IsWhole) (arg6 : Memref sig .tc .vmem S1x1024x2048 .f32) (harg6 : arg6.IsWhole) (arg7 : Memref sig .tc .vmem S1x1x2048 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S4096x128 .f32) (harg10 : arg10.IsWhole) (arg11 : Memref sig .tc .vmem S1024x2048 .bf16) (harg11 : arg11.IsWhole) (arg12 : Memref sig .tc .vmem S1024x1024 .bf16) (harg12 : arg12.IsWhole) (hr : cRef c i xt0) (hu : cUse c i xt3)
    (E : Set ℕ) (K : PUnit → sProp (MM F)) :
    iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare xs0 ∗ owns (c : Thread nD τ) arg12 fullShare xs1 ∗ tbPt0 c tbM0_0 xt0 ∗ tbPt0 c tbM0_1 xt1 ∗ tbPt0 c tbM0_2 xt2 ∗ tbPt0 c tbM0_3 xt3
        ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare (blkOut x0 x2 x4 (k0_pay1 x1) (k0_pay2 x3)) ∗ owns (c : Thread nD τ) arg11 fullShare (k0_pay1 x1) ∗ owns (c : Thread nD τ) arg12 fullShare (k0_pay2 x3) ∗ tbPt0 c tbM0_0 xt0 ∗ tbPt0 c tbM0_1 xt1 ∗ tbPt0 c tbM0_2 xt2 ∗ tbPt0 c tbM0_3 xt3) -∗ K ⟨⟩))
      ⊢ wp frame (wpE (defs₀ (F := F)) Variants.none c none) E (cc0_experts i tbM0_0 htbM0_0 tbM0_1 htbM0_1 tbM0_2 htbM0_2 tbM0_3 htbM0_3 arg5 harg5 arg6 harg6 arg7 harg7 arg8 harg8 arg9 harg9 arg10 harg10 arg11 harg11 arg12 harg12) K := by
  simp only [cc0_experts_eq_skeleton, k0_part1_eq_skeleton]; unfold cc0_experts_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hs0, HS0⟩, ⟨%fs1, %hs1, HS1⟩, HT0, HT1, HT2, HT3, Hk⟩
  obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hs0; obtain rfl := harg12.eq_unread hs1
  sl_exec (disch := first | sl_exact hr | sl_exact hu)
  sl_step
  iapply Hk
  isplitl [H0]
  · iexists _; isplitr; · ipureintro; exact harg5.read_unread _
    iexact H0
  isplitl [H1]
  · iexists _; isplitr; · ipureintro; exact harg6.read_unread _
    iexact H1
  isplitl [H2]
  · iexists _; isplitr; · ipureintro; exact harg7.read_unread _
    iexact H2
  isplitl [H3]
  · iexists _; isplitr; · ipureintro; exact harg8.read_unread _
    iexact H3
  isplitl [H4]
  · iexists _; isplitr; · ipureintro; exact harg9.read_unread _
    iexact H4
  isplitl [H5]
  · iexists (arg10.view.writes (Elt F) (harg10.unread x5) (rawPieces (arg5 := arg5) harg5 (arg7 := arg7) harg7 (arg9 := arg9) harg9 x0 x2 x4 (arg11.view.readCov (Val := Elt F) [⟨Rect.unit (s := S1024x2048) ![0, 0] S1024x2048.size inb_S1024x2048_S1024x2048_0_0, k0_pay1 (View.readAt (Elt F) arg6.view (Rect.unit (s := S1x1024x2048) ![0, 0, 0] S1x1024x2048.size inb_S1x1024x2048_S1x1024x2048_0_0_0).toLoadRect (harg6.unread x1))⟩] (Rect.unit (s := S1024x2048) ![0, 0] S1024x2048.size inb_S1024x2048_S1024x2048_0_0).toLoadRect) (arg12.view.readCov (Val := Elt F) [⟨Rect.unit (s := S1024x1024) ![0, 0] S1024x1024.size inb_S1024x1024_S1024x1024_0_0, k0_pay2 (View.readAt (Elt F) arg8.view (Rect.unit (s := S1x1024x1024) ![0, 0, 0] S1x1024x1024.size inb_S1x1024x1024_S1x1024x1024_0_0_0).toLoadRect (harg8.unread x3))⟩] (Rect.unit (s := S1024x1024) ![0, 0] S1024x1024.size inb_S1024x1024_S1024x1024_0_0).toLoadRect))); isplitr
    · ipureintro
      have e0 : (arg11.view.readCov (Val := Elt F) [⟨Rect.unit (s := S1024x2048) ![0, 0] S1024x2048.size inb_S1024x2048_S1024x2048_0_0, k0_pay1 (View.readAt (Elt F) arg6.view (Rect.unit (s := S1x1024x2048) ![0, 0, 0] S1x1024x2048.size inb_S1x1024x2048_S1x1024x2048_0_0_0).toLoadRect (harg6.unread x1))⟩] (Rect.unit (s := S1024x2048) ![0, 0] S1024x2048.size inb_S1024x2048_S1024x2048_0_0).toLoadRect) = (k0_pay1 x1) := by rw [View.readCov_full, readAt_all harg6]
      have e1 : (arg12.view.readCov (Val := Elt F) [⟨Rect.unit (s := S1024x1024) ![0, 0] S1024x1024.size inb_S1024x1024_S1024x1024_0_0, k0_pay2 (View.readAt (Elt F) arg8.view (Rect.unit (s := S1x1024x1024) ![0, 0, 0] S1x1024x1024.size inb_S1x1024x1024_S1x1024x1024_0_0_0).toLoadRect (harg8.unread x3))⟩] (Rect.unit (s := S1024x1024) ![0, 0] S1024x1024.size inb_S1024x1024_S1024x1024_0_0).toLoadRect) = (k0_pay2 x3) := by rw [View.readCov_full, readAt_all harg8]
      rw [e0, e1, rawPieces_eq]; exact read_outPieces _ _ _ _ _ _ _
    iexact H5
  isplitl [HS0]
  · iexists _; isplitr; swap; · iexact HS0
    ipureintro; exact (View.read_writes_full arg11.view _ _ _ []).trans (congrArg k0_pay1 (readAt_all harg6 _ _))
  isplitl [HS1]
  · iexists _; isplitr; swap; · iexact HS1
    ipureintro; exact (View.read_writes_full arg12.view _ _ _ []).trans (congrArg k0_pay2 (readAt_all harg8 _ _))
  isplitl [HT0]; · iexact HT0
  isplitl [HT1]; · iexact HT1
  isplitl [HT2]; · iexact HT2
  iexact HT3

set_option maxHeartbeats 1000000 in
theorem run_B (arg5 : Memref sig .tc .vmem S4096x128 .f32) (harg5 : arg5.IsWhole) (arg6 : Memref sig .tc .vmem S1x1024x2048 .f32) (harg6 : arg6.IsWhole) (arg7 : Memref sig .tc .vmem S1x1x2048 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S4096x128 .f32) (harg10 : arg10.IsWhole) (arg11 : Memref sig .tc .vmem S1024x2048 .bf16) (harg11 : arg11.IsWhole) (arg12 : Memref sig .tc .vmem S1024x1024 .bf16) (harg12 : arg12.IsWhole) (hr : ¬ cRef c i xt0) (hu : cUse c i xt3)
    (E : Set ℕ) (K : PUnit → sProp (MM F)) :
    iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare xs0 ∗ owns (c : Thread nD τ) arg12 fullShare xs1 ∗ tbPt0 c tbM0_0 xt0 ∗ tbPt0 c tbM0_1 xt1 ∗ tbPt0 c tbM0_2 xt2 ∗ tbPt0 c tbM0_3 xt3
        ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare (blkOut x0 x2 x4 xs0 xs1) ∗ owns (c : Thread nD τ) arg11 fullShare xs0 ∗ owns (c : Thread nD τ) arg12 fullShare xs1 ∗ tbPt0 c tbM0_0 xt0 ∗ tbPt0 c tbM0_1 xt1 ∗ tbPt0 c tbM0_2 xt2 ∗ tbPt0 c tbM0_3 xt3) -∗ K ⟨⟩))
      ⊢ wp frame (wpE (defs₀ (F := F)) Variants.none c none) E (cc0_experts i tbM0_0 htbM0_0 tbM0_1 htbM0_1 tbM0_2 htbM0_2 tbM0_3 htbM0_3 arg5 harg5 arg6 harg6 arg7 harg7 arg8 harg8 arg9 harg9 arg10 harg10 arg11 harg11 arg12 harg12) K := by
  simp only [cc0_experts_eq_skeleton, k0_part1_eq_skeleton]; unfold cc0_experts_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hs0, HS0⟩, ⟨%fs1, %hs1, HS1⟩, HT0, HT1, HT2, HT3, Hk⟩
  obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hs0; obtain rfl := harg12.eq_unread hs1
  sl_exec (disch := first | sl_exact hr | sl_exact hu)
  sl_step
  iapply Hk
  isplitl [H0]
  · iexists _; isplitr; · ipureintro; exact harg5.read_unread _
    iexact H0
  isplitl [H1]
  · iexists _; isplitr; · ipureintro; exact harg6.read_unread _
    iexact H1
  isplitl [H2]
  · iexists _; isplitr; · ipureintro; exact harg7.read_unread _
    iexact H2
  isplitl [H3]
  · iexists _; isplitr; · ipureintro; exact harg8.read_unread _
    iexact H3
  isplitl [H4]
  · iexists _; isplitr; · ipureintro; exact harg9.read_unread _
    iexact H4
  isplitl [H5]
  · iexists (arg10.view.writes (Elt F) (harg10.unread x5) (rawPieces (arg5 := arg5) harg5 (arg7 := arg7) harg7 (arg9 := arg9) harg9 x0 x2 x4 (View.readAt (Elt F) arg11.view (Rect.unit (s := S1024x2048) ![0, 0] S1024x2048.size inb_S1024x2048_S1024x2048_0_0).toLoadRect (harg11.unread xs0)) (View.readAt (Elt F) arg12.view (Rect.unit (s := S1024x1024) ![0, 0] S1024x1024.size inb_S1024x1024_S1024x1024_0_0).toLoadRect (harg12.unread xs1)))); isplitr
    · ipureintro
      have e0 : (View.readAt (Elt F) arg11.view (Rect.unit (s := S1024x2048) ![0, 0] S1024x2048.size inb_S1024x2048_S1024x2048_0_0).toLoadRect (harg11.unread xs0)) = xs0 := readAt_all harg11 _ _
      have e1 : (View.readAt (Elt F) arg12.view (Rect.unit (s := S1024x1024) ![0, 0] S1024x1024.size inb_S1024x1024_S1024x1024_0_0).toLoadRect (harg12.unread xs1)) = xs1 := readAt_all harg12 _ _
      rw [e0, e1, rawPieces_eq]; exact read_outPieces _ _ _ _ _ _ _
    iexact H5
  isplitl [HS0]
  · iexists _; isplitr; · ipureintro; exact harg11.read_unread _
    iexact HS0
  isplitl [HS1]
  · iexists _; isplitr; · ipureintro; exact harg12.read_unread _
    iexact HS1
  isplitl [HT0]; · iexact HT0
  isplitl [HT1]; · iexact HT1
  isplitl [HT2]; · iexact HT2
  iexact HT3

set_option maxHeartbeats 1000000 in
theorem run_C (arg5 : Memref sig .tc .vmem S4096x128 .f32) (harg5 : arg5.IsWhole) (arg6 : Memref sig .tc .vmem S1x1024x2048 .f32) (harg6 : arg6.IsWhole) (arg7 : Memref sig .tc .vmem S1x1x2048 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S4096x128 .f32) (harg10 : arg10.IsWhole) (arg11 : Memref sig .tc .vmem S1024x2048 .bf16) (harg11 : arg11.IsWhole) (arg12 : Memref sig .tc .vmem S1024x1024 .bf16) (harg12 : arg12.IsWhole) (hr : cRef c i xt0) (hu : ¬ cUse c i xt3)
    (E : Set ℕ) (K : PUnit → sProp (MM F)) :
    iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare xs0 ∗ owns (c : Thread nD τ) arg12 fullShare xs1 ∗ tbPt0 c tbM0_0 xt0 ∗ tbPt0 c tbM0_1 xt1 ∗ tbPt0 c tbM0_2 xt2 ∗ tbPt0 c tbM0_3 xt3
        ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare (k0_pay1 x1) ∗ owns (c : Thread nD τ) arg12 fullShare (k0_pay2 x3) ∗ tbPt0 c tbM0_0 xt0 ∗ tbPt0 c tbM0_1 xt1 ∗ tbPt0 c tbM0_2 xt2 ∗ tbPt0 c tbM0_3 xt3) -∗ K ⟨⟩))
      ⊢ wp frame (wpE (defs₀ (F := F)) Variants.none c none) E (cc0_experts i tbM0_0 htbM0_0 tbM0_1 htbM0_1 tbM0_2 htbM0_2 tbM0_3 htbM0_3 arg5 harg5 arg6 harg6 arg7 harg7 arg8 harg8 arg9 harg9 arg10 harg10 arg11 harg11 arg12 harg12) K := by
  simp only [cc0_experts_eq_skeleton, k0_part1_eq_skeleton]; unfold cc0_experts_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hs0, HS0⟩, ⟨%fs1, %hs1, HS1⟩, HT0, HT1, HT2, HT3, Hk⟩
  obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hs0; obtain rfl := harg12.eq_unread hs1
  sl_exec (disch := first | sl_exact hr | sl_exact hu)
  sl_step
  iapply Hk
  isplitl [H0]
  · iexists _; isplitr; · ipureintro; exact harg5.read_unread _
    iexact H0
  isplitl [H1]
  · iexists _; isplitr; · ipureintro; exact harg6.read_unread _
    iexact H1
  isplitl [H2]
  · iexists _; isplitr; · ipureintro; exact harg7.read_unread _
    iexact H2
  isplitl [H3]
  · iexists _; isplitr; · ipureintro; exact harg8.read_unread _
    iexact H3
  isplitl [H4]
  · iexists _; isplitr; · ipureintro; exact harg9.read_unread _
    iexact H4
  isplitl [H5]
  · iexists _; isplitr; · ipureintro; exact harg10.read_unread _
    iexact H5
  isplitl [HS0]
  · iexists _; isplitr; swap; · iexact HS0
    ipureintro; exact (View.read_writes_full arg11.view _ _ _ []).trans (congrArg k0_pay1 (readAt_all harg6 _ _))
  isplitl [HS1]
  · iexists _; isplitr; swap; · iexact HS1
    ipureintro; exact (View.read_writes_full arg12.view _ _ _ []).trans (congrArg k0_pay2 (readAt_all harg8 _ _))
  isplitl [HT0]; · iexact HT0
  isplitl [HT1]; · iexact HT1
  isplitl [HT2]; · iexact HT2
  iexact HT3

set_option maxHeartbeats 1000000 in
theorem run_D (arg5 : Memref sig .tc .vmem S4096x128 .f32) (harg5 : arg5.IsWhole) (arg6 : Memref sig .tc .vmem S1x1024x2048 .f32) (harg6 : arg6.IsWhole) (arg7 : Memref sig .tc .vmem S1x1x2048 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S4096x128 .f32) (harg10 : arg10.IsWhole) (arg11 : Memref sig .tc .vmem S1024x2048 .bf16) (harg11 : arg11.IsWhole) (arg12 : Memref sig .tc .vmem S1024x1024 .bf16) (harg12 : arg12.IsWhole) (hr : ¬ cRef c i xt0) (hu : ¬ cUse c i xt3)
    (E : Set ℕ) (K : PUnit → sProp (MM F)) :
    iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare xs0 ∗ owns (c : Thread nD τ) arg12 fullShare xs1 ∗ tbPt0 c tbM0_0 xt0 ∗ tbPt0 c tbM0_1 xt1 ∗ tbPt0 c tbM0_2 xt2 ∗ tbPt0 c tbM0_3 xt3
        ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare xs0 ∗ owns (c : Thread nD τ) arg12 fullShare xs1 ∗ tbPt0 c tbM0_0 xt0 ∗ tbPt0 c tbM0_1 xt1 ∗ tbPt0 c tbM0_2 xt2 ∗ tbPt0 c tbM0_3 xt3) -∗ K ⟨⟩))
      ⊢ wp frame (wpE (defs₀ (F := F)) Variants.none c none) E (cc0_experts i tbM0_0 htbM0_0 tbM0_1 htbM0_1 tbM0_2 htbM0_2 tbM0_3 htbM0_3 arg5 harg5 arg6 harg6 arg7 harg7 arg8 harg8 arg9 harg9 arg10 harg10 arg11 harg11 arg12 harg12) K := by
  simp only [cc0_experts_eq_skeleton, k0_part1_eq_skeleton]; unfold cc0_experts_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hs0, HS0⟩, ⟨%fs1, %hs1, HS1⟩, HT0, HT1, HT2, HT3, Hk⟩
  obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hs0; obtain rfl := harg12.eq_unread hs1
  sl_exec (disch := first | sl_exact hr | sl_exact hu)
  sl_step
  iapply Hk
  isplitl [H0]
  · iexists _; isplitr; · ipureintro; exact harg5.read_unread _
    iexact H0
  isplitl [H1]
  · iexists _; isplitr; · ipureintro; exact harg6.read_unread _
    iexact H1
  isplitl [H2]
  · iexists _; isplitr; · ipureintro; exact harg7.read_unread _
    iexact H2
  isplitl [H3]
  · iexists _; isplitr; · ipureintro; exact harg8.read_unread _
    iexact H3
  isplitl [H4]
  · iexists _; isplitr; · ipureintro; exact harg9.read_unread _
    iexact H4
  isplitl [H5]
  · iexists _; isplitr; · ipureintro; exact harg10.read_unread _
    iexact H5
  isplitl [HS0]
  · iexists _; isplitr; · ipureintro; exact harg11.read_unread _
    iexact HS0
  isplitl [HS1]
  · iexists _; isplitr; · ipureintro; exact harg12.read_unread _
    iexact HS1
  isplitl [HT0]; · iexact HT0
  isplitl [HT1]; · iexact HT1
  isplitl [HT2]; · iexact HT2
  iexact HT3

end Cert.ExpertsIdeal.Fr

end
-- ==== Proof.Experts.StepI.lean ====
module

public import proofs.«01_k».proof.Proof.Experts.RunI

@[expose] public section

set_option maxRecDepth 16384

noncomputable section

namespace Cert.ExpertsIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal.Gen

variable {F : FTy → Type} [FloatOps F]

variable (m : (ℓ : Loc nD τ sig) → Buf (Elt F) ℓ)

/-! ## The tables, word by word -/

/-- The expert of tile `n`, the block of rows tile `n` reads, the block tile `n` writes, and the number of tiles in use. -/
def teW (n : Fin 672) : BitVec 32 := (show S672.Idx → BitVec 32 from tbl m 0) (ix1 n)
def inW (n : Fin 672) : BitVec 32 := (show S672.Idx → BitVec 32 from tbl m 1) (ix1 n)
def idW (n : Fin 672) : BitVec 32 := (show S672.Idx → BitVec 32 from tbl m 2) (ix1 n)
def usedW : BitVec 32 := (show S1.Idx → BitVec 32 from tbl m 3) (ix1 0)
/-- The number of tiles in use, as a natural. -/
def nu : ℕ := (usedW m).toNat

theorem cast_val (n : Fin 672) : (Scalar.indexCast (BitVec.ofNat 32 n.val)).toNat = n.val := by
  revert n; decide +kernel
theorem prev_val (n : Fin 672) : (Scalar.indexCast (Scalar.maxsi (Scalar.subi (BitVec.ofNat 32 n.val) 1#32) 0#32)).toNat = n.val - 1 := by
  revert n; decide +kernel
theorem coord_val (t : Fin grid0.N) : (grid0.coords t 0).val = t.val := by
  have ht : t.val < 672 := Nat.lt_of_lt_of_eq t.isLt N_0
  have e0 : (grid0.coords t 0).val = t.val / 1 % 672 := Pipeline.Grid.coords_val t 0 (by decide) rfl
  rw [e0]; omega

/-- One word read out of a table's buffer at offset `k`: the table's element there. -/
theorem word_at (f : S672.Idx → BitVec 32) (off : Fin 1 → ℕ) (inb) (k : Fin 672) (hk : off 0 = k.val) (x : (Rect.unit (s := S672) off S1.size inb).shape.Idx) :
    f ((Rect.unit (s := S672) off S1.size inb).toLoadRect.idx x) = f (ix1 k) := by
  congr 1
  funext a
  obtain rfl : a = 0 := Subsingleton.elim (α := Fin 1) _ _
  refine Fin.ext ?_
  have hx : (x 0).val < 1 := (x 0).isLt
  show off 0 + 1 * (x 0).val = k.val
  omega

theorem at0 (i : grid0.Coords) (inb h) : (tbl m).at 0 (Rect.unit (s := S672) ![(Scalar.indexCast (BitVec.ofNat 32 (i 0).val)).toNat] S1.size inb) h = teW m (i 0) :=
  word_at (show S672.Idx → BitVec 32 from tbl m 0) _ inb (i 0) (cast_val (i 0)) _
theorem at1 (i : grid0.Coords) (inb h) : (tbl m).at 1 (Rect.unit (s := S672) ![(Scalar.indexCast (BitVec.ofNat 32 (i 0).val)).toNat] S1.size inb) h = inW m (i 0) :=
  word_at (show S672.Idx → BitVec 32 from tbl m 1) _ inb (i 0) (cast_val (i 0)) _
theorem at2 (i : grid0.Coords) (inb h) : (tbl m).at 2 (Rect.unit (s := S672) ![(Scalar.indexCast (BitVec.ofNat 32 (i 0).val)).toNat] S1.size inb) h = idW m (i 0) :=
  word_at (show S672.Idx → BitVec 32 from tbl m 2) _ inb (i 0) (cast_val (i 0)) _

/-! ## The index maps at the tables -/

theorem map0 (i : grid0.Coords) : cc0_transform_0 k0_off1_inb numel1_S1 (tbl m) i = ![(inW m (i 0)).toNat, 0] :=
  congrArg (fun w : BitVec 32 => (![w.toNat, 0] : Fin 2 → ℕ)) (at1 m i (k0_off1_inb i) numel1_S1)
theorem map1 (i : grid0.Coords) : cc0_transform_1 k0_off1_inb numel1_S1 (tbl m) i = ![(teW m (i 0)).toNat, 0, 0] :=
  congrArg (fun w : BitVec 32 => (![w.toNat, 0, 0] : Fin 3 → ℕ)) (at0 m i (k0_off1_inb i) numel1_S1)
theorem map2 (i : grid0.Coords) : cc0_transform_2 k0_off1_inb numel1_S1 (tbl m) i = ![(teW m (i 0)).toNat, 0, 0] :=
  congrArg (fun w : BitVec 32 => (![w.toNat, 0, 0] : Fin 3 → ℕ)) (at0 m i (k0_off1_inb i) numel1_S1)
theorem map3 (i : grid0.Coords) : cc0_transform_3 k0_off1_inb numel1_S1 (tbl m) i = ![(teW m (i 0)).toNat, 0, 0] :=
  congrArg (fun w : BitVec 32 => (![w.toNat, 0, 0] : Fin 3 → ℕ)) (at0 m i (k0_off1_inb i) numel1_S1)
theorem map4 (i : grid0.Coords) : cc0_transform_4 k0_off1_inb numel1_S1 (tbl m) i = ![(teW m (i 0)).toNat, 0, 0] :=
  congrArg (fun w : BitVec 32 => (![w.toNat, 0, 0] : Fin 3 → ℕ)) (at0 m i (k0_off1_inb i) numel1_S1)
theorem map5 (i : grid0.Coords) : cc0_transform_5 k0_off1_inb numel1_S1 (tbl m) i = ![(idW m (i 0)).toNat, 0] :=
  congrArg (fun w : BitVec 32 => (![w.toNat, 0] : Fin 2 → ℕ)) (at2 m i (k0_off1_inb i) numel1_S1)

/-- The tables' words are in range: every block the index maps name lies inside its array. -/
theorem ok_of (h0 : ∀ n, (teW m n).toNat < 32) (h1 : ∀ n, (inW m n).toNat < 5124) (h2 : ∀ n, (idW m n).toNat < 672) : Ok m := by
  refine ⟨fun i => ⟨fun a => ?_, ?_⟩, fun i => ⟨fun a => ?_, ?_⟩, fun i => ⟨fun a => ?_, ?_⟩, fun i => ⟨fun a => ?_, ?_⟩, fun i => ⟨fun a => ?_, ?_⟩, fun i => ⟨fun a => ?_, ?_⟩⟩
  all_goals first | exact Or.inl rfl | skip
  · rw [map0]
    match a with
    | ⟨0, _⟩ => exact (show ((inW m (i 0)).toNat + 1) * 4096 ≤ 20987904 by have := h1 (i 0); omega)
    | ⟨1, _⟩ => exact (show (0 + 1) * 128 ≤ 128 by omega)
  · rw [map1]
    match a with
    | ⟨0, _⟩ => exact (show ((teW m (i 0)).toNat + 1) * 1 ≤ 32 by have := h0 (i 0); omega)
    | ⟨1, _⟩ => exact (show (0 + 1) * 1024 ≤ 1024 by omega)
    | ⟨2, _⟩ => exact (show (0 + 1) * 2048 ≤ 2048 by omega)
  · rw [map2]
    match a with
    | ⟨0, _⟩ => exact (show ((teW m (i 0)).toNat + 1) * 1 ≤ 32 by have := h0 (i 0); omega)
    | ⟨1, _⟩ => exact (show (0 + 1) * 1 ≤ 1 by omega)
    | ⟨2, _⟩ => exact (show (0 + 1) * 2048 ≤ 2048 by omega)
  · rw [map3]
    match a with
    | ⟨0, _⟩ => exact (show ((teW m (i 0)).toNat + 1) * 1 ≤ 32 by have := h0 (i 0); omega)
    | ⟨1, _⟩ => exact (show (0 + 1) * 1024 ≤ 1024 by omega)
    | ⟨2, _⟩ => exact (show (0 + 1) * 1024 ≤ 1024 by omega)
  · rw [map4]
    match a with
    | ⟨0, _⟩ => exact (show ((teW m (i 0)).toNat + 1) * 1 ≤ 32 by have := h0 (i 0); omega)
    | ⟨1, _⟩ => exact (show (0 + 1) * 1 ≤ 1 by omega)
    | ⟨2, _⟩ => exact (show (0 + 1) * 1024 ≤ 1024 by omega)
  · rw [map5]
    match a with
    | ⟨0, _⟩ => exact (show ((idW m (i 0)).toNat + 1) * 4096 ≤ 2752512 by have := h2 (i 0); omega)
    | ⟨1, _⟩ => exact (show (0 + 1) * 128 ≤ 128 by omega)

/-- What the steps need of the tables: at least one tile is in use, and the tiles past those in use name the last one's block. -/
structure Steps : Prop where
  pos : 1 ≤ nu m
  small : nu m < 2147483648
  rest : ∀ n : Fin 672, nu m ≤ n.val → idW m n = idW m ⟨n.val - 1, by omega⟩

theorem cond2_iff (i : grid0.Coords) (w : BitVec 32) (hw : w.toNat < 2147483648) : k0_cond2 i w = 1#1 ↔ (i 0).val < w.toNat := by
  have hi : (i 0).val < 672 := (i 0).isLt
  have e : Scalar.cmpi .slt (BitVec.ofNat 32 (i 0).val) w = BitVec.ofBool (decide ((i 0).val < w.toNat)) := by
    show IntOp.cmpi .slt (BitVec.ofNat 32 (i 0).val) w = _
    rw [WordCmp.cmpi_slt_of_lt (by rw [WordCmp.toNat_ofNat_of_lt (by omega)]; omega) (by omega), WordCmp.toNat_ofNat_of_lt (by omega)]
  unfold k0_cond2; dsimp only
  rw [e]
  by_cases h : (i 0).val < w.toNat
  · simp only [h, decide_true, iff_true]; decide
  · simp only [h, decide_false, iff_false]; decide

theorem cUse_iff (hS : Steps m) (c : Dev nD) (i : grid0.Coords) : cUse c i (tbl m 3) ↔ (i 0).val < nu m := by
  have e : (View.readAt (Elt F) tbM0_3.view (Rect.unit (s := S1) ![0] S1.size inb_S1_S1_0).toLoadRect (tbl m 3) (Shape.Idx.first (numel1_S1 ▸ Nat.one_pos : 0 < S1.numel))) = usedW m := by
    show (show S1.Idx → BitVec 32 from tbl m 3) _ = (show S1.Idx → BitVec 32 from tbl m 3) _
    congr 1
    funext a
    obtain rfl : a = 0 := Subsingleton.elim (α := Fin 1) _ _
    exact Subsingleton.elim (α := Fin 1) _ _
  unfold cUse; rw [e]
  exact cond2_iff i _ hS.small

theorem word1_eq (c : Dev nD) (off : Fin 1 → ℕ) (inb) (h) (k : Fin 672) (hk : off 0 = k.val) :
    word1 c (Rect.unit (s := S672) off S1.size inb) h (tbl m 0) = teW m k :=
  word_at (show S672.Idx → BitVec 32 from tbl m 0) off inb k hk _

/-- Where the weights are not cast again, the tile is not the first and has the expert of the tile before. -/
theorem not_cRef (c : Dev nD) (i : grid0.Coords) (h : ¬ cRef c i (tbl m 0)) : (i 0).val ≠ 0 ∧ teW m (i 0) = teW m ⟨(i 0).val - 1, by have : (i 0).val < 672 := (i 0).isLt; omega⟩ := by
  have hi : (i 0).val < 672 := (i 0).isLt
  have e1 : word1 c (Rect.unit (s := S672) (k0_off1 i) S1.size (k0_off1_inb i)) numel1_S1 (tbl m 0) = teW m (i 0) :=
    word1_eq m c _ _ _ _ (cast_val (i 0))
  have e2 : word1 c (Rect.unit (s := S672) (k0_off2 i) S1.size (k0_off2_inb i)) numel1_S1 (tbl m 0) = teW m ⟨(i 0).val - 1, by omega⟩ :=
    word1_eq m c _ _ _ _ (prev_val (i 0))
  unfold cRef at h
  rw [e1, e2] at h
  constructor
  · intro h0
    apply h
    have : Scalar.cmpi .eq (BitVec.ofNat 32 (i 0).val) 0#32 = 1#1 := by rw [h0]; rfl
    rw [this]
    generalize Scalar.cmpi .ne (teW m (i 0)) (teW m ⟨(i 0).val - 1, by omega⟩) = b
    revert b; decide
  · by_contra hne
    apply h
    have : Scalar.cmpi .ne (teW m (i 0)) (teW m ⟨(i 0).val - 1, by omega⟩) = 1#1 := by
      show IntOp.cmpi .ne _ _ = _
      have hb : (teW m (i 0) != teW m ⟨(i 0).val - 1, by omega⟩) = true := by rw [bne_iff_ne]; exact hne
      show BitVec.ofBool (teW m (i 0) != teW m ⟨(i 0).val - 1, by omega⟩) = 1#1
      rw [hb]; rfl
    rw [this]
    generalize Scalar.cmpi .eq (BitVec.ofNat 32 (i 0).val) 0#32 = b
    revert b; decide

end Cert.ExpertsIdeal.Fr

end
-- ==== Proof.Experts.FrameI.lean ====
module

public import proofs.«01_k».proof.Proof.Experts.StepI

@[expose] public section

set_option maxRecDepth 16384

noncomputable section

namespace Cert.ExpertsIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal.Gen

variable {F : FTy → Type} [FloatOps F]

variable (m : (ℓ : Loc nD τ sig) → Buf (Elt F) ℓ) (ρ : Dev nD → PrngReg)

section Any
variable (c : Dev nD) (i : grid0.Coords)
variable (x0 : Vec F S4096x128 .f32) (x1 : Vec F S1x1024x2048 .f32) (x2 : Vec F S1x1x2048 .f32) (x3 : Vec F S1x1024x1024 .f32) (x4 : Vec F S1x1x1024 .f32) (x5 : Vec F S4096x128 .f32) (xs0 : Vec F S1024x2048 .bf16) (xs1 : Vec F S1024x1024 .bf16)
variable (xt0 : TbBuf0 (F := F) c tbM0_0) (xt1 : TbBuf0 (F := F) c tbM0_1) (xt2 : TbBuf0 (F := F) c tbM0_2) (xt3 : TbBuf0 (F := F) c tbM0_3)

/-- The body at any tile: the weights' scratch ends at `s0`, `s1` and the block of rows at `o`, whichever of the four cases the tile is in. -/
theorem run_any (arg5 : Memref sig .tc .vmem S4096x128 .f32) (harg5 : arg5.IsWhole) (arg6 : Memref sig .tc .vmem S1x1024x2048 .f32) (harg6 : arg6.IsWhole) (arg7 : Memref sig .tc .vmem S1x1x2048 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S4096x128 .f32) (harg10 : arg10.IsWhole) (arg11 : Memref sig .tc .vmem S1024x2048 .bf16) (harg11 : arg11.IsWhole) (arg12 : Memref sig .tc .vmem S1024x1024 .bf16) (harg12 : arg12.IsWhole)
    (s0 : Vec F S1024x2048 .bf16) (s1 : Vec F S1024x1024 .bf16) (o : Vec F S4096x128 .f32)
    (hs : cRef c i xt0 → k0_pay1 x1 = s0 ∧ k0_pay2 x3 = s1) (hs' : ¬ cRef c i xt0 → xs0 = s0 ∧ xs1 = s1)
    (ho : cUse c i xt3 → blkOut x0 x2 x4 s0 s1 = o) (ho' : ¬ cUse c i xt3 → x5 = o)
    (E : Set ℕ) (K : PUnit → sProp (MM F)) :
    iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare xs0 ∗ owns (c : Thread nD τ) arg12 fullShare xs1 ∗ tbPt0 c tbM0_0 xt0 ∗ tbPt0 c tbM0_1 xt1 ∗ tbPt0 c tbM0_2 xt2 ∗ tbPt0 c tbM0_3 xt3
        ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare o ∗ owns (c : Thread nD τ) arg11 fullShare s0 ∗ owns (c : Thread nD τ) arg12 fullShare s1 ∗ tbPt0 c tbM0_0 xt0 ∗ tbPt0 c tbM0_1 xt1 ∗ tbPt0 c tbM0_2 xt2 ∗ tbPt0 c tbM0_3 xt3) -∗ K ⟨⟩))
      ⊢ wp frame (wpE (defs₀ (F := F)) Variants.none c none) E (cc0_experts i tbM0_0 htbM0_0 tbM0_1 htbM0_1 tbM0_2 htbM0_2 tbM0_3 htbM0_3 arg5 harg5 arg6 harg6 arg7 harg7 arg8 harg8 arg9 harg9 arg10 harg10 arg11 harg11 arg12 harg12) K := by
  by_cases hr : cRef c i xt0
  · obtain ⟨rfl, rfl⟩ := hs hr
    by_cases hu : cUse c i xt3
    · obtain rfl := ho hu
      exact run_A c i x0 x1 x2 x3 x4 x5 xs0 xs1 xt0 xt1 xt2 xt3 arg5 harg5 arg6 harg6 arg7 harg7 arg8 harg8 arg9 harg9 arg10 harg10 arg11 harg11 arg12 harg12 hr hu E K
    · obtain rfl := ho' hu
      exact run_C c i x0 x1 x2 x3 x4 x5 xs0 xs1 xt0 xt1 xt2 xt3 arg5 harg5 arg6 harg6 arg7 harg7 arg8 harg8 arg9 harg9 arg10 harg10 arg11 harg11 arg12 harg12 hr hu E K
  · obtain ⟨rfl, rfl⟩ := hs' hr
    by_cases hu : cUse c i xt3
    · obtain rfl := ho hu
      exact run_B c i x0 x1 x2 x3 x4 x5 xs0 xs1 xt0 xt1 xt2 xt3 arg5 harg5 arg6 harg6 arg7 harg7 arg8 harg8 arg9 harg9 arg10 harg10 arg11 harg11 arg12 harg12 hr hu E K
    · obtain rfl := ho' hu
      exact run_D c i x0 x1 x2 x3 x4 x5 xs0 xs1 xt0 xt1 xt2 xt3 arg5 harg5 arg6 harg6 arg7 harg7 arg8 harg8 arg9 harg9 arg10 harg10 arg11 harg11 arg12 harg12 hr hu E K
end Any

/-! ## The windows and the idle tiles at the tables -/

theorem index1_pf (a : (pcfg0 (F := F)).Adm) (t : Fin (cfg0 a).N) : ((cfg0 a).win 1).index t = cc0_transform_1 k0_off1_inb numel1_S1 a.1 (grid0.coords t) := rfl
theorem index3_pf (a : (pcfg0 (F := F)).Adm) (t : Fin (cfg0 a).N) : ((cfg0 a).win 3).index t = cc0_transform_3 k0_off1_inb numel1_S1 a.1 (grid0.coords t) := rfl
theorem index5_pf (a : (pcfg0 (F := F)).Adm) (t : Fin (cfg0 a).N) : ((cfg0 a).win 5).index t = cc0_transform_5 k0_off1_inb numel1_S1 a.1 (grid0.coords t) := rfl
theorem idle5_pf (a : (pcfg0 (F := F)).Adm) (t : Fin (cfg0 a).N) : (cfg0 a).idle 5 (grid0.coords t) = !(k0_cond2 (grid0.coords t) (a.1.atD 3 ![0]) == 1#1) := by
  dsimp only [cfg0, pcfg0]; exact (rfl)

attribute [local irreducible] tbl

theorem N_eq (hO : Ok m) : (cfgM m hO).N = 672 := N_0

theorem index1 (hO : Ok m) (t : Fin (cfgM m hO).N) : ((cfgM m hO).win 1).index t = ![(teW m (grid0.coords t 0)).toNat, 0, 0] :=
  (index1_pf (adm m hO) t).trans (map1 m (grid0.coords t))
theorem index3 (hO : Ok m) (t : Fin (cfgM m hO).N) : ((cfgM m hO).win 3).index t = ![(teW m (grid0.coords t 0)).toNat, 0, 0] :=
  (index3_pf (adm m hO) t).trans (map3 m (grid0.coords t))
theorem index5 (hO : Ok m) (t : Fin (cfgM m hO).N) : ((cfgM m hO).win 5).index t = ![(idW m (grid0.coords t 0)).toNat, 0] :=
  (index5_pf (adm m hO) t).trans (map5 m (grid0.coords t))

theorem last_word : (tbl m).atD 3 ![0] = usedW m := by
  unfold Pipeline.Prefetch.Contents.atD
  rw [dif_pos (by decide)]
  exact congrArg (show S1.Idx → BitVec 32 from tbl m 3) (funext (α := Fin 1) fun a => by
    obtain rfl : a = 0 := Subsingleton.elim (α := Fin 1) _ _
    exact Subsingleton.elim (α := Fin 1) _ _)

theorem idle5 (hO : Ok m) (hS : Steps m) (t : Fin (cfgM m hO).N) : (cfgM m hO).idle 5 (grid0.coords t) = !decide (t.val < nu m) := by
  refine (idle5_pf (adm m hO) t).trans ?_
  show (!(k0_cond2 (grid0.coords t) ((tbl m).atD 3 ![0]) == 1#1)) = _
  rw [last_word]
  congr 1
  have e := cond2_iff (grid0.coords t) (usedW m) hS.small
  rw [coord_val] at e
  by_cases h : t.val < nu m
  · rw [decide_eq_true h, e.mpr h]; rfl
  · rw [decide_eq_false h]
    exact beq_eq_false_iff_ne.mpr fun h' => h (e.mp h')

theorem use_iff (hO : Ok m) (hS : Steps m) (c : Dev nD) (t : Fin (cfgM m hO).N) : cUse c (grid0.coords t) (tbl m 3) ↔ t.val < nu m := by
  rw [cUse_iff m hS, coord_val]

/-! ## What the buffers hold -/

/-- The weights of tile `t`'s expert, cast. -/
def sc0 (hO : Ok m) (c : Dev nD) (t : Fin (cfgM m hO).N) : Vec F S1024x2048 .bf16 := k0_pay1 (iblk m hO c 1 t)
def sc1 (hO : Ok m) (c : Dev nD) (t : Fin (cfgM m hO).N) : Vec F S1024x1024 .bf16 := k0_pay2 (iblk m hO c 3 t)
/-- What tile `t` writes where it is in use. -/
def outB (hO : Ok m) (c : Dev nD) (t : Fin (cfgM m hO).N) : Vec F S4096x128 .f32 := blkOut (iblk m hO c 0 t) (iblk m hO c 2 t) (iblk m hO c 4 t) (sc0 m hO c t) (sc1 m hO c t)
/-- The last tile in use at or before `t`. -/
def lastUsed (hO : Ok m) (t : Fin (cfgM m hO).N) : Fin (cfgM m hO).N := ⟨min t.val (nu m - 1), Nat.lt_of_le_of_lt (Nat.min_le_left _ _) t.isLt⟩

def PhiS (hO : Ok m) (c : Dev nD) : (n : ℕ) → n ≤ (cfgM m hO).N → sProp (MM F)
  | 0, _ => iprop(Pipeline.ΦA spec0 c ∗ Pipeline.ΦT pre0 (tbl m) c)
  | n + 1, hn => iprop(iprop(iprop(owns (c : Thread nD τ) scM0_0 fullShare (sc0 m hO c ⟨n, hn⟩) ∗ owns (c : Thread nD τ) scM0_1 fullShare (sc1 m hO c ⟨n, hn⟩)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl
theorem PhiS_succ (hO : Ok m) (c : Dev nD) (n : ℕ) (hn : n < (cfgM m hO).N) :
    PhiS m hO c (n + 1) hn = iprop(iprop(iprop(owns (c : Thread nD τ) scM0_0 fullShare (sc0 m hO c ⟨n, hn⟩) ∗ owns (c : Thread nD τ) scM0_1 fullShare (sc1 m hO c ⟨n, hn⟩)) ∗ (∃ r, prngReg c r)) ∗ Pipeline.ΦT pre0 (tbl m) c) := rfl
theorem PhiS_pos (hO : Ok m) (c : Dev nD) (n : ℕ) (h : n ≤ (cfgM m hO).N) (hz : n ≠ 0) :
    PhiS m hO c n h = iprop(iprop(iprop(owns (c : Thread nD τ) scM0_0 fullShare (sc0 m hO c ⟨n - 1, by omega⟩) ∗ owns (c : Thread nD τ) scM0_1 fullShare (sc1 m hO c ⟨n - 1, by omega⟩)) ∗ (∃ r, prngReg c r)) ∗ Pipeline.ΦT pre0 (tbl m) c) := by
  cases n with
  | zero => exact absurd rfl hz
  | succ n => rfl

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outB m hO c (lastUsed m hO t)
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = outB m hO c (lastUsed m hO t) := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

theorem fetched1 (hO : Ok m) (c : Dev nD) (t : Fin (cfgM m hO).N) (d) : (dats m hO 0 c).fetched 1 t d = iblk m hO c 1 t := by
  unfold Dat.fetched Dat.blockOf iblk; rw [A_eq]; try rfl
/-- Two tiles with one expert read one block of weights. -/
theorem iblk1_congr (hO : Ok m) (c : Dev nD) (t t' : Fin (cfgM m hO).N) (h : teW m (grid0.coords t 0) = teW m (grid0.coords t' 0)) : (iblk m hO c 1 t : Vec F S1x1024x2048 .f32) = iblk m hO c 1 t' := by
  have d : Vec F S1x1024x2048 .f32 := iblk m hO c 1 t
  have e := (dats m hO 0 c).fetched_congr 1 (t := t) (t' := t') (by rw [index1, index1, h]) rfl d
  exact (fetched1 m hO c t d).symm.trans (e.trans (fetched1 m hO c t' d))

theorem fetched3 (hO : Ok m) (c : Dev nD) (t : Fin (cfgM m hO).N) (d) : (dats m hO 0 c).fetched 3 t d = iblk m hO c 3 t := by
  unfold Dat.fetched Dat.blockOf iblk; rw [A_eq]; try rfl
/-- Two tiles with one expert read one block of weights. -/
theorem iblk3_congr (hO : Ok m) (c : Dev nD) (t t' : Fin (cfgM m hO).N) (h : teW m (grid0.coords t 0) = teW m (grid0.coords t' 0)) : (iblk m hO c 3 t : Vec F S1x1024x1024 .f32) = iblk m hO c 3 t' := by
  have d : Vec F S1x1024x1024 .f32 := iblk m hO c 3 t
  have e := (dats m hO 0 c).fetched_congr 3 (t := t) (t' := t') (by rw [index3, index3, h]) rfl d
  exact (fetched3 m hO c t d).symm.trans (e.trans (fetched3 m hO c t' d))

/-- At a tile past those in use the block of rows waits in the buffer as the last tile in use left it. -/
theorem before5 (hO : Ok m) (hS : Steps m) (c : Dev nD) (d) : ∀ (n : ℕ) (t : Fin (cfgM m hO).N), t.val = n → nu m ≤ t.val → (dats m hO 0 c).before 5 t d = outB m hO c (lastUsed m hO t) := by
  intro n
  induction n with
  | zero => intro t ht h; have := hS.pos; omega
  | succ n ih =>
    intro t ht h
    have hN : (cfgM m hO).N = 672 := N_0
    have hlt : t.val < 672 := by have := t.isLt; omega
    have h1 := hS.pos
    have hf : ((cfgM m hO).win 5).flush ⟨t.val - 1, Nat.lt_of_le_of_lt (Nat.sub_le _ _) t.isLt⟩ = false := by
      unfold Window.flush
      have e : ((cfgM m hO).win 5).index ⟨t.val - 1, Nat.lt_of_le_of_lt (Nat.sub_le _ _) t.isLt⟩ = ((cfgM m hO).win 5).index t := by
        rw [index5, index5]
        have hr := hS.rest ⟨t.val, hlt⟩ h
        have a1 : grid0.coords ⟨t.val - 1, Nat.lt_of_le_of_lt (Nat.sub_le _ _) t.isLt⟩ 0 = (⟨t.val - 1, by omega⟩ : Fin 672) := Fin.ext (coord_val _)
        have a2 : grid0.coords t 0 = (⟨t.val, hlt⟩ : Fin 672) := Fin.ext (coord_val _)
        rw [a1, a2, hr]
      have et : ∀ hh, (⟨t.val - 1 + 1, hh⟩ : Fin (cfgM m hO).N) = t := fun hh => Fin.ext (by show t.val - 1 + 1 = t.val; omega)
      have hd : decide (∃ hh : t.val - 1 + 1 < (cfgM m hO).N, ((cfgM m hO).win 5).index ⟨t.val - 1 + 1, hh⟩ ≠ ((cfgM m hO).win 5).index ⟨t.val - 1, Nat.lt_of_le_of_lt (Nat.sub_le _ _) t.isLt⟩) = false := by
        apply decide_eq_false
        rintro ⟨hh, hne⟩
        apply hne
        rw [et hh, e]
      have hl : decide (t.val - 1 + 1 = (cfgM m hO).N) = false := decide_eq_false (by omega)
      refine (congrArg (fun b => ((cfgM m hO).win 5).isOut && b) ?_).trans (Bool.and_false _)
      exact (congr (congrArg or hl) hd).trans rfl
    have key : outB m hO c (lastUsed m hO ⟨t.val - 1, Nat.lt_of_le_of_lt (Nat.sub_le _ _) t.isLt⟩) = outB m hO c (lastUsed m hO t) := by
      congr 1; refine Fin.ext ?_; show min (t.val - 1) (nu m - 1) = min t.val (nu m - 1); omega
    rw [Dat.before_of_pos _ 5 t (by omega) rfl d, hf, if_neg Bool.false_ne_true]
    unfold Dat.left
    have hid := idle5 m hO hS ⟨t.val - 1, Nat.lt_of_le_of_lt (Nat.sub_le _ _) t.isLt⟩
    by_cases hu : t.val - 1 < nu m
    · rw [decide_eq_true hu] at hid
      have hid' : (cfgM m hO).idle 5 ((cfgM m hO).grid.coords ⟨t.val - 1, Nat.lt_of_le_of_lt (Nat.sub_le _ _) t.isLt⟩) = false := hid
      rw [hid', ← key]
      exact (show (dats m hO 0 c).kept 5 _ d = (dats m hO 0 c).after 5 _ from rfl).trans (after0_5 m hO c _)
    · rw [decide_eq_false hu] at hid
      have hid' : (cfgM m hO).idle 5 ((cfgM m hO).grid.coords ⟨t.val - 1, Nat.lt_of_le_of_lt (Nat.sub_le _ _) t.isLt⟩) = true := hid
      rw [hid', ← key]
      exact ih ⟨t.val - 1, _⟩ (by show t.val - 1 = n; omega) (by show nu m ≤ t.val - 1; omega)

/-! ## The body obligation, at a generic point -/

def bodyPre (hO : Ok m) (c : Dev nD) (t : Fin (cfgM m hO).N) : sProp (MM F) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

def bodyPost (hO : Ok m) (c : Dev nD) (t : Fin (cfgM m hO).N) : sProp (MM F) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ (dats m hO 0 c).leavesExact 5 t)

/-- The buffer of the block of rows holding what the last tile in use writes is what the obligation asks of it, at every tile. -/
theorem leaves5 (hO : Ok m) (hS : Steps m) (c : Dev nD) (t : Fin (cfgM m hO).N) (d : Vec F S4096x128 .f32) :
    (owns (c : Thread nD τ) (ms0_5 m hO t) fullShare (outB m hO c (lastUsed m hO t)) : sProp (MM F)) ⊢ (dats m hO 0 c).leavesExact 5 t := by
  unfold Dat.leavesExact
  have hid := idle5 m hO hS t
  by_cases hu : t.val < nu m
  · rw [decide_eq_true hu] at hid
    have hid' : (cfgM m hO).idle 5 ((cfgM m hO).grid.coords t) = false := hid
    rw [hid', after0_5]
    exact .rfl
  · rw [decide_eq_false hu] at hid
    have hid' : (cfgM m hO).idle 5 ((cfgM m hO).grid.coords t) = true := hid
    rw [hid', after0_5]
    cases ((cfgM m hO).win 5).flush t
    · have e := before5 m hO hS c d t.val t rfl (by omega)
      rw [← e]
      iintro H; iexists d; iexact H
    · exact .rfl

/-- Where the weights are cast again. -/
theorem sc_keep (hO : Ok m) (c : Dev nD) (t : Fin (cfgM m hO).N) (h : ¬ cRef c (grid0.coords t) (tbl m 0)) :
    sc0 m hO c ⟨t.val - 1, Nat.lt_of_le_of_lt (Nat.sub_le _ _) t.isLt⟩ = sc0 m hO c t ∧ sc1 m hO c ⟨t.val - 1, Nat.lt_of_le_of_lt (Nat.sub_le _ _) t.isLt⟩ = sc1 m hO c t := by
  obtain ⟨h0, h1⟩ := not_cRef m c _ h
  have e : teW m (grid0.coords ⟨t.val - 1, Nat.lt_of_le_of_lt (Nat.sub_le _ _) t.isLt⟩ 0) = teW m (grid0.coords t 0) := by
    rw [h1]; congr 1; refine Fin.ext ?_
    rw [coord_val]; show t.val - 1 = (grid0.coords t 0).val - 1; rw [coord_val]
  exact ⟨congrArg k0_pay1 (iblk1_congr m hO c _ _ e), congrArg k0_pay2 (iblk3_congr m hO c _ _ e)⟩

set_option maxHeartbeats 6400000 in
theorem sound_body (hO : Ok m) (hS : Steps m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).owesAt () t.succ = (dats m hO 0 c).owesAt () t.castSucc from rfl,
    after0_0, after0_1, after0_2, after0_3, after0_4]
  rw [show (dats m hO 0 c).Φ t.succ = PhiS m hO c (t.val + 1) t.isLt from rfl, PhiS_succ, PhiT0_eq]
  have ho : cUse c (grid0.coords t) (tbl m 3) → outB m hO c t = outB m hO c (lastUsed m hO t) := fun h => by
    have := (use_iff m hO hS c t).mp h
    congr 1; refine Fin.ext ?_; show t.val = min t.val (nu m - 1); omega
  have ho' : ∀ d, ¬ cUse c (grid0.coords t) (tbl m 3) → (dats m hO 0 c).before 5 t d = outB m hO c (lastUsed m hO t) := fun d h => by
    have h2 := mt (use_iff m hO hS c t).mpr h
    exact before5 m hO hS c d t.val t rfl (by omega)
  by_cases hz : t.val = 0
  · rw [PhiS_castSucc m hO c t, PhiS_zero m hO c _ _ hz, PhiT0_eq, PhiA0_eq]
    have hr : ¬ ¬ cRef c (grid0.coords t) (tbl m 0) := fun h => (not_cRef m c _ h).1 (by rw [coord_val]; exact hz)
    iintro ⟨⟨⟨⟨⟨%e0, HS0⟩, ⟨%e1, HS1⟩⟩, Hg⟩, ⟨HT0, HT1, HT2, HT3⟩⟩, Ho, ⟨%d0, H0⟩, ⟨%d1, H1⟩, ⟨%d2, H2⟩, ⟨%d3, H3⟩, ⟨%d4, H4⟩, ⟨%d5, H5⟩⟩
    iapply (run_any c (grid0.coords t) (iblk m hO c 0 t) (iblk m hO c 1 t) (iblk m hO c 2 t) (iblk m hO c 3 t) (iblk m hO c 4 t) ((dats m hO 0 c).before 5 t d5) e0 e1 (tbl m 0) (tbl m 1) (tbl m 2) (tbl m 3) _ _ _ _ _ _ _ _ _ _ _ _ _ _ _ _ (sc0 m hO c t) (sc1 m hO c t) (outB m hO c (lastUsed m hO t)) (fun _ => ⟨rfl, rfl⟩) (fun h => absurd h hr) ho (ho' d5) Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HT0]; · iexact HT0
    isplitl [HT1]; · iexact HT1
    isplitl [HT2]; · iexact HT2
    isplitl [HT3]; · iexact HT3
    iintro ⟨H0, H1, H2, H3, H4, H5, HS0, HS1, HT0, HT1, HT2, HT3⟩
    isplitl [HS0 HS1 Hg HT0 HT1 HT2 HT3]
    · isplitl [HS0 HS1 Hg]
      · isplitl [HS0 HS1]
        · isplitl [HS0]; · iexact HS0
          iexact HS1
        iexact Hg
      isplitl [HT0]; · iexact HT0
      isplitl [HT1]; · iexact HT1
      isplitl [HT2]; · iexact HT2
      iexact HT3
    isplitl [Ho]; · iexact Ho
    isplitl [H0]; · iexact H0
    isplitl [H1]; · iexact H1
    isplitl [H2]; · iexact H2
    isplitl [H3]; · iexact H3
    isplitl [H4]; · iexact H4
    iapply (leaves5 m hO hS c t (outB m hO c t))
    iexact H5
  · rw [PhiS_castSucc m hO c t, PhiS_pos m hO c _ _ hz, PhiT0_eq]
    iintro ⟨⟨⟨⟨HS0, HS1⟩, Hg⟩, ⟨HT0, HT1, HT2, HT3⟩⟩, Ho, ⟨%d0, H0⟩, ⟨%d1, H1⟩, ⟨%d2, H2⟩, ⟨%d3, H3⟩, ⟨%d4, H4⟩, ⟨%d5, H5⟩⟩
    iapply (run_any c (grid0.coords t) (iblk m hO c 0 t) (iblk m hO c 1 t) (iblk m hO c 2 t) (iblk m hO c 3 t) (iblk m hO c 4 t) ((dats m hO 0 c).before 5 t d5) _ _ (tbl m 0) (tbl m 1) (tbl m 2) (tbl m 3) _ _ _ _ _ _ _ _ _ _ _ _ _ _ _ _ (sc0 m hO c t) (sc1 m hO c t) (outB m hO c (lastUsed m hO t)) (fun _ => ⟨rfl, rfl⟩) (sc_keep m hO c t) ho (ho' d5) Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HT0]; · iexact HT0
    isplitl [HT1]; · iexact HT1
    isplitl [HT2]; · iexact HT2
    isplitl [HT3]; · iexact HT3
    iintro ⟨H0, H1, H2, H3, H4, H5, HS0, HS1, HT0, HT1, HT2, HT3⟩
    isplitl [HS0 HS1 Hg HT0 HT1 HT2 HT3]
    · isplitl [HS0 HS1 Hg]
      · isplitl [HS0 HS1]
        · isplitl [HS0]; · iexact HS0
          iexact HS1
        iexact Hg
      isplitl [HT0]; · iexact HT0
      isplitl [HT1]; · iexact HT1
      isplitl [HT2]; · iexact HT2
      iexact HT3
    isplitl [Ho]; · iexact Ho
    isplitl [H0]; · iexact H0
    isplitl [H1]; · iexact H1
    isplitl [H2]; · iexact H2
    isplitl [H3]; · iexact H3
    isplitl [H4]; · iexact H4
    iapply (leaves5 m hO hS c t (outB m hO c t))
    iexact H5

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (hS : Steps m) (c : Dev nD) : BodyObligation (dats (F := F) m hO 0 c) (defs₀ (F := F)) Variants.none () Set.univ := fun t => by
  rw [bigSep_W0, bigSep_W0, defs₀_row m hO]
  exact triple_restated (sound_body m hO hS c t) rfl .rfl fun _ => .rfl

theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

theorem hout (hO : Ok m) (c : Dev nD) : (dats m hO 0 c).Φ (Fin.last (cfgM m hO).N) ⊢ Pipeline.ΦA spec0 c := by
  have hN : (cfgM m hO).N = 672 := N_0
  rw [show (dats m hO 0 c).Φ (Fin.last (cfgM m hO).N) = PhiS m hO c (cfgM m hO).N le_rfl from rfl, PhiS_pos m hO c _ _ (by omega), PhiA0_eq]
  iintro ⟨⟨⟨HS0, HS1⟩, Hg⟩, -⟩
  isplitl [HS0 HS1]
  · isplitl [HS0]
    · iexists _; iexact HS0
    iexists _; iexact HS1
  iexact Hg

/-! ## The run and the frame -/

set_option backward.isDefEq.respectTransparency.types false in
theorem run_main_quiescent (hO : Ok m) (hS : Steps m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO hS c).loose) (hshare := fun c => (dats m hO 0 c).share_full fun _ => rfl)
    (howed := fun _ _ => rfl) (V := V m) (hmain := hmain m Variants.none) (hA := A_eq m hO) (hpf := V_pre m)
    (hin := hin m hO) (hout := hout m hO)

theorem run_main (hO : Ok m) (hS : Steps m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO hS)

/-- The argument arrays end unchanged and every counter at zero. -/
theorem frame (hO : Ok m) (hS : Steps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ hO (dats m hO) (A_eq m hO) (run_main m ρ hO hS)) ((θ_run defs _ _).mono (fun _ h => h.2) (run_main_quiescent m ρ hO hS))

end Cert.ExpertsIdeal.Fr

end
-- ==== Proof.Experts.PlanW.lean ====
module

public import proofs.«01_k».proof.Proof.Gen.ExpertsIdeal
public import Idealize.ShloMosaic.Lib.Routing.Words
public import Idealize.ShloMosaic.Lib.PlanTiles.Rows
public import Idealize.ShloMosaic.Lib.ReduceAll

@[expose] public section

noncomputable section

namespace Cert.Ex

open Idealize.ShloMosaic Idealize.ShloMosaic.ValueIdx Idealize.ShloMosaic.WordCmp
open Idealize.ShloMosaic.Routing
open Cert.ExpertsIdeal (S_ S1 S32 S1x32 S672 S672x1 S672x32)
open Cert.ExpertsIdeal.Gen

/-! ## A row's sum in words -/

theorem fold_words {ι : Type} [DecidableEq ι] (S : Finset ι) (g : ι → BitVec 32) (f : ι → ℕ) (h : ∀ i ∈ S, g i = BitVec.ofNat 32 (f i)) :
    S.fold IntOp.addi 0#32 g = BitVec.ofNat 32 (∑ i ∈ S, f i) := by
  induction S using Finset.cons_induction with
  | empty => rfl
  | cons a S ha ih =>
    rw [Finset.fold_cons, Finset.sum_cons, ih fun i hi => h i (Finset.mem_cons.2 (Or.inr hi)), h a (Finset.mem_cons_self a S)]
    exact (BitVec.ofNat_add _ _).symm

/-- The sum of a rectangle of words along its columns, where the words hold naturals. -/
theorem reduce_rows {n k : ℕ} (x : IVec (shape2 n k) 32) (f : Fin n → ℕ → ℕ) (hx : ∀ p (q : Fin k), x (ix2 p q) = BitVec.ofNat 32 (f p q.val))
    (h : (shape2 n k).ReducesTo [1] (shape1 n)) (hu : 0 < shape0.numel) (p : Fin n) :
    Host.reduce IntOp.addi x (constantI shape0 32 0#32) h hu (ix1 p) = BitVec.ofNat 32 (∑ q ∈ Finset.range k, f p q) := by
  classical
  rw [Host.reduce_eq_fold]
  have hdrop : ∀ i : (shape2 n k).Idx, h.drop i = ix1 p ↔ i 0 = p := by
    intro i
    have hv : (h.drop i 0 : ℕ) = i 0 := Shape.ReducesTo.drop_apply_val h i 0
    constructor
    · intro e; rw [e] at hv; exact Fin.ext hv.symm
    · intro e; funext b; have hb : b = 0 := Subsingleton.elim _ _; subst hb; exact Fin.ext (by rw [hv, e]; rfl)
  have hback : ∀ i : (shape2 n k).Idx, i 0 = p → ix2 p (i 1) = i := fun i h0 => by
    funext b; match b with
    | ⟨0, _⟩ => exact h0.symm
    | ⟨1, _⟩ => rfl
  show Finset.fold IntOp.addi 0#32 x (Finset.univ.filter fun i : (shape2 n k).Idx => h.drop i = ix1 p) = _
  rw [fold_words _ x (fun i => f p (i 1).val) fun i hi => by
    have e := hback i ((hdrop i).1 (Finset.mem_filter.1 hi).2)
    rw [← e]; exact hx p (i 1)]
  congr 1
  rw [← Fin.sum_univ_eq_sum_range (fun q => f p q) k]
  refine Finset.sum_bij' (fun i _ => i 1) (fun q _ => ix2 p q) (fun _ _ => Finset.mem_univ _)
    (fun q _ => Finset.mem_filter.2 ⟨Finset.mem_univ _, (hdrop _).2 rfl⟩)
    (fun i hi => hback i ((hdrop i).1 (Finset.mem_filter.1 hi).2)) (fun _ _ => rfl) (fun i hi => rfl)

theorem list_sum_range (f : ℕ → ℕ) (n : ℕ) : ((List.range n).map f).sum = ∑ i ∈ Finset.range n, f i := by
  induction n with
  | zero => rfl
  | succ n ih => rw [List.range_succ, Finset.sum_range_succ, ← ih]; simp

/-! ## The plan in naturals -/

section Nats
variable (c : ℕ → ℕ)

/-- The tiles of expert `e`, the tiles up to and with expert `e`, the tiles before it, and the expert of tile `n`. -/
def tl (e : ℕ) : ℕ := (c e + 511) / 512
def tE (e : ℕ) : ℕ := ∑ i ∈ Finset.range (e + 1), tl c i
def st (e : ℕ) : ℕ := tE c e - tl c e
def ex (n : ℕ) : ℕ := Nat.count (fun e => tE c e ≤ n) 32
/-- The tile a step works at: its own, or the last one. -/
def tid (n : ℕ) : ℕ := min n (tE c 31 - 1)

theorem tE_succ (e : ℕ) : tE c (e + 1) = tE c e + tl c (e + 1) := Finset.sum_range_succ _ _
theorem tl_le_tE (e : ℕ) : tl c e ≤ tE c e := by
  cases e with
  | zero => exact le_of_eq (by simp [tE])
  | succ e => rw [tE_succ]; omega
theorem tE_mono {a b : ℕ} (h : a ≤ b) : tE c a ≤ tE c b := by
  induction h with
  | refl => exact le_rfl
  | step _ ih => exact ih.trans (by rw [Nat.succ_eq_add_one, tE_succ]; omega)
theorem st_add (e : ℕ) : st c e + tl c e = tE c e := Nat.sub_add_cancel (tl_le_tE c e)
theorem lt_ex {n e : ℕ} (he : e < 32) : tE c e ≤ n ↔ e < ex c n :=
  lt_count_iff (fun a b hab _ hb => (tE_mono c hab).trans hb) he
theorem ex_lt {n : ℕ} (h : n < tE c 31) : ex c n < 32 := by
  by_contra hn
  have := (lt_ex c (n := n) (e := 31) (by omega)).2 (by omega)
  omega
theorem lt_tE_ex {n : ℕ} (h : n < tE c 31) : n < tE c (ex c n) := by
  by_contra hn
  have := (lt_ex c (n := n) (ex_lt c h)).1 (by omega)
  omega
theorem st_ex_le {n : ℕ} (h : n < tE c 31) : st c (ex c n) ≤ n := by
  rcases Nat.eq_zero_or_pos (ex c n) with h0 | h0
  · rw [h0]; simp [st, tE]
  · obtain ⟨k, hk⟩ : ∃ k, ex c n = k + 1 := ⟨ex c n - 1, by omega⟩
    have h1 := ex_lt c h
    have h2 := (lt_ex c (n := n) (e := k) (by omega)).2 (by omega)
    have h3 : st c (k + 1) = tE c k := by rw [st, tE_succ]; omega
    rw [hk, h3]; exact h2
theorem tl_le (hC : ∀ e, c e ≤ 81920) (e : ℕ) : tl c e ≤ 160 := by have := hC e; unfold tl; omega
theorem tE_le (hC : ∀ e, c e ≤ 81920) (e : ℕ) : tE c e ≤ 160 * (e + 1) := by
  refine (Finset.sum_le_card_nsmul _ _ 160 fun i _ => tl_le c hC i).trans ?_
  simp; omega
theorem tid_lt (hU : 1 ≤ tE c 31) (n : ℕ) : tid c n < tE c 31 := by unfold tid; omega
/-- The tile's place among its expert's own tiles. -/
theorem own_lt (hC : ∀ e, c e ≤ 81920) {n : ℕ} (h : n < tE c 31) : n - st c (ex c n) < 160 := by
  have h1 := lt_tE_ex c h
  have h2 := st_add c (ex c n)
  have h3 := tl_le c hC (ex c n)
  have h4 := st_ex_le c h
  omega
theorem some_tile (hS : 1 ≤ ∑ i ∈ Finset.range 32, c i) : 1 ≤ tE c 31 := by
  have h : ∑ i ∈ Finset.range 32, c i ≤ ∑ i ∈ Finset.range 32, 512 * tl c i :=
    Finset.sum_le_sum fun i _ => by unfold tl; omega
  rw [← Finset.mul_sum] at h
  show 1 ≤ ∑ i ∈ Finset.range 32, tl c i
  omega
end Nats

/-! ## The plan in words, as the host computes it -/

section Words
variable (cW : IVec S32 32)

def wT : IVec S32 32 := pyDiv bcast_S_S32 (subi (addi cW (broadcastInDim S32 ![] bcast_S_S32 (constantI S_ 32 512#32))) (broadcastInDim S32 ![] bcast_S_S32 (constantI S_ 32 1#32))) (constantI S_ 32 512#32)
def wE : IVec S32 32 := Host.reduceWindow IntOp.addi ![32] ![1] ![31] ![0] (wT cW) (broadcastInDim S_ ![] bcast_S_S_ (constantI S_ 32 0#32)) reduceWindows_S32_S32_w32s1p31_0 h_S_
def wU : IVec S_ 32 := shapeCast S_ (extractStridedSlice S1 ![31] (wE cW) slices_S32_S1_31) shapeCasts_S1_S_
def wI : IVec S672 32 := minsi (iotaInDim S672 32 0) (broadcastInDim S672 ![] bcast_S_S672 (subi (wU cW) (constantI S_ 32 1#32)))
def wX : IVec S672 32 := Host.reduce IntOp.addi (extui 32 (cmpi .sge
    (broadcastInDim S672x32 ![0, 1] bcast_S672x1_S672x32_0_1 (broadcastInDim S672x1 ![0] bcast_S672_S672x1_0 (wI cW)))
    (broadcastInDim S672x32 ![0, 1] bcast_S1x32_S672x32_0_1 (broadcastInDim S1x32 ![1] bcast_S32_S1x32_1 (wE cW)))) natLt_1_32)
  (constantI S_ 32 0#32) reducesTo_S672x32_S672_d1 h_S_
def wM : IVec S672x32 1 := cmpi .eq
    (broadcastInDim S672x32 ![0, 1] bcast_S672x1_S672x32_0_1 (broadcastInDim S672x1 ![0] bcast_S672_S672x1_0 (wX cW)))
    (broadcastInDim S672x32 ![0, 1] bcast_S1x32_S672x32_0_1 (broadcastInDim S1x32 ![1] bcast_S32_S1x32_1 (iotaInDim S32 32 0)))
def wA : IVec S672 32 := Host.reduce IntOp.addi (select (wM cW)
    (broadcastInDim S672x32 ![0, 1] bcast_S1x32_S672x32_0_1 (broadcastInDim S1x32 ![1] bcast_S32_S1x32_1 (subi (wE cW) (wT cW))))
    (broadcastInDim S672x32 ![] bcast_S_S672x32 (constantI S_ 32 0#32)))
  (constantI S_ 32 0#32) reducesTo_S672x32_S672_d1 h_S_
def wN : IVec S672 32 := addi (muli (wX cW) (broadcastInDim S672 ![] bcast_S_S672 (constantI S_ 32 160#32))) (subi (wI cW) (wA cW))
def wV : IVec S1 32 := shapeCast S1 (wU cW) shapeCasts_S_S1

variable (c : ℕ → ℕ) (hc : ∀ e : Fin 32, cW (ix1 e) = BitVec.ofNat 32 (c e.val)) (hC : ∀ e, c e ≤ 81920) (hU : 1 ≤ tE c 31)
include hc hC

theorem sub_words {a b : ℕ} (h : b ≤ a) : BitVec.ofNat 32 a - BitVec.ofNat 32 b = BitVec.ofNat 32 (a - b) := by
  obtain ⟨d, rfl⟩ : ∃ d, a = b + d := ⟨a - b, by omega⟩
  rw [Nat.add_sub_cancel_left, BitVec.ofNat_add, BitVec.add_comm, BitVec.add_sub_cancel]

omit hc hC in
theorem pad_words {a : ℕ} : BitVec.ofNat 32 a + 512#32 - 1#32 = BitVec.ofNat 32 (a + 511) := by
  rw [show (512#32 : BitVec 32) = BitVec.ofNat 32 512 from rfl, ← BitVec.ofNat_add, show (1#32 : BitVec 32) = BitVec.ofNat 32 1 from rfl]
  obtain ⟨d, hd⟩ : ∃ d, a + 512 = 1 + d := ⟨a + 511, by omega⟩
  rw [hd, BitVec.ofNat_add, BitVec.add_comm, BitVec.add_sub_cancel]
  congr 1; omega

theorem wT_at (e : Fin 32) : wT cW (ix1 e) = BitVec.ofNat 32 (tl c e.val) := by
  have := hC e.val
  refine pyDiv_ap _ _ _ _ (a := c e.val + 511) ?_ rfl (by omega) (by omega) (by omega)
  rw [subi_ap, addi_ap, bc0, bc0, hc]
  exact pad_words

theorem wE_at (e : Fin 32) : wE cW (ix1 e) = BitVec.ofNat 32 (tE c e.val) := by
  have h := cumsum1 (N := 32) (Nm1 := 31) rfl (wT cW) (tl c) (wT_at cW c hc hC) (broadcastInDim S_ ![] bcast_S_S_ (constantI S_ 32 0#32)) (bc0 _ _ _)
    reduceWindows_S32_S32_w32s1p31_0 h_S_ e
  rw [list_sum_range] at h
  exact h

theorem wU_at (j : S_.Idx) : wU cW j = BitVec.ofNat 32 (tE c 31) := by
  have h := slice1 31 (wE cW) slices_S32_S1_31 (0 : Fin 1) (by decide)
  unfold wU shapeCast
  generalize Shape.reshapeEquiv shapeCasts_S1_S_ j = i
  obtain rfl : i = ix1 (0 : Fin 1) := by funext a; obtain rfl : a = 0 := Subsingleton.elim (α := Fin 1) _ _; exact Subsingleton.elim (α := Fin 1) _ _
  exact h.trans (wE_at cW c hc hC ⟨31, by decide⟩)

theorem wV_at : wV cW (ix1 0) = BitVec.ofNat 32 (tE c 31) := by
  unfold wV shapeCast
  exact wU_at cW c hc hC _

include hU
theorem wI_at (n : Fin 672) : wI cW (ix1 n) = BitVec.ofNat 32 (tid c n.val) := by
  have h1 := tE_le c hC 31
  have hn := n.isLt
  show IntOp.minsi (BitVec.ofNat 32 n.val) (broadcastInDim S672 ![] bcast_S_S672 (subi (wU cW) (constantI S_ 32 1#32)) (ix1 n)) = _
  rw [bc0, subi_ap, wU_at cW c hc hC]
  show IntOp.minsi _ (_ - BitVec.ofNat 32 1) = _
  rw [sub_words cW c hc hC hU, PlanTiles.minsi_word (by omega) (by omega), Nat.min_comm]; rfl

theorem wX_at (n : Fin 672) : wX cW (ix1 n) = BitVec.ofNat 32 (ex c (tid c n.val)) := by
  refine reduce_count (by decide) _ _ _ _ n _ fun q => ?_
  rw [cmpi_at, bcRows, bcCols, wI_at cW c hc hC hU, wE_at cW c hc hC]
  have h1 := tE_le c hC 31
  have h2 := tE_le c hC q.val
  have h3 := tid_lt c hU n.val
  have h4 := q.isLt
  exact cmpi_sge_ofNat_eq_one_iff (by omega) (by omega)

theorem wM_at (n : Fin 672) (q : Fin 32) : wM cW (ix2 n q) = 1#1 ↔ ex c (tid c n.val) = q.val := by
  unfold wM
  rw [cmpi_at, bcRows, bcCols, wX_at cW c hc hC hU, iota1_ap]
  have h3 := ex_lt c (tid_lt c hU n.val)
  have h4 := q.isLt
  exact cmpi_eq_ofNat_eq_one_iff (by omega) (by omega)

theorem wA_at (n : Fin 672) : wA cW (ix1 n) = BitVec.ofNat 32 (st c (ex c (tid c n.val))) := by
  have h3 := ex_lt c (tid_lt c hU n.val)
  refine (reduce_rows _ (fun p q => if ex c (tid c p.val) = q then st c q else 0) (fun p q => ?_) _ _ n).trans ?_
  · rw [select_at, bcCols, bc0, subi_ap, wE_at cW c hc hC, wT_at cW c hc hC, sub_words cW c hc hC (tl_le_tE c _)]
    by_cases h : ex c (tid c p.val) = q.val
    · rw [(wM_at cW c hc hC hU p q).2 h, if_pos h]; rfl
    · rw [if_neg h]; exact if_neg fun e => h ((wM_at cW c hc hC hU p q).1 e)
  · rw [Finset.sum_ite_eq, if_pos (Finset.mem_range.2 h3)]

theorem wN_at (n : Fin 672) : wN cW (ix1 n) = BitVec.ofNat 32 (160 * ex c (tid c n.val) + (tid c n.val - st c (ex c (tid c n.val)))) := by
  unfold wN
  rw [addi_ap, muli_ap, subi_ap, bc0, wX_at cW c hc hC hU, wI_at cW c hc hC hU, wA_at cW c hc hC hU,
    sub_words cW c hc hC (st_ex_le c (tid_lt c hU n.val)), BitVec.ofNat_add, Nat.mul_comm 160, BitVec.ofNat_mul]
  rfl
end Words

end Cert.Ex
-- ==== Proof.Experts.Counted.lean ====
module

public import proofs.«01_k».proof.Proof.Gen.Pre_counted
public import proofs.«01_k».proof.Proof.Experts.PlanW

@[expose] public section

noncomputable section

namespace Cert.Ex

open Idealize.ShloMosaic Idealize.ShloMosaic.ValueIdx Idealize.ShloMosaic.WordCmp
open Idealize.ShloMosaic.Routing
open Cert.ExpertsIdeal (S_ S1 S32 S1x32 S672 S672x1 S672x32 S32x1 S32x128)
open Cert.ExpertsIdeal.Gen

variable {F : FTy → Type} [FloatOps F]

/-- The rows each expert holds, as words, read off the array of counts. -/
def cntW (a : FVec F S32x128 .f32) : IVec S32 32 :=
  fptosi (F := F) (φ := .f32) 32 (shapeCast S32 (extractStridedSlice S32x1 ![0, 0] a slices_S32x128_S32x1_0_0) shapeCasts_S32x1_S32)

/-- The rows expert `e` holds. -/
def cN (cW : IVec S32 32) (e : ℕ) : ℕ := if h : e < 32 then (cW (ix1 ⟨e, h⟩)).toNat else 0

theorem cN_at (cW : IVec S32 32) (e : Fin 32) : cW (ix1 e) = BitVec.ofNat 32 (cN cW e.val) := by
  unfold cN
  rw [dif_pos e.isLt]
  exact (BitVec.eq_of_toNat_eq (by rw [BitVec.toNat_ofNat, Nat.mod_eq_of_lt (BitVec.isLt _)]))

/-- No expert holds more rows than its slots, and there is a row. -/
structure Plan (cW : IVec S32 32) : Prop where
  le : ∀ e, cN cW e ≤ 81920
  some : 1 ≤ tE (cN cW) 31

theorem sum_le (c : ℕ → ℕ) (h : ∀ e, c e ≤ 81920) : ∑ i ∈ Finset.range 32, c i ≤ 2621440 :=
  (Finset.sum_le_card_nsmul _ _ 81920 fun i _ => h i).trans (by simp)

theorem counted (x0 : FVec F Pre_counted.S20987904x128 .f32) (x1 : FVec F S32x128 .f32) (x2 : FVec F Pre_counted.S32x1024x2048 .f32)
    (x3 : FVec F Pre_counted.S32x2048 .f32) (x4 : FVec F Pre_counted.S32x1024x1024 .f32) (x5 : FVec F Pre_counted.S32x1024 .f32)
    (h : Pre_counted.fn x0 x1 x2 x3 x4 x5 = fun _ => 1#1) : Plan (cntW x1) := by
  have h0 : IntOp.andi (Host.reduce IntOp.andi (andi (cmpi .sge (cntW x1) (broadcastInDim S32 ![] bcast_S_S32 (constantI S_ 32 0#32)))
        (cmpi .sle (cntW x1) (broadcastInDim S32 ![] bcast_S_S32 (constantI S_ 32 81920#32)))) (constantI S_ 1 1#1) Pre_counted.Gen.reducesTo_S32_S_d0 h_S_ ix0)
      (IntOp.cmpi .sge (Host.reduce IntOp.addi (cntW x1) (constantI S_ 32 0#32) Pre_counted.Gen.reducesTo_S32_S_d0 h_S_ ix0) 1#32) = 1#1 := congrFun h ix0
  obtain ⟨ha, hs⟩ := IntOp.andi_eq_one.1 h0
  haveI : Subsingleton S_.Idx := ⟨fun a b => funext fun k => k.elim0⟩
  have hle : ∀ e, cN (cntW x1) e ≤ 81920 := by
    intro e
    by_cases he : e < 32
    · have h1 := Host.reduce_andi_all _ _ _ _ _ ha (ix1 ⟨e, he⟩)
      rw [andi_at, cmpi_at, cmpi_at, bc0, bc0, cN_at (cntW x1)] at h1
      obtain ⟨h2, h3⟩ := IntOp.andi_eq_one.1 h1
      have h2' : IntOp.cmpi .sge (BitVec.ofNat 32 (cN (cntW x1) e)) 0#32 = 1#1 := h2
      have h3' : IntOp.cmpi .sle (BitVec.ofNat 32 (cN (cntW x1) e)) (BitVec.ofNat 32 81920) = 1#1 := h3
      have hlt : cN (cntW x1) e < 2 ^ 32 := by unfold cN; rw [dif_pos he]; exact BitVec.isLt _
      rw [cmpi_sge_zero, ofBool_decide_eq_one_iff, BitVec.toNat_ofNat, Nat.mod_eq_of_lt hlt] at h2'
      exact (cmpi_sle_ofNat_eq_one_iff (by omega) (by omega)).1 h3'
    · unfold cN; rw [dif_neg he]; exact Nat.zero_le _
  refine ⟨hle, some_tile _ ?_⟩
  rw [reduce_sum (cntW x1) (cN (cntW x1)) (cN_at _) _ _, list_sum_range] at hs
  have hb := sum_le _ hle
  exact (cmpi_sge_ofNat_eq_one_iff (w := 32) (b := 1) (by omega) (by omega)).1 hs

end Cert.Ex
-- ==== Proof.Experts.HostI.lean ====
module

public import proofs.«01_k».proof.Proof.Experts.FrameI
public import proofs.«01_k».proof.Proof.Experts.Counted
public import Idealize.ShloMosaic.Lib.StableHlo.RunRead

@[expose] public section

set_option maxRecDepth 16384

noncomputable section

namespace Cert.ExpertsIdeal.Fr

open Idealize.ShloMosaic Idealize.ShloMosaic.TcCoe Idealize.ShloMosaic.StableHlo Cert.ExpertsIdeal.Gen
open Cert.Ex

variable {F : FTy → Type} [FloatOps F]

variable (m : (ℓ : Loc nD τ sig) → Buf (Elt F) ℓ)

/-! A value handed to a host function and back is the value. -/

theorem of_c_1 (h₁ h₂ h₃) (x) : (StableHlo.TRef.of main_c_1 h₁ h₂ h₃ : StableHlo.TRef sig ⟨S_, .i32⟩).ofBuf (Val := Elt F) x = x := rfl
theorem to_c_1 (h₁ h₂ h₃) (x) : (StableHlo.TRef.of main_c_1 h₁ h₂ h₃ : StableHlo.TRef sig ⟨S_, .i32⟩).toBuf (Val := Elt F) x = x := rfl
theorem of_v6 (h₁ h₂ h₃) (x) : (StableHlo.TRef.of main_v6 h₁ h₂ h₃ : StableHlo.TRef sig ⟨S32, .i32⟩).ofBuf (Val := Elt F) x = x := rfl
theorem to_v6 (h₁ h₂ h₃) (x) : (StableHlo.TRef.of main_v6 h₁ h₂ h₃ : StableHlo.TRef sig ⟨S32, .i32⟩).toBuf (Val := Elt F) x = x := rfl
theorem of_v7 (h₁ h₂ h₃) (x) : (StableHlo.TRef.of main_v7 h₁ h₂ h₃ : StableHlo.TRef sig ⟨S32, .i32⟩).ofBuf (Val := Elt F) x = x := rfl
theorem to_v7 (h₁ h₂ h₃) (x) : (StableHlo.TRef.of main_v7 h₁ h₂ h₃ : StableHlo.TRef sig ⟨S32, .i32⟩).toBuf (Val := Elt F) x = x := rfl
theorem of_v8 (h₁ h₂ h₃) (x) : (StableHlo.TRef.of main_v8 h₁ h₂ h₃ : StableHlo.TRef sig ⟨S32, .i32⟩).ofBuf (Val := Elt F) x = x := rfl
theorem to_v8 (h₁ h₂ h₃) (x) : (StableHlo.TRef.of main_v8 h₁ h₂ h₃ : StableHlo.TRef sig ⟨S32, .i32⟩).toBuf (Val := Elt F) x = x := rfl
theorem of_c_4 (h₁ h₂ h₃) (x) : (StableHlo.TRef.of main_c_4 h₁ h₂ h₃ : StableHlo.TRef sig ⟨S_, .i32⟩).ofBuf (Val := Elt F) x = x := rfl
theorem to_c_4 (h₁ h₂ h₃) (x) : (StableHlo.TRef.of main_c_4 h₁ h₂ h₃ : StableHlo.TRef sig ⟨S_, .i32⟩).toBuf (Val := Elt F) x = x := rfl
theorem of_v29 (h₁ h₂ h₃) (x) : (StableHlo.TRef.of main_v29 h₁ h₂ h₃ : StableHlo.TRef sig ⟨S1x32, .i32⟩).ofBuf (Val := Elt F) x = x := rfl
theorem to_v29 (h₁ h₂ h₃) (x) : (StableHlo.TRef.of main_v29 h₁ h₂ h₃ : StableHlo.TRef sig ⟨S1x32, .i32⟩).toBuf (Val := Elt F) x = x := rfl
theorem of_v28 (h₁ h₂ h₃) (x) : (StableHlo.TRef.of main_v28 h₁ h₂ h₃ : StableHlo.TRef sig ⟨S672x32, .i1⟩).ofBuf (Val := Elt F) x = x := rfl
theorem to_v28 (h₁ h₂ h₃) (x) : (StableHlo.TRef.of main_v28 h₁ h₂ h₃ : StableHlo.TRef sig ⟨S672x32, .i1⟩).toBuf (Val := Elt F) x = x := rfl
theorem of_v30 (h₁ h₂ h₃) (x) : (StableHlo.TRef.of main_v30 h₁ h₂ h₃ : StableHlo.TRef sig ⟨S672x32, .i32⟩).ofBuf (Val := Elt F) x = x := rfl
theorem to_v30 (h₁ h₂ h₃) (x) : (StableHlo.TRef.of main_v30 h₁ h₂ h₃ : StableHlo.TRef sig ⟨S672x32, .i32⟩).toBuf (Val := Elt F) x = x := rfl

/-! ## The tables are the plan in words -/

/-- The rows each expert holds, as words. -/
def cW (c : Dev nD) : IVec S32 32 := cntW (m ((c.tc : Thread nD τ).loc main_arg1) : FVec F S32x128 .f32)

theorem V_v15 (c : Dev nD) : V m c main_v15 = wI (cW m c) := by
  unfold_abbrev_sides
  show StableHlo.after (hostOps0 ++ (hostOps0_1 ++ (hostOps0_2 ++ (hostOps0_3 ++ (hostOps0_4 ++ (hostOps0_5 ++ [])))))) _ _ = _
  after_reads_simp
  simp only [StableHlo.TRef.ofBuf_toBuf, of_c_1, to_c_1, of_v6, to_v6, of_v7, to_v7, of_v8, to_v8, of_c_4, to_c_4, of_v29, to_v29, of_v28, to_v28, of_v30, to_v30, id]
  unfold wI wU wE wT Routing.pyDiv cW cntW
  rfl

theorem V_v36 (c : Dev nD) : V m c main_v36 = wV (cW m c) := by
  unfold_abbrev_sides
  show StableHlo.after (hostOps0 ++ (hostOps0_1 ++ (hostOps0_2 ++ (hostOps0_3 ++ (hostOps0_4 ++ (hostOps0_5 ++ [])))))) _ _ = _
  after_reads_simp
  simp only [StableHlo.TRef.ofBuf_toBuf, of_c_1, to_c_1, of_v6, to_v6, of_v7, to_v7, of_v8, to_v8, of_c_4, to_c_4, of_v29, to_v29, of_v28, to_v28, of_v30, to_v30, id]
  unfold wV wU wE wT Routing.pyDiv cW cntW
  rfl

theorem V_v22 (c : Dev nD) : V m c main_v22 = wX (cW m c) := by
  unfold_abbrev_sides
  show StableHlo.after (hostOps0 ++ (hostOps0_1 ++ (hostOps0_2 ++ (hostOps0_3 ++ (hostOps0_4 ++ (hostOps0_5 ++ [])))))) _ _ = _
  after_reads_simp
  simp only [StableHlo.TRef.ofBuf_toBuf, of_c_1, to_c_1, of_v6, to_v6, of_v7, to_v7, of_v8, to_v8, of_c_4, to_c_4, of_v29, to_v29, of_v28, to_v28, of_v30, to_v30, id]
  unfold wX wI wU wE wT Routing.pyDiv cW cntW
  rfl

theorem V_v35 (c : Dev nD) : V m c main_v35 = wN (cW m c) := by
  unfold_abbrev_sides
  show StableHlo.after (hostOps0 ++ (hostOps0_1 ++ (hostOps0_2 ++ (hostOps0_3 ++ (hostOps0_4 ++ (hostOps0_5 ++ [])))))) _ _ = _
  after_reads_simp
  simp only [StableHlo.TRef.ofBuf_toBuf, of_c_1, to_c_1, of_v6, to_v6, of_v7, to_v7, of_v8, to_v8, of_c_4, to_c_4, of_v29, to_v29, of_v28, to_v28, of_v30, to_v30, id]
  unfold wN wA wM wX wI wU wE wT Routing.pyDiv cW cntW
  rfl

theorem ix_eq {n : ℕ} (i : Fin n) : Idealize.ShloMosaic.ix1 i = ValueIdx.ix1 i := rfl
theorem teW_word (n : Fin 672) : teW m n = wX (cW m 0) (ValueIdx.ix1 n) := by
  rw [← V_v22 m 0]; rfl
theorem inW_word (n : Fin 672) : inW m n = wN (cW m 0) (ValueIdx.ix1 n) := by
  rw [← V_v35 m 0]; rfl
theorem idW_word (n : Fin 672) : idW m n = wI (cW m 0) (ValueIdx.ix1 n) := by
  rw [← V_v15 m 0]; rfl
theorem usedW_word : usedW m = wV (cW m 0) (ValueIdx.ix1 0) := by
  rw [← V_v36 m 0]; rfl

theorem teW_at (h : Plan (cW m 0)) (n : Fin 672) : teW m n = BitVec.ofNat 32 (ex (cN (cW m 0)) (tid (cN (cW m 0)) n.val)) :=
  (teW_word m n).trans (wX_at _ _ (cN_at _) h.le h.some n)
theorem inW_at (h : Plan (cW m 0)) (n : Fin 672) : inW m n = BitVec.ofNat 32 (160 * ex (cN (cW m 0)) (tid (cN (cW m 0)) n.val)
    + (tid (cN (cW m 0)) n.val - st (cN (cW m 0)) (ex (cN (cW m 0)) (tid (cN (cW m 0)) n.val)))) :=
  (inW_word m n).trans (wN_at _ _ (cN_at _) h.le h.some n)
theorem idW_at (h : Plan (cW m 0)) (n : Fin 672) : idW m n = BitVec.ofNat 32 (tid (cN (cW m 0)) n.val) :=
  (idW_word m n).trans (wI_at _ _ (cN_at _) h.le h.some n)
theorem nu_eq (h : Plan (cW m 0)) : nu m = tE (cN (cW m 0)) 31 := by
  have e := (usedW_word m).trans (wV_at _ _ (cN_at _) h.le)
  have := tE_le _ h.le 31
  unfold nu
  rw [e, BitVec.toNat_ofNat, Nat.mod_eq_of_lt (by omega)]

theorem teW_val (h : Plan (cW m 0)) (n : Fin 672) : (teW m n).toNat = ex (cN (cW m 0)) (tid (cN (cW m 0)) n.val) := by
  have := ex_lt _ (tid_lt _ h.some n.val)
  rw [teW_at m h, BitVec.toNat_ofNat, Nat.mod_eq_of_lt (by omega)]
theorem idW_val (h : Plan (cW m 0)) (n : Fin 672) : (idW m n).toNat = tid (cN (cW m 0)) n.val := by
  have : tid (cN (cW m 0)) n.val ≤ n.val := Nat.min_le_left _ _
  have := n.isLt
  rw [idW_at m h, BitVec.toNat_ofNat, Nat.mod_eq_of_lt (by omega)]
theorem inW_val (h : Plan (cW m 0)) (n : Fin 672) : (inW m n).toNat = 160 * ex (cN (cW m 0)) (tid (cN (cW m 0)) n.val)
    + (tid (cN (cW m 0)) n.val - st (cN (cW m 0)) (ex (cN (cW m 0)) (tid (cN (cW m 0)) n.val))) := by
  have h1 := ex_lt _ (tid_lt _ h.some n.val)
  have h2 := own_lt _ h.le (tid_lt _ h.some n.val)
  rw [inW_at m h, BitVec.toNat_ofNat, Nat.mod_eq_of_lt (by omega)]

theorem ok_plan (h : Plan (cW m 0)) : Ok m := by
  refine ok_of m (fun n => ?_) (fun n => ?_) fun n => ?_
  · rw [teW_val m h]; exact ex_lt _ (tid_lt _ h.some n.val)
  · have h1 := ex_lt _ (tid_lt _ h.some n.val)
    have h2 := own_lt _ h.le (tid_lt _ h.some n.val)
    rw [inW_val m h]; omega
  · have : tid (cN (cW m 0)) n.val ≤ n.val := Nat.min_le_left _ _
    have := n.isLt
    rw [idW_val m h]; omega

theorem steps_plan (h : Plan (cW m 0)) : Steps m := by
  have h1 := nu_eq m h
  have h2 := tE_le _ h.le 31
  refine ⟨by rw [h1]; exact h.some, by omega, fun n hn => ?_⟩
  rw [idW_at m h, idW_at m h]
  congr 1
  unfold tid
  show min n.val _ = min (n.val - 1) _
  have := h.some
  omega

/-! ## The arrays the region finds -/

theorem V_arg0 (c : Dev nD) : V m c main_arg0 = m ((c.tc : Thread nD τ).loc main_arg0) := by
  unfold_abbrev_sides
  show StableHlo.after (hostOps0 ++ (hostOps0_1 ++ (hostOps0_2 ++ (hostOps0_3 ++ (hostOps0_4 ++ (hostOps0_5 ++ [])))))) _ _ = _
  after_reads_simp
theorem V_arg2 (c : Dev nD) : V m c main_arg2 = m ((c.tc : Thread nD τ).loc main_arg2) := by
  unfold_abbrev_sides
  show StableHlo.after (hostOps0 ++ (hostOps0_1 ++ (hostOps0_2 ++ (hostOps0_3 ++ (hostOps0_4 ++ (hostOps0_5 ++ [])))))) _ _ = _
  after_reads_simp
theorem V_arg4 (c : Dev nD) : V m c main_arg4 = m ((c.tc : Thread nD τ).loc main_arg4) := by
  unfold_abbrev_sides
  show StableHlo.after (hostOps0 ++ (hostOps0_1 ++ (hostOps0_2 ++ (hostOps0_3 ++ (hostOps0_4 ++ (hostOps0_5 ++ [])))))) _ _ = _
  after_reads_simp
theorem V_v37 (c : Dev nD) : V m c main_v37 = (shapeCast S32x1x2048 (m ((c.tc : Thread nD τ).loc main_arg3) : FVec F S32x2048 .f32) shapeCasts_S32x2048_S32x1x2048 : FVec F S32x1x2048 .f32) := by
  unfold_abbrev_sides
  show StableHlo.after (hostOps0 ++ (hostOps0_1 ++ (hostOps0_2 ++ (hostOps0_3 ++ (hostOps0_4 ++ (hostOps0_5 ++ [])))))) _ _ = _
  after_reads_simp
  rfl
theorem V_v38 (c : Dev nD) : V m c main_v38 = (shapeCast S32x1x1024 (m ((c.tc : Thread nD τ).loc main_arg5) : FVec F S32x1024 .f32) shapeCasts_S32x1024_S32x1x1024 : FVec F S32x1x1024 .f32) := by
  unfold_abbrev_sides
  show StableHlo.after (hostOps0 ++ (hostOps0_1 ++ (hostOps0_2 ++ (hostOps0_3 ++ (hostOps0_4 ++ (hostOps0_5 ++ [])))))) _ _ = _
  after_reads_simp
  rfl

end Cert.ExpertsIdeal.Fr
-- ==== Proof.Experts.Math.lean ====
module

public import Idealize.ShloMosaic.Lib.Pointwise

@[expose] public section

noncomputable section

namespace Cert.Ex

open Idealize.ShloMosaic

/-- One entry of a row's product with an expert's gate and up weights, with the bias. -/
def lin (t : Fin 1024 → EReal) (w : Fin 1024 → Fin 2048 → EReal) (b : Fin 2048 → EReal) (j : Fin 2048) : EReal := (∑ k, t k * w k j) + b j

/-- The limited gate. -/
def gate (g : EReal) : EReal := min g (Ideal.ofBits .f32 0x40E00000#32)

/-- One hidden entry from its gate and its up value. -/
def hid (g u : EReal) : EReal :=
  (min (Ideal.ofBits .f32 0x40E00000#32) (max (Ideal.ofBits .f32 0xC0E00000#32) u) + Ideal.ofBits .f32 0x3F800000#32)
    * (gate g * Ideal.div (Ideal.ofBits .f32 0x3F800000#32) (Ideal.ofBits .f32 0x3F800000#32 + Ideal.exp (Ideal.ofBits .f32 0xBFD9DB23#32 * gate g)))

/-- One entry of an expert's feed-forward of a row. -/
def ffn (t : Fin 1024 → EReal) (w : Fin 1024 → Fin 2048 → EReal) (b : Fin 2048 → EReal) (wd : Fin 1024 → Fin 1024 → EReal) (bd : Fin 1024 → EReal)
    (j : Fin 1024) : EReal :=
  (∑ k : Fin 1024, hid (lin t w b ⟨k.val, by omega⟩) (lin t w b ⟨1024 + k.val, by omega⟩) * wd k j) + bd j

theorem ffn_congr {t t' : Fin 1024 → EReal} {w w' : Fin 1024 → Fin 2048 → EReal} {b b' : Fin 2048 → EReal} {wd wd' : Fin 1024 → Fin 1024 → EReal}
    {bd bd' : Fin 1024 → EReal} (j : Fin 1024) (h1 : ∀ k, t k = t' k) (h2 : ∀ k j, w k j = w' k j) (h3 : ∀ j, b j = b' j) (h4 : ∀ k j, wd k j = wd' k j)
    (h5 : ∀ j, bd j = bd' j) : ffn t w b wd bd j = ffn t' w' b' wd' bd' j := by
  rw [funext h1, funext fun k => funext (h2 k), funext h3, funext fun k => funext (h4 k), funext h5]

/-- The kernel's slope of the sigmoid is the reference's, negated. -/
theorem slope (g : EReal) : Ideal.ofBits .f32 0xBFD9DB23#32 * g = -(Ideal.ofBits .f32 0x3FD9DB23#32 * g) := by
  rw [← EReal.neg_mul]
  congr 1
  simp [Ideal.ofBits, Ideal.ieee]

theorem ofBits_zero : Ideal.ofBits .f32 0x00000000#32 = 0 := by
  simp [Ideal.ofBits, Ideal.ieee]

end Cert.Ex
-- ==== Proof.Experts.KerRead.lean ====
module

public import proofs.«01_k».proof.Proof.Experts.RunI
public import proofs.«01_k».proof.Proof.Experts.Math
public import Idealize.ShloMosaic.Lib.Pointwise
public import Idealize.ShloMosaic.Lib.MatmulPlain

@[expose] public section

set_option maxRecDepth 16384

noncomputable section

namespace Cert.ExpertsIdeal.Fr

open Idealize.ShloMosaic Cert.ExpertsIdeal.Gen
open Cert.Ex (lin hid gate ffn)

variable (x0 : Vec Ideal S4096x128 .f32) (x2 : Vec Ideal S1x1x2048 .f32) (x4 : Vec Ideal S1x1x1024 .f32)
  (w : Vec Ideal S1x1024x2048 .f32) (wd : Vec Ideal S1x1024x1024 .f32)

theorem dot_up : dot_S512x1024_S1024x2048_S512x2048_1_0_0_1_n_n = DotDims.plain 512 1024 2048 := rfl
theorem dot_down : dot_S512x1024_S1024x1024_S512x1024_1_0_0_1_n_n = DotDims.plain 512 1024 1024 := rfl

theorem pay1_at (k : Fin 1024) (j : Fin 2048) : k0_pay1 (F := Ideal) w (ix2 k j) = w (ix3 0 k j) := by
  unfold k0_pay1; pointwise
theorem pay2_at (k : Fin 1024) (j : Fin 1024) : k0_pay2 (F := Ideal) wd (ix2 k j) = wd (ix3 0 k j) := by
  unfold k0_pay2; pointwise

/-- A row of the block: eight rows of 128 lanes side by side. -/
def brow (r : Fin 512) (k : Fin 1024) : EReal := x0 (ix2 (⟨8 * r.val + k.val / 128, by omega⟩ : Fin 4096) (⟨k.val % 128, by omega⟩ : Fin 128))

theorem gcol_at (s : ℕ) (inb) (r : Fin 512) (l : Fin 128) (h : 8 * r.val + s < 4096) :
    gcol x0 (⟨![s, 0], S512x128.size, ![8, 1], inb⟩ : LoadRect S4096x128) (ix2 r l) = x0 (ix2 (⟨8 * r.val + s, h⟩ : Fin 4096) l) := by
  unfold gcol
  refine congrArg x0 (funext fun a => Fin.ext ?_)
  match a with
  | ⟨0, _⟩ => show s + 8 * r.val = 8 * r.val + s; omega
  | ⟨1, _⟩ => show 0 + 1 * l.val = l.val; omega

/-- The eight column blocks side by side. -/
def cat : FVec Ideal S512x1024 .f32 :=
  concatenate S512x1024 1 [⟨S512x128, gcol x0 (⟨![0, 0], S512x128.size, ![8, 1], inb_S4096x128_S512x128_0_0_s_8_1⟩ : LoadRect S4096x128)⟩,
    ⟨S512x128, gcol x0 (⟨![1, 0], S512x128.size, ![8, 1], inb_S4096x128_S512x128_1_0_s_8_1⟩ : LoadRect S4096x128)⟩,
    ⟨S512x128, gcol x0 (⟨![2, 0], S512x128.size, ![8, 1], inb_S4096x128_S512x128_2_0_s_8_1⟩ : LoadRect S4096x128)⟩,
    ⟨S512x128, gcol x0 (⟨![3, 0], S512x128.size, ![8, 1], inb_S4096x128_S512x128_3_0_s_8_1⟩ : LoadRect S4096x128)⟩,
    ⟨S512x128, gcol x0 (⟨![4, 0], S512x128.size, ![8, 1], inb_S4096x128_S512x128_4_0_s_8_1⟩ : LoadRect S4096x128)⟩,
    ⟨S512x128, gcol x0 (⟨![5, 0], S512x128.size, ![8, 1], inb_S4096x128_S512x128_5_0_s_8_1⟩ : LoadRect S4096x128)⟩,
    ⟨S512x128, gcol x0 (⟨![6, 0], S512x128.size, ![8, 1], inb_S4096x128_S512x128_6_0_s_8_1⟩ : LoadRect S4096x128)⟩,
    ⟨S512x128, gcol x0 (⟨![7, 0], S512x128.size, ![8, 1], inb_S4096x128_S512x128_7_0_s_8_1⟩ : LoadRect S4096x128)⟩]
    concatenates_S512x128_S512x128_S512x128_S512x128_S512x128_S512x128_S512x128_S512x128_S512x1024_d1

theorem cat_at (r : Fin 512) (k : Fin 1024) : cat x0 (ix2 r k) = brow x0 r k := by
  obtain ⟨s, hs⟩ : ∃ s, k.val / 128 = s := ⟨_, rfl⟩
  have hk := k.isLt
  have hs8 : s < 8 := by omega
  have hk' : k.val = 128 * s + k.val % 128 := by omega
  unfold cat brow
  interval_cases s
  · exact (concatenate_apply_piece (t := S512x1024) (1 : Fin 2) _ _ (ix2 r k) 0 (by simp) S512x128 _ rfl rfl 0 rfl (ix2 r ⟨k.val % 128, by omega⟩)
      (by intro b hb; fin_cases b <;> first | rfl | exact absurd rfl hb) (by show 0 + k.val % 128 = k.val; omega)).trans
      ((gcol_at x0 0 _ r _ (by omega)).trans (congrArg (fun z => x0 (ix2 z _)) (Fin.ext (by show 8 * r.val + 0 = 8 * r.val + k.val / 128; omega))))
  · exact (concatenate_apply_piece (t := S512x1024) (1 : Fin 2) _ _ (ix2 r k) 1 (by simp) S512x128 _ rfl rfl 128 rfl (ix2 r ⟨k.val % 128, by omega⟩)
      (by intro b hb; fin_cases b <;> first | rfl | exact absurd rfl hb) (by show 128 + k.val % 128 = k.val; omega)).trans
      ((gcol_at x0 1 _ r _ (by omega)).trans (congrArg (fun z => x0 (ix2 z _)) (Fin.ext (by show 8 * r.val + 1 = 8 * r.val + k.val / 128; omega))))
  · exact (concatenate_apply_piece (t := S512x1024) (1 : Fin 2) _ _ (ix2 r k) 2 (by simp) S512x128 _ rfl rfl 256 rfl (ix2 r ⟨k.val % 128, by omega⟩)
      (by intro b hb; fin_cases b <;> first | rfl | exact absurd rfl hb) (by show 256 + k.val % 128 = k.val; omega)).trans
      ((gcol_at x0 2 _ r _ (by omega)).trans (congrArg (fun z => x0 (ix2 z _)) (Fin.ext (by show 8 * r.val + 2 = 8 * r.val + k.val / 128; omega))))
  · exact (concatenate_apply_piece (t := S512x1024) (1 : Fin 2) _ _ (ix2 r k) 3 (by simp) S512x128 _ rfl rfl 384 rfl (ix2 r ⟨k.val % 128, by omega⟩)
      (by intro b hb; fin_cases b <;> first | rfl | exact absurd rfl hb) (by show 384 + k.val % 128 = k.val; omega)).trans
      ((gcol_at x0 3 _ r _ (by omega)).trans (congrArg (fun z => x0 (ix2 z _)) (Fin.ext (by show 8 * r.val + 3 = 8 * r.val + k.val / 128; omega))))
  · exact (concatenate_apply_piece (t := S512x1024) (1 : Fin 2) _ _ (ix2 r k) 4 (by simp) S512x128 _ rfl rfl 512 rfl (ix2 r ⟨k.val % 128, by omega⟩)
      (by intro b hb; fin_cases b <;> first | rfl | exact absurd rfl hb) (by show 512 + k.val % 128 = k.val; omega)).trans
      ((gcol_at x0 4 _ r _ (by omega)).trans (congrArg (fun z => x0 (ix2 z _)) (Fin.ext (by show 8 * r.val + 4 = 8 * r.val + k.val / 128; omega))))
  · exact (concatenate_apply_piece (t := S512x1024) (1 : Fin 2) _ _ (ix2 r k) 5 (by simp) S512x128 _ rfl rfl 640 rfl (ix2 r ⟨k.val % 128, by omega⟩)
      (by intro b hb; fin_cases b <;> first | rfl | exact absurd rfl hb) (by show 640 + k.val % 128 = k.val; omega)).trans
      ((gcol_at x0 5 _ r _ (by omega)).trans (congrArg (fun z => x0 (ix2 z _)) (Fin.ext (by show 8 * r.val + 5 = 8 * r.val + k.val / 128; omega))))
  · exact (concatenate_apply_piece (t := S512x1024) (1 : Fin 2) _ _ (ix2 r k) 6 (by simp) S512x128 _ rfl rfl 768 rfl (ix2 r ⟨k.val % 128, by omega⟩)
      (by intro b hb; fin_cases b <;> first | rfl | exact absurd rfl hb) (by show 768 + k.val % 128 = k.val; omega)).trans
      ((gcol_at x0 6 _ r _ (by omega)).trans (congrArg (fun z => x0 (ix2 z _)) (Fin.ext (by show 8 * r.val + 6 = 8 * r.val + k.val / 128; omega))))
  · exact (concatenate_apply_piece (t := S512x1024) (1 : Fin 2) _ _ (ix2 r k) 7 (by simp) S512x128 _ rfl rfl 896 rfl (ix2 r ⟨k.val % 128, by omega⟩)
      (by intro b hb; fin_cases b <;> first | rfl | exact absurd rfl hb) (by show 896 + k.val % 128 = k.val; omega)).trans
      ((gcol_at x0 7 _ r _ (by omega)).trans (congrArg (fun z => x0 (ix2 z _)) (Fin.ext (by show 8 * r.val + 7 = 8 * r.val + k.val / 128; omega))))

/-- The block's product with the gate and up weights. -/
def up (s0 : FVec Ideal S1024x2048 .bf16) : FVec Ideal S512x2048 .f32 :=
  addf (matmul dot_S512x1024_S1024x2048_S512x2048_1_0_0_1_n_n none (truncf .bf16 (cat x0) bitsLt_bf16_f32 : FVec Ideal S512x1024 .bf16) s0 (constant S512x2048 .f32 0x00000000#32))
    (broadcastTo S512x2048 (shapeCast S1x2048 x2 shapeCasts_S1x1x2048_S1x2048) broadcasts_S1x2048_S512x2048)

theorem up_at (r : Fin 512) (j : Fin 2048) : up x0 x2 (k0_pay1 (F := Ideal) w) (ix2 r j)
    = lin (brow x0 r) (fun k j => w (ix3 0 k j)) (fun j => x2 (ix3 0 0 j)) j := by
  unfold up lin
  rw [dot_up]
  pointwise [cat_at, pay1_at]

theorem hid13_at (s0 : FVec Ideal S1024x2048 .bf16) (r : Fin 512) (k : Fin 1024) :
    hid13 x0 x2 s0 (ix2 r k) = gate (up x0 x2 s0 (ix2 r (⟨k.val, by omega⟩ : Fin 2048))) := by
  show min (extractStridedSlice S512x1024 ![0, 0] (up x0 x2 s0) slices_S512x2048_o0_0_S512x1024 (ix2 r k)) _ = _
  rw [extractStridedSlice_apply ![0, 0] (up x0 x2 s0) _ (ix2 r k) (ix2 r (⟨k.val, by omega⟩ : Fin 2048)) (by
    intro a; match a with
    | ⟨0, _⟩ => show r.val = 0 + r.val; omega
    | ⟨1, _⟩ => show k.val = 0 + k.val; omega)]
  rfl

theorem hid14_at (s0 : FVec Ideal S1024x2048 .bf16) (r : Fin 512) (k : Fin 1024) :
    hid14 x0 x2 s0 (ix2 r k) = min (Ideal.ofBits .f32 0x40E00000#32) (max (Ideal.ofBits .f32 0xC0E00000#32) (up x0 x2 s0 (ix2 r (⟨1024 + k.val, by omega⟩ : Fin 2048))))
      + Ideal.ofBits .f32 0x3F800000#32 := by
  show min _ (max _ (extractStridedSlice S512x1024 ![0, 1024] (up x0 x2 s0) slices_S512x2048_o0_1024_S512x1024 (ix2 r k))) + _ = _
  rw [extractStridedSlice_apply ![0, 1024] (up x0 x2 s0) _ (ix2 r k) (ix2 r (⟨1024 + k.val, by omega⟩ : Fin 2048)) (by
    intro a; match a with
    | ⟨0, _⟩ => show r.val = 0 + r.val; omega
    | ⟨1, _⟩ => rfl)]
  rfl

theorem hid15_at (s0 : FVec Ideal S1024x2048 .bf16) (r : Fin 512) (k : Fin 1024) :
    hid15 x0 x2 s0 (ix2 r k) = Ideal.ofBits .f32 0x3F800000#32 + Ideal.exp (Ideal.ofBits .f32 0xBFD9DB23#32 * hid13 x0 x2 s0 (ix2 r k)) := rfl

theorem one_bits : Ideal.ofBits .f32 0x3F800000#32 = 1 := by simp

/-- One entry of the tile's result. -/
theorem rows_at (r : Fin 512) (j : Fin 1024) : rowsOut x0 x2 x4 (k0_pay1 (F := Ideal) w) (k0_pay2 (F := Ideal) wd) (ix2 r j)
    = ffn (brow x0 r) (fun k j => w (ix3 0 k j)) (fun j => x2 (ix3 0 0 j)) (fun k j => wd (ix3 0 k j)) (fun j => x4 (ix3 0 0 j)) j := by
  unfold rowsOut k0_pay3 ffn
  rw [dot_down]
  pointwise [pay2_at, hid14_at, hid15_at, hid13_at, up_at]
  unfold hid
  rw [one_bits]

end Cert.ExpertsIdeal.Fr
-- ==== Proof.Experts.KerBlk.lean ====
module

public import proofs.«01_k».proof.Proof.Experts.FrameI
public import proofs.«01_k».proof.Proof.Experts.HostI
public import proofs.«01_k».proof.Proof.Experts.KerRead

@[expose] public section

set_option maxRecDepth 16384

noncomputable section

namespace Cert.ExpertsIdeal.Fr

open Idealize.ShloMosaic Idealize.ShloMosaic.TcCoe Idealize.SL.Sem
open Idealize.ShloMosaic.Pipeline (Dat Cfg Window)
open Cert.ExpertsIdeal Cert.ExpertsIdeal.Gen
open Cert.Ex (lin hid gate ffn Plan cN tE tid ex st)

section Any
variable {F : FTy → Type} [FloatOps F]

theorem index0_pf (a : (pcfg0 (F := F)).Adm) (t : Fin (cfg0 a).N) : ((cfg0 a).win 0).index t = cc0_transform_0 k0_off1_inb numel1_S1 a.1 (grid0.coords t) := rfl
theorem index2_pf (a : (pcfg0 (F := F)).Adm) (t : Fin (cfg0 a).N) : ((cfg0 a).win 2).index t = cc0_transform_2 k0_off1_inb numel1_S1 a.1 (grid0.coords t) := rfl
theorem index4_pf (a : (pcfg0 (F := F)).Adm) (t : Fin (cfg0 a).N) : ((cfg0 a).win 4).index t = cc0_transform_4 k0_off1_inb numel1_S1 a.1 (grid0.coords t) := rfl
theorem emb0_pf (a : (pcfg0 (F := F)).Adm) (t : Fin (cfg0 a).N) (y : S4096x128.Idx) (d : Fin 2) :
    ((((cfg0 a).win 0).blk t).view.emb y d).val = ((cfg0 a).win 0).index t d * S4096x128.size d + 1 * (y d).val := rfl
theorem emb1_pf (a : (pcfg0 (F := F)).Adm) (t : Fin (cfg0 a).N) (y : S1x1024x2048.Idx) (d : Fin 3) :
    ((((cfg0 a).win 1).blk t).view.emb y d).val = ((cfg0 a).win 1).index t d * S1x1024x2048.size d + 1 * (y d).val := rfl
theorem emb2_pf (a : (pcfg0 (F := F)).Adm) (t : Fin (cfg0 a).N) (y : S1x1x2048.Idx) (d : Fin 3) :
    ((((cfg0 a).win 2).blk t).view.emb y d).val = ((cfg0 a).win 2).index t d * S1x1x2048.size d + 1 * (y d).val := rfl
theorem emb3_pf (a : (pcfg0 (F := F)).Adm) (t : Fin (cfg0 a).N) (y : S1x1024x1024.Idx) (d : Fin 3) :
    ((((cfg0 a).win 3).blk t).view.emb y d).val = ((cfg0 a).win 3).index t d * S1x1024x1024.size d + 1 * (y d).val := rfl
theorem emb4_pf (a : (pcfg0 (F := F)).Adm) (t : Fin (cfg0 a).N) (y : S1x1x1024.Idx) (d : Fin 3) :
    ((((cfg0 a).win 4).blk t).view.emb y d).val = ((cfg0 a).win 4).index t d * S1x1x1024.size d + 1 * (y d).val := rfl
theorem emb5_pf (a : (pcfg0 (F := F)).Adm) (t : Fin (cfg0 a).N) (y : S4096x128.Idx) (d : Fin 2) :
    ((((cfg0 a).win 5).blk t).view.emb y d).val = ((cfg0 a).win 5).index t d * S4096x128.size d + 1 * (y d).val := rfl
theorem read5_pf (a : (pcfg0 (F := F)).Adm) (t : Fin (cfg0 a).N) (X : Vec F S2752512x128 .f32) (y : S4096x128.Idx) :
    (((cfg0 a).win 5).blk t).view.read (Elt F) X y = X ((((cfg0 a).win 5).blk t).view.emb y) := rfl
end Any

attribute [local irreducible] tbl

variable (m : (ℓ : Loc nD τ sig) → Buf (Elt Ideal) ℓ)

theorem index0 (hO : Ok m) (t : Fin (cfgM m hO).N) : ((cfgM m hO).win 0).index t = ![(inW m (grid0.coords t 0)).toNat, 0] :=
  (index0_pf (adm m hO) t).trans (map0 m (grid0.coords t))
theorem index2 (hO : Ok m) (t : Fin (cfgM m hO).N) : ((cfgM m hO).win 2).index t = ![(teW m (grid0.coords t 0)).toNat, 0, 0] :=
  (index2_pf (adm m hO) t).trans (map2 m (grid0.coords t))
theorem index4 (hO : Ok m) (t : Fin (cfgM m hO).N) : ((cfgM m hO).win 4).index t = ![(teW m (grid0.coords t 0)).toNat, 0, 0] :=
  (index4_pf (adm m hO) t).trans (map4 m (grid0.coords t))

variable (hO : Ok m) (c : Dev nD)

/-- The step working at tile `i`. -/
noncomputable def pt (i : Fin 672) : Fin (cfgM m hO).N := ⟨i.val, Nat.lt_of_lt_of_eq i.isLt (N_eq m hO).symm⟩

theorem coord_pt (i : Fin 672) : grid0.coords (pt m hO i) 0 = i := Fin.ext (coord_val _)

theorem index0_pt (i : Fin 672) : ((cfgM m hO).win 0).index (pt m hO i) = ![(inW m i).toNat, 0] := by rw [index0, coord_pt]
theorem index1_pt (i : Fin 672) : ((cfgM m hO).win 1).index (pt m hO i) = ![(teW m i).toNat, 0, 0] := by rw [index1, coord_pt]
theorem index2_pt (i : Fin 672) : ((cfgM m hO).win 2).index (pt m hO i) = ![(teW m i).toNat, 0, 0] := by rw [index2, coord_pt]
theorem index3_pt (i : Fin 672) : ((cfgM m hO).win 3).index (pt m hO i) = ![(teW m i).toNat, 0, 0] := by rw [index3, coord_pt]
theorem index4_pt (i : Fin 672) : ((cfgM m hO).win 4).index (pt m hO i) = ![(teW m i).toNat, 0, 0] := by rw [index4, coord_pt]
theorem index5_pt (i : Fin 672) : ((cfgM m hO).win 5).index (pt m hO i) = ![(idW m i).toNat, 0] := by rw [index5, coord_pt]

section
variable (i : Fin 672)

theorem iblk0_apply (R : Fin 4096) (l : Fin 128) (S : Fin 20987904) (hS : S.val = (inW m i).toNat * 4096 + R.val) :
    (iblk m hO c 0 (pt m hO i) : Vec Ideal S4096x128 .f32) (ix2 R l) = m ((c.tc : Thread nD τ).loc main_arg0) (ix2 S l : S20987904x128.Idx) := by
  show V m c main_arg0 ((((cfgM m hO).win 0).blk (pt m hO i)).view.emb (ix2 R l : S4096x128.Idx)) = _
  rw [V_arg0]
  refine congrArg (m ((c.tc : Thread nD τ).loc main_arg0)) (funext fun d => Fin.ext ?_)
  refine (emb0_pf (adm m hO) (pt m hO i) (ix2 R l) d).trans ?_
  rw [index0_pt]
  match d with
  | ⟨0, _⟩ => show (inW m i).toNat * 4096 + 1 * R.val = S.val; omega
  | ⟨1, _⟩ => show 0 * 128 + 1 * l.val = l.val; omega

theorem iblk1_apply (e : Fin 32) (he : (teW m i).toNat = e.val) (k : Fin 1024) (j : Fin 2048) :
    (iblk m hO c 1 (pt m hO i) : Vec Ideal S1x1024x2048 .f32) (ix3 (0 : Fin 1) k j) = m ((c.tc : Thread nD τ).loc main_arg2) (ix3 e k j : S32x1024x2048.Idx) := by
  show V m c main_arg2 ((((cfgM m hO).win 1).blk (pt m hO i)).view.emb (ix3 (0 : Fin 1) k j : S1x1024x2048.Idx)) = _
  rw [V_arg2]
  refine congrArg (m ((c.tc : Thread nD τ).loc main_arg2)) (funext fun d => Fin.ext ?_)
  refine (emb1_pf (adm m hO) (pt m hO i) (ix3 (0 : Fin 1) k j) d).trans ?_
  rw [index1_pt]
  match d with
  | ⟨0, _⟩ => show (teW m i).toNat * 1 + 1 * 0 = e.val; omega
  | ⟨1, _⟩ => show 0 * 1024 + 1 * k.val = k.val; omega
  | ⟨2, _⟩ => show 0 * 2048 + 1 * j.val = j.val; omega

theorem iblk3_apply (e : Fin 32) (he : (teW m i).toNat = e.val) (k : Fin 1024) (j : Fin 1024) :
    (iblk m hO c 3 (pt m hO i) : Vec Ideal S1x1024x1024 .f32) (ix3 (0 : Fin 1) k j) = m ((c.tc : Thread nD τ).loc main_arg4) (ix3 e k j : S32x1024x1024.Idx) := by
  show V m c main_arg4 ((((cfgM m hO).win 3).blk (pt m hO i)).view.emb (ix3 (0 : Fin 1) k j : S1x1024x1024.Idx)) = _
  rw [V_arg4]
  refine congrArg (m ((c.tc : Thread nD τ).loc main_arg4)) (funext fun d => Fin.ext ?_)
  refine (emb3_pf (adm m hO) (pt m hO i) (ix3 (0 : Fin 1) k j) d).trans ?_
  rw [index3_pt]
  match d with
  | ⟨0, _⟩ => show (teW m i).toNat * 1 + 1 * 0 = e.val; omega
  | ⟨1, _⟩ => show 0 * 1024 + 1 * k.val = k.val; omega
  | ⟨2, _⟩ => show 0 * 1024 + 1 * j.val = j.val; omega

theorem iblk2_apply (e : Fin 32) (he : (teW m i).toNat = e.val) (j : Fin 2048) :
    (iblk m hO c 2 (pt m hO i) : Vec Ideal S1x1x2048 .f32) (ix3 (0 : Fin 1) (0 : Fin 1) j) = m ((c.tc : Thread nD τ).loc main_arg3) (ix2 e j : S32x2048.Idx) := by
  show V m c main_v37 ((((cfgM m hO).win 2).blk (pt m hO i)).view.emb (ix3 (0 : Fin 1) (0 : Fin 1) j : S1x1x2048.Idx)) = _
  have E : ((((cfgM m hO).win 2).blk (pt m hO i)).view.emb (ix3 (0 : Fin 1) (0 : Fin 1) j : S1x1x2048.Idx)) = (ix3 e (0 : Fin 1) j : S32x1x2048.Idx) := by
    refine funext fun d => Fin.ext ?_
    refine (emb2_pf (adm m hO) (pt m hO i) (ix3 (0 : Fin 1) (0 : Fin 1) j) d).trans ?_
    rw [index2_pt]
    match d with
    | ⟨0, _⟩ => show (teW m i).toNat * 1 + 1 * 0 = e.val; omega
    | ⟨1, _⟩ => show 0 * 1 + 1 * 0 = 0; omega
    | ⟨2, _⟩ => show 0 * 2048 + 1 * j.val = j.val; omega
  rw [E, V_v37]
  exact shapeCast_apply _ _ _ _ (by
    show (S32x2048.rowMajor (ix2 e j)).val = (S32x1x2048.rowMajor (ix3 e (0 : Fin 1) j)).val
    rw [Shape.rowMajor_val_two, Shape.rowMajor_val_three]
    show e.val * 2048 + j.val = e.val * 1 * 2048 + 0 * 2048 + j.val
    omega)

theorem iblk4_apply (e : Fin 32) (he : (teW m i).toNat = e.val) (j : Fin 1024) :
    (iblk m hO c 4 (pt m hO i) : Vec Ideal S1x1x1024 .f32) (ix3 (0 : Fin 1) (0 : Fin 1) j) = m ((c.tc : Thread nD τ).loc main_arg5) (ix2 e j : S32x1024.Idx) := by
  show V m c main_v38 ((((cfgM m hO).win 4).blk (pt m hO i)).view.emb (ix3 (0 : Fin 1) (0 : Fin 1) j : S1x1x1024.Idx)) = _
  have E : ((((cfgM m hO).win 4).blk (pt m hO i)).view.emb (ix3 (0 : Fin 1) (0 : Fin 1) j : S1x1x1024.Idx)) = (ix3 e (0 : Fin 1) j : S32x1x1024.Idx) := by
    refine funext fun d => Fin.ext ?_
    refine (emb4_pf (adm m hO) (pt m hO i) (ix3 (0 : Fin 1) (0 : Fin 1) j) d).trans ?_
    rw [index4_pt]
    match d with
    | ⟨0, _⟩ => show (teW m i).toNat * 1 + 1 * 0 = e.val; omega
    | ⟨1, _⟩ => show 0 * 1 + 1 * 0 = 0; omega
    | ⟨2, _⟩ => show 0 * 1024 + 1 * j.val = j.val; omega
  rw [E, V_v38]
  exact shapeCast_apply _ _ _ _ (by
    show (S32x1024.rowMajor (ix2 e j)).val = (S32x1x1024.rowMajor (ix3 e (0 : Fin 1) j)).val
    rw [Shape.rowMajor_val_two, Shape.rowMajor_val_three]
    show e.val * 1024 + j.val = e.val * 1 * 1024 + 0 * 1024 + j.val
    omega)
end

/-! ## The result's blocks after the run -/

theorem index5_at (hP : Plan (cW m 0)) (t : Fin (cfgM m hO).N) : ((cfgM m hO).win 5).index t = ![min t.val (nu m - 1), 0] := by
  refine (index5 m hO t).trans (congrArg (fun n : ℕ => ![n, 0]) ((idW_val m hP (grid0.coords t 0)).trans ?_))
  show min (grid0.coords t 0).val (tE (cN (cW m 0)) 31 - 1) = _
  rw [coord_val, nu_eq m hP]

theorem flush5 (hP : Plan (cW m 0)) (t : Fin (cfgM m hO).N) : ((cfgM m hO).win 5).flush t = true ↔ t.val + 1 = 672 ∨ t.val + 1 < 672 ∧ t.val + 1 < nu m := by
  rw [Window.flush_out _ rfl]
  have hN : (cfgM m hO).grid.N = 672 := N_0
  have key : ∀ h : t.val + 1 < (cfgM m hO).grid.N, ((cfgM m hO).win 5).index ⟨t.val + 1, h⟩ ≠ ((cfgM m hO).win 5).index t ↔ t.val + 1 < nu m := by
    intro h
    rw [index5_at m hO hP, index5_at m hO hP]
    constructor
    · intro hne
      by_contra hc
      exact hne (by congr 1; show min (t.val + 1) (nu m - 1) = min t.val (nu m - 1); omega)
    · intro hlt he
      have e0 : min (t.val + 1) (nu m - 1) = min t.val (nu m - 1) := congrFun he 0
      omega
  constructor
  · rintro (h | ⟨h, hne⟩)
    · exact Or.inl (by omega)
    · exact Or.inr ⟨by omega, (key h).1 hne⟩
  · rintro (h | ⟨h, hne⟩)
    · exact Or.inl (by omega)
    · exact Or.inr ⟨by omega, (key (by omega)).2 hne⟩

theorem disjoint5 (hP : Plan (cW m 0)) (t t' : Fin (cfgM m hO).N) (hf : ((cfgM m hO).win 5).flush t = true) (hf' : ((cfgM m hO).win 5).flush t' = true)
    (hne : t ≠ t') : Disjoint (((cfgM m hO).win 5).blk t).view.set (((cfgM m hO).win 5).blk t').view.set := by
  refine ((cfgM m hO).win 5).disjoint_blk (fun h => hne (Fin.ext ?_)) rfl
  rw [index5_at m hO hP, index5_at m hO hP] at h
  have e0 : min t.val (nu m - 1) = min t'.val (nu m - 1) := congrFun h 0
  rw [flush5 m hO hP] at hf hf'
  have hN : (cfgM m hO).N = 672 := N_0
  have h1 := t.isLt
  have h2 := t'.isLt
  omega

theorem flushed5 (t : Fin (cfgM m hO).N) (y : S4096x128.Idx) : (dats m hO 0 c).flushed 5 t y = outB m hO c (lastUsed m hO t) y := by
  show ((cfgM m hO).win 5).cut (grid0.coords t) ((dats m hO 0 c).after 5 t) y = _
  rw [after0_5]
  rfl

/-- The block a step writes back, read in the array after the run. -/
theorem blocks5 (hP : Plan (cW m 0)) (t : Fin (cfgM m hO).N) (hf : ((cfgM m hO).win 5).flush t = true) (y : S4096x128.Idx) :
    (dats m hO 0 c).arrAt 5 (cfgM m hO).N ((((cfgM m hO).win 5).blk t).view.emb y) = outB m hO c (lastUsed m hO t) y := by
  have e := (dats m hO 0 c).read_blk_arrAt_eq_flushed 5 (disjoint5 m hO hP) (cfgM m hO).N t t.isLt hf
  generalize (dats m hO 0 c).arrAt 5 (cfgM m hO).N = X at e ⊢
  refine (read5_pf (adm m hO) t X y).symm.trans ?_
  refine Eq.trans ?_ (flushed5 m hO c t y)
  rw [e]

/-- One element of the result after the run, in a tile in use. -/
theorem out_elem (hP : Plan (cW m 0)) (i : Fin 672) (hi : i.val < nu m) (R : Fin 4096) (l : Fin 128) (Y : Fin 2752512) (hY : Y.val = i.val * 4096 + R.val) :
    ((dats m hO 0 c).arrAt 5 (cfgM m hO).N : Vec Ideal S2752512x128 .f32) (ix2 Y l) = outB m hO c (pt m hO i) (ix2 R l : S4096x128.Idx) := by
  obtain ⟨t, ht, hf⟩ : ∃ t : Fin 672, min t.val (nu m - 1) = i.val ∧ (t.val + 1 = 672 ∨ t.val + 1 < 672 ∧ t.val + 1 < nu m) := by
    by_cases h : i.val < nu m - 1
    · exact ⟨i, by omega, by omega⟩
    · exact ⟨⟨671, by omega⟩, by show min 671 (nu m - 1) = _; omega, Or.inl rfl⟩
  have hl : lastUsed m hO (pt m hO t) = pt m hO i := Fin.ext ht
  have e := blocks5 m hO c hP (pt m hO t) ((flush5 m hO hP _).2 hf) (ix2 R l)
  rw [hl] at e
  refine Eq.trans (congrArg ((dats m hO 0 c).arrAt 5 (cfgM m hO).N) (funext fun d => Fin.ext ?_)) e
  refine Eq.symm ((emb5_pf (adm m hO) (pt m hO t) (ix2 R l) d).trans ?_)
  rw [index5_at m hO hP]
  match d with
  | ⟨0, _⟩ => show min t.val (nu m - 1) * 4096 + 1 * R.val = Y.val; omega
  | ⟨1, _⟩ => show 0 * 128 + 1 * l.val = l.val; omega

end Cert.ExpertsIdeal.Fr

end
-- ==== Proof.Experts.RefW.lean ====
module

public import proofs.«01_k».proof.Proof.Gen.ExpertsReferenceIdeal
public import proofs.«01_k».proof.Proof.Gen.ExpertsReferenceIdeal.Read
public import proofs.«01_k».proof.Proof.Gen.On_listed
public import proofs.«01_k».proof.Proof.Experts.Counted

@[expose] public section

noncomputable section

namespace Cert.Ex

open Idealize.ShloMosaic Idealize.ShloMosaic.ValueIdx Idealize.ShloMosaic.WordCmp
open Idealize.ShloMosaic.Routing
open Cert.ExpertsReferenceIdeal (S_ S32 S1x32 S32x1 S32x32 S344064 S344064x1 S344064x32 S32x128)
open Cert.ExpertsReferenceIdeal.Gen

section
variable (cW : IVec S32 32)

def rS : IVec S32 32 := muli (pyDiv bcast_S_S32 (addi cW (broadcastInDim S32 ![] bcast_S_S32 (constantI S_ 32 511#32))) (constantI S_ 32 512#32))
  (broadcastInDim S32 ![] bcast_S_S32 (constantI S_ 32 512#32))
def rE : IVec S32 32 := Host.reduce IntOp.addi (select (cmpi .sge
    (broadcastInDim S32x32 ![0, 1] bcast_S32x1_S32x32_0_1 (broadcastInDim S32x1 ![0] bcast_S32_S32x1_0 (iotaInDim S32 32 0)))
    (broadcastInDim S32x32 ![0, 1] bcast_S1x32_S32x32_0_1 (broadcastInDim S1x32 ![1] bcast_S32_S1x32_1 (iotaInDim S32 32 0))))
    (broadcastInDim S32x32 ![0, 1] bcast_S1x32_S32x32_0_1 (broadcastInDim S1x32 ![1] bcast_S32_S1x32_1 (rS cW)))
    (broadcastInDim S32x32 ![] bcast_S_S32x32 (constantI S_ 32 0#32)))
  (constantI S_ 32 0#32) reducesTo_S32x32_S32_d1 h_S_
def rX : IVec S344064 32 := Host.reduce IntOp.addi (extui 32 (cmpi .sge
    (broadcastInDim S344064x32 ![0, 1] bcast_S344064x1_S344064x32_0_1 (broadcastInDim S344064x1 ![0] bcast_S344064_S344064x1_0 (iotaInDim S344064 32 0)))
    (broadcastInDim S344064x32 ![0, 1] bcast_S1x32_S344064x32_0_1 (broadcastInDim S1x32 ![1] bcast_S32_S1x32_1 (rE cW)))) natLt_1_32)
  (constantI S_ 32 0#32) reducesTo_S344064x32_S344064_d1 h_S_
def rM : IVec S344064x32 1 := cmpi .eq
    (broadcastInDim S344064x32 ![0, 1] bcast_S344064x1_S344064x32_0_1 (broadcastInDim S344064x1 ![0] bcast_S344064_S344064x1_0 (rX cW)))
    (broadcastInDim S344064x32 ![0, 1] bcast_S1x32_S344064x32_0_1 (broadcastInDim S1x32 ![1] bcast_S32_S1x32_1 (iotaInDim S32 32 0)))
def rA : IVec S344064 32 := Host.reduce IntOp.addi (select (rM cW)
    (broadcastInDim S344064x32 ![0, 1] bcast_S1x32_S344064x32_0_1 (broadcastInDim S1x32 ![1] bcast_S32_S1x32_1 (subi (rE cW) (rS cW))))
    (broadcastInDim S344064x32 ![] bcast_S_S344064x32 (constantI S_ 32 0#32)))
  (constantI S_ 32 0#32) reducesTo_S344064x32_S344064_d1 h_S_
def rK : IVec S344064 32 := addi (muli (rX cW) (broadcastInDim S344064 ![] bcast_S_S344064 (constantI S_ 32 81920#32))) (subi (iotaInDim S344064 32 0) (rA cW))
def rJ : IVec S344064 32 := select (cmpi .slt (rK cW) (broadcastInDim S344064 ![] bcast_S_S344064 (constantI S_ 32 0#32)))
  (addi (rK cW) (broadcastInDim S344064 ![] bcast_S_S344064 (constantI S_ 32 2623488#32))) (rK cW)

variable (c : ℕ → ℕ) (hc : ∀ e : Fin 32, cW (ix1 e) = BitVec.ofNat 32 (c e.val)) (hC : ∀ e, c e ≤ 81920)
include hc hC

theorem rS_at (e : Fin 32) : rS cW (ix1 e) = BitVec.ofNat 32 (512 * tl c e.val) := by
  have := hC e.val
  have h : pyDiv bcast_S_S32 (addi cW (broadcastInDim S32 ![] bcast_S_S32 (constantI S_ 32 511#32))) (constantI S_ 32 512#32) (ix1 e)
      = BitVec.ofNat 32 (tl c e.val) := by
    refine pyDiv_ap _ _ _ _ (a := c e.val + 511) ?_ rfl (by omega) (by omega) (by omega)
    rw [addi_ap, bc0, hc, BitVec.ofNat_add]; rfl
  unfold rS
  rw [muli_ap, h, bc0, Nat.mul_comm, BitVec.ofNat_mul]; rfl

theorem rE_at (e : Fin 32) : rE cW (ix1 e) = BitVec.ofNat 32 (512 * tE c e.val) := by
  refine (reduce_rows _ (fun p q => if q ≤ p.val then 512 * tl c q else 0) (fun p q => ?_) _ _ e).trans ?_
  · rw [select_at, bcCols, bc0, cmpi_at, bcRows, bcCols, iota1_ap, iota1_ap, rS_at cW c hc hC]
    have hi : IntOp.cmpi .sge (BitVec.ofNat 32 p.val) (BitVec.ofNat 32 q.val) = 1#1 ↔ q.val ≤ p.val :=
      cmpi_sge_ofNat_eq_one_iff (by have := p.isLt; omega) (by have := q.isLt; omega)
    by_cases h : q.val ≤ p.val
    · rw [hi.2 h, if_pos h]; rfl
    · rw [if_neg h]; exact if_neg fun e => h (hi.1 e)
  · refine congrArg (BitVec.ofNat 32) ?_
    have he := e.isLt
    unfold tE
    rw [← Finset.sum_filter, Finset.mul_sum]
    refine Finset.sum_congr (Finset.ext fun q => ?_) fun _ _ => rfl
    simp only [Finset.mem_filter, Finset.mem_range]
    omega

theorem rX_at (R : Fin 344064) : rX cW (ix1 R) = BitVec.ofNat 32 (ex c (R.val / 512)) := by
  refine reduce_count (by decide) _ _ _ _ R _ fun q => ?_
  rw [cmpi_at, bcRows, bcCols, rE_at cW c hc hC, iota1_ap]
  have h2 := tE_le c hC q.val
  have h4 := q.isLt
  have h5 := R.isLt
  rw [cmpi_sge_ofNat_eq_one_iff (by omega) (by omega)]
  omega

theorem rM_at (R : Fin 344064) (q : Fin 32) : rM cW (ix2 R q) = 1#1 ↔ ex c (R.val / 512) = q.val := by
  unfold rM
  rw [cmpi_at, bcRows, bcCols, rX_at cW c hc hC, iota1_ap]
  have h3 : ex c (R.val / 512) ≤ 32 := Nat.count_le _
  have h4 := q.isLt
  exact cmpi_eq_ofNat_eq_one_iff (by omega) (by omega)

variable (R : Fin 344064) (hR : R.val / 512 < tE c 31)
include hR

theorem rA_at : rA cW (ix1 R) = BitVec.ofNat 32 (512 * st c (ex c (R.val / 512))) := by
  have h3 := ex_lt c hR
  refine (reduce_rows _ (fun p q => if ex c (p.val / 512) = q then 512 * st c q else 0) (fun p q => ?_) _ _ R).trans ?_
  · rw [select_at, bcCols, bc0, subi_ap, rE_at cW c hc hC, rS_at cW c hc hC, sub_words cW c hc hC (Nat.mul_le_mul le_rfl (tl_le_tE c _))]
    by_cases h : ex c (p.val / 512) = q.val
    · rw [(rM_at cW c hc hC p q).2 h, if_pos h, ← Nat.mul_sub]; rfl
    · rw [if_neg h]; exact if_neg fun e => h ((rM_at cW c hc hC p q).1 e)
  · rw [Finset.sum_ite_eq, if_pos (Finset.mem_range.2 h3)]

/-- The row of the slots a listed row is taken from. -/
def src (c : ℕ → ℕ) (n : ℕ) : ℕ := 81920 * ex c (n / 512) + (n - 512 * st c (ex c (n / 512)))

omit hc in
theorem src_lt : src c R.val < 2621440 := by
  have h1 := ex_lt c hR
  have h2 := own_lt c hC hR
  unfold src
  omega

theorem rK_at : rK cW (ix1 R) = BitVec.ofNat 32 (src c R.val) := by
  have h1 := st_ex_le c hR
  unfold rK src
  rw [addi_ap, muli_ap, subi_ap, bc0, rX_at cW c hc hC, rA_at cW c hc hC R hR, iota1_ap, sub_words cW c hc hC (by omega), BitVec.ofNat_add,
    Nat.mul_comm 81920, BitVec.ofNat_mul]
  rfl

theorem rJ_at : rJ cW (ix1 R) = BitVec.ofNat 32 (src c R.val) := by
  have h := src_lt c hC R hR
  unfold rJ
  rw [select_at, cmpi_at, bc0, rK_at cW c hc hC R hR]
  refine if_neg fun e => ?_
  have := (cmpi_slt_ofNat_eq_one_iff (w := 32) (b := 0) (by omega) (by omega)).1 e
  omega
end

section
open Cert.ExpertsReferenceIdeal.Read
variable {F : FTy → Type} [FloatOps F] (x1 : FVec F S32x128 .f32)

theorem v7_eq : val_main_v7 (F := F) x1 = rS (cntW x1) := rfl
theorem v16_eq : val_main_v16 (F := F) x1 = rE (cntW x1) := rfl
theorem v24_eq : val_main_v24 (F := F) x1 = rX (cntW x1) := rfl
theorem v30_eq : val_main_v30 (F := F) x1 = rM (cntW x1) := rfl
theorem v34_eq : val_main_v34 (F := F) x1 = rA (cntW x1) := rfl
theorem v44_eq : val_main_v44 (F := F) x1 = rJ (cntW x1) := rfl
end

end Cert.Ex
-- ==== Proof.Experts.RefRead.lean ====
module

public import proofs.«01_k».proof.Proof.Experts.RefW
public import proofs.«01_k».proof.Proof.Experts.Math

@[expose] public section

noncomputable section

namespace Cert.Ex

open Idealize.ShloMosaic hiding ix1 ix2 ix3
open Idealize.ShloMosaic.ValueIdx
open Idealize.ShloMosaic.Routing
open Cert.ExpertsReferenceIdeal Cert.ExpertsReferenceIdeal.Gen Cert.ExpertsReferenceIdeal.Read

variable (x0 : FVec Ideal S20987904x128 .f32) (x1 : FVec Ideal S32x128 .f32) (x2 : FVec Ideal S32x1024x2048 .f32)
  (x3 : FVec Ideal S32x2048 .f32) (x4 : FVec Ideal S32x1024x1024 .f32) (x5 : FVec Ideal S32x1024 .f32)

/-- A row of the slots. -/
def xrow (s : ℕ) (hs : s < 2623488) (k : Fin 1024) : EReal := x0 (ix2 (⟨8 * s + k.val / 128, by omega⟩ : Fin 20987904) (⟨k.val % 128, by omega⟩ : Fin 128))

theorem v35_at (s : Fin 2623488) (k : Fin 1024) : val_main_v35 (F := Ideal) x0 (ix2 s k) = xrow x0 s.val s.isLt k := by
  rw [val_main_v35_apply]
  unfold xrow
  refine congrArg x0 (funext fun a => ?_)
  match a with
  | ⟨0, _⟩ => exact Fin.ext (by show (s.val * 1024 + k.val) / 128 = 8 * s.val + k.val / 128; omega)
  | ⟨1, _⟩ => exact Fin.ext (by show (s.val * 1024 + k.val) % 128 = k.val % 128; omega)

section
variable (hP : Plan (cntW x1)) (R : Fin 344064) (hR : R.val / 512 < tE (cN (cntW x1)) 31)
include hP hR

theorem v46_at (k : Fin 1024) : val_main_v46 (F := Ideal) x0 x1 (ix2 R k)
    = xrow x0 (src (cN (cntW x1)) R.val) (lt_of_lt_of_le (src_lt _ hP.le R hR) (by decide)) k := by
  unfold val_main_v46
  refine (gather_row (nb := 2623488) (B := 1024) (n := 344064) _ rfl rfl rfl rfl rfl _ _ R k
    ⟨src (cN (cntW x1)) R.val, lt_of_lt_of_le (src_lt _ hP.le R hR) (by decide)⟩ ?_ (by decide)).trans (v35_at _ _ _)
  unfold val_main_v45
  rw [v44_eq]
  exact (bcCol _ _ _).trans (rJ_at _ _ (cN_at _) hP.le R hR)

/-- The row's product with expert `e`'s weights. -/
theorem v51_at (e : Fin 32) (j : Fin 2048) : val_main_v51 (F := Ideal) x0 x1 x2 x3 (ix3 e R j)
    = lin (xrow x0 (src (cN (cntW x1)) R.val) (lt_of_lt_of_le (src_lt _ hP.le R hR) (by decide))) (fun k j => x2 (ix3 e k j)) (fun j => x3 (ix2 e j)) j := by
  rw [val_main_v51_apply, val_main_v48_apply, val_main_v47_apply, val_main_v50_apply, val_main_v49_apply]
  unfold lin
  refine congrArg₂ (· + ·) (Finset.sum_congr rfl fun k _ => ?_) (congrArg x3 (funext fun a => ?_))
  · rw [mul_comm, ← v46_at x0 x1 hP R hR k]
    refine congrArg₂ (· * ·) (congrArg (val_main_v46 (F := Ideal) x0 x1) (funext fun a => ?_)) (congrArg x2 (funext fun a => ?_))
    · match a with
      | ⟨0, _⟩ => rfl
      | ⟨1, _⟩ => rfl
    · match a with
      | ⟨0, _⟩ => rfl
      | ⟨1, _⟩ => rfl
      | ⟨2, _⟩ => rfl
  · match a with
    | ⟨0, _⟩ => rfl
    | ⟨1, _⟩ => rfl

theorem v68_at (e : Fin 32) (k : Fin 1024) : val_main_v68 (F := Ideal) x0 x1 x2 x3 (ix3 e R k)
    = hid (val_main_v51 (F := Ideal) x0 x1 x2 x3 (ix3 e R (⟨k.val, by omega⟩ : Fin 2048))) (val_main_v51 (F := Ideal) x0 x1 x2 x3 (ix3 e R (⟨1024 + k.val, by omega⟩ : Fin 2048))) := by
  have e52 : val_main_v52 (F := Ideal) x0 x1 x2 x3 (ix3 e R k) = val_main_v51 (F := Ideal) x0 x1 x2 x3 (ix3 e R (⟨k.val, by omega⟩ : Fin 2048)) := by
    rw [val_main_v52_apply]
    refine congrArg _ (funext fun a => ?_)
    match a with
    | ⟨0, _⟩ => rfl
    | ⟨1, _⟩ => rfl
    | ⟨2, _⟩ => rfl
  have e55 : val_main_v55 (F := Ideal) x0 x1 x2 x3 (ix3 e R k) = val_main_v51 (F := Ideal) x0 x1 x2 x3 (ix3 e R (⟨1024 + k.val, by omega⟩ : Fin 2048)) := by
    rw [val_main_v55_apply]
    refine congrArg _ (funext fun a => ?_)
    match a with
    | ⟨0, _⟩ => rfl
    | ⟨1, _⟩ => rfl
    | ⟨2, _⟩ => rfl
  rw [← e52, ← e55]
  simp only [val_main_v68_apply, val_main_v67_apply, val_main_v66_apply, val_main_v65_apply, val_main_v64_apply, val_main_v63_apply, val_main_v62_apply,
    val_main_v61_apply, val_main_v60_apply, val_main_v59_apply, val_main_v58_apply, val_main_v57_apply, val_main_v56_apply, val_main_v54_apply, val_main_v53_apply,
    val_main_call3_v4_apply, val_main_call3_v3_apply, val_main_call3_v2_apply, val_main_call3_v1_apply, val_main_call3_v0_apply,
    val_main_cst_apply, val_main_cst_10_apply, val_main_cst_11_apply, val_main_cst_12_apply, val_main_cst_13_apply, val_main_cst_14_apply, val_main_cst_15_apply]
  unfold hid gate
  rw [slope]
  rfl

/-- Expert `e`'s feed-forward of the row. -/
theorem v72_at (e : Fin 32) (j : Fin 1024) : val_main_v72 (F := Ideal) x0 x1 x2 x3 x4 x5 (ix3 e R j)
    = ffn (xrow x0 (src (cN (cntW x1)) R.val) (lt_of_lt_of_le (src_lt _ hP.le R hR) (by decide))) (fun k j => x2 (ix3 e k j)) (fun j => x3 (ix2 e j))
        (fun k j => x4 (ix3 e k j)) (fun j => x5 (ix2 e j)) j := by
  rw [val_main_v72_apply, val_main_v69_apply, val_main_v71_apply, val_main_v70_apply]
  unfold ffn
  refine congrArg₂ (· + ·) (Finset.sum_congr rfl fun k _ => ?_) (congrArg x5 (funext fun a => ?_))
  · rw [← v51_at x0 x1 x2 x3 hP R hR e, ← v51_at x0 x1 x2 x3 hP R hR e, ← v68_at x0 x1 x2 x3 hP R hR e k]
    refine congrArg₂ (· * ·) (congrArg (val_main_v68 (F := Ideal) x0 x1 x2 x3) (funext fun a => ?_)) (congrArg x4 (funext fun a => ?_))
    · match a with
      | ⟨0, _⟩ => rfl
      | ⟨1, _⟩ => rfl
      | ⟨2, _⟩ => rfl
    · match a with
      | ⟨0, _⟩ => rfl
      | ⟨1, _⟩ => rfl
      | ⟨2, _⟩ => rfl
  · match a with
    | ⟨0, _⟩ => rfl
    | ⟨1, _⟩ => rfl

theorem v76_at (e : Fin 32) (j : Fin 1024) : val_main_v76 (F := Ideal) x1 (ix3 e R j) = if ex (cN (cntW x1)) (R.val / 512) = e.val then 1 else 0 := by
  rw [val_main_v76_apply, val_main_v75_apply, val_main_v74_apply, val_main_v73_apply, v30_eq]
  have h := rM_at _ _ (cN_at (cntW x1)) hP.le R e
  have hi : (idx_main_v74 (idx_main_v75 (idx_main_v76 (ix3 e R j)))) = ix2 R e := funext fun a => by
    match a with
    | ⟨0, _⟩ => rfl
    | ⟨1, _⟩ => rfl
  rw [hi]
  by_cases he : ex (cN (cntW x1)) (R.val / 512) = e.val
  · rw [h.2 he, if_pos he]
    show (((1#1 : BitVec 1).toNat : ℝ) : EReal) = 1
    simp
  · have h0 : rM (cntW x1) (ix2 R e) = 0#1 := by
      rcases (by decide : ∀ b : BitVec 1, b = 0#1 ∨ b = 1#1) (rM (cntW x1) (ix2 R e)) with h1 | h1
      · exact h1
      · exact absurd (h.1 h1) he
    rw [h0, if_neg he]
    show (((0#1 : BitVec 1).toNat : ℝ) : EReal) = 0
    simp

/-- A listed row of the reference's result. -/
theorem v78_at (e : Fin 32) (he : ex (cN (cntW x1)) (R.val / 512) = e.val) (j : Fin 1024) : val_main_v78 (F := Ideal) x0 x1 x2 x3 x4 x5 (ix2 R j)
    = ffn (xrow x0 (src (cN (cntW x1)) R.val) (lt_of_lt_of_le (src_lt _ hP.le R hR) (by decide))) (fun k j => x2 (ix3 e k j)) (fun j => x3 (ix2 e j))
        (fun k j => x4 (ix3 e k j)) (fun j => x5 (ix2 e j)) j := by
  rw [val_main_v78_apply, val_main_cst_16_apply, ← v72_at x0 x1 x2 x3 x4 x5 hP R hR e j]
  have hk : ∀ k : Fin 32, val_main_v77 (F := Ideal) x0 x1 x2 x3 x4 x5 (idx_main_v78 (ix2 R j) k)
      = if k = e then val_main_v72 (F := Ideal) x0 x1 x2 x3 x4 x5 (ix3 e R j) else 0 := by
    intro k
    have hi : idx_main_v78 (ix2 R j) k = ix3 k R j := funext fun a => by
      match a with
      | ⟨0, _⟩ => rfl
      | ⟨1, _⟩ => rfl
      | ⟨2, _⟩ => rfl
    rw [hi, val_main_v77_apply, v76_at x1 hP R hR k j, he]
    by_cases h : k = e
    · rw [h, if_pos rfl, if_pos rfl]; exact one_mul _
    · rw [if_neg h, if_neg fun h' => h (Fin.ext h'.symm)]; exact zero_mul _
  rw [Finset.sum_congr rfl fun k _ => hk k, Finset.sum_ite_eq', if_pos (Finset.mem_univ _)]
  show Ideal.ofBits .f32 0x00000000#32 + _ = _
  rw [ofBits_zero, zero_add]
end

/-- A listed entry of the reference's result. -/
theorem ref_at (hP : Plan (cntW x1)) (y : S2752512x128.Idx) (hy : (y 0).val / 8 < 512 * tE (cN (cntW x1)) 31)
    (hs : src (cN (cntW x1)) ((y 0).val / 8) < 2623488) (e : Fin 32) (he : ex (cN (cntW x1)) ((y 0).val / 8 / 512) = e.val)
    (j : Fin 1024) (hj : j.val = (y 0).val % 8 * 128 + (y 1).val) : val_main_v79 (F := Ideal) x0 x1 x2 x3 x4 x5 y
    = ffn (xrow x0 (src (cN (cntW x1)) ((y 0).val / 8)) hs) (fun k j => x2 (ix3 e k j)) (fun j => x3 (ix2 e j))
        (fun k j => x4 (ix3 e k j)) (fun j => x5 (ix2 e j)) j := by
  have h0 : (y 0).val < 2752512 := (y 0).isLt
  have h1 : (y 1).val < 128 := (y 1).isLt
  rw [val_main_v79_apply, ← v78_at x0 x1 x2 x3 x4 x5 hP ⟨(y 0).val / 8, by omega⟩ (by show (y 0).val / 8 / 512 < _; omega) e he j]
  refine congrArg _ (funext fun a => ?_)
  match a with
  | ⟨0, _⟩ => exact Fin.ext (by show ((y 0).val * 128 + (y 1).val) / 1024 = (y 0).val / 8; omega)
  | ⟨1, _⟩ => exact Fin.ext (by show ((y 0).val * 128 + (y 1).val) % 1024 = j.val; omega)

end Cert.Ex
-- ==== Proof.Experts.Mask.lean ====
module

public import proofs.«01_k».proof.Proof.Experts.RefW

@[expose] public section

noncomputable section

namespace Cert.Ex

open Idealize.ShloMosaic Idealize.ShloMosaic.ValueIdx Idealize.ShloMosaic.WordCmp
open Idealize.ShloMosaic.Routing
open Cert.On_listed.Gen

variable {F : FTy → Type} [FloatOps F]

/-- Where the mask holds, the row lies before the end of the last expert's rows. -/
theorem listed (x0 : FVec F On_listed.S20987904x128 .f32) (x1 : FVec F On_listed.S32x128 .f32) (x2 : FVec F On_listed.S32x1024x2048 .f32)
    (x3 : FVec F On_listed.S32x2048 .f32) (x4 : FVec F On_listed.S32x1024x1024 .f32) (x5 : FVec F On_listed.S32x1024 .f32) (hP : Plan (cntW x1))
    (i : On_listed.S2752512x128.Idx) (h : On_listed.fn x0 x1 x2 x3 x4 x5 i = 1#1) : (i 0).val / 8 < 512 * tE (cN (cntW x1)) 31 := by
  have hl : (i 0).val < 2752512 := (i 0).isLt
  have hl1 : (i 1).val < 128 := (i 1).isLt
  have h0 : shapeCast On_listed.S2752512x128 (broadcastInDim On_listed.S344064x8x128 ![0, 1, 2] bcast_S344064x1x1_S344064x8x128_0_1_2
      (broadcastInDim On_listed.S344064x1x1 ![0] bcast_S344064_S344064x1x1_0 (cmpi .slt (iotaInDim On_listed.S344064 32 0)
        (broadcastInDim On_listed.S344064 ![] bcast_S_S344064 (shapeCast On_listed.S_ (extractStridedSlice On_listed.S1 ![31] (rE (cntW x1)) slices_S32_S1_31) shapeCasts_S1_S_)))))
      shapeCasts_S344064x8x128_S2752512x128 i = 1#1 := h
  rw [shapeCast_apply _ _ i (ix3 (⟨(i 0).val / 8, by omega⟩ : Fin 344064) (⟨(i 0).val % 8, by omega⟩ : Fin 8) (⟨(i 1).val, hl1⟩ : Fin 128)) (by
      rw [Shape.rowMajor_val_three, Shape.rowMajor_val_two]
      show ((i 0).val / 8 * 8 + (i 0).val % 8) * 128 + (i 1).val = (i 0).val * 128 + (i 1).val
      omega),
    broadcastInDim_apply _ _ _ _ (ix3 (⟨(i 0).val / 8, by omega⟩ : Fin 344064) (0 : Fin 1) (0 : Fin 1)) (fun a => by
      match a with
      | ⟨0, _⟩ => rfl
      | ⟨1, _⟩ => rfl
      | ⟨2, _⟩ => rfl),
    broadcastInDim_apply _ _ _ _ (ix1 (⟨(i 0).val / 8, by omega⟩ : Fin 344064)) (fun a => by
      match a with
      | ⟨0, _⟩ => rfl),
    cmpi_at, bc0, iota1_ap] at h0
  have hU : shapeCast On_listed.S_ (extractStridedSlice On_listed.S1 ![31] (rE (cntW x1)) slices_S32_S1_31) shapeCasts_S1_S_ ix0
      = BitVec.ofNat 32 (512 * tE (cN (cntW x1)) 31) := by
    have h := slice1 31 (rE (cntW x1)) slices_S32_S1_31 (0 : Fin 1) (by decide)
    unfold shapeCast
    generalize Shape.reshapeEquiv shapeCasts_S1_S_ ix0 = j
    obtain rfl : j = ix1 (0 : Fin 1) := by funext a; obtain rfl : a = 0 := Subsingleton.elim (α := Fin 1) _ _; exact Subsingleton.elim (α := Fin 1) _ _
    exact h.trans (rE_at _ _ (cN_at _) hP.le ⟨31, by decide⟩)
  rw [hU] at h0
  have hb := tE_le _ hP.le 31
  exact (cmpi_slt_ofNat_eq_one_iff (w := 32) (by show (i 0).val / 8 < _; omega) (by omega)).1 h0

end Cert.Ex
-- ==== Proof.Experts.Final.lean ====
module

public import proofs.«01_k».proof.Proof.Experts.KerBlk
public import proofs.«01_k».proof.Proof.Experts.RefRead
public import proofs.«01_k».proof.Proof.Experts.Mask

@[expose] public section

set_option maxRecDepth 16384

noncomputable section

namespace Cert.ExpertsIdeal.Fr

open Idealize.ShloMosaic Idealize.ShloMosaic.TcCoe Idealize.SL.Sem
open Cert.ExpertsIdeal Cert.ExpertsIdeal.Gen
open Cert.Ex (lin hid gate ffn Plan cN cntW tE tl tid ex st src xrow)

variable (m : (ℓ : Loc nD τ sig) → Buf (Elt Ideal) ℓ) (hO : Ok m) (c : Dev nD)

attribute [local irreducible] tbl

/-- What a tile writes at one place of its block, read from the arguments. -/
theorem outB_at (i : Fin 672) (R : Fin 4096) (l : Fin 128) (e : Fin 32) (he : (teW m i).toNat = e.val) (s : ℕ) (hs : s < 2623488)
    (hs' : s = 512 * (inW m i).toNat + R.val / 8) (j : Fin 1024) (hj : j.val = R.val % 8 * 128 + l.val) :
    outB m hO c (pt m hO i) (ix2 R l : S4096x128.Idx)
      = ffn (xrow (m ((c.tc : Thread nD τ).loc main_arg0)) s hs) (fun k j => m ((c.tc : Thread nD τ).loc main_arg2) (ix3 e k j : S32x1024x2048.Idx))
        (fun j => m ((c.tc : Thread nD τ).loc main_arg3) (ix2 e j : S32x2048.Idx)) (fun k j => m ((c.tc : Thread nD τ).loc main_arg4) (ix3 e k j : S32x1024x1024.Idx))
        (fun j => m ((c.tc : Thread nD τ).loc main_arg5) (ix2 e j : S32x1024.Idx)) j := by
  have hj' : (⟨128 * (R.val % 8) + l.val, by omega⟩ : Fin 1024) = j := Fin.ext (by show 128 * (R.val % 8) + l.val = j.val; omega)
  show rowsOut (iblk m hO c 0 (pt m hO i)) (iblk m hO c 2 (pt m hO i)) (iblk m hO c 4 (pt m hO i)) (k0_pay1 (iblk m hO c 1 (pt m hO i))) (k0_pay2 (iblk m hO c 3 (pt m hO i)))
    (ix2 (⟨R.val / 8, by omega⟩ : Fin 512) (⟨128 * (R.val % 8) + l.val, by omega⟩ : Fin 1024)) = _
  rw [hj']
  refine (rows_at (iblk m hO c 0 (pt m hO i)) (iblk m hO c 2 (pt m hO i)) (iblk m hO c 4 (pt m hO i)) (iblk m hO c 1 (pt m hO i)) (iblk m hO c 3 (pt m hO i))
    (⟨R.val / 8, by omega⟩ : Fin 512) j).trans ?_
  refine Cert.Ex.ffn_congr j (fun k => ?_) (fun k q => ?_) (fun q => ?_) (fun k q => ?_) (fun q => ?_)
  · unfold brow xrow
    exact iblk0_apply m hO c i _ _ _ (by
      show 8 * s + k.val / 128 = (inW m i).toNat * 4096 + (8 * (R.val / 8) + k.val / 128); omega)
  · exact iblk1_apply m hO c i e he k q
  · exact iblk2_apply m hO c i e he q
  · exact iblk3_apply m hO c i e he k q
  · exact iblk4_apply m hO c i e he q

/-- At every row the mask lists the kernel's result is the reference's. -/
theorem out_eq (hP : Plan (cW m c)) (y : S2752512x128.Idx)
    (hy : Cert.On_listed.fn (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) y = 1#1) :
    ((dats m hO 0 c).arrAt 5 (cfgM m hO).N : Vec Ideal S2752512x128 .f32) y
      = Cert.ExpertsReferenceIdeal.Read.val_main_v79 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5)) y := by
  obtain rfl : c = 0 := Subsingleton.elim _ _
  have hl := Cert.Ex.listed _ _ _ _ _ _ hP y hy
  have h0 : (y 0).val < 2752512 := (y 0).isLt
  have h1 : (y 1).val < 128 := (y 1).isLt
  have hl' : (y 0).val / 8 < 512 * tE (cN (cW m 0)) 31 := hl
  have hiT : (y 0).val / 8 / 512 < tE (cN (cW m 0)) 31 := by omega
  have hs : src (cN (cW m 0)) ((y 0).val / 8) < 2621440 := by
    have a1 := Cert.Ex.ex_lt _ hiT
    have a2 := Cert.Ex.own_lt _ hP.le hiT
    unfold src
    omega
  have hst := Cert.Ex.st_ex_le _ hiT
  have hex := Cert.Ex.ex_lt _ hiT
  obtain ⟨i, hi⟩ : ∃ i : Fin 672, i.val = (y 0).val / 8 / 512 := ⟨⟨(y 0).val / 8 / 512, by omega⟩, rfl⟩
  have htid : tid (cN (cW m 0)) i.val = (y 0).val / 8 / 512 := by unfold tid; omega
  refine Eq.trans ?_ (Cert.Ex.ref_at _ _ _ _ _ _ hP y hl (Nat.lt_of_lt_of_le hs (by omega)) ⟨ex (cN (cW m 0)) ((y 0).val / 8 / 512), hex⟩ rfl
    ⟨(y 0).val % 8 * 128 + (y 1).val, by omega⟩ rfl).symm
  have ey : y = (ix2 (⟨(y 0).val, h0⟩ : Fin 2752512) (⟨(y 1).val, h1⟩ : Fin 128) : S2752512x128.Idx) := by
    funext a; match a with | ⟨0, _⟩ => rfl | ⟨1, _⟩ => rfl
  refine (congrArg _ ey).trans ((out_elem m hO 0 hP i (by rw [nu_eq m hP]; omega) ⟨(y 0).val % 4096, by omega⟩ ⟨(y 1).val, h1⟩ ⟨(y 0).val, h0⟩ (by
    show (y 0).val = i.val * 4096 + (y 0).val % 4096; omega)).trans ?_)
  refine outB_at m hO 0 i _ _ ⟨ex (cN (cW m 0)) ((y 0).val / 8 / 512), hex⟩ ((teW_val m hP i).trans (by rw [htid])) _ _ ?_ _ ?_
  · rw [inW_val m hP, htid]
    show src (cN (cW m 0)) ((y 0).val / 8) = _ + (y 0).val % 4096 / 8
    unfold src
    omega
  · show (y 0).val % 8 * 128 + (y 1).val = (y 0).val % 4096 % 8 * 128 + (y 1).val
    omega

/-- The run leaves the pipeline's result in the result's array and every argument as it was. -/
theorem run_value (ρ : Dev nD → PrngReg) (hS : Steps m) : θ_run defs (onTc (τ := τ) (main (F := Ideal))) ⟨m, fun _ => 0, ρ⟩ (fun r => ∀ c : Dev nD,
      r.2.mem ((c.tc : Thread nD τ).loc main_v39) = (dats m hO 0 c).arrAt 5 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.2 c).1 5, h.1.1 c⟩) (θ_run_and (frame m ρ hO hS) (run_main m ρ hO hS))

end Cert.ExpertsIdeal.Fr

end
-- ==== Proof.Memkv.Final.lean ====
module

public import proofs.«01_k».proof.Proof.Gen.MemkvIdeal.Value
public import proofs.«01_k».proof.Proof.Gen.MemkvReferenceIdeal.Read
public import Idealize.ShloMosaic.Lib.Pointwise
public import Idealize.ShloMosaic.Lib.MatmulPlain
public import Idealize.ShloMosaic.Lib.StableHlo.RunRead

@[expose] public section

set_option maxRecDepth 16384

noncomputable section

namespace Cert.Mk

open Idealize.ShloMosaic Idealize.ShloMosaic.TcCoe Idealize.SL.Sem Cert.MemkvIdeal Cert.MemkvIdeal.Gen

/-! ## One block of the kernel -/

theorem dot_mk : dot_S256x1024_S1024x1024_S256x1024_1_0_0_1_n_n = DotDims.plain 256 1024 1024 := rfl

/-- A row divided by its root mean square, times the gain. -/
def nrm (x g : Fin 1024 → EReal) (k : Fin 1024) : EReal :=
  x k * Ideal.rsqrt (Ideal.div (∑ j : Fin 1024, x j * x j) (Ideal.ofBits .f32 0x44800000#32) + Ideal.ofBits .f32 0x3727C5AC#32) * g k

theorem sel_word (n : ℕ) (h : n < 20) {α : Type} (a b : α) :
    Scalar.select (Scalar.cmpi .slt (BitVec.ofNat 32 n) 4#32) a b = if n < 4 then a else b := by
  interval_cases n <;> rfl

theorem pay_apply (i : grid0.Coords) (n : ℕ) (hn : (i 0).val = n) (hn' : n < 20) (v1 v3 : Vec Ideal S1x256x1024 .f32) (v6 : Vec Ideal S1x1024 .f32)
    (v21 : FVec Ideal S1024x1024 .bf16) (r : Fin 256) (j : Fin 1024) :
    k0_pay1 (F := Ideal) i v1 v3 v6 v21 (ix3 (0 : Fin 1) r j)
      = ∑ k : Fin 1024, nrm (fun k => if n < 4 then v1 (ix3 (0 : Fin 1) r k) else v3 (ix3 (0 : Fin 1) r k)) (fun k => v6 (ix2 (0 : Fin 1) k)) k * v21 (ix2 k j) := by
  unfold k0_pay1
  rw [dot_mk, hn]
  simp only [sel_word n hn']
  by_cases h : n < 4
  · simp only [h, if_true]
    pointwise
    rfl
  · simp only [h, if_false]
    pointwise
    rfl

/-! ## The blocks a grid point sees -/

theorem idx_facts : ∀ t : Fin cfg0.N,
    (grid0.coords t 0).val = t.val
    ∧ (win0_0.index t (0 : Fin 3) = min t.val 3 ∧ win0_0.index t (1 : Fin 3) = 0 ∧ win0_0.index t (2 : Fin 3) = 0)
    ∧ (win0_1.index t (0 : Fin 3) = t.val - 4 ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 3) = t.val ∧ win0_4.index t (1 : Fin 3) = 0 ∧ win0_4.index t (2 : Fin 3) = 0) :=
  (by decide +kernel : ∀ t : Fin grid0.N, _)

section
variable (m : (ℓ : Loc nD τ sig) → Buf (Elt Ideal) ℓ) (c : Dev nD) (b : Fin 20)

/-- The grid point of sequence `b`. -/
def pt (b : Fin 20) : Fin cfg0.N := ⟨b.val, by show _ < 20; omega⟩

theorem emb4 (r : Fin 256) (l : Fin 1024) : ((cfg0.win 4).blk (pt b)).view.emb (ix3 (0 : Fin 1) r l : S1x256x1024.Idx)
    = (ix3 b r l : S20x256x1024.Idx) := by
  obtain ⟨_, _, _, _, _, e0, e1, e2⟩ := idx_facts (pt b)
  change _ = b.val at e0
  funext a; apply Fin.ext
  match a with
  | ⟨0, _⟩ => show win0_4.index (pt b) (0 : Fin 3) * 1 + 1 * 0 = b.val; omega
  | ⟨1, _⟩ => show win0_4.index (pt b) (1 : Fin 3) * 256 + 1 * r.val = r.val; omega
  | ⟨2, _⟩ => show win0_4.index (pt b) (2 : Fin 3) * 1024 + 1 * l.val = l.val; omega

theorem iblk0_apply (r : Fin 256) (l : Fin 1024) (h : b.val < 4) : iblk m c 0 (pt b) (ix3 (0 : Fin 1) r l : S1x256x1024.Idx)
    = m ((c.tc : Thread nD τ).loc main_arg0) (ix3 (⟨b.val, h⟩ : Fin 4) r l : S4x256x1024.Idx) := by
  show V m c main_arg0 (((cfg0.win 0).blk (pt b)).view.emb _) = _
  rw [V_main_arg0]
  refine congrArg (m ((c.tc : Thread nD τ).loc main_arg0)) ?_
  obtain ⟨_, ⟨e0, e1, e2⟩, _⟩ := idx_facts (pt b)
  change _ = min b.val 3 at e0
  funext a; apply Fin.ext
  match a with
  | ⟨0, _⟩ => show win0_0.index (pt b) (0 : Fin 3) * 1 + 1 * 0 = b.val; omega
  | ⟨1, _⟩ => show win0_0.index (pt b) (1 : Fin 3) * 256 + 1 * r.val = r.val; omega
  | ⟨2, _⟩ => show win0_0.index (pt b) (2 : Fin 3) * 1024 + 1 * l.val = l.val; omega

theorem iblk1_apply (r : Fin 256) (l : Fin 1024) (h : ¬ b.val < 4) : iblk m c 1 (pt b) (ix3 (0 : Fin 1) r l : S1x256x1024.Idx)
    = m ((c.tc : Thread nD τ).loc main_arg1) (ix3 (⟨b.val - 4, by omega⟩ : Fin 16) r l : S16x256x1024.Idx) := by
  show V m c main_arg1 (((cfg0.win 1).blk (pt b)).view.emb _) = _
  rw [V_main_arg1]
  refine congrArg (m ((c.tc : Thread nD τ).loc main_arg1)) ?_
  obtain ⟨_, _, ⟨e0, e1, e2⟩, _⟩ := idx_facts (pt b)
  change _ = b.val - 4 at e0
  funext a; apply Fin.ext
  match a with
  | ⟨0, _⟩ => show win0_1.index (pt b) (0 : Fin 3) * 1 + 1 * 0 = b.val - 4; omega
  | ⟨1, _⟩ => show win0_1.index (pt b) (1 : Fin 3) * 256 + 1 * r.val = r.val; omega
  | ⟨2, _⟩ => show win0_1.index (pt b) (2 : Fin 3) * 1024 + 1 * l.val = l.val; omega

theorem V_v0 : V m c main_v0 = shapeCast S1x1024 (m ((c.tc : Thread nD τ).loc main_arg2) : Vec Ideal S1024 .f32) shapeCasts_S1024_S1x1024 := by
  unfold_abbrev_sides
  after_results
  rfl

theorem V_v1 : V m c main_v1 = (truncf (F := Ideal) (φ := .f32) .bf16 (m ((c.tc : Thread nD τ).loc main_arg3) : Vec Ideal S1024x1024 .f32) bitsLt_bf16_f32 : Vec Ideal S1024x1024 .bf16) := by
  unfold_abbrev_sides
  after_results

theorem iblk2_apply (l : Fin 1024) : iblk m c 2 (pt b) (ix2 (0 : Fin 1) l : S1x1024.Idx)
    = m ((c.tc : Thread nD τ).loc main_arg2) (ix1 l : S1024.Idx) := by
  show V m c main_v0 (((cfg0.win 2).blk (pt b)).view.emb _) = _
  have E : ((cfg0.win 2).blk (pt b)).view.emb (ix2 (0 : Fin 1) l : S1x1024.Idx) = (ix2 (0 : Fin 1) l : S1x1024.Idx) := by
    obtain ⟨_, _, _, ⟨e0, e1⟩, _⟩ := idx_facts (pt b)
    funext a; apply Fin.ext
    match a with
    | ⟨0, _⟩ => show win0_2.index (pt b) (0 : Fin 2) * 1 + 1 * 0 = 0; omega
    | ⟨1, _⟩ => show win0_2.index (pt b) (1 : Fin 2) * 1024 + 1 * l.val = l.val; omega
  rw [E, V_v0]
  pointwise

theorem iblk3_apply (k l : Fin 1024) : iblk m c 3 (pt b) (ix2 k l : S1024x1024.Idx)
    = m ((c.tc : Thread nD τ).loc main_arg3) (ix2 k l : S1024x1024.Idx) := by
  show V m c main_v1 (((cfg0.win 3).blk (pt b)).view.emb _) = _
  have E : ((cfg0.win 3).blk (pt b)).view.emb (ix2 k l : S1024x1024.Idx) = (ix2 k l : S1024x1024.Idx) := by
    obtain ⟨_, _, _, _, ⟨e0, e1⟩, _⟩ := idx_facts (pt b)
    funext a; apply Fin.ext
    match a with
    | ⟨0, _⟩ => show win0_3.index (pt b) (0 : Fin 2) * 1024 + 1 * k.val = k.val; omega
    | ⟨1, _⟩ => show win0_3.index (pt b) (1 : Fin 2) * 1024 + 1 * l.val = l.val; omega
  rw [E, V_v1]
  rfl

theorem out_canon (i : grid0.Coords) (x0 x1 : Vec Ideal S1x256x1024 .f32) (x2 : Vec Ideal S1x1024 .f32) (x3 : Vec Ideal S1024x1024 .bf16) :
    out0_4 i x0 x1 x2 x3 = k0_pay1 (F := Ideal) i x0 x1 x2 x3 := by
  have z3 : (![0, 0, 0] : Fin 3 → ℕ) = fun _ => 0 := by funext a; fin_cases a <;> rfl
  have z2 : (![0, 0] : Fin 2 → ℕ) = fun _ => 0 := by funext a; fin_cases a <;> rfl
  unfold out0_4
  rw [View.canon_unit_zero z3, View.ld_unit_zero z3, View.ld_unit_zero z3, View.ld_unit_zero z2, View.ld_unit_zero z2]

/-- The row of memory token `r` of sequence `b`. -/
def row (x0 : Vec Ideal S4x256x1024 .f32) (x1 : Vec Ideal S16x256x1024 .f32) (b : Fin 20) (r : Fin 256) (k : Fin 1024) : EReal :=
  if h : b.val < 4 then x0 (ix3 (⟨b.val, h⟩ : Fin 4) r k) else x1 (ix3 (⟨b.val - 4, by omega⟩ : Fin 16) r k)

/-- One element of the result. -/
def elt (x0 : Vec Ideal S4x256x1024 .f32) (x1 : Vec Ideal S16x256x1024 .f32) (g : Vec Ideal S1024 .f32) (w : Vec Ideal S1024x1024 .f32)
    (b : Fin 20) (r : Fin 256) (j : Fin 1024) : EReal :=
  ∑ k : Fin 1024, nrm (row x0 x1 b r) (fun k => g (ix1 k)) k * w (ix2 k j)

theorem out_elem (r : Fin 256) (l : Fin 1024) :
    (dats m 0 c).arrAt 4 cfg0.N (ix3 b r l : S20x256x1024.Idx)
      = elt (m ((c.tc : Thread nD τ).loc main_arg0)) (m ((c.tc : Thread nD τ).loc main_arg1)) (m ((c.tc : Thread nD τ).loc main_arg2))
          (m ((c.tc : Thread nD τ).loc main_arg3)) b r l := by
  have e := congrFun (Cert.MemkvIdeal.Value.blocks4 m c (pt b) (flush0_4 _)) (ix3 (0 : Fin 1) r l : S1x256x1024.Idx)
  rw [Cert.MemkvIdeal.Value.flushed4] at e
  have e' : (dats m 0 c).arrAt 4 cfg0.N (((cfg0.win 4).blk (pt b)).view.emb (ix3 (0 : Fin 1) r l : S1x256x1024.Idx))
    = out0_4 (grid0.coords (pt b)) (iblk m c 0 (pt b)) (iblk m c 1 (pt b)) (iblk m c 2 (pt b)) (iblk m c 3 (pt b)) (ix3 (0 : Fin 1) r l : S1x256x1024.Idx) := e
  rw [emb4] at e'
  rw [e', out_canon]
  refine (pay_apply (grid0.coords (pt b)) b.val (idx_facts (pt b)).1 b.isLt _ _ _ _ r l).trans ?_
  unfold elt
  have hr : (fun k => if b.val < 4 then iblk m c 0 (pt b) (ix3 (0 : Fin 1) r k : S1x256x1024.Idx) else iblk m c 1 (pt b) (ix3 (0 : Fin 1) r k : S1x256x1024.Idx))
      = row (m ((c.tc : Thread nD τ).loc main_arg0)) (m ((c.tc : Thread nD τ).loc main_arg1)) b r := by
    funext k
    unfold row
    by_cases h : b.val < 4
    · rw [if_pos h, dif_pos h]; exact iblk0_apply m c b r k h
    · rw [if_neg h, dif_neg h]; exact iblk1_apply m c b r k h
  have hg : (fun k => iblk m c 2 (pt b) (ix2 (0 : Fin 1) k : S1x1024.Idx)) = fun k : Fin 1024 => m ((c.tc : Thread nD τ).loc main_arg2) (ix1 k : S1024.Idx) :=
    funext fun k => iblk2_apply m c b k
  refine Finset.sum_congr rfl fun k _ => ?_
  exact congrArg₂ (fun a w : EReal => a * w) (congrArg₂ (fun x g => nrm x g k) hr hg) (iblk3_apply m c b k l)
end

/-! ## The reference at an index -/

open Cert.MemkvReferenceIdeal.Read in
theorem ref_elem (x0 : Vec Ideal S4x256x1024 .f32) (x1 : Vec Ideal S16x256x1024 .f32) (g : Vec Ideal S1024 .f32) (w : Vec Ideal S1024x1024 .f32)
    (b : Fin 20) (r : Fin 256) (j : Fin 1024) :
    val_main_v15 (F := Ideal) x0 x1 g w (ix3 b r j) = elt x0 x1 g w b r j := by
  have h0 : ∀ k : Fin 1024, val_main_v0 (F := Ideal) x0 x1 (ix3 b r k) = row x0 x1 b r k := by
    intro k
    unfold val_main_v0 row
    pointwise
  have h13 : ∀ k : Fin 1024, val_main_v13 (F := Ideal) x0 x1 g (ix3 b r k) = nrm (row x0 x1 b r) (fun k => g (ix1 k)) k := by
    intro k
    rw [val_main_v13_apply, val_main_v12_apply, val_main_v11_apply, val_main_v10_apply, val_main_v9_apply, val_main_v8_apply, val_main_v7_apply, val_main_v6_apply,
      val_main_cst_1_apply, val_main_v5_apply, val_main_v4_apply, val_main_cst_0_apply, val_main_v3_apply, val_main_v2_apply, h0]
    have hs : ∀ q : Fin 1024, val_main_v1 (F := Ideal) x0 x1 (idx_main_v2 (idx_main_v3 (idx_main_v9 (ix3 b r k))) q) = row x0 x1 b r q * row x0 x1 b r q := fun q => by
      rw [val_main_v1_apply]
      have E : idx_main_v2 (idx_main_v3 (idx_main_v9 (ix3 b r k))) q = (ix3 b r q : S20x256x1024.Idx) := by
        funext a
        match a with
        | ⟨0, _⟩ => rfl
        | ⟨1, _⟩ => rfl
        | ⟨2, _⟩ => rfl
      rw [E]
      have := h0 q
      exact congrArg₂ (fun a b : EReal => a * b) this this
    rw [Finset.sum_congr rfl fun q _ => hs q, val_main_cst_apply]
    have hz : (FloatOps.ofBits .f32 0x00000000#32 : Ideal .f32) = (0 : EReal) := by simp
    rw [hz, zero_add]
    have E : idx_main_v11 (idx_main_v12 (ix3 b r k)) = (ix1 k : S1024.Idx) := by
      funext a
      match a with
      | ⟨0, _⟩ => rfl
    rw [E]
    rfl
  rw [val_main_v15_apply]
  show val_main_v14 (F := Ideal) x0 x1 g w (ix3 b r j) = _
  rw [val_main_v14_apply]
  unfold elt
  have El : ∀ k : Fin 1024, lidx_main_v14 (ix3 b r j) k = (ix3 b r k : S20x256x1024.Idx) := fun k => by
    funext a
    match a with
    | ⟨0, _⟩ => rfl
    | ⟨1, _⟩ => rfl
    | ⟨2, _⟩ => rfl
  have Er : ∀ k : Fin 1024, ridx_main_v14 (ix3 b r j) k = (ix2 k j : S1024x1024.Idx) := fun k => by
    funext a
    match a with
    | ⟨0, _⟩ => rfl
    | ⟨1, _⟩ => rfl
  exact Finset.sum_congr rfl fun k _ => congrArg₂ (fun a b : EReal => a * b) ((congrArg _ (El k)).trans (h13 k)) (congrArg w (Er k))

section
variable (m : (ℓ : Loc nD τ sig) → Buf (Elt Ideal) ℓ) (c : Dev nD)

/-- The kernel's result is the reference's. -/
theorem out_eq : (dats m 0 c).arrAt 4 cfg0.N = Cert.MemkvReferenceIdeal.Read.val_main_v15 (F := Ideal) (m ((c.tc : Thread nD τ).loc main_arg0))
    (m ((c.tc : Thread nD τ).loc main_arg1)) (m ((c.tc : Thread nD τ).loc main_arg2)) (m ((c.tc : Thread nD τ).loc main_arg3)) := by
  funext y
  have hy : y = (ix3 (y 0 : Fin 20) (y 1 : Fin 256) (y 2 : Fin 1024) : S20x256x1024.Idx) := by
    funext a
    match a with
    | ⟨0, _⟩ => rfl
    | ⟨1, _⟩ => rfl
    | ⟨2, _⟩ => rfl
  rw [hy]
  exact (out_elem m c _ _ _).trans (ref_elem _ _ _ _ _ _ _).symm
end

end Cert.Mk

end
-- ==== Proof.Inproj.Host.lean ====
module

public import proofs.«01_k».proof.Proof.Gen.InprojIdeal.Value
public import proofs.«01_k».proof.Proof.Gen.InprojReferenceIdeal.Read
public import Idealize.ShloMosaic.Lib.Pointwise
public import Idealize.ShloMosaic.Lib.StableHlo.RunRead

@[expose] public section

set_option maxRecDepth 16384

noncomputable section

namespace Cert.Ip

open Idealize.ShloMosaic Idealize.ShloMosaic.TcCoe Idealize.ShloMosaic.StableHlo Cert.InprojIdeal Cert.InprojIdeal.Gen

/-! ## What the region finds in its operands -/

/-- Cosines and sines of the positions' angles, and the tables of the transform over a group's channels. -/
def rc : Vec Ideal S4096x8 .f32 := Cert.InprojReferenceIdeal.Read.val_main_v32 (F := Ideal)
def rs : Vec Ideal S4096x8 .f32 := Cert.InprojReferenceIdeal.Read.val_main_v34 (F := Ideal)
def fc : Vec Ideal S64x64 .f32 := Cert.InprojReferenceIdeal.Read.val_main_v107 (F := Ideal)
def fs : Vec Ideal S64x64 .f32 := Cert.InprojReferenceIdeal.Read.val_main_v110 (F := Ideal)

/-- The two tables of the rotation over a pair of heads. -/
def hTab (x : Vec Ideal S4096x64 .f32) : Vec Ideal S4096x128 .f32 :=
  shapeCast S4096x128 (broadcastInDim S1x4096x2x64 ![0, 1, 2, 3] bcast_S1x4096x1x64_S1x4096x2x64_0_1_2_3 (shapeCast S1x4096x1x64 x shapeCasts_S4096x64_S1x4096x1x64)) shapeCasts_S1x4096x2x64_S4096x128
def hCos : Vec Ideal S4096x64 .f32 :=
  concatenate S4096x64 1 [⟨S4096x8, rc⟩, ⟨S4096x8, rc⟩, ⟨S4096x48, broadcastInDim S4096x48 ![] bcast_S_S4096x48 (constant (F := Ideal) S_ .f32 0x3F800000#32)⟩] concatenates_S4096x8_S4096x8_S4096x48_S4096x64_d1
def hSin : Vec Ideal S4096x64 .f32 :=
  concatenate S4096x64 1 [⟨S4096x8, Host.negf (F := Ideal) (φ := .f32) rs⟩, ⟨S4096x8, rs⟩, ⟨S4096x48, broadcastInDim S4096x48 ![] bcast_S_S4096x48 (constant (F := Ideal) S_ .f32 0x00000000#32)⟩] concatenates_S4096x8_S4096x8_S4096x48_S4096x64_d1

/-- The weight's columns as the kernel takes them. -/
def hSwap (x : Vec Ideal S1024x128 .f32) : Vec Ideal S1024x128 .f32 :=
  concatenate S1024x128 1 [⟨S1024x64, extractStridedSlice S1024x64 ![0, 64] x slices_S1024x128_S1024x64_0_64⟩,
    ⟨S1024x64, extractStridedSlice S1024x64 ![0, 0] x slices_S1024x128_S1024x64_0_0⟩] concatenates_S1024x64_S1024x64_S1024x128_d1
def hW (w : Vec Ideal S1024x1280 .f32) : Vec Ideal S1024x1536 .bf16 :=
  truncf (F := Ideal) (φ := .f32) .bf16 (concatenate S1024x1536 1 [⟨S1024x512, extractStridedSlice S1024x512 ![0, 0] w slices_S1024x1280_S1024x512_0_0⟩,
    ⟨S1024x128, extractStridedSlice S1024x128 ![0, 512] w slices_S1024x1280_S1024x128_0_512⟩,
    ⟨S1024x128, hSwap (extractStridedSlice S1024x128 ![0, 512] w slices_S1024x1280_S1024x128_0_512)⟩,
    ⟨S1024x128, extractStridedSlice S1024x128 ![0, 640] w slices_S1024x1280_S1024x128_0_640⟩,
    ⟨S1024x128, hSwap (extractStridedSlice S1024x128 ![0, 640] w slices_S1024x1280_S1024x128_0_640)⟩,
    ⟨S1024x512, extractStridedSlice S1024x512 ![0, 768] w slices_S1024x1280_S1024x512_0_768⟩] concatenates_S1024x512_S1024x128_S1024x128_S1024x128_S1024x128_S1024x512_S1024x1536_d1) bitsLt_bf16_f32

/-- The identity of order four. -/
def hEye : Vec Ideal S4x4 .f32 :=
  uitofp (F := Ideal) .f32 (cmpi .eq (addi (iotaInDim S4x4 32 0) (broadcastInDim S4x4 ![] bcast_S_S4x4 (constantI S_ 32 0#32))) (iotaInDim S4x4 32 1))
/-- A table of the transform repeated along the diagonal. -/
def hKron (x : Vec Ideal S64x64 .f32) : Vec Ideal S256x256 .f32 :=
  shapeCast S256x256 (mulf (F := Ideal) (φ := .f32) (broadcastInDim S4x64x4x64 ![0, 1, 2, 3] bcast_S4x1x4x1_S4x64x4x64_0_1_2_3 (broadcastInDim S4x1x4x1 ![0, 2] bcast_S4x4_S4x1x4x1_0_2 hEye))
    (broadcastInDim S4x64x4x64 ![0, 1, 2, 3] bcast_S1x64x1x64_S4x64x4x64_0_1_2_3 (broadcastInDim S1x64x1x64 ![1, 3] bcast_S64x64_S1x64x1x64_1_3 x))) shapeCasts_S4x64x4x64_S256x256
def hBD : Vec Ideal S256x512 .bf16 :=
  truncf (F := Ideal) (φ := .f32) .bf16 (concatenate S256x512 1 [⟨S256x256, hKron fc⟩, ⟨S256x256, hKron fs⟩] concatenates_S256x256_S256x256_S256x512_d1) bitsLt_bf16_f32

theorem of_v45 (h₁ h₂ h₃) (x) : (StableHlo.TRef.of main_v45 h₁ h₂ h₃ : StableHlo.TRef sig ⟨S64x64, .i32⟩).ofBuf (Val := Elt Ideal) x = x := rfl
theorem to_v45 (h₁ h₂ h₃) (x) : (StableHlo.TRef.of main_v45 h₁ h₂ h₃ : StableHlo.TRef sig ⟨S64x64, .i32⟩).toBuf (Val := Elt Ideal) x = x := rfl
theorem of_c (h₁ h₂ h₃) (x) : (StableHlo.TRef.of main_c h₁ h₂ h₃ : StableHlo.TRef sig ⟨S_, .i32⟩).ofBuf (Val := Elt Ideal) x = x := rfl
theorem to_c (h₁ h₂ h₃) (x) : (StableHlo.TRef.of main_c h₁ h₂ h₃ : StableHlo.TRef sig ⟨S_, .i32⟩).toBuf (Val := Elt Ideal) x = x := rfl
theorem of_v46 (h₁ h₂ h₃) (x) : (StableHlo.TRef.of main_v46 h₁ h₂ h₃ : StableHlo.TRef sig ⟨S64x64, .i32⟩).ofBuf (Val := Elt Ideal) x = x := rfl
theorem to_v46 (h₁ h₂ h₃) (x) : (StableHlo.TRef.of main_v46 h₁ h₂ h₃ : StableHlo.TRef sig ⟨S64x64, .i32⟩).toBuf (Val := Elt Ideal) x = x := rfl
theorem of_v57 (h₁ h₂ h₃) (x) : (StableHlo.TRef.of main_v57 h₁ h₂ h₃ : StableHlo.TRef sig ⟨S4x4, .f32⟩).ofBuf (Val := Elt Ideal) x = x := rfl
theorem to_v57 (h₁ h₂ h₃) (x) : (StableHlo.TRef.of main_v57 h₁ h₂ h₃ : StableHlo.TRef sig ⟨S4x4, .f32⟩).toBuf (Val := Elt Ideal) x = x := rfl
theorem of_v58 (h₁ h₂ h₃) (x) : (StableHlo.TRef.of main_v58 h₁ h₂ h₃ : StableHlo.TRef sig ⟨S64x64, .f32⟩).ofBuf (Val := Elt Ideal) x = x := rfl
theorem to_v58 (h₁ h₂ h₃) (x) : (StableHlo.TRef.of main_v58 h₁ h₂ h₃ : StableHlo.TRef sig ⟨S64x64, .f32⟩).toBuf (Val := Elt Ideal) x = x := rfl
theorem of_v60 (h₁ h₂ h₃) (x) : (StableHlo.TRef.of main_v60 h₁ h₂ h₃ : StableHlo.TRef sig ⟨S64x64, .f32⟩).ofBuf (Val := Elt Ideal) x = x := rfl
theorem to_v60 (h₁ h₂ h₃) (x) : (StableHlo.TRef.of main_v60 h₁ h₂ h₃ : StableHlo.TRef sig ⟨S64x64, .f32⟩).toBuf (Val := Elt Ideal) x = x := rfl
theorem of_v59 (h₁ h₂ h₃) (x) : (StableHlo.TRef.of main_v59 h₁ h₂ h₃ : StableHlo.TRef sig ⟨S256x256, .f32⟩).ofBuf (Val := Elt Ideal) x = x := rfl
theorem to_v59 (h₁ h₂ h₃) (x) : (StableHlo.TRef.of main_v59 h₁ h₂ h₃ : StableHlo.TRef sig ⟨S256x256, .f32⟩).toBuf (Val := Elt Ideal) x = x := rfl
theorem of_v61 (h₁ h₂ h₃) (x) : (StableHlo.TRef.of main_v61 h₁ h₂ h₃ : StableHlo.TRef sig ⟨S256x256, .f32⟩).ofBuf (Val := Elt Ideal) x = x := rfl
theorem to_v61 (h₁ h₂ h₃) (x) : (StableHlo.TRef.of main_v61 h₁ h₂ h₃ : StableHlo.TRef sig ⟨S256x256, .f32⟩).toBuf (Val := Elt Ideal) x = x := rfl

section
variable (m : (ℓ : Loc nD τ sig) → Buf (Elt Ideal) ℓ) (c : Dev nD)

theorem V_v64 : V m c main_v64 = shapeCast S1x1024 (m ((c.tc : Thread nD τ).loc main_arg2) : Vec Ideal S1024 .f32) shapeCasts_S1024_S1x1024 := by
  unfold_abbrev_sides
  show StableHlo.after (hostOps0 ++ (hostOps0_1 ++ (hostOps0_2 ++ (hostOps0_3 ++ (hostOps0_4 ++ (hostOps0_5 ++ (hostOps0_6 ++ []))))))) _ _ = _
  after_reads_simp
  rfl

theorem V_v11 : V m c main_v11 = hW (m ((c.tc : Thread nD τ).loc main_arg3)) := by
  unfold_abbrev_sides
  show StableHlo.after (hostOps0 ++ (hostOps0_1 ++ (hostOps0_2 ++ (hostOps0_3 ++ (hostOps0_4 ++ (hostOps0_5 ++ (hostOps0_6 ++ []))))))) _ _ = _
  after_reads_simp
  rfl

theorem V_v36 : V m c main_v36 = hTab hCos := by
  unfold_abbrev_sides
  show StableHlo.after (hostOps0 ++ (hostOps0_1 ++ (hostOps0_2 ++ (hostOps0_3 ++ (hostOps0_4 ++ (hostOps0_5 ++ (hostOps0_6 ++ []))))))) _ _ = _
  after_reads_simp
  rfl

theorem V_v39 : V m c main_v39 = hTab hSin := by
  unfold_abbrev_sides
  show StableHlo.after (hostOps0 ++ (hostOps0_1 ++ (hostOps0_2 ++ (hostOps0_3 ++ (hostOps0_4 ++ (hostOps0_5 ++ (hostOps0_6 ++ []))))))) _ _ = _
  after_reads_simp
  rfl

theorem hcat (a b : Vec Ideal S256x256 .f32) (ha : a = hKron fc) (hb : b = hKron fs) :
    (truncf (F := Ideal) (φ := .f32) .bf16 (concatenate S256x512 1 [⟨S256x256, a⟩, ⟨S256x256, b⟩] concatenates_S256x256_S256x256_S256x512_d1) bitsLt_bf16_f32 : Vec Ideal S256x512 .bf16) = hBD := by
  rw [ha, hb]; rfl

theorem U_v59 : upto (hostOps0 ++ (hostOps0_1 ++ (hostOps0_2 ++ (hostOps0_3 ++ (hostOps0_4 ++ (hostOps0_5 ++ (hostOps0_6 ++ []))))))) (fun b => m (c, b)) 101 (Proc.tc.devRef main_v59) = hKron fc := by
  after_reads_simp
  simp only [StableHlo.TRef.ofBuf_toBuf, of_v45, to_v45, of_c, to_c, of_v46, to_v46, of_v57, to_v57, of_v58, to_v58, of_v60, to_v60, of_v59, to_v59, of_v61, to_v61, id]
  unfold hKron hEye fc Cert.InprojReferenceIdeal.Read.val_main_v107 Cert.InprojReferenceIdeal.Read.val_main_v106 Cert.InprojReferenceIdeal.Read.val_main_v105 Cert.InprojReferenceIdeal.Read.val_main_cst_9 Cert.InprojReferenceIdeal.Read.val_main_v104 Cert.InprojReferenceIdeal.Read.val_main_v103 Cert.InprojReferenceIdeal.Read.val_main_cst_8 Cert.InprojReferenceIdeal.Read.val_main_v102 Cert.InprojReferenceIdeal.Read.val_main_v101 Cert.InprojReferenceIdeal.Read.val_main_call0_v14 Cert.InprojReferenceIdeal.Read.val_main_call0_v13 Cert.InprojReferenceIdeal.Read.val_main_call0_v12 Cert.InprojReferenceIdeal.Read.val_main_call0_v11 Cert.InprojReferenceIdeal.Read.val_main_call0_v10 Cert.InprojReferenceIdeal.Read.val_main_call0_v9 Cert.InprojReferenceIdeal.Read.val_main_call0_c_3 Cert.InprojReferenceIdeal.Read.val_main_call0_v8 Cert.InprojReferenceIdeal.Read.val_main_call0_v7 Cert.InprojReferenceIdeal.Read.val_main_call0_c_2 Cert.InprojReferenceIdeal.Read.val_main_call0_v6 Cert.InprojReferenceIdeal.Read.val_main_call0_v5 Cert.InprojReferenceIdeal.Read.val_main_call0_c_1 Cert.InprojReferenceIdeal.Read.val_main_call0_v4 Cert.InprojReferenceIdeal.Read.val_main_call0_v3 Cert.InprojReferenceIdeal.Read.val_main_call0_v2 Cert.InprojReferenceIdeal.Read.val_main_call0_c_0 Cert.InprojReferenceIdeal.Read.val_main_call0_v1 Cert.InprojReferenceIdeal.Read.val_main_call0_c Cert.InprojReferenceIdeal.Read.val_main_call0_v0 Cert.InprojReferenceIdeal.Read.val_main_c Cert.InprojReferenceIdeal.Read.val_main_v100 Cert.InprojReferenceIdeal.Read.val_main_v99 Cert.InprojReferenceIdeal.Read.val_main_v98 Cert.InprojReferenceIdeal.Read.val_main_v97 Cert.InprojReferenceIdeal.Read.val_main_v96 Cert.InprojReferenceIdeal.Read.val_main_v95
  rfl

theorem U_v61 : upto (hostOps0 ++ (hostOps0_1 ++ (hostOps0_2 ++ (hostOps0_3 ++ (hostOps0_4 ++ (hostOps0_5 ++ (hostOps0_6 ++ []))))))) (fun b => m (c, b)) 101 (Proc.tc.devRef main_v61) = hKron fs := by
  after_reads_simp
  simp only [StableHlo.TRef.ofBuf_toBuf, of_v45, to_v45, of_c, to_c, of_v46, to_v46, of_v57, to_v57, of_v58, to_v58, of_v60, to_v60, of_v59, to_v59, of_v61, to_v61, id]
  unfold hKron hEye fs Cert.InprojReferenceIdeal.Read.val_main_v110 Cert.InprojReferenceIdeal.Read.val_main_v106 Cert.InprojReferenceIdeal.Read.val_main_v105 Cert.InprojReferenceIdeal.Read.val_main_cst_9 Cert.InprojReferenceIdeal.Read.val_main_v104 Cert.InprojReferenceIdeal.Read.val_main_v103 Cert.InprojReferenceIdeal.Read.val_main_cst_8 Cert.InprojReferenceIdeal.Read.val_main_v102 Cert.InprojReferenceIdeal.Read.val_main_v101 Cert.InprojReferenceIdeal.Read.val_main_call0_v14 Cert.InprojReferenceIdeal.Read.val_main_call0_v13 Cert.InprojReferenceIdeal.Read.val_main_call0_v12 Cert.InprojReferenceIdeal.Read.val_main_call0_v11 Cert.InprojReferenceIdeal.Read.val_main_call0_v10 Cert.InprojReferenceIdeal.Read.val_main_call0_v9 Cert.InprojReferenceIdeal.Read.val_main_call0_c_3 Cert.InprojReferenceIdeal.Read.val_main_call0_v8 Cert.InprojReferenceIdeal.Read.val_main_call0_v7 Cert.InprojReferenceIdeal.Read.val_main_call0_c_2 Cert.InprojReferenceIdeal.Read.val_main_call0_v6 Cert.InprojReferenceIdeal.Read.val_main_call0_v5 Cert.InprojReferenceIdeal.Read.val_main_call0_c_1 Cert.InprojReferenceIdeal.Read.val_main_call0_v4 Cert.InprojReferenceIdeal.Read.val_main_call0_v3 Cert.InprojReferenceIdeal.Read.val_main_call0_v2 Cert.InprojReferenceIdeal.Read.val_main_call0_c_0 Cert.InprojReferenceIdeal.Read.val_main_call0_v1 Cert.InprojReferenceIdeal.Read.val_main_call0_c Cert.InprojReferenceIdeal.Read.val_main_call0_v0 Cert.InprojReferenceIdeal.Read.val_main_c Cert.InprojReferenceIdeal.Read.val_main_v100 Cert.InprojReferenceIdeal.Read.val_main_v99 Cert.InprojReferenceIdeal.Read.val_main_v98 Cert.InprojReferenceIdeal.Read.val_main_v97 Cert.InprojReferenceIdeal.Read.val_main_v96 Cert.InprojReferenceIdeal.Read.val_main_v95
  rfl

theorem V_v63 : V m c main_v63 = hBD := by
  unfold_abbrev_sides
  show StableHlo.after (hostOps0 ++ (hostOps0_1 ++ (hostOps0_2 ++ (hostOps0_3 ++ (hostOps0_4 ++ (hostOps0_5 ++ (hostOps0_6 ++ []))))))) _ _ = _
  after_reads_simp
  exact hcat _ _ (U_v59 m c) (U_v61 m c)
end

end Cert.Ip

end
-- ==== Proof.Inproj.Ker.lean ====
module

public import proofs.«01_k».proof.Proof.Gen.InprojIdeal.Value
public import proofs.«01_k».proof.Proof.Memkv.Final
public import Idealize.ShloMosaic.Lib.Pointwise
public import Idealize.ShloMosaic.Lib.MatmulPlain
public import Idealize.ShloMosaic.Lib.KernelVsHost

@[expose] public section

set_option maxRecDepth 16384

noncomputable section

namespace Cert.Ip

open Idealize.ShloMosaic Idealize.ShloMosaic.TcCoe Idealize.SL.Sem Cert.InprojIdeal Cert.InprojIdeal.Gen
open Cert.Mk (nrm sel_word)

/-! ## One block of the kernel -/

theorem dot_z : dot_S1024x1024_S1024x1536_S1024x1536_1_0_0_1_n_n = DotDims.plain 1024 1024 1536 := rfl
theorem dot_f : dot_S1024x256_S256x512_S1024x512_1_0_0_1_n_n = DotDims.plain 1024 256 512 := rfl

theorem z_apply (i : grid0.Coords) (n : ℕ) (hn : (i 1).val = n) (hn' : n < 20) (v1 v3 : Vec Ideal S1x1024x1024 .f32) (v6 : Vec Ideal S1x1024 .f32)
    (v21 : FVec Ideal S1024x1536 .bf16) (r : Fin 1024) (j : Fin 1536) :
    k0_pay3 (F := Ideal) i v1 v3 v6 v21 (ix2 r j)
      = ∑ k : Fin 1024, nrm (fun k => if n < 4 then v1 (ix3 (0 : Fin 1) r k) else v3 (ix3 (0 : Fin 1) r k)) (fun k => v6 (ix2 (0 : Fin 1) k)) k * v21 (ix2 k j) := by
  unfold k0_pay3
  rw [dot_z, hn]
  simp only [sel_word n hn']
  by_cases h : n < 4
  · simp only [h, if_true]
    pointwise
    rfl
  · simp only [h, if_false]
    pointwise
    rfl

/-- The lanes of the first half of a rotated pair. -/
theorem pay6_apply (r : Fin 1024) (l : Fin 128) : k0_pay6 (ix2 r l) = if l.val % 64 < 8 then 1#1 else 0#1 := by
  unfold k0_pay6
  pointwise
  revert l
  decide +kernel

/-- The rotation of two heads side by side. -/
def rope2 (z c s : FVec Ideal S1024x128 .f32) : FVec Ideal S1024x128 .f32 :=
  addf (mulf z c) (mulf (select k0_pay6 (dynamicRotate 1 120#32 none z rotates_S1024x128_d1) (dynamicRotate 1 8#32 none z rotates_S1024x128_d1)) s)

theorem rot_apply (z : FVec Ideal S1024x128 .f32) (sb : BitVec 32) (n : ℕ) (hn : sb.toNat = n) (h128 : n < 128) (r : Fin 1024) (l : Fin 128) :
    dynamicRotate 1 sb none z rotates_S1024x128_d1 (ix2 r l) = z (ix2 r (⟨(l.val + (128 - n)) % 128, Nat.mod_lt _ (by decide)⟩ : Fin 128)) := by
  refine dynamicRotate_apply (1 : Fin 2) sb z rotates_S1024x128_d1 _ _ fun b => ?_
  match b with
  | ⟨0, _⟩ => rfl
  | ⟨1, _⟩ =>
    show (l.val + (128 - n)) % 128 = (l.val + 128 - sb.toNat % 128) % 128
    rw [hn, Nat.mod_eq_of_lt h128]
    congr 1
    omega

theorem rope2_apply (z c s : FVec Ideal S1024x128 .f32) (r : Fin 1024) (l : Fin 128) :
    rope2 z c s (ix2 r l) = z (ix2 r l) * c (ix2 r l)
      + (if l.val % 64 < 8 then z (ix2 r (⟨(l.val + 8) % 128, Nat.mod_lt _ (by decide)⟩ : Fin 128)) else z (ix2 r (⟨(l.val + 120) % 128, Nat.mod_lt _ (by decide)⟩ : Fin 128))) * s (ix2 r l) := by
  unfold rope2
  have e : select k0_pay6 (dynamicRotate 1 120#32 none z rotates_S1024x128_d1) (dynamicRotate 1 8#32 none z rotates_S1024x128_d1) (ix2 r l)
    = (if l.val % 64 < 8 then z (ix2 r (⟨(l.val + 8) % 128, Nat.mod_lt _ (by decide)⟩ : Fin 128)) else z (ix2 r (⟨(l.val + 120) % 128, Nat.mod_lt _ (by decide)⟩ : Fin 128))) := by
    show (if k0_pay6 (ix2 r l) = 1#1 then _ else _) = _
    rw [pay6_apply, rot_apply z 120#32 120 rfl (by decide), rot_apply z 8#32 8 rfl (by decide)]
    by_cases h : l.val % 64 < 8 <;> simp [h]
  exact congrArg (fun p : EReal => z (ix2 r l) * c (ix2 r l) + p * s (ix2 r l)) e

/-- Two heads of the projection. -/
def two (z : FVec Ideal S1024x1536 .f32) (o : ℕ) (h : S1024x1536.Slices ![0, o] S1024x128) : FVec Ideal S1024x128 .f32 := extractStridedSlice S1024x128 ![0, o] z h

theorem two_apply (z : FVec Ideal S1024x1536 .f32) (o : ℕ) (h : S1024x1536.Slices ![0, o] S1024x128) (r : Fin 1024) (l : Fin 128) (j : Fin 1536) (hj : j.val = o + l.val) :
    two z o h (ix2 r l) = z (ix2 r j) := by
  unfold two
  exact extractStridedSlice_apply ![0, o] z h (ix2 r l) (ix2 r j) (by intro a; match a with | ⟨0, _⟩ => show r.val = 0 + r.val; omega | ⟨1, _⟩ => exact hj)

theorem q_eq (z : FVec Ideal S1024x1536 .f32) (c s : FVec Ideal S1024x128 .f32) :
    k0_pay11 (F := Ideal) z c s k0_pay6 (two z 0 slices_S1024x1536_o0_0_S1024x128) (dynamicRotate 1 120#32 none (two z 0 slices_S1024x1536_o0_0_S1024x128) rotates_S1024x128_d1) 8#32
      = shapeCast S1x1024x512 (truncf .bf16 (concatenate S1024x512 1 [⟨S1024x128, rope2 (two z 0 slices_S1024x1536_o0_0_S1024x128) c s⟩,
          ⟨S1024x128, rope2 (two z 128 slices_S1024x1536_o0_128_S1024x128) c s⟩, ⟨S1024x128, rope2 (two z 256 slices_S1024x1536_o0_256_S1024x128) c s⟩,
          ⟨S1024x128, rope2 (two z 384 slices_S1024x1536_o0_384_S1024x128) c s⟩] concatenates_S1024x128_S1024x128_S1024x128_S1024x128_S1024x512_d1) bitsLt_bf16_f32 : FVec Ideal S1024x512 .bf16)
          shapeCasts_S1024x512_S1x1024x512 := rfl

theorem kv_eq (z : FVec Ideal S1024x1536 .f32) (c s : FVec Ideal S1024x128 .f32) :
    k0_pay1 (F := Ideal) (k0_pay9 z c s k0_pay6) (k0_pay10 z c s k0_pay6) (k0_pay12 z)
      = shapeCast S1x1024x512 (truncf .bf16 (concatenate S1024x512 1 [⟨S1024x128, rope2 (two z 512 slices_S1024x1536_o0_512_S1024x128) c s⟩,
          ⟨S1024x128, rope2 (two z 640 slices_S1024x1536_o0_640_S1024x128) c s⟩,
          ⟨S1024x256, extractStridedSlice S1024x256 ![0, 768] z slices_S1024x1536_o0_768_S1024x256⟩] concatenates_S1024x128_S1024x128_S1024x256_S1024x512_d1) bitsLt_bf16_f32 : FVec Ideal S1024x512 .bf16)
          shapeCasts_S1024x512_S1x1024x512 := rfl

/-- A lane of a rotated pair of heads, `o` the pair's first column. -/
def ropeL (z c s : ℕ → EReal) (o l : ℕ) : EReal :=
  z (o + l) * c l + (if l % 64 < 8 then z (o + (l + 8) % 128) else z (o + (l + 120) % 128)) * s l

/-- The rotary embedding of a head of 64 lanes. -/
def rope (x : ℕ → EReal) (c s : ℕ → EReal) (d : ℕ) : EReal :=
  if d < 8 then x d * c d - x (d + 8) * s d else if d < 16 then x d * c (d - 8) + x (d - 8) * s (d - 8) else x d

/-- The two tables over the lanes of a pair of heads. -/
def tabC (c : ℕ → EReal) (l : ℕ) : EReal := if l % 64 < 8 then c (l % 64) else if l % 64 < 16 then c (l % 64 - 8) else 1
def tabS (s : ℕ → EReal) (l : ℕ) : EReal := if l % 64 < 8 then -s (l % 64) else if l % 64 < 16 then s (l % 64 - 8) else 0

theorem ropeL_rope (z c s : ℕ → EReal) (o l : ℕ) (hl : l < 128) :
    ropeL z (tabC c) (tabS s) o l = rope (fun d => z (o + l / 64 * 64 + d)) c s (l % 64) := by
  unfold ropeL rope tabC tabS
  have e0 : o + l = o + l / 64 * 64 + l % 64 := by omega
  by_cases h8 : l % 64 < 8
  · simp only [h8, if_true]
    have e1 : o + (l + 8) % 128 = o + l / 64 * 64 + (l % 64 + 8) := by omega
    rw [← e0, ← e1, sub_eq_add_neg, mul_neg]
  · simp only [h8, if_false]
    by_cases h16 : l % 64 < 16
    · simp only [h16, if_true]
      have e1 : o + (l + 120) % 128 = o + l / 64 * 64 + (l % 64 - 8) := by omega
      rw [← e0, ← e1]
    · simp only [h16, if_false]
      rw [← e0, mul_one, mul_zero, add_zero]

section
variable (z : FVec Ideal S1024x1536 .f32) (c s : FVec Ideal S1024x128 .f32) (r : Fin 1024) (zz cc ss : ℕ → EReal)
  (hz : ∀ j : Fin 1536, z (ix2 r j) = zz j.val) (hc : ∀ l : Fin 128, c (ix2 r l) = tabC cc l.val) (hs : ∀ l : Fin 128, s (ix2 r l) = tabS ss l.val)
include hz hc hs

theorem rope2_two (o : ℕ) (ho : o + 128 ≤ 1536) (h : S1024x1536.Slices ![0, o] S1024x128) (l : Fin 128) :
    rope2 (two z o h) c s (ix2 r l) = rope (fun d => zz (o + l.val / 64 * 64 + d)) cc ss (l.val % 64) := by
  rw [rope2_apply, two_apply z o h r l ⟨o + l.val, by omega⟩ rfl, two_apply z o h r _ ⟨o + (l.val + 8) % 128, by omega⟩ rfl,
    two_apply z o h r _ ⟨o + (l.val + 120) % 128, by omega⟩ rfl, hz, hz, hz, hc, hs]
  exact ropeL_rope zz cc ss o l.val l.isLt

omit hz hc hs in
theorem rope_at (x : ℕ → EReal) (a b d e : ℕ) (h1 : a = b) (h2 : d = e) :
    rope (fun d => x (a + d)) cc ss d = rope (fun d => x (b + d)) cc ss e := by rw [h1, h2]

theorem q_apply (L : Fin 512) :
    k0_pay11 (F := Ideal) z c s k0_pay6 (two z 0 slices_S1024x1536_o0_0_S1024x128) (dynamicRotate 1 120#32 none (two z 0 slices_S1024x1536_o0_0_S1024x128) rotates_S1024x128_d1) 8#32 (ix3 (0 : Fin 1) r L)
      = rope (fun d => zz (L.val / 64 * 64 + d)) cc ss (L.val % 64) := by
  rw [q_eq]
  pointwise
  have hL := L.isLt
  by_cases a : L.val < 128
  · rw [dif_pos a, rope2_two z c s r zz cc ss hz hc hs 0 (by omega)]
    exact rope_at cc ss zz _ _ _ _ (by simp only; omega) (by simp only)
  rw [dif_neg a]
  by_cases b : L.val - 128 < 128
  · rw [dif_pos b, rope2_two z c s r zz cc ss hz hc hs 128 (by omega)]
    exact rope_at cc ss zz _ _ _ _ (by simp only; omega) (by simp only; omega)
  rw [dif_neg b]
  by_cases e : L.val - 128 - 128 < 128
  · rw [dif_pos e, rope2_two z c s r zz cc ss hz hc hs 256 (by omega)]
    exact rope_at cc ss zz _ _ _ _ (by simp only; omega) (by simp only; omega)
  rw [dif_neg e, rope2_two z c s r zz cc ss hz hc hs 384 (by omega)]
  exact rope_at cc ss zz _ _ _ _ (by simp only; omega) (by simp only; omega)

theorem kv_apply_k (L : Fin 512) (h : L.val < 256) :
    k0_pay1 (F := Ideal) (k0_pay9 z c s k0_pay6) (k0_pay10 z c s k0_pay6) (k0_pay12 z) (ix3 (0 : Fin 1) r L)
      = rope (fun d => zz (512 + L.val / 64 * 64 + d)) cc ss (L.val % 64) := by
  rw [kv_eq]
  pointwise
  by_cases a : L.val < 128
  · rw [dif_pos a, rope2_two z c s r zz cc ss hz hc hs 512 (by omega)]
  rw [dif_neg a]
  have b : L.val - 128 < 128 := by omega
  rw [dif_pos b, rope2_two z c s r zz cc ss hz hc hs 640 (by omega)]
  exact rope_at cc ss zz _ _ _ _ (by simp only; omega) (by simp only; omega)

theorem kv_apply_v (L : Fin 512) (h : ¬ L.val < 256) :
    k0_pay1 (F := Ideal) (k0_pay9 z c s k0_pay6) (k0_pay10 z c s k0_pay6) (k0_pay12 z) (ix3 (0 : Fin 1) r L) = zz (512 + L.val) := by
  rw [kv_eq]
  pointwise
  rw [dif_neg (by omega), dif_neg (by omega), hz]
  exact congrArg zz (by simp only; omega)
end

theorem ab_apply (z : FVec Ideal S1024x1536 .f32) (d : FVec Ideal S256x512 .bf16) (r : Fin 1024) (L : Fin 1024) (zz : ℕ → EReal)
    (hz : ∀ j : Fin 1536, z (ix2 r j) = zz j.val) (dd : ℕ → ℕ → EReal) (hd : ∀ (k : Fin 256) (q : Fin 512), d (ix2 k q) = dd k.val q.val) :
    k0_pay2 (F := Ideal) z d d (ix3 (0 : Fin 1) r L) = ∑ k : Fin 256, zz (1024 + 256 * (L.val / 256 % 2) + k.val) * dd k.val (256 * (L.val / 512) + L.val % 256) := by
  unfold k0_pay2
  rw [dot_f]
  pointwise
  simp only [hz, hd]
  have hL := L.isLt
  by_cases a : L.val < 256
  · rw [dif_pos a]
    exact Finset.sum_congr rfl fun k _ => congrArg₂ (fun a b : EReal => a * b) (congrArg zz (by omega)) (congrArg (dd k.val) (by omega))
  rw [dif_neg a]
  by_cases b : L.val - 256 < 256
  · rw [dif_pos b]
    exact Finset.sum_congr rfl fun k _ => congrArg₂ (fun a b : EReal => a * b) (congrArg zz (by omega)) (congrArg (dd k.val) (by omega))
  rw [dif_neg b]
  by_cases e : L.val - 256 - 256 < 256
  · rw [dif_pos e]
    exact Finset.sum_congr rfl fun k _ => congrArg₂ (fun a b : EReal => a * b) (congrArg zz (by omega)) (congrArg (dd k.val) (by omega))
  rw [dif_neg e]
  exact Finset.sum_congr rfl fun k _ => congrArg₂ (fun a b : EReal => a * b) (congrArg zz (by omega)) (congrArg (dd k.val) (by omega))

end Cert.Ip

end
-- ==== Proof.Inproj.HostAt.lean ====
module

public import proofs.«01_k».proof.Proof.Inproj.Host
public import proofs.«01_k».proof.Proof.Inproj.Ker

@[expose] public section

set_option maxRecDepth 16384

noncomputable section

namespace Cert.Ip

open Idealize.ShloMosaic Idealize.ShloMosaic.TcCoe Idealize.ShloMosaic.StableHlo Cert.InprojIdeal Cert.InprojIdeal.Gen

/-! ## The operands at an index -/

/-- The projection's column that column `j` of the kernel's weight is. -/
def col (j : ℕ) : ℕ :=
  if j < 640 then j else if j < 768 then 512 + (j - 640 + 64) % 128 else if j < 896 then j - 128 else if j < 1024 then 640 + (j - 896 + 64) % 128 else j - 256

theorem col_lt (j : Fin 1536) : col j.val < 1280 := by
  have := j.isLt
  unfold col
  split_ifs <;> omega

theorem hSwap_apply (x : Vec Ideal S1024x128 .f32) (k : Fin 1024) (l : Fin 128) :
    hSwap x (ix2 k l) = x (ix2 k (⟨(l.val + 64) % 128, Nat.mod_lt _ (by omega)⟩ : Fin 128)) := by
  have := l.isLt
  unfold hSwap
  pointwise
  split_ifs <;> (congr 1; funext a; match a with
    | ⟨0, _⟩ => (apply Fin.ext; first | rfl | (simp <;> omega))
    | ⟨1, _⟩ => (apply Fin.ext; simp [ix2] <;> omega))

theorem hW_apply (w : Vec Ideal S1024x1280 .f32) (k : Fin 1024) (j : Fin 1536) :
    hW w (ix2 k j) = w (ix2 k (⟨col j.val, col_lt j⟩ : Fin 1280)) := by
  have := j.isLt
  unfold hW
  pointwise
  simp only [hSwap_apply]
  pointwise
  have e : ∀ (a b : ℕ) (ha : a < 1280) (hb : b < 1280), a = b → w (ix2 k (⟨a, ha⟩ : Fin 1280)) = w (ix2 k (⟨b, hb⟩ : Fin 1280)) := fun a b ha hb h => by subst h; rfl
  split_ifs <;> (apply e; unfold col; split_ifs <;> omega)

theorem hTab_apply (x : Vec Ideal S4096x64 .f32) (r : Fin 4096) (l : Fin 128) :
    hTab x (ix2 r l) = x (ix2 r (⟨l.val % 64, Nat.mod_lt _ (by omega)⟩ : Fin 64)) := by
  unfold hTab
  pointwise

/-- A row of eight angles' values, for every position number. -/
def ext8 (x : Vec Ideal S4096x8 .f32) (r : Fin 4096) (d : ℕ) : EReal := if h : d < 8 then x (ix2 r (⟨d, h⟩ : Fin 8)) else 0

theorem hCos_apply (r : Fin 4096) (l : Fin 128) : hTab hCos (ix2 r l) = tabC (ext8 rc r) l.val := by
  rw [hTab_apply]
  unfold hCos tabC
  pointwise
  unfold ext8
  by_cases h : l.val % 64 < 8
  · simp only [h, dif_pos, if_true]
  · by_cases h' : l.val % 64 < 16
    · have h2 : l.val % 64 - 8 < 8 := by omega
      simp only [h, h', h2, dif_pos, dif_neg, if_true, if_false, not_false_eq_true]
    · have h2 : ¬ l.val % 64 - 8 < 8 := by omega
      simp only [h, h', h2, dif_neg, if_false, not_false_eq_true]

theorem hSin_apply (r : Fin 4096) (l : Fin 128) : hTab hSin (ix2 r l) = tabS (ext8 rs r) l.val := by
  rw [hTab_apply]
  unfold hSin tabS
  pointwise
  unfold ext8
  by_cases h : l.val % 64 < 8
  · simp only [h, dif_pos, if_true]
  · by_cases h' : l.val % 64 < 16
    · have h2 : l.val % 64 - 8 < 8 := by omega
      simp only [h, h', h2, dif_pos, dif_neg, if_true, if_false, not_false_eq_true]
    · have h2 : ¬ l.val % 64 - 8 < 8 := by omega
      simp only [h, h', h2, dif_neg, if_false, not_false_eq_true]

theorem hEye_apply (a b : Fin 4) : hEye (ix2 a b) = if a = b then (1 : EReal) else 0 := by
  unfold hEye
  pointwise
  have e0 : (FloatOps.uitofp .f32 (0#1) : Ideal .f32) = (0 : EReal) := by simp [FloatOps.uitofp]
  have e1 : (FloatOps.uitofp .f32 (1#1) : Ideal .f32) = (1 : EReal) := by simp [FloatOps.uitofp]
  fin_cases a <;> fin_cases b <;> first | exact e0 | exact e1

theorem hKron_apply (x : Vec Ideal S64x64 .f32) (k q : Fin 256) :
    hKron x (ix2 k q) = (if k.val / 64 = q.val / 64 then (1 : EReal) else 0) * x (ix2 (⟨k.val % 64, Nat.mod_lt _ (by omega)⟩ : Fin 64) (⟨q.val % 64, Nat.mod_lt _ (by omega)⟩ : Fin 64)) := by
  unfold hKron
  pointwise
  refine congrArg (fun a : EReal => a * _) ((hEye_apply _ _).trans ?_)
  simp only [Fin.mk.injEq]

theorem hBD_apply (k : Fin 256) (q : Fin 512) :
    hBD (ix2 k q) = (if k.val / 64 = q.val % 256 / 64 then (1 : EReal) else 0)
      * (if q.val < 256 then fc else fs) (ix2 (⟨k.val % 64, Nat.mod_lt _ (by omega)⟩ : Fin 64) (⟨q.val % 64, Nat.mod_lt _ (by omega)⟩ : Fin 64)) := by
  have := q.isLt
  unfold hBD
  pointwise
  simp only [hKron_apply]
  have e : ∀ (x : Vec Ideal S64x64 .f32) (a b : ℕ) (ha : a < 64) (hb : b < 64) (k : Fin 64), a = b → x (ix2 k (⟨a, ha⟩ : Fin 64)) = x (ix2 k (⟨b, hb⟩ : Fin 64)) := fun x a b ha hb k h => by subst h; rfl
  by_cases h : q.val < 256
  · rw [dif_pos h, if_pos h, show q.val % 256 = q.val by omega]
  · rw [dif_neg h, if_neg h, show q.val % 256 = q.val - 256 by omega]
    exact congrArg (fun a : EReal => _ * a) (e _ _ _ _ _ _ (by omega))

end Cert.Ip

end
-- ==== Proof.Inproj.Blocks.lean ====
module

public import proofs.«01_k».proof.Proof.Inproj.HostAt

@[expose] public section

set_option maxRecDepth 16384

noncomputable section

namespace Cert.Ip

open Idealize.ShloMosaic Idealize.ShloMosaic.TcCoe Idealize.SL.Sem Cert.InprojIdeal Cert.InprojIdeal.Gen Cert.Mk

/-! ## The results in words -/

/-- The row of token `R` of sequence `b`. -/
def row (x0 : Vec Ideal S4x4096x1024 .f32) (x1 : Vec Ideal S16x4096x1024 .f32) (b : Fin 20) (R : Fin 4096) (k : Fin 1024) : EReal :=
  if h : b.val < 4 then x0 (ix3 (⟨b.val, h⟩ : Fin 4) R k) else x1 (ix3 (⟨b.val - 4, by omega⟩ : Fin 16) R k)

/-- Column `j` of the projection of that row. -/
def proj (x0 : Vec Ideal S4x4096x1024 .f32) (x1 : Vec Ideal S16x4096x1024 .f32) (g : Vec Ideal S1024 .f32) (w : Vec Ideal S1024x1280 .f32)
    (b : Fin 20) (R : Fin 4096) (j : ℕ) : EReal :=
  ∑ k : Fin 1024, nrm (row x0 x1 b R) (fun k => g (ix1 k)) k * (if h : j < 1280 then w (ix2 k (⟨j, h⟩ : Fin 1280)) else 0)

/-- A table of the transform at any two numbers, read modulo 64. -/
def ft (x : Vec Ideal S64x64 .f32) (a b : ℕ) : EReal :=
  x (ix2 (⟨a % 64, Nat.mod_lt _ (by omega)⟩ : Fin 64) (⟨b % 64, Nat.mod_lt _ (by omega)⟩ : Fin 64))

/-- A lane of the queries. -/
def qE (Z : ℕ → EReal) (R : Fin 4096) (L : ℕ) : EReal := rope (fun d => Z (L / 64 * 64 + d)) (ext8 rc R) (ext8 rs R) (L % 64)

/-- A lane of the keys and values: the two key heads, the two again in the other order, the two value heads, those in the other order. -/
def kvE (Z : ℕ → EReal) (R : Fin 4096) (L : ℕ) : EReal :=
  if L < 128 then rope (fun d => Z (512 + L / 64 * 64 + d)) (ext8 rc R) (ext8 rs R) (L % 64)
  else if L < 256 then rope (fun d => Z (512 + (3 - L / 64) * 64 + d)) (ext8 rc R) (ext8 rs R) (L % 64)
  else if L < 384 then Z (640 + (L / 64 - 4) * 64 + L % 64)
  else Z (640 + (7 - L / 64) * 64 + L % 64)

/-- A lane of the transform over a group's channels: the cosine sums, then the sine sums. -/
def abE (Z : ℕ → EReal) (L : ℕ) : EReal :=
  ∑ k : Fin 64, Z (768 + L % 512 / 64 * 64 + k.val) * ft (if L < 512 then fc else fs) k.val (L % 64)

theorem rope_congr (x y c s : ℕ → EReal) (d : ℕ) (hd : d < 64) (h : ∀ d, d < 64 → x d = y d) : rope x c s d = rope y c s d := by
  unfold rope
  by_cases h8 : d < 8
  · simp only [h8, if_true]; rw [h d hd, h (d + 8) (by omega)]
  · simp only [h8, if_false]
    rw [h d hd, h (d - 8) (by omega)]

theorem sum_group (f h : ℕ → EReal) (g : ℕ) (hg : g < 4) :
    ∑ k : Fin 256, f k.val * ((if k.val / 64 = g then (1 : EReal) else 0) * h k.val) = ∑ c : Fin 64, f (64 * g + c.val) * h (64 * g + c.val) := by
  have e : ∑ k : Fin (4 * 64), f k.val * ((if k.val / 64 = g then (1 : EReal) else 0) * h k.val) = ∑ c : Fin 64, f (64 * g + c.val) * h (64 * g + c.val) := by
    rw [← finProdFinEquiv.sum_comp (fun k : Fin (4 * 64) => f k.val * ((if k.val / 64 = g then (1 : EReal) else 0) * h k.val)), Fintype.sum_prod_type,
      Finset.sum_eq_single (⟨g, hg⟩ : Fin 4)]
    · refine Finset.sum_congr rfl fun c _ => ?_
      have hv : (finProdFinEquiv ((⟨g, hg⟩ : Fin 4), c)).val = 64 * g + c.val := by
        show c.val + 64 * g = _; omega
      have := c.isLt
      rw [hv, if_pos (by omega), one_mul]
    · intro a _ ha
      refine Finset.sum_eq_zero fun c _ => ?_
      have hv : (finProdFinEquiv (a, c)).val = 64 * a.val + c.val := by
        show c.val + 64 * a.val = _; omega
      have := c.isLt
      have hne : a.val ≠ g := fun h => ha (Fin.ext h)
      rw [hv, if_neg (by omega), zero_mul, mul_zero]
    · intro h; exact absurd (Finset.mem_univ _) h
  exact e

/-! ## The blocks a grid point sees -/

theorem idx_facts : ∀ t : Fin cfg0.N,
    (grid0.coords t 1).val = t.val % 20
    ∧ (win0_0.index t (0 : Fin 3) = min (t.val % 20) 3 ∧ win0_0.index t (1 : Fin 3) = t.val / 20 ∧ win0_0.index t (2 : Fin 3) = 0)
    ∧ (win0_1.index t (0 : Fin 3) = t.val % 20 - 4 ∧ win0_1.index t (1 : Fin 3) = t.val / 20 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val / 20 ∧ win0_4.index t (1 : Fin 2) = 0)
    ∧ (win0_5.index t (0 : Fin 2) = t.val / 20 ∧ win0_5.index t (1 : Fin 2) = 0)
    ∧ (win0_6.index t (0 : Fin 2) = 0 ∧ win0_6.index t (1 : Fin 2) = 0)
    ∧ (win0_7.index t (0 : Fin 3) = t.val % 20 ∧ win0_7.index t (1 : Fin 3) = t.val / 20 ∧ win0_7.index t (2 : Fin 3) = 0)
    ∧ (win0_8.index t (0 : Fin 3) = t.val % 20 ∧ win0_8.index t (1 : Fin 3) = t.val / 20 ∧ win0_8.index t (2 : Fin 3) = 0)
    ∧ (win0_9.index t (0 : Fin 3) = t.val % 20 ∧ win0_9.index t (1 : Fin 3) = t.val / 20 ∧ win0_9.index t (2 : Fin 3) = 0) :=
  (by decide +kernel : ∀ t : Fin grid0.N, _)

theorem z3 : (![0, 0, 0] : Fin 3 → ℕ) = fun _ => 0 := by funext a; fin_cases a <;> rfl
theorem z2 : (![0, 0] : Fin 2 → ℕ) = fun _ => 0 := by funext a; fin_cases a <;> rfl

section
variable (i : grid0.Coords) (x0 x1 : Vec Ideal S1x1024x1024 .f32) (x2 : Vec Ideal S1x1024 .f32) (x3 : Vec Ideal S1024x1536 .bf16)
  (x4 x5 : Vec Ideal S1024x128 .f32) (x6 : Vec Ideal S256x512 .bf16)

theorem p4 (x : Vec Ideal S1024x128 .f32) : k0_pay4 (F := Ideal) x = x := shapeCast_self _ _
theorem p5 (x : Vec Ideal S1024x128 .f32) : k0_pay5 (F := Ideal) x = x := shapeCast_self _ _

theorem canon7 : out0_7 i x0 x1 x2 x3 x4 x5 x6
    = k0_pay11 (F := Ideal) (k0_pay3 i x0 x1 x2 x3) x4 x5 k0_pay6 (two (k0_pay3 i x0 x1 x2 x3) 0 slices_S1024x1536_o0_0_S1024x128)
        (dynamicRotate 1 120#32 none (two (k0_pay3 i x0 x1 x2 x3) 0 slices_S1024x1536_o0_0_S1024x128) rotates_S1024x128_d1) 8#32 := by
  unfold out0_7 k0_pay16 k0_pay15 k0_pay14 k0_pay13
  rw [View.canon_unit_zero z3, View.ld_unit_zero z3, View.ld_unit_zero z3, View.ld_unit_zero z2, View.ld_unit_zero z2, View.ld_unit_zero z2, View.ld_unit_zero z2, p4, p5]
  rfl

theorem canon8 : out0_8 i x0 x1 x2 x3 x4 x5 x6
    = k0_pay1 (F := Ideal) (k0_pay9 (k0_pay3 i x0 x1 x2 x3) x4 x5 k0_pay6) (k0_pay10 (k0_pay3 i x0 x1 x2 x3) x4 x5 k0_pay6) (k0_pay12 (k0_pay3 i x0 x1 x2 x3)) := by
  unfold out0_8 k0_pay16 k0_pay15 k0_pay14 k0_pay13
  rw [View.canon_unit_zero z3, View.ld_unit_zero z3, View.ld_unit_zero z3, View.ld_unit_zero z2, View.ld_unit_zero z2, View.ld_unit_zero z2, View.ld_unit_zero z2, p4, p5]

theorem canon9 : out0_9 i x0 x1 x2 x3 x4 x5 x6 = k0_pay2 (F := Ideal) (k0_pay3 i x0 x1 x2 x3) x6 x6 := by
  unfold out0_9 k0_pay13
  rw [View.canon_unit_zero z3, View.ld_unit_zero z3, View.ld_unit_zero z3, View.ld_unit_zero z2, View.ld_unit_zero z2, View.ld_unit_zero z2]
end

section
variable (m : (ℓ : Loc nD τ sig) → Buf (Elt Ideal) ℓ) (c : Dev nD) (b : Fin 20) (R : Fin 4096)

/-- The grid point of the row tile that holds row `R` of sequence `b`. -/
def pt (b : Fin 20) (R : Fin 4096) : Fin cfg0.N := ⟨20 * (R.val / 1024) + b.val, by show _ < 80; omega⟩
/-- The row in the tile. -/
def lr (R : Fin 4096) : Fin 1024 := ⟨R.val % 1024, Nat.mod_lt _ (by omega)⟩

theorem pt_mod : (pt b R).val % 20 = b.val := by show (20 * (R.val / 1024) + b.val) % 20 = _; omega
theorem pt_div : (pt b R).val / 20 = R.val / 1024 := by show (20 * (R.val / 1024) + b.val) / 20 = _; omega

theorem emb7 (l : Fin 512) : ((cfg0.win 7).blk (pt b R)).view.emb (ix3 (0 : Fin 1) (lr R) l : S1x1024x512.Idx)
    = (ix3 b R l : S20x4096x512.Idx) := by
  have e : win0_7.index (pt b R) (0 : Fin 3) = (pt b R).val % 20 ∧ win0_7.index (pt b R) (1 : Fin 3) = (pt b R).val / 20 ∧ win0_7.index (pt b R) (2 : Fin 3) = 0 := by
    have := idx_facts (pt b R); tauto
  obtain ⟨e0, e1, e2⟩ := e
  rw [pt_mod] at e0
  rw [pt_div] at e1
  have hl : (lr R).val = R.val % 1024 := rfl
  funext a; apply Fin.ext
  match a with
  | ⟨0, _⟩ => show win0_7.index (pt b R) (0 : Fin 3) * 1 + 1 * 0 = b.val; omega
  | ⟨1, _⟩ => show win0_7.index (pt b R) (1 : Fin 3) * 1024 + 1 * (lr R).val = R.val; omega
  | ⟨2, _⟩ => show win0_7.index (pt b R) (2 : Fin 3) * 512 + 1 * l.val = l.val; omega

theorem emb8 (l : Fin 512) : ((cfg0.win 8).blk (pt b R)).view.emb (ix3 (0 : Fin 1) (lr R) l : S1x1024x512.Idx)
    = (ix3 b R l : S20x4096x512.Idx) := by
  have e : win0_8.index (pt b R) (0 : Fin 3) = (pt b R).val % 20 ∧ win0_8.index (pt b R) (1 : Fin 3) = (pt b R).val / 20 ∧ win0_8.index (pt b R) (2 : Fin 3) = 0 := by
    have := idx_facts (pt b R); tauto
  obtain ⟨e0, e1, e2⟩ := e
  rw [pt_mod] at e0
  rw [pt_div] at e1
  have hl : (lr R).val = R.val % 1024 := rfl
  funext a; apply Fin.ext
  match a with
  | ⟨0, _⟩ => show win0_8.index (pt b R) (0 : Fin 3) * 1 + 1 * 0 = b.val; omega
  | ⟨1, _⟩ => show win0_8.index (pt b R) (1 : Fin 3) * 1024 + 1 * (lr R).val = R.val; omega
  | ⟨2, _⟩ => show win0_8.index (pt b R) (2 : Fin 3) * 512 + 1 * l.val = l.val; omega

theorem emb9 (l : Fin 1024) : ((cfg0.win 9).blk (pt b R)).view.emb (ix3 (0 : Fin 1) (lr R) l : S1x1024x1024.Idx)
    = (ix3 b R l : S20x4096x1024.Idx) := by
  have e : win0_9.index (pt b R) (0 : Fin 3) = (pt b R).val % 20 ∧ win0_9.index (pt b R) (1 : Fin 3) = (pt b R).val / 20 ∧ win0_9.index (pt b R) (2 : Fin 3) = 0 := by
    have := idx_facts (pt b R); tauto
  obtain ⟨e0, e1, e2⟩ := e
  rw [pt_mod] at e0
  rw [pt_div] at e1
  have hl : (lr R).val = R.val % 1024 := rfl
  funext a; apply Fin.ext
  match a with
  | ⟨0, _⟩ => show win0_9.index (pt b R) (0 : Fin 3) * 1 + 1 * 0 = b.val; omega
  | ⟨1, _⟩ => show win0_9.index (pt b R) (1 : Fin 3) * 1024 + 1 * (lr R).val = R.val; omega
  | ⟨2, _⟩ => show win0_9.index (pt b R) (2 : Fin 3) * 1024 + 1 * l.val = l.val; omega

theorem iblk0_apply (l : Fin 1024) (h : b.val < 4) : iblk m c 0 (pt b R) (ix3 (0 : Fin 1) (lr R) l : S1x1024x1024.Idx)
    = m ((c.tc : Thread nD τ).loc main_arg0) (ix3 (⟨b.val, h⟩ : Fin 4) R l : S4x4096x1024.Idx) := by
  show V m c main_arg0 (((cfg0.win 0).blk (pt b R)).view.emb _) = _
  rw [V_main_arg0]
  refine congrArg (m ((c.tc : Thread nD τ).loc main_arg0)) ?_
  have e : win0_0.index (pt b R) (0 : Fin 3) = min ((pt b R).val % 20) 3 ∧ win0_0.index (pt b R) (1 : Fin 3) = (pt b R).val / 20 ∧ win0_0.index (pt b R) (2 : Fin 3) = 0 := by
    have := idx_facts (pt b R); tauto
  obtain ⟨e0, e1, e2⟩ := e
  rw [pt_mod] at e0
  rw [pt_div] at e1
  have hl : (lr R).val = R.val % 1024 := rfl
  funext a; apply Fin.ext
  match a with
  | ⟨0, _⟩ => show win0_0.index (pt b R) (0 : Fin 3) * 1 + 1 * 0 = b.val; omega
  | ⟨1, _⟩ => show win0_0.index (pt b R) (1 : Fin 3) * 1024 + 1 * (lr R).val = R.val; omega
  | ⟨2, _⟩ => show win0_0.index (pt b R) (2 : Fin 3) * 1024 + 1 * l.val = l.val; omega

theorem iblk1_apply (l : Fin 1024) (h : ¬ b.val < 4) : iblk m c 1 (pt b R) (ix3 (0 : Fin 1) (lr R) l : S1x1024x1024.Idx)
    = m ((c.tc : Thread nD τ).loc main_arg1) (ix3 (⟨b.val - 4, by omega⟩ : Fin 16) R l : S16x4096x1024.Idx) := by
  show V m c main_arg1 (((cfg0.win 1).blk (pt b R)).view.emb _) = _
  rw [V_main_arg1]
  refine congrArg (m ((c.tc : Thread nD τ).loc main_arg1)) ?_
  have e : win0_1.index (pt b R) (0 : Fin 3) = (pt b R).val % 20 - 4 ∧ win0_1.index (pt b R) (1 : Fin 3) = (pt b R).val / 20 ∧ win0_1.index (pt b R) (2 : Fin 3) = 0 := by
    have := idx_facts (pt b R); tauto
  obtain ⟨e0, e1, e2⟩ := e
  rw [pt_mod] at e0
  rw [pt_div] at e1
  have hl : (lr R).val = R.val % 1024 := rfl
  funext a; apply Fin.ext
  match a with
  | ⟨0, _⟩ => show win0_1.index (pt b R) (0 : Fin 3) * 1 + 1 * 0 = b.val - 4; omega
  | ⟨1, _⟩ => show win0_1.index (pt b R) (1 : Fin 3) * 1024 + 1 * (lr R).val = R.val; omega
  | ⟨2, _⟩ => show win0_1.index (pt b R) (2 : Fin 3) * 1024 + 1 * l.val = l.val; omega

theorem iblk2_apply (l : Fin 1024) : iblk m c 2 (pt b R) (ix2 (0 : Fin 1) l : S1x1024.Idx)
    = m ((c.tc : Thread nD τ).loc main_arg2) (ix1 l : S1024.Idx) := by
  show V m c main_v64 (((cfg0.win 2).blk (pt b R)).view.emb _) = _
  have E : ((cfg0.win 2).blk (pt b R)).view.emb (ix2 (0 : Fin 1) l : S1x1024.Idx) = (ix2 (0 : Fin 1) l : S1x1024.Idx) := by
    have e : win0_2.index (pt b R) (0 : Fin 2) = 0 ∧ win0_2.index (pt b R) (1 : Fin 2) = 0 := by
      have := idx_facts (pt b R); tauto
    obtain ⟨e0, e1⟩ := e
    funext a; apply Fin.ext
    match a with
    | ⟨0, _⟩ => show win0_2.index (pt b R) (0 : Fin 2) * 1 + 1 * 0 = 0; omega
    | ⟨1, _⟩ => show win0_2.index (pt b R) (1 : Fin 2) * 1024 + 1 * l.val = l.val; omega
  rw [E, V_v64]
  pointwise

theorem iblk3_apply (k : Fin 1024) (l : Fin 1536) : iblk m c 3 (pt b R) (ix2 k l : S1024x1536.Idx)
    = m ((c.tc : Thread nD τ).loc main_arg3) (ix2 k (⟨col l.val, col_lt l⟩ : Fin 1280) : S1024x1280.Idx) := by
  show V m c main_v11 (((cfg0.win 3).blk (pt b R)).view.emb _) = _
  have E : ((cfg0.win 3).blk (pt b R)).view.emb (ix2 k l : S1024x1536.Idx) = (ix2 k l : S1024x1536.Idx) := by
    have e : win0_3.index (pt b R) (0 : Fin 2) = 0 ∧ win0_3.index (pt b R) (1 : Fin 2) = 0 := by
      have := idx_facts (pt b R); tauto
    obtain ⟨e0, e1⟩ := e
    funext a; apply Fin.ext
    match a with
    | ⟨0, _⟩ => show win0_3.index (pt b R) (0 : Fin 2) * 1024 + 1 * k.val = k.val; omega
    | ⟨1, _⟩ => show win0_3.index (pt b R) (1 : Fin 2) * 1536 + 1 * l.val = l.val; omega
  rw [E, V_v11]
  exact hW_apply _ k l

theorem iblk6_apply (k : Fin 256) (l : Fin 512) : iblk m c 6 (pt b R) (ix2 k l : S256x512.Idx)
    = (if k.val / 64 = l.val % 256 / 64 then (1 : EReal) else 0) * ft (if l.val < 256 then fc else fs) k.val l.val := by
  show V m c main_v63 (((cfg0.win 6).blk (pt b R)).view.emb _) = _
  have E : ((cfg0.win 6).blk (pt b R)).view.emb (ix2 k l : S256x512.Idx) = (ix2 k l : S256x512.Idx) := by
    have e : win0_6.index (pt b R) (0 : Fin 2) = 0 ∧ win0_6.index (pt b R) (1 : Fin 2) = 0 := by
      have := idx_facts (pt b R); tauto
    obtain ⟨e0, e1⟩ := e
    funext a; apply Fin.ext
    match a with
    | ⟨0, _⟩ => show win0_6.index (pt b R) (0 : Fin 2) * 256 + 1 * k.val = k.val; omega
    | ⟨1, _⟩ => show win0_6.index (pt b R) (1 : Fin 2) * 512 + 1 * l.val = l.val; omega
  rw [E, V_v63]
  exact hBD_apply k l

theorem iblk4_apply (l : Fin 128) : iblk m c 4 (pt b R) (ix2 (lr R) l : S1024x128.Idx) = tabC (ext8 rc R) l.val := by
  show V m c main_v36 (((cfg0.win 4).blk (pt b R)).view.emb _) = _
  have E : ((cfg0.win 4).blk (pt b R)).view.emb (ix2 (lr R) l : S1024x128.Idx) = (ix2 R l : S4096x128.Idx) := by
    have e : win0_4.index (pt b R) (0 : Fin 2) = (pt b R).val / 20 ∧ win0_4.index (pt b R) (1 : Fin 2) = 0 := by
      have := idx_facts (pt b R); tauto
    obtain ⟨e0, e1⟩ := e
    rw [pt_div] at e0
    have hl : (lr R).val = R.val % 1024 := rfl
    funext a; apply Fin.ext
    match a with
    | ⟨0, _⟩ => show win0_4.index (pt b R) (0 : Fin 2) * 1024 + 1 * (lr R).val = R.val; omega
    | ⟨1, _⟩ => show win0_4.index (pt b R) (1 : Fin 2) * 128 + 1 * l.val = l.val; omega
  rw [E, V_v36]
  exact hCos_apply R l

theorem iblk5_apply (l : Fin 128) : iblk m c 5 (pt b R) (ix2 (lr R) l : S1024x128.Idx) = tabS (ext8 rs R) l.val := by
  show V m c main_v39 (((cfg0.win 5).blk (pt b R)).view.emb _) = _
  have E : ((cfg0.win 5).blk (pt b R)).view.emb (ix2 (lr R) l : S1024x128.Idx) = (ix2 R l : S4096x128.Idx) := by
    have e : win0_5.index (pt b R) (0 : Fin 2) = (pt b R).val / 20 ∧ win0_5.index (pt b R) (1 : Fin 2) = 0 := by
      have := idx_facts (pt b R); tauto
    obtain ⟨e0, e1⟩ := e
    rw [pt_div] at e0
    have hl : (lr R).val = R.val % 1024 := rfl
    funext a; apply Fin.ext
    match a with
    | ⟨0, _⟩ => show win0_5.index (pt b R) (0 : Fin 2) * 1024 + 1 * (lr R).val = R.val; omega
    | ⟨1, _⟩ => show win0_5.index (pt b R) (1 : Fin 2) * 128 + 1 * l.val = l.val; omega
  rw [E, V_v39]
  exact hSin_apply R l

/-- The projection a device's arguments give. -/
abbrev prj (j : ℕ) : EReal := proj (m ((c.tc : Thread nD τ).loc main_arg0)) (m ((c.tc : Thread nD τ).loc main_arg1)) (m ((c.tc : Thread nD τ).loc main_arg2))
  (m ((c.tc : Thread nD τ).loc main_arg3)) b R j

/-- The projection a grid point computes. -/
abbrev zB : FVec Ideal S1024x1536 .f32 := k0_pay3 (F := Ideal) (grid0.coords (pt b R)) (iblk m c 0 (pt b R)) (iblk m c 1 (pt b R)) (iblk m c 2 (pt b R)) (iblk m c 3 (pt b R))

theorem zB_apply (j : Fin 1536) : zB m c b R (ix2 (lr R) j) = prj m c b R (col j.val) := by
  have hn : (grid0.coords (pt b R) 1).val = b.val := ((idx_facts (pt b R)).1).trans (pt_mod b R)
  refine (z_apply (grid0.coords (pt b R)) b.val hn b.isLt _ _ _ _ (lr R) j).trans ?_
  unfold prj proj
  have hr : (fun k => if b.val < 4 then iblk m c 0 (pt b R) (ix3 (0 : Fin 1) (lr R) k : S1x1024x1024.Idx) else iblk m c 1 (pt b R) (ix3 (0 : Fin 1) (lr R) k : S1x1024x1024.Idx))
      = row (m ((c.tc : Thread nD τ).loc main_arg0)) (m ((c.tc : Thread nD τ).loc main_arg1)) b R := by
    funext k
    unfold row
    by_cases h : b.val < 4
    · rw [if_pos h, dif_pos h]; exact iblk0_apply m c b R k h
    · rw [if_neg h, dif_neg h]; exact iblk1_apply m c b R k h
  have hg : (fun k => iblk m c 2 (pt b R) (ix2 (0 : Fin 1) k : S1x1024.Idx)) = fun k : Fin 1024 => m ((c.tc : Thread nD τ).loc main_arg2) (ix1 k : S1024.Idx) :=
    funext fun k => iblk2_apply m c b R k
  refine Finset.sum_congr rfl fun k _ => ?_
  rw [dif_pos (col_lt j)]
  exact congrArg₂ (fun a w : EReal => a * w) (congrArg₂ (fun x g => nrm x g k) hr hg) (iblk3_apply m c b R k j)

theorem out7_elem (L : Fin 512) : (dats m 0 c).arrAt 7 cfg0.N (ix3 b R L : S20x4096x512.Idx) = qE (prj m c b R) R L.val := by
  have e := congrFun (Cert.InprojIdeal.Value.blocks7 m c (pt b R) (flush0_7 _)) (ix3 (0 : Fin 1) (lr R) L : S1x1024x512.Idx)
  rw [Cert.InprojIdeal.Value.flushed7] at e
  have e' : (dats m 0 c).arrAt 7 cfg0.N (((cfg0.win 7).blk (pt b R)).view.emb (ix3 (0 : Fin 1) (lr R) L : S1x1024x512.Idx))
    = out0_7 (grid0.coords (pt b R)) (iblk m c 0 (pt b R)) (iblk m c 1 (pt b R)) (iblk m c 2 (pt b R)) (iblk m c 3 (pt b R)) (iblk m c 4 (pt b R)) (iblk m c 5 (pt b R)) (iblk m c 6 (pt b R)) (ix3 (0 : Fin 1) (lr R) L : S1x1024x512.Idx) := e
  rw [emb7] at e'
  rw [e', canon7]
  refine (q_apply (zB m c b R) (iblk m c 4 (pt b R)) (iblk m c 5 (pt b R)) (lr R) (fun j => prj m c b R (col j)) (ext8 rc R) (ext8 rs R)
    (zB_apply m c b R) (iblk4_apply m c b R) (iblk5_apply m c b R) L).trans ?_
  unfold qE
  have := L.isLt
  refine rope_congr _ _ _ _ _ (by omega) fun d hd => ?_
  refine congrArg (prj m c b R) ?_
  unfold col
  split_ifs <;> omega

theorem out8_elem (L : Fin 512) : (dats m 0 c).arrAt 8 cfg0.N (ix3 b R L : S20x4096x512.Idx) = kvE (prj m c b R) R L.val := by
  have e := congrFun (Cert.InprojIdeal.Value.blocks8 m c (pt b R) (flush0_8 _)) (ix3 (0 : Fin 1) (lr R) L : S1x1024x512.Idx)
  rw [Cert.InprojIdeal.Value.flushed8] at e
  have e' : (dats m 0 c).arrAt 8 cfg0.N (((cfg0.win 8).blk (pt b R)).view.emb (ix3 (0 : Fin 1) (lr R) L : S1x1024x512.Idx))
    = out0_8 (grid0.coords (pt b R)) (iblk m c 0 (pt b R)) (iblk m c 1 (pt b R)) (iblk m c 2 (pt b R)) (iblk m c 3 (pt b R)) (iblk m c 4 (pt b R)) (iblk m c 5 (pt b R)) (iblk m c 6 (pt b R)) (ix3 (0 : Fin 1) (lr R) L : S1x1024x512.Idx) := e
  rw [emb8] at e'
  rw [e', canon8]
  have := L.isLt
  unfold kvE
  by_cases h : L.val < 256
  · refine (kv_apply_k (zB m c b R) (iblk m c 4 (pt b R)) (iblk m c 5 (pt b R)) (lr R) (fun j => prj m c b R (col j)) (ext8 rc R) (ext8 rs R)
      (zB_apply m c b R) (iblk4_apply m c b R) (iblk5_apply m c b R) L h).trans ?_
    by_cases h1 : L.val < 128
    · rw [if_pos h1]
      refine rope_congr _ _ _ _ _ (by omega) fun d hd => ?_
      refine congrArg (prj m c b R) ?_
      unfold col
      split_ifs <;> omega
    · rw [if_neg h1, if_pos h]
      refine rope_congr _ _ _ _ _ (by omega) fun d hd => ?_
      refine congrArg (prj m c b R) ?_
      unfold col
      split_ifs <;> omega
  · refine (kv_apply_v (zB m c b R) (iblk m c 4 (pt b R)) (iblk m c 5 (pt b R)) (lr R) (fun j => prj m c b R (col j)) (ext8 rc R) (ext8 rs R)
      (zB_apply m c b R) (iblk4_apply m c b R) (iblk5_apply m c b R) L h).trans ?_
    rw [if_neg (by omega), if_neg h]
    by_cases h1 : L.val < 384
    · rw [if_pos h1]
      refine congrArg (prj m c b R) ?_
      unfold col
      split_ifs <;> omega
    · rw [if_neg h1]
      refine congrArg (prj m c b R) ?_
      unfold col
      split_ifs <;> omega

theorem out9_elem (L : Fin 1024) : (dats m 0 c).arrAt 9 cfg0.N (ix3 b R L : S20x4096x1024.Idx) = abE (prj m c b R) L.val := by
  have e := congrFun (Cert.InprojIdeal.Value.blocks9 m c (pt b R) (flush0_9 _)) (ix3 (0 : Fin 1) (lr R) L : S1x1024x1024.Idx)
  rw [Cert.InprojIdeal.Value.flushed9] at e
  have e' : (dats m 0 c).arrAt 9 cfg0.N (((cfg0.win 9).blk (pt b R)).view.emb (ix3 (0 : Fin 1) (lr R) L : S1x1024x1024.Idx))
    = out0_9 (grid0.coords (pt b R)) (iblk m c 0 (pt b R)) (iblk m c 1 (pt b R)) (iblk m c 2 (pt b R)) (iblk m c 3 (pt b R)) (iblk m c 4 (pt b R)) (iblk m c 5 (pt b R)) (iblk m c 6 (pt b R)) (ix3 (0 : Fin 1) (lr R) L : S1x1024x1024.Idx) := e
  rw [emb9] at e'
  rw [e', canon9]
  have := L.isLt
  refine (ab_apply (zB m c b R) (iblk m c 6 (pt b R)) (lr R) L (fun j => prj m c b R (col j)) (zB_apply m c b R)
    (fun k q => (if k / 64 = q % 256 / 64 then (1 : EReal) else 0) * ft (if q < 256 then fc else fs) k q) (iblk6_apply m c b R)).trans ?_
  refine (sum_group (fun k => prj m c b R (col (1024 + 256 * (L.val / 256 % 2) + k)))
    (fun k => ft (if 256 * (L.val / 512) + L.val % 256 < 256 then fc else fs) k (256 * (L.val / 512) + L.val % 256))
    ((256 * (L.val / 512) + L.val % 256) % 256 / 64) (by omega)).trans ?_
  unfold abE
  refine Finset.sum_congr rfl fun k _ => ?_
  have hk := k.isLt
  refine congrArg₂ (fun a b : EReal => a * b) (congrArg (prj m c b R) ?_) ?_
  · unfold col
    split_ifs <;> omega
  · have hw : (if 256 * (L.val / 512) + L.val % 256 < 256 then fc else fs) = (if L.val < 512 then fc else fs) := by
      split_ifs <;> first | rfl | omega
    show ft (if 256 * (L.val / 512) + L.val % 256 < 256 then fc else fs) _ _ = _
    rw [hw]
    unfold ft
    refine congrArg _ ?_
    funext a; apply Fin.ext
    match a with
    | ⟨0, _⟩ => show (64 * ((256 * (L.val / 512) + L.val % 256) % 256 / 64) + k.val) % 64 = k.val % 64; omega
    | ⟨1, _⟩ => show (256 * (L.val / 512) + L.val % 256) % 64 = L.val % 64 % 64; omega
end

end Cert.Ip

end
-- ==== Proof.Inproj.Ref.lean ====
module

public import proofs.«01_k».proof.Proof.Inproj.Blocks

@[expose] public section

set_option maxRecDepth 16384

noncomputable section

namespace Cert.Ip

open Idealize.ShloMosaic Idealize.ShloMosaic.TcCoe Cert.InprojReferenceIdeal Cert.InprojReferenceIdeal.Read Cert.Mk

/-! ## The reference at an index -/

section
variable (x0 : Vec Ideal S4x4096x1024 .f32) (x1 : Vec Ideal S16x4096x1024 .f32) (g : Vec Ideal S1024 .f32) (w : Vec Ideal S1024x1280 .f32)
  (b : Fin 20) (R : Fin 4096)

theorem ref_z (j : Fin 1280) : val_main_v14 (F := Ideal) x0 x1 g w (ix3 b R j) = proj x0 x1 g w b R j.val := by
  have h0 : ∀ k : Fin 1024, val_main_v0 (F := Ideal) x0 x1 (ix3 b R k) = row x0 x1 b R k := by
    intro k
    unfold val_main_v0 row
    pointwise
  have h13 : ∀ k : Fin 1024, val_main_v13 (F := Ideal) x0 x1 g (ix3 b R k) = nrm (row x0 x1 b R) (fun k => g (ix1 k)) k := by
    intro k
    rw [val_main_v13_apply, val_main_v12_apply, val_main_v11_apply, val_main_v10_apply, val_main_v9_apply, val_main_v8_apply, val_main_v7_apply, val_main_v6_apply,
      val_main_cst_1_apply, val_main_v5_apply, val_main_v4_apply, val_main_cst_0_apply, val_main_v3_apply, val_main_v2_apply, h0]
    have hs : ∀ q : Fin 1024, val_main_v1 (F := Ideal) x0 x1 (idx_main_v2 (idx_main_v3 (idx_main_v9 (ix3 b R k))) q) = row x0 x1 b R q * row x0 x1 b R q := fun q => by
      rw [val_main_v1_apply]
      have E : idx_main_v2 (idx_main_v3 (idx_main_v9 (ix3 b R k))) q = (ix3 b R q : S20x4096x1024.Idx) := by
        funext a
        match a with
        | ⟨0, _⟩ => rfl
        | ⟨1, _⟩ => rfl
        | ⟨2, _⟩ => rfl
      rw [E]
      have := h0 q
      exact congrArg₂ (fun a b : EReal => a * b) this this
    rw [Finset.sum_congr rfl fun q _ => hs q, val_main_cst_apply]
    have hz : (FloatOps.ofBits .f32 0x00000000#32 : Ideal .f32) = (0 : EReal) := by simp
    rw [hz, zero_add]
    have E : idx_main_v11 (idx_main_v12 (ix3 b R k)) = (ix1 k : S1024.Idx) := by
      funext a
      match a with
      | ⟨0, _⟩ => rfl
    rw [E]
    rfl
  rw [val_main_v14_apply]
  unfold proj
  have El : ∀ k : Fin 1024, lidx_main_v14 (ix3 b R j) k = (ix3 b R k : S20x4096x1024.Idx) := fun k => by
    funext a
    match a with
    | ⟨0, _⟩ => rfl
    | ⟨1, _⟩ => rfl
    | ⟨2, _⟩ => rfl
  have Er : ∀ k : Fin 1024, ridx_main_v14 (ix3 b R j) k = (ix2 k j : S1024x1280.Idx) := fun k => by
    funext a
    match a with
    | ⟨0, _⟩ => rfl
    | ⟨1, _⟩ => rfl
  refine Finset.sum_congr rfl fun k _ => ?_
  rw [dif_pos j.isLt]
  exact congrArg₂ (fun a b : EReal => a * b) ((congrArg _ (El k)).trans (h13 k)) (congrArg w (Er k))

end

end Cert.Ip

end
-- ==== Proof.Inproj.RefQ.lean ====
module

public import proofs.«01_k».proof.Proof.Inproj.Ref

@[expose] public section

set_option maxRecDepth 16384

noncomputable section

namespace Cert.Ip

open Idealize.ShloMosaic Idealize.ShloMosaic.TcCoe Cert.InprojReferenceIdeal Cert.InprojReferenceIdeal.Read Cert.Mk

/-! ## The reference's query heads -/

section
variable (x0 : Vec Ideal S4x4096x1024 .f32) (x1 : Vec Ideal S16x4096x1024 .f32) (g : Vec Ideal S1024 .f32) (w : Vec Ideal S1024x1280 .f32)
  (b : Fin 20) (R : Fin 4096)

variable (z : Vec Ideal S20x4096x1280 .f32) (hz : val_main_v14 (F := Ideal) x0 x1 g w = z)
include hz

theorem r37 (h : Fin 8) (d : Fin 8) : val_main_v37 (F := Ideal) x0 x1 g w (ix4 b R h d) = z (ix3 b R (⟨h.val * 64 + d.val, by omega⟩ : Fin 1280)) := by
  unfold val_main_v37 val_main_v36 val_main_v17 val_main_v16
  rw [hz]
  pointwise

theorem r38 (h : Fin 8) (d : Fin 8) : val_main_v38 (F := Ideal) x0 x1 g w (ix4 b R h d) = z (ix3 b R (⟨h.val * 64 + (8 + d.val), by omega⟩ : Fin 1280)) := by
  unfold val_main_v38 val_main_v36 val_main_v17 val_main_v16
  rw [hz]
  pointwise

theorem r50 (h : Fin 8) (d : Fin 48) : val_main_v50 (F := Ideal) x0 x1 g w (ix4 b R h d) = z (ix3 b R (⟨h.val * 64 + (16 + d.val), by omega⟩ : Fin 1280)) := by
  unfold val_main_v50 val_main_v17 val_main_v16
  rw [hz]
  pointwise

omit hz in
theorem r39 (h : Fin 8) (d : Fin 8) : val_main_v39 (F := Ideal) (ix4 b R h d) = rc (ix2 R d) := by
  have e : val_main_v32 (F := Ideal) = rc := rfl
  unfold val_main_v39 val_main_v33
  rw [e]
  pointwise

omit hz in
theorem r41 (h : Fin 8) (d : Fin 8) : val_main_v41 (F := Ideal) (ix4 b R h d) = rs (ix2 R d) := by
  have e : val_main_v34 (F := Ideal) = rs := rfl
  unfold val_main_v41 val_main_v35
  rw [e]
  pointwise

omit hz in
theorem r44 (h : Fin 8) (d : Fin 8) : val_main_v44 (F := Ideal) (ix4 b R h d) = rc (ix2 R d) := by
  have e : val_main_v32 (F := Ideal) = rc := rfl
  unfold val_main_v44 val_main_v33
  rw [e]
  pointwise

omit hz in
theorem r46 (h : Fin 8) (d : Fin 8) : val_main_v46 (F := Ideal) (ix4 b R h d) = rs (ix2 R d) := by
  have e : val_main_v34 (F := Ideal) = rs := rfl
  unfold val_main_v46 val_main_v35
  rw [e]
  pointwise

theorem r43 (h : Fin 8) (d : Fin 8) : val_main_v43 (F := Ideal) x0 x1 g w (ix4 b R h d)
    = z (ix3 b R (⟨h.val * 64 + d.val, by omega⟩ : Fin 1280)) * rc (ix2 R d) - z (ix3 b R (⟨h.val * 64 + (8 + d.val), by omega⟩ : Fin 1280)) * rs (ix2 R d) := by
  rw [val_main_v43_apply, val_main_v40_apply, val_main_v42_apply, r37 x0 x1 g w b R z hz, r38 x0 x1 g w b R z hz, r39, r41]
  rfl

theorem r48 (h : Fin 8) (d : Fin 8) : val_main_v48 (F := Ideal) x0 x1 g w (ix4 b R h d)
    = z (ix3 b R (⟨h.val * 64 + (8 + d.val), by omega⟩ : Fin 1280)) * rc (ix2 R d) + z (ix3 b R (⟨h.val * 64 + d.val, by omega⟩ : Fin 1280)) * rs (ix2 R d) := by
  rw [val_main_v48_apply, val_main_v45_apply, val_main_v47_apply, r37 x0 x1 g w b R z hz, r38 x0 x1 g w b R z hz, r44, r46]
  rfl

omit hz in
theorem r49 (h : Fin 8) (d : Fin 16) : val_main_v49 (F := Ideal) x0 x1 g w (ix4 b R h d)
    = if e : d.val < 8 then val_main_v43 (F := Ideal) x0 x1 g w (ix4 b R h (⟨d.val, e⟩ : Fin 8)) else val_main_v48 (F := Ideal) x0 x1 g w (ix4 b R h (⟨d.val - 8, by omega⟩ : Fin 8)) := by
  unfold val_main_v49
  pointwise

omit hz in
theorem r51 (h : Fin 8) (d : Fin 64) : val_main_v51 (F := Ideal) x0 x1 g w (ix4 b R h d)
    = if e : d.val < 16 then val_main_v49 (F := Ideal) x0 x1 g w (ix4 b R h (⟨d.val, e⟩ : Fin 16)) else val_main_v50 (F := Ideal) x0 x1 g w (ix4 b R h (⟨d.val - 16, by omega⟩ : Fin 48)) := by
  unfold val_main_v51
  pointwise

theorem head51 (Z : ℕ → EReal) (hZ : ∀ j : Fin 1280, z (ix3 b R j) = Z j.val) (h : Fin 8) (d : Fin 64) :
    val_main_v51 (F := Ideal) x0 x1 g w (ix4 b R h d) = rope (fun d => Z (h.val * 64 + d)) (ext8 rc R) (ext8 rs R) d.val := by
  rw [r51]
  unfold rope
  by_cases h8 : d.val < 8
  · have h16 : d.val < 16 := by omega
    rw [dif_pos h16, r49, dif_pos h8, r43 x0 x1 g w b R z hz, hZ, hZ, if_pos h8]
    unfold ext8
    rw [dif_pos h8, dif_pos h8]
    refine congrArg₂ (fun a b : EReal => a - b) (congrArg (fun a : EReal => a * _) (congrArg Z ?_)) (congrArg (fun a : EReal => a * _) (congrArg Z ?_)) <;> (simp only; try omega)
  · rw [if_neg h8]
    by_cases h16 : d.val < 16
    · have h8' : d.val - 8 < 8 := by omega
      rw [dif_pos h16, r49, dif_neg h8, r48 x0 x1 g w b R z hz, hZ, hZ, if_pos h16]
      unfold ext8
      rw [dif_pos h8', dif_pos h8']
      refine congrArg₂ (fun a b : EReal => a + b) (congrArg (fun a : EReal => a * _) (congrArg Z ?_)) (congrArg (fun a : EReal => a * _) (congrArg Z ?_)) <;> (simp only; try omega)
    · rw [dif_neg h16, r50 x0 x1 g w b R z hz, hZ, if_neg h16]
      refine congrArg Z ?_
      simp only; omega

end

end Cert.Ip

end
-- ==== Proof.Inproj.RefK.lean ====
module

public import proofs.«01_k».proof.Proof.Inproj.Ref

@[expose] public section

set_option maxRecDepth 16384

noncomputable section

namespace Cert.Ip

open Idealize.ShloMosaic Idealize.ShloMosaic.TcCoe Cert.InprojReferenceIdeal Cert.InprojReferenceIdeal.Read Cert.Mk

/-! ## The reference's key heads -/

section
variable (x0 : Vec Ideal S4x4096x1024 .f32) (x1 : Vec Ideal S16x4096x1024 .f32) (g : Vec Ideal S1024 .f32) (w : Vec Ideal S1024x1280 .f32)
  (b : Fin 20) (R : Fin 4096)

variable (z : Vec Ideal S20x4096x1280 .f32) (hz : val_main_v14 (F := Ideal) x0 x1 g w = z)
include hz

theorem r73 (h : Fin 2) (d : Fin 8) : val_main_v73 (F := Ideal) x0 x1 g w (ix4 b R h d) = z (ix3 b R (⟨512 + (h.val * 64 + d.val), by omega⟩ : Fin 1280)) := by
  unfold val_main_v73 val_main_v72 val_main_v53 val_main_v52
  rw [hz]
  pointwise

theorem r74 (h : Fin 2) (d : Fin 8) : val_main_v74 (F := Ideal) x0 x1 g w (ix4 b R h d) = z (ix3 b R (⟨512 + (h.val * 64 + (8 + d.val)), by omega⟩ : Fin 1280)) := by
  unfold val_main_v74 val_main_v72 val_main_v53 val_main_v52
  rw [hz]
  pointwise

theorem r86 (h : Fin 2) (d : Fin 48) : val_main_v86 (F := Ideal) x0 x1 g w (ix4 b R h d) = z (ix3 b R (⟨512 + (h.val * 64 + (16 + d.val)), by omega⟩ : Fin 1280)) := by
  unfold val_main_v86 val_main_v53 val_main_v52
  rw [hz]
  pointwise

omit hz in
theorem r75 (h : Fin 2) (d : Fin 8) : val_main_v75 (F := Ideal) (ix4 b R h d) = rc (ix2 R d) := by
  have e : val_main_v68 (F := Ideal) = rc := rfl
  unfold val_main_v75 val_main_v69
  rw [e]
  pointwise

omit hz in
theorem r77 (h : Fin 2) (d : Fin 8) : val_main_v77 (F := Ideal) (ix4 b R h d) = rs (ix2 R d) := by
  have e : val_main_v70 (F := Ideal) = rs := rfl
  unfold val_main_v77 val_main_v71
  rw [e]
  pointwise

omit hz in
theorem r80 (h : Fin 2) (d : Fin 8) : val_main_v80 (F := Ideal) (ix4 b R h d) = rc (ix2 R d) := by
  have e : val_main_v68 (F := Ideal) = rc := rfl
  unfold val_main_v80 val_main_v69
  rw [e]
  pointwise

omit hz in
theorem r82 (h : Fin 2) (d : Fin 8) : val_main_v82 (F := Ideal) (ix4 b R h d) = rs (ix2 R d) := by
  have e : val_main_v70 (F := Ideal) = rs := rfl
  unfold val_main_v82 val_main_v71
  rw [e]
  pointwise

theorem r79 (h : Fin 2) (d : Fin 8) : val_main_v79 (F := Ideal) x0 x1 g w (ix4 b R h d)
    = z (ix3 b R (⟨512 + (h.val * 64 + d.val), by omega⟩ : Fin 1280)) * rc (ix2 R d) - z (ix3 b R (⟨512 + (h.val * 64 + (8 + d.val)), by omega⟩ : Fin 1280)) * rs (ix2 R d) := by
  rw [val_main_v79_apply, val_main_v76_apply, val_main_v78_apply, r73 x0 x1 g w b R z hz, r74 x0 x1 g w b R z hz, r75, r77]
  rfl

theorem r84 (h : Fin 2) (d : Fin 8) : val_main_v84 (F := Ideal) x0 x1 g w (ix4 b R h d)
    = z (ix3 b R (⟨512 + (h.val * 64 + (8 + d.val)), by omega⟩ : Fin 1280)) * rc (ix2 R d) + z (ix3 b R (⟨512 + (h.val * 64 + d.val), by omega⟩ : Fin 1280)) * rs (ix2 R d) := by
  rw [val_main_v84_apply, val_main_v81_apply, val_main_v83_apply, r73 x0 x1 g w b R z hz, r74 x0 x1 g w b R z hz, r80, r82]
  rfl

omit hz in
theorem r85 (h : Fin 2) (d : Fin 16) : val_main_v85 (F := Ideal) x0 x1 g w (ix4 b R h d)
    = if e : d.val < 8 then val_main_v79 (F := Ideal) x0 x1 g w (ix4 b R h (⟨d.val, e⟩ : Fin 8)) else val_main_v84 (F := Ideal) x0 x1 g w (ix4 b R h (⟨d.val - 8, by omega⟩ : Fin 8)) := by
  unfold val_main_v85
  pointwise

omit hz in
theorem r87 (h : Fin 2) (d : Fin 64) : val_main_v87 (F := Ideal) x0 x1 g w (ix4 b R h d)
    = if e : d.val < 16 then val_main_v85 (F := Ideal) x0 x1 g w (ix4 b R h (⟨d.val, e⟩ : Fin 16)) else val_main_v86 (F := Ideal) x0 x1 g w (ix4 b R h (⟨d.val - 16, by omega⟩ : Fin 48)) := by
  unfold val_main_v87
  pointwise

theorem head87 (Z : ℕ → EReal) (hZ : ∀ j : Fin 1280, z (ix3 b R j) = Z j.val) (h : Fin 2) (d : Fin 64) :
    val_main_v87 (F := Ideal) x0 x1 g w (ix4 b R h d) = rope (fun d => Z (512 + h.val * 64 + d)) (ext8 rc R) (ext8 rs R) d.val := by
  rw [r87]
  unfold rope
  by_cases h8 : d.val < 8
  · have h16 : d.val < 16 := by omega
    rw [dif_pos h16, r85, dif_pos h8, r79 x0 x1 g w b R z hz, hZ, hZ, if_pos h8]
    unfold ext8
    rw [dif_pos h8, dif_pos h8]
    refine congrArg₂ (fun a b : EReal => a - b) (congrArg (fun a : EReal => a * _) (congrArg Z ?_)) (congrArg (fun a : EReal => a * _) (congrArg Z ?_)) <;> (simp only; try omega)
  · rw [if_neg h8]
    by_cases h16 : d.val < 16
    · have h8' : d.val - 8 < 8 := by omega
      rw [dif_pos h16, r85, dif_neg h8, r84 x0 x1 g w b R z hz, hZ, hZ, if_pos h16]
      unfold ext8
      rw [dif_pos h8', dif_pos h8']
      refine congrArg₂ (fun a b : EReal => a + b) (congrArg (fun a : EReal => a * _) (congrArg Z ?_)) (congrArg (fun a : EReal => a * _) (congrArg Z ?_)) <;> (simp only; try omega)
    · rw [dif_neg h16, r86 x0 x1 g w b R z hz, hZ, if_neg h16]
      refine congrArg Z ?_
      simp only; omega

end

end Cert.Ip

end
-- ==== Proof.Inproj.RefT.lean ====
module

public import proofs.«01_k».proof.Proof.Inproj.Ref

@[expose] public section

set_option maxRecDepth 16384

noncomputable section

namespace Cert.Ip

open Idealize.ShloMosaic Idealize.ShloMosaic.TcCoe Cert.InprojReferenceIdeal Cert.InprojReferenceIdeal.Read Cert.Mk

/-! ## The reference's results by heads -/

section
variable (x0 : Vec Ideal S4x4096x1024 .f32) (x1 : Vec Ideal S16x4096x1024 .f32) (g : Vec Ideal S1024 .f32) (w : Vec Ideal S1024x1280 .f32)
  (b : Fin 20) (R : Fin 4096)

theorem head89 (z : Vec Ideal S20x4096x1280 .f32) (hz : val_main_v14 (F := Ideal) x0 x1 g w = z) (h : Fin 2) (d : Fin 64) :
    val_main_v89 (F := Ideal) x0 x1 g w (ix4 b R h d) = z (ix3 b R (⟨640 + (h.val * 64 + d.val), by omega⟩ : Fin 1280)) := by
  unfold val_main_v89 val_main_v88
  rw [hz]
  pointwise

theorem group94 (z : Vec Ideal S20x4096x1280 .f32) (hz : val_main_v14 (F := Ideal) x0 x1 g w = z) (h : Fin 8) (d : Fin 64) :
    val_main_v94 (F := Ideal) x0 x1 g w (ix4 b R h d) = z (ix3 b R (⟨768 + (h.val * 64 + d.val), by omega⟩ : Fin 1280)) := by
  unfold val_main_v94 val_main_v93
  rw [hz]
  pointwise

theorem lane114 (L : Fin 512) : val_main_v114 (F := Ideal) x0 x1 g w (ix3 b R L) = val_main_v51 (F := Ideal) x0 x1 g w (ix4 b R (⟨L.val / 64, by omega⟩ : Fin 8) (⟨L.val % 64, by omega⟩ : Fin 64)) := by
  rw [val_main_v114_apply]
  show val_main_v113 (F := Ideal) x0 x1 g w (ix3 b R L) = _
  rw [val_main_v113_apply]
  have E : idx_main_v113 (ix3 b R L) = (ix4 b R (⟨L.val / 64, by omega⟩ : Fin 8) (⟨L.val % 64, by omega⟩ : Fin 64) : S20x4096x8x64.Idx) := by
    have h0 := b.isLt
    have h1 := R.isLt
    have h2 := L.isLt
    funext a; apply Fin.ext
    match a with
    | ⟨0, _⟩ => show ((b.val * 4096 + R.val) * 512 + L.val) / 2097152 = b.val; omega
    | ⟨1, _⟩ => show ((b.val * 4096 + R.val) * 512 + L.val) / 512 % 4096 = R.val; omega
    | ⟨2, _⟩ => show ((b.val * 4096 + R.val) * 512 + L.val) / 64 % 8 = L.val / 64; omega
    | ⟨3, _⟩ => show ((b.val * 4096 + R.val) * 512 + L.val) % 64 = L.val % 64; omega
  rw [E]

theorem lane92 (h : Fin 8) (d : Fin 64) : val_main_v92 (F := Ideal) x0 x1 g w (ix4 b R h d) =
    if e : h.val < 2 then val_main_v87 (F := Ideal) x0 x1 g w (ix4 b R (⟨h.val, e⟩ : Fin 2) d)
    else if e : h.val - 2 < 2 then val_main_v90 (F := Ideal) x0 x1 g w (ix4 b R (⟨h.val - 2, e⟩ : Fin 2) d)
    else if e : h.val - 2 - 2 < 2 then val_main_v89 (F := Ideal) x0 x1 g w (ix4 b R (⟨h.val - 2 - 2, e⟩ : Fin 2) d)
    else val_main_v91 (F := Ideal) x0 x1 g w (ix4 b R (⟨h.val - 2 - 2 - 2, by omega⟩ : Fin 2) d) := by
  unfold val_main_v92
  generalize val_main_v87 (F := Ideal) x0 x1 g w = y
  generalize val_main_v89 (F := Ideal) x0 x1 g w = y'
  generalize val_main_v90 (F := Ideal) x0 x1 g w = y2
  generalize val_main_v91 (F := Ideal) x0 x1 g w = y3
  pointwise

theorem lane90 (h : Fin 2) (d : Fin 64) : val_main_v90 (F := Ideal) x0 x1 g w (ix4 b R h d) = val_main_v87 (F := Ideal) x0 x1 g w (ix4 b R h.rev d) := by
  unfold val_main_v90
  generalize val_main_v87 (F := Ideal) x0 x1 g w = y
  show y _ = y _
  congr 1
  funext a
  match a with
  | ⟨0, _⟩ => rfl
  | ⟨1, _⟩ => rfl
  | ⟨2, _⟩ => rfl
  | ⟨3, _⟩ => rfl

theorem lane91 (h : Fin 2) (d : Fin 64) : val_main_v91 (F := Ideal) x0 x1 g w (ix4 b R h d) = val_main_v89 (F := Ideal) x0 x1 g w (ix4 b R h.rev d) := by
  unfold val_main_v91
  generalize val_main_v89 (F := Ideal) x0 x1 g w = y
  show y _ = y _
  congr 1
  funext a
  match a with
  | ⟨0, _⟩ => rfl
  | ⟨1, _⟩ => rfl
  | ⟨2, _⟩ => rfl
  | ⟨3, _⟩ => rfl

theorem lane116 (L : Fin 512) : val_main_v116 (F := Ideal) x0 x1 g w (ix3 b R L) = val_main_v92 (F := Ideal) x0 x1 g w (ix4 b R (⟨L.val / 64, by omega⟩ : Fin 8) (⟨L.val % 64, by omega⟩ : Fin 64)) := by
  rw [val_main_v116_apply]
  show val_main_v115 (F := Ideal) x0 x1 g w (ix3 b R L) = _
  rw [val_main_v115_apply]
  have E : idx_main_v115 (ix3 b R L) = (ix4 b R (⟨L.val / 64, by omega⟩ : Fin 8) (⟨L.val % 64, by omega⟩ : Fin 64) : S20x4096x8x64.Idx) := by
    have h0 := b.isLt
    have h1 := R.isLt
    have h2 := L.isLt
    funext a; apply Fin.ext
    match a with
    | ⟨0, _⟩ => show ((b.val * 4096 + R.val) * 512 + L.val) / 2097152 = b.val; omega
    | ⟨1, _⟩ => show ((b.val * 4096 + R.val) * 512 + L.val) / 512 % 4096 = R.val; omega
    | ⟨2, _⟩ => show ((b.val * 4096 + R.val) * 512 + L.val) / 64 % 8 = L.val / 64; omega
    | ⟨3, _⟩ => show ((b.val * 4096 + R.val) * 512 + L.val) % 64 = L.val % 64; omega
  rw [E]

theorem lane118 (L : Fin 1024) : val_main_v118 (F := Ideal) x0 x1 g w (ix3 b R L) =
    if e : L.val < 512 then val_main_v108 (F := Ideal) x0 x1 g w (ix4 b R (⟨L.val / 64, by omega⟩ : Fin 8) (⟨L.val % 64, by omega⟩ : Fin 64))
    else val_main_v111 (F := Ideal) x0 x1 g w (ix4 b R (⟨(L.val - 512) / 64, by omega⟩ : Fin 8) (⟨(L.val - 512) % 64, by omega⟩ : Fin 64)) := by
  unfold val_main_v118 val_main_v117 val_main_v112 val_main_v109
  generalize val_main_v108 (F := Ideal) x0 x1 g w = y
  generalize val_main_v111 (F := Ideal) x0 x1 g w = y'
  pointwise

theorem dft108 (h : Fin 8) (d : Fin 64) : val_main_v108 (F := Ideal) x0 x1 g w (ix4 b R h d) = ∑ k : Fin 64, val_main_v94 (F := Ideal) x0 x1 g w (ix4 b R h k) * fc (ix2 k d) := by
  rw [val_main_v108_apply]
  have El : ∀ k : Fin 64, lidx_main_v108 (ix4 b R h d) k = (ix4 b R h k : S20x4096x8x64.Idx) := fun k => by
    funext a
    match a with
    | ⟨0, _⟩ => rfl
    | ⟨1, _⟩ => rfl
    | ⟨2, _⟩ => rfl
    | ⟨3, _⟩ => rfl
  have Er : ∀ k : Fin 64, ridx_main_v108 (ix4 b R h d) k = (ix2 k d : S64x64.Idx) := fun k => by
    funext a
    match a with
    | ⟨0, _⟩ => rfl
    | ⟨1, _⟩ => rfl
  exact Finset.sum_congr rfl fun k _ => congrArg₂ (fun a b : EReal => a * b) (congrArg (val_main_v94 (F := Ideal) x0 x1 g w) (El k)) (congrArg fc (Er k))

theorem dft111 (h : Fin 8) (d : Fin 64) : val_main_v111 (F := Ideal) x0 x1 g w (ix4 b R h d) = ∑ k : Fin 64, val_main_v94 (F := Ideal) x0 x1 g w (ix4 b R h k) * fs (ix2 k d) := by
  rw [val_main_v111_apply]
  have El : ∀ k : Fin 64, lidx_main_v111 (ix4 b R h d) k = (ix4 b R h k : S20x4096x8x64.Idx) := fun k => by
    funext a
    match a with
    | ⟨0, _⟩ => rfl
    | ⟨1, _⟩ => rfl
    | ⟨2, _⟩ => rfl
    | ⟨3, _⟩ => rfl
  have Er : ∀ k : Fin 64, ridx_main_v111 (ix4 b R h d) k = (ix2 k d : S64x64.Idx) := fun k => by
    funext a
    match a with
    | ⟨0, _⟩ => rfl
    | ⟨1, _⟩ => rfl
  exact Finset.sum_congr rfl fun k _ => congrArg₂ (fun a b : EReal => a * b) (congrArg (val_main_v94 (F := Ideal) x0 x1 g w) (El k)) (congrArg fs (Er k))

end

end Cert.Ip

end
-- ==== Proof.Inproj.Final.lean ====
module

public import proofs.«01_k».proof.Proof.Inproj.RefQ
public import proofs.«01_k».proof.Proof.Inproj.RefK
public import proofs.«01_k».proof.Proof.Inproj.RefT

@[expose] public section

set_option maxRecDepth 16384

noncomputable section

namespace Cert.Ip

open Idealize.ShloMosaic Idealize.ShloMosaic.TcCoe Cert.Mk Cert.InprojReferenceIdeal.Read

/-! ## The reference's results in words -/

section
open Cert.InprojReferenceIdeal
variable (x0 : Vec Ideal S4x4096x1024 .f32) (x1 : Vec Ideal S16x4096x1024 .f32) (g : Vec Ideal S1024 .f32) (w : Vec Ideal S1024x1280 .f32)
  (b : Fin 20) (R : Fin 4096)

theorem ref_q (L : Fin 512) : val_main_v114 (F := Ideal) x0 x1 g w (ix3 b R L) = qE (proj x0 x1 g w b R) R L.val :=
  (lane114 x0 x1 g w b R L).trans (head51 x0 x1 g w b R _ rfl (proj x0 x1 g w b R) (ref_z x0 x1 g w b R) _ _)

theorem ref_kv (L : Fin 512) : val_main_v116 (F := Ideal) x0 x1 g w (ix3 b R L) = kvE (proj x0 x1 g w b R) R L.val := by
  have hL := L.isLt
  have hk := head87 x0 x1 g w b R _ rfl (proj x0 x1 g w b R) (ref_z x0 x1 g w b R)
  have hv : ∀ (h : Fin 2) (d : Fin 64), val_main_v89 (F := Ideal) x0 x1 g w (ix4 b R h d) = proj x0 x1 g w b R (640 + (h.val * 64 + d.val)) :=
    fun h d => (head89 x0 x1 g w b R _ rfl h d).trans (ref_z x0 x1 g w b R _)
  have hr : ∀ h : Fin 2, h.rev.val = 1 - h.val := fun h => by rw [Fin.val_rev]; omega
  have rr : ∀ n n' : ℕ, n = n' → rope (fun d => proj x0 x1 g w b R (512 + n * 64 + d)) (ext8 rc R) (ext8 rs R) (L.val % 64)
      = rope (fun d => proj x0 x1 g w b R (512 + n' * 64 + d)) (ext8 rc R) (ext8 rs R) (L.val % 64) := fun n n' h => by rw [h]
  rw [lane116, lane92]
  unfold kvE
  by_cases a : L.val / 64 < 2
  · rw [dif_pos a, hk, if_pos (by omega)]
  rw [dif_neg a, if_neg (by omega)]
  by_cases a2 : L.val / 64 - 2 < 2
  · rw [dif_pos a2, lane90, hk, if_pos (by omega)]
    refine rr _ _ ?_
    rw [hr]; simp only; omega
  rw [dif_neg a2, if_neg (by omega)]
  by_cases a3 : L.val / 64 - 2 - 2 < 2
  · rw [dif_pos a3, hv, if_pos (by omega)]
    refine congrArg _ ?_
    simp only; omega
  · rw [dif_neg a3, lane91, hv, if_neg (by omega)]
    refine congrArg _ ?_
    rw [hr]; simp only; omega

theorem ref_ab (L : Fin 1024) : val_main_v118 (F := Ideal) x0 x1 g w (ix3 b R L) = abE (proj x0 x1 g w b R) L.val := by
  have hL := L.isLt
  have hu : ∀ (h : Fin 8) (d : Fin 64), val_main_v94 (F := Ideal) x0 x1 g w (ix4 b R h d) = proj x0 x1 g w b R (768 + (h.val * 64 + d.val)) :=
    fun h d => (group94 x0 x1 g w b R _ rfl h d).trans (ref_z x0 x1 g w b R _)
  rw [lane118]
  unfold abE ft
  by_cases a : L.val < 512
  · rw [dif_pos a, dft108]
    refine Finset.sum_congr rfl fun k _ => ?_
    have hk := k.isLt
    rw [hu, if_pos a]
    refine congrArg₂ (fun a b : EReal => a * b) (congrArg _ (by simp only; omega)) (congrArg fc ?_)
    funext q; apply Fin.ext
    match q with
    | ⟨0, _⟩ => show k.val = k.val % 64; omega
    | ⟨1, _⟩ => show L.val % 64 = L.val % 64 % 64; omega
  · rw [dif_neg a, dft111]
    refine Finset.sum_congr rfl fun k _ => ?_
    have hk := k.isLt
    rw [hu, if_neg a]
    refine congrArg₂ (fun a b : EReal => a * b) (congrArg _ (by simp only; omega)) (congrArg fs ?_)
    funext q; apply Fin.ext
    match q with
    | ⟨0, _⟩ => show k.val = k.val % 64; omega
    | ⟨1, _⟩ => show (L.val - 512) % 64 = L.val % 64 % 64; omega
end

section
open Cert.InprojIdeal Cert.InprojIdeal.Gen
variable (m : (ℓ : Loc nD τ sig) → Buf (Elt Ideal) ℓ) (c : Dev nD)

/-- The queries. -/
theorem out_q : (dats m 0 c).arrAt 7 cfg0.N = val_main_v114 (F := Ideal) (m ((c.tc : Thread nD τ).loc main_arg0))
    (m ((c.tc : Thread nD τ).loc main_arg1)) (m ((c.tc : Thread nD τ).loc main_arg2)) (m ((c.tc : Thread nD τ).loc main_arg3)) := by
  funext y
  have hy : y = (ix3 (y 0 : Fin 20) (y 1 : Fin 4096) (y 2 : Fin 512) : S20x4096x512.Idx) := by
    funext a
    match a with
    | ⟨0, _⟩ => rfl
    | ⟨1, _⟩ => rfl
    | ⟨2, _⟩ => rfl
  rw [hy]
  exact (out7_elem m c _ _ _).trans (ref_q _ _ _ _ _ _ _).symm

/-- The keys and values. -/
theorem out_kv : (dats m 0 c).arrAt 8 cfg0.N = val_main_v116 (F := Ideal) (m ((c.tc : Thread nD τ).loc main_arg0))
    (m ((c.tc : Thread nD τ).loc main_arg1)) (m ((c.tc : Thread nD τ).loc main_arg2)) (m ((c.tc : Thread nD τ).loc main_arg3)) := by
  funext y
  have hy : y = (ix3 (y 0 : Fin 20) (y 1 : Fin 4096) (y 2 : Fin 512) : S20x4096x512.Idx) := by
    funext a
    match a with
    | ⟨0, _⟩ => rfl
    | ⟨1, _⟩ => rfl
    | ⟨2, _⟩ => rfl
  rw [hy]
  exact (out8_elem m c _ _ _).trans (ref_kv _ _ _ _ _ _ _).symm

/-- The transform over the channels. -/
theorem out_ab : (dats m 0 c).arrAt 9 cfg0.N = val_main_v118 (F := Ideal) (m ((c.tc : Thread nD τ).loc main_arg0))
    (m ((c.tc : Thread nD τ).loc main_arg1)) (m ((c.tc : Thread nD τ).loc main_arg2)) (m ((c.tc : Thread nD τ).loc main_arg3)) := by
  funext y
  have hy : y = (ix3 (y 0 : Fin 20) (y 1 : Fin 4096) (y 2 : Fin 1024) : S20x4096x1024.Idx) := by
    funext a
    match a with
    | ⟨0, _⟩ => rfl
    | ⟨1, _⟩ => rfl
    | ⟨2, _⟩ => rfl
  rw [hy]
  exact (out9_elem m c _ _ _).trans (ref_ab _ _ _ _ _ _ _).symm
end

end Cert.Ip

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Pre_finite
public import proofs.«01_k».proof.Proof.Gen.Pre_counted
public import proofs.«01_k».proof.Proof.Gen.On_listed
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsReferenceIdeal
public import proofs.«01_k».proof.Proof.Gen.ExpertsReferenceIdeal.Run
public import proofs.«01_k».proof.Proof.Gen.ExpertsReferenceIdeal.Read
public import proofs.«01_k».proof.Proof.Gen.Memkv
public import proofs.«01_k».proof.Proof.Gen.Memkv.Skeleton
public import proofs.«01_k».proof.Proof.Gen.Memkv.Launch
public import proofs.«01_k».proof.Proof.Gen.Memkv.Points
public import proofs.«01_k».proof.Proof.Gen.Memkv.Frame
public import proofs.«01_k».proof.Proof.Gen.MemkvIdeal
public import proofs.«01_k».proof.Proof.Gen.MemkvIdeal.Skeleton
public import proofs.«01_k».proof.Proof.Gen.MemkvIdeal.Launch
public import proofs.«01_k».proof.Proof.Gen.MemkvIdeal.Points
public import proofs.«01_k».proof.Proof.Gen.MemkvIdeal.Frame
public import proofs.«01_k».proof.Proof.Gen.MemkvIdeal.Value
public import proofs.«01_k».proof.Proof.Gen.MemkvReferenceIdeal
public import proofs.«01_k».proof.Proof.Gen.MemkvReferenceIdeal.Run
public import proofs.«01_k».proof.Proof.Gen.MemkvReferenceIdeal.Read
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojIdeal.Value
public import proofs.«01_k».proof.Proof.Gen.InprojReferenceIdeal
public import proofs.«01_k».proof.Proof.Gen.InprojReferenceIdeal.Run
public import proofs.«01_k».proof.Proof.Gen.InprojReferenceIdeal.Read
public import Idealize.ShloMosaic.Adequacy
public import Idealize.ShloMosaic.Init
public import Idealize.ShloMosaic.Lib.Quiescent
public import proofs.«01_k».proof.Proof.Swa.Final
public import proofs.«01_k».proof.Proof.Experts.HostI
public import proofs.«01_k».proof.Proof.Experts.HostB
public import proofs.«01_k».proof.Proof.Experts.Final
public import proofs.«01_k».proof.Proof.Memkv.Final
public import proofs.«01_k».proof.Proof.Inproj.Final

@[expose] public section

noncomputable section

namespace Cert.Proof

open Idealize.ShloMosaic Idealize.SL.Sem Cert.Kernel

theorem frame_p : Cert.quiescent_Kernel := fun m ρ _ => Cert.Kernel.Gen.frame m ρ
theorem frame_pi : Cert.quiescent_KernelIdeal := fun m ρ _ => Cert.KernelIdeal.Gen.frame m ρ
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem preserves : Cert.preserves_Kernel_KernelIdeal :=
  ⟨IdealRules.named_const.statement Cert.KernelIdeal.κ "mask" .f32 0xF149F2CA#32 ⊥ rfl,
    IdealRules.named_const.statement Cert.KernelIdeal.κ "qscale" .f32 0x3E38AA3B#32 (((Real.log 2)⁻¹ * (1 / 8) : ℝ) : EReal) rfl,
    IdealRules.named_const.statement Cert.KernelIdeal.κ "log2e" .f32 0x3FB8AA3B#32 (((Real.log 2)⁻¹ : ℝ) : EReal) rfl⟩

theorem algebraic : Cert.algebraic_KernelIdeal_ReferenceIdeal_pre_finite := by
  intro m ρ m' ρ' hpre hagree
  refine ⟨fun c => (Cert.KernelIdeal.Gen.dats m 0 c).arrAt 6 Cert.KernelIdeal.cfg0.N, Cert.KernelIdeal.Value.run_blocks m ρ, ?_⟩
  refine (θ_run Cert.ReferenceIdeal.defs _ _).mono (fun _ h c => ⟨(h c).1.trans ?_, (h c).2⟩) (Cert.ReferenceIdeal.Value.run (F := Ideal) m' ρ')
  obtain ⟨h0, h1, h3⟩ := Cert.Swa.pre_real _ _ _ _ (hpre c)
  rw [Cert.ReferenceIdeal.Read.val_main_v71_eq m' c, (hagree c).1, (hagree c).2.1, (hagree c).2.2.1, (hagree c).2.2.2]
  exact (Cert.Swa.out_eq m c h0 h1 h3).symm

theorem frame_p2 : Cert.quiescent_Experts := fun m ρ h =>
  have hP := Cert.Ex.counted _ _ _ _ _ _ (h 0)
  Cert.Experts.Fr.frame m ρ (Cert.Experts.Fr.ok_plan m hP) (Cert.Experts.Fr.steps_plan m hP)
theorem frame_pi2 : Cert.quiescent_ExpertsIdeal := fun m ρ h =>
  have hP := Cert.Ex.counted _ _ _ _ _ _ (h 0)
  Cert.ExpertsIdeal.Fr.frame m ρ (Cert.ExpertsIdeal.Fr.ok_plan m hP) (Cert.ExpertsIdeal.Fr.steps_plan m hP)
theorem frame_ri2 : Cert.quiescent_ExpertsReferenceIdeal := fun m ρ _ =>
  (θ_run Cert.ExpertsReferenceIdeal.defs _ _).mono (fun r h => ⟨fun c => (h c).2,
      Idealize.ShloMosaic.sem_eq_zero_of_no_sems (by decide) r.2⟩)
    (Cert.ExpertsReferenceIdeal.Value.run (F := Ideal) m ρ)

theorem algebraic2 : Cert.algebraic_ExpertsIdeal_ExpertsReferenceIdeal_on_listed := by
  intro m ρ m' ρ' hpre hagree
  have hP : ∀ c, Cert.Ex.Plan (Cert.ExpertsIdeal.Fr.cW m c) := fun c => Cert.Ex.counted _ _ _ _ _ _ (hpre c)
  have hO := Cert.ExpertsIdeal.Fr.ok_plan m (hP 0)
  refine ⟨fun c => (Cert.ExpertsIdeal.Fr.dats m hO 0 c).arrAt 5 (Cert.ExpertsIdeal.Fr.cfgM m hO).N, ?_, ?_⟩
  · exact (θ_run Cert.ExpertsIdeal.defs _ _).mono (fun _ h c => ⟨fun i _ => congrFun (h c).1 i, (h c).2⟩)
      (Cert.ExpertsIdeal.Fr.run_value m hO ρ (Cert.ExpertsIdeal.Fr.steps_plan m (hP 0)))
  · refine (θ_run Cert.ExpertsReferenceIdeal.defs _ _).mono (fun _ h c => ⟨fun i hi => (congrFun (h c).1 i).trans ?_, (h c).2⟩) (Cert.ExpertsReferenceIdeal.Value.run (F := Ideal) m' ρ')
    rw [Cert.ExpertsReferenceIdeal.Read.val_main_v79_eq m' c, (hagree c).1, (hagree c).2.1, (hagree c).2.2.1, (hagree c).2.2.2.1, (hagree c).2.2.2.2.1, (hagree c).2.2.2.2.2]
    exact (Cert.ExpertsIdeal.Fr.out_eq m hO c (hP c) i hi).symm

theorem frame_p3 : Cert.quiescent_Memkv := fun m ρ _ => Cert.Memkv.Gen.frame m ρ
theorem frame_pi3 : Cert.quiescent_MemkvIdeal := fun m ρ _ => Cert.MemkvIdeal.Gen.frame m ρ
theorem frame_ri3 : Cert.quiescent_MemkvReferenceIdeal := fun m ρ _ =>
  (θ_run Cert.MemkvReferenceIdeal.defs _ _).mono (fun r h => ⟨fun c => (h c).2,
      Idealize.ShloMosaic.sem_eq_zero_of_no_sems (by decide) r.2⟩)
    (Cert.MemkvReferenceIdeal.Value.run (F := Ideal) m ρ)

theorem algebraic3 : Cert.algebraic_MemkvIdeal_MemkvReferenceIdeal := by
  intro m ρ m' ρ' _ hagree
  refine ⟨fun c => (Cert.MemkvIdeal.Gen.dats m 0 c).arrAt 4 Cert.MemkvIdeal.cfg0.N, Cert.MemkvIdeal.Value.run_blocks m ρ, ?_⟩
  refine (θ_run Cert.MemkvReferenceIdeal.defs _ _).mono (fun _ h c => ⟨(h c).1.trans ?_, (h c).2⟩) (Cert.MemkvReferenceIdeal.Value.run (F := Ideal) m' ρ')
  rw [Cert.MemkvReferenceIdeal.Read.val_main_v15_eq, (hagree c).1, (hagree c).2.1, (hagree c).2.2.1, (hagree c).2.2.2]
  exact (Cert.Mk.out_eq m c).symm

theorem frame_p4 : Cert.quiescent_Inproj := fun m ρ _ => Cert.Inproj.Gen.frame m ρ
theorem frame_pi4 : Cert.quiescent_InprojIdeal := fun m ρ _ => Cert.InprojIdeal.Gen.frame m ρ
theorem frame_ri4 : Cert.quiescent_InprojReferenceIdeal := fun m ρ _ =>
  (θ_run Cert.InprojReferenceIdeal.defs _ _).mono (fun r h => ⟨fun c => (h c).2.2.2,
      Idealize.ShloMosaic.sem_eq_zero_of_no_sems (by decide) r.2⟩)
    (Cert.InprojReferenceIdeal.Value.run (F := Ideal) m ρ)

theorem algebraic4 : Cert.algebraic_InprojIdeal_InprojReferenceIdeal := by
  intro m ρ m' ρ' _ hagree
  refine ⟨fun c => (Cert.InprojIdeal.Gen.dats m 0 c).arrAt 7 Cert.InprojIdeal.cfg0.N, fun c => (Cert.InprojIdeal.Gen.dats m 0 c).arrAt 8 Cert.InprojIdeal.cfg0.N,
    fun c => (Cert.InprojIdeal.Gen.dats m 0 c).arrAt 9 Cert.InprojIdeal.cfg0.N, Cert.InprojIdeal.Value.run_blocks m ρ, ?_⟩
  refine (θ_run Cert.InprojReferenceIdeal.defs _ _).mono (fun _ h c => ⟨(h c).1.trans ?_, (h c).2.1.trans ?_, (h c).2.2.1.trans ?_, (h c).2.2.2⟩)
    (Cert.InprojReferenceIdeal.Value.run (F := Ideal) m' ρ')
  · rw [Cert.InprojReferenceIdeal.Read.val_main_v114_eq m' c, (hagree c).1, (hagree c).2.1, (hagree c).2.2.1, (hagree c).2.2.2]
    exact (Cert.Ip.out_q m c).symm
  · rw [Cert.InprojReferenceIdeal.Read.val_main_v116_eq m' c, (hagree c).1, (hagree c).2.1, (hagree c).2.2.1, (hagree c).2.2.2]
    exact (Cert.Ip.out_kv m c).symm
  · rw [Cert.InprojReferenceIdeal.Read.val_main_v118_eq m' c, (hagree c).1, (hagree c).2.1, (hagree c).2.2.1, (hagree c).2.2.2]
    exact (Cert.Ip.out_ab m c).symm

theorem claim : Cert.Claim := ⟨Cert.Kernel.Gen.facts, Cert.KernelIdeal.Gen.facts, Cert.ReferenceIdeal.Gen.facts,
  Cert.Experts.Gen.facts, Cert.ExpertsIdeal.Gen.facts, Cert.ExpertsReferenceIdeal.Gen.facts,
  Cert.Memkv.Gen.facts, Cert.MemkvIdeal.Gen.facts, Cert.MemkvReferenceIdeal.Gen.facts,
  Cert.Inproj.Gen.facts, Cert.InprojIdeal.Gen.facts, Cert.InprojReferenceIdeal.Gen.facts,
  Cert.Pre_finite.Gen.facts, Cert.Pre_counted.Gen.facts, Cert.On_listed.Gen.facts,
  frame_p, frame_pi, fun m ρ _ => frame_pi m ρ trivial, frame_ri, fun m ρ _ => frame_ri m ρ trivial,
  frame_p2, frame_pi2, frame_ri2, fun m ρ _ => frame_ri2 m ρ trivial, frame_p3, frame_pi3, frame_ri3, frame_p4, frame_pi4, frame_ri4,
  preserves, algebraic, trivial, algebraic2, trivial, algebraic3, trivial, algebraic4⟩

end Cert.Proof

end
